-- ==== Defs.lean ====
def Pre_Layer1 (m : (ℓ : Loc Cert.Layer1.nD Cert.Layer1.τ Cert.Layer1.sig) → Buf (Elt Bits) ℓ) : Prop :=
  True

def Pre_Layer1Ideal (m : (ℓ : Loc Cert.Layer1Ideal.nD Cert.Layer1Ideal.τ Cert.Layer1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Layer2 (m : (ℓ : Loc Cert.Layer2.nD Cert.Layer2.τ Cert.Layer2.sig) → Buf (Elt Bits) ℓ) : Prop :=
  True

def Pre_Layer2Ideal (m : (ℓ : Loc Cert.Layer2Ideal.nD Cert.Layer2Ideal.τ Cert.Layer2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Layer0 (m : (ℓ : Loc Cert.Layer0.nD Cert.Layer0.τ Cert.Layer0.sig) → Buf (Elt Bits) ℓ) : Prop :=
  True

def Pre_Layer0Ideal (m : (ℓ : Loc Cert.Layer0Ideal.nD Cert.Layer0Ideal.τ Cert.Layer0Ideal.sig) → Buf (Elt Ideal) ℓ) : Prop :=
  True

def Pre_Layer0Ideal_finite0 [hPre_finite0 : Cert.Pre_finite0.Facts] (m : (ℓ : Loc Cert.Layer0Ideal.nD Cert.Layer0Ideal.τ Cert.Layer0Ideal.sig) → Buf (Elt Ideal) ℓ) : Prop :=
  ∀ c : Dev Cert.Layer0Ideal.nD,
    (Cert.Pre_finite0.fn (F := Ideal) (m ((c.tc : Thread Cert.Layer0Ideal.nD Cert.Layer0Ideal.τ).loc Cert.Layer0Ideal.main_arg0)) (m ((c.tc : Thread Cert.Layer0Ideal.nD Cert.Layer0Ideal.τ).loc Cert.Layer0Ideal.main_arg1)) (m ((c.tc : Thread Cert.Layer0Ideal.nD Cert.Layer0Ideal.τ).loc Cert.Layer0Ideal.main_arg2))).1 = (fun _ => 1#1)
    ∧ (Cert.Pre_finite0.fn (F := Ideal) (m ((c.tc : Thread Cert.Layer0Ideal.nD Cert.Layer0Ideal.τ).loc Cert.Layer0Ideal.main_arg0)) (m ((c.tc : Thread Cert.Layer0Ideal.nD Cert.Layer0Ideal.τ).loc Cert.Layer0Ideal.main_arg1)) (m ((c.tc : Thread Cert.Layer0Ideal.nD Cert.Layer0Ideal.τ).loc Cert.Layer0Ideal.main_arg2))).2 = (fun _ => 1#1)

def Pre_Reference0Ideal (m : (ℓ : Loc Cert.Reference0Ideal.nD Cert.Reference0Ideal.τ Cert.Reference0Ideal.sig) → Buf (Elt Ideal) ℓ) : Prop :=
  True

def Pre_Reference0Ideal_finite0 [hPre_finite0 : Cert.Pre_finite0.Facts] (m : (ℓ : Loc Cert.Reference0Ideal.nD Cert.Reference0Ideal.τ Cert.Reference0Ideal.sig) → Buf (Elt Ideal) ℓ) : Prop :=
  ∀ c : Dev Cert.Reference0Ideal.nD,
    (Cert.Pre_finite0.fn (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2))).1 = (fun _ => 1#1)
    ∧ (Cert.Pre_finite0.fn (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2))).2 = (fun _ => 1#1)

def quiescent_Layer1 [hLayer1 : Cert.Layer1.Facts] : Prop :=
  ∀ (m : (ℓ : Loc Cert.Layer1.nD Cert.Layer1.τ Cert.Layer1.sig) → Buf (Elt Bits) ℓ) (g : Dev Cert.Layer1.nD → PrngReg), Pre_Layer1 m →
    θ_run (Cert.Layer1.defs (F := Bits)) (onTc (τ := Cert.Layer1.τ) (Cert.Layer1.main (F := Bits))) ⟨m, fun _ => 0, g⟩ (fun r => (∀ c : Dev Cert.Layer1.nD,
      r.2.mem ((c.tc : Thread Cert.Layer1.nD Cert.Layer1.τ).loc Cert.Layer1.main_arg0) = m ((c.tc : Thread Cert.Layer1.nD Cert.Layer1.τ).loc Cert.Layer1.main_arg0)
      ∧ r.2.mem ((c.tc : Thread Cert.Layer1.nD Cert.Layer1.τ).loc Cert.Layer1.main_arg1) = m ((c.tc : Thread Cert.Layer1.nD Cert.Layer1.τ).loc Cert.Layer1.main_arg1)
      ∧ r.2.mem ((c.tc : Thread Cert.Layer1.nD Cert.Layer1.τ).loc Cert.Layer1.main_arg2) = m ((c.tc : Thread Cert.Layer1.nD Cert.Layer1.τ).loc Cert.Layer1.main_arg2)
      ∧ r.2.mem ((c.tc : Thread Cert.Layer1.nD Cert.Layer1.τ).loc Cert.Layer1.main_arg3) = m ((c.tc : Thread Cert.Layer1.nD Cert.Layer1.τ).loc Cert.Layer1.main_arg3)
      ∧ r.2.mem ((c.tc : Thread Cert.Layer1.nD Cert.Layer1.τ).loc Cert.Layer1.main_arg4) = m ((c.tc : Thread Cert.Layer1.nD Cert.Layer1.τ).loc Cert.Layer1.main_arg4))
      ∧ r.2.sem = fun _ => 0)

def quiescent_Layer1Ideal [hLayer1Ideal : Cert.Layer1Ideal.Facts] : Prop :=
  ∀ (m : (ℓ : Loc Cert.Layer1Ideal.nD Cert.Layer1Ideal.τ Cert.Layer1Ideal.sig) → Buf (Elt Ideal) ℓ) (g : Dev Cert.Layer1Ideal.nD → PrngReg), Pre_Layer1Ideal m →
    θ_run (Cert.Layer1Ideal.defs (F := Ideal)) (onTc (τ := Cert.Layer1Ideal.τ) (Cert.Layer1Ideal.main (F := Ideal))) ⟨m, fun _ => 0, g⟩ (fun r => (∀ c : Dev Cert.Layer1Ideal.nD,
      r.2.mem ((c.tc : Thread Cert.Layer1Ideal.nD Cert.Layer1Ideal.τ).loc Cert.Layer1Ideal.main_arg0) = m ((c.tc : Thread Cert.Layer1Ideal.nD Cert.Layer1Ideal.τ).loc Cert.Layer1Ideal.main_arg0)
      ∧ r.2.mem ((c.tc : Thread Cert.Layer1Ideal.nD Cert.Layer1Ideal.τ).loc Cert.Layer1Ideal.main_arg1) = m ((c.tc : Thread Cert.Layer1Ideal.nD Cert.Layer1Ideal.τ).loc Cert.Layer1Ideal.main_arg1)
      ∧ r.2.mem ((c.tc : Thread Cert.Layer1Ideal.nD Cert.Layer1Ideal.τ).loc Cert.Layer1Ideal.main_arg2) = m ((c.tc : Thread Cert.Layer1Ideal.nD Cert.Layer1Ideal.τ).loc Cert.Layer1Ideal.main_arg2)
      ∧ r.2.mem ((c.tc : Thread Cert.Layer1Ideal.nD Cert.Layer1Ideal.τ).loc Cert.Layer1Ideal.main_arg3) = m ((c.tc : Thread Cert.Layer1Ideal.nD Cert.Layer1Ideal.τ).loc Cert.Layer1Ideal.main_arg3)
      ∧ r.2.mem ((c.tc : Thread Cert.Layer1Ideal.nD Cert.Layer1Ideal.τ).loc Cert.Layer1Ideal.main_arg4) = m ((c.tc : Thread Cert.Layer1Ideal.nD Cert.Layer1Ideal.τ).loc Cert.Layer1Ideal.main_arg4))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4))
      ∧ r.2.sem = fun _ => 0)

def quiescent_Layer2 [hLayer2 : Cert.Layer2.Facts] : Prop :=
  ∀ (m : (ℓ : Loc Cert.Layer2.nD Cert.Layer2.τ Cert.Layer2.sig) → Buf (Elt Bits) ℓ) (g : Dev Cert.Layer2.nD → PrngReg), Pre_Layer2 m →
    θ_run (Cert.Layer2.defs (F := Bits)) (onTc (τ := Cert.Layer2.τ) (Cert.Layer2.main (F := Bits))) ⟨m, fun _ => 0, g⟩ (fun r => (∀ c : Dev Cert.Layer2.nD,
      r.2.mem ((c.tc : Thread Cert.Layer2.nD Cert.Layer2.τ).loc Cert.Layer2.main_arg0) = m ((c.tc : Thread Cert.Layer2.nD Cert.Layer2.τ).loc Cert.Layer2.main_arg0)
      ∧ r.2.mem ((c.tc : Thread Cert.Layer2.nD Cert.Layer2.τ).loc Cert.Layer2.main_arg1) = m ((c.tc : Thread Cert.Layer2.nD Cert.Layer2.τ).loc Cert.Layer2.main_arg1)
      ∧ r.2.mem ((c.tc : Thread Cert.Layer2.nD Cert.Layer2.τ).loc Cert.Layer2.main_arg2) = m ((c.tc : Thread Cert.Layer2.nD Cert.Layer2.τ).loc Cert.Layer2.main_arg2)
      ∧ r.2.mem ((c.tc : Thread Cert.Layer2.nD Cert.Layer2.τ).loc Cert.Layer2.main_arg3) = m ((c.tc : Thread Cert.Layer2.nD Cert.Layer2.τ).loc Cert.Layer2.main_arg3)
      ∧ r.2.mem ((c.tc : Thread Cert.Layer2.nD Cert.Layer2.τ).loc Cert.Layer2.main_arg4) = m ((c.tc : Thread Cert.Layer2.nD Cert.Layer2.τ).loc Cert.Layer2.main_arg4)
      ∧ r.2.mem ((c.tc : Thread Cert.Layer2.nD Cert.Layer2.τ).loc Cert.Layer2.main_arg5) = m ((c.tc : Thread Cert.Layer2.nD Cert.Layer2.τ).loc Cert.Layer2.main_arg5)
      ∧ r.2.mem ((c.tc : Thread Cert.Layer2.nD Cert.Layer2.τ).loc Cert.Layer2.main_arg6) = m ((c.tc : Thread Cert.Layer2.nD Cert.Layer2.τ).loc Cert.Layer2.main_arg6)
      ∧ r.2.mem ((c.tc : Thread Cert.Layer2.nD Cert.Layer2.τ).loc Cert.Layer2.main_arg7) = m ((c.tc : Thread Cert.Layer2.nD Cert.Layer2.τ).loc Cert.Layer2.main_arg7))
      ∧ r.2.sem = fun _ => 0)

def quiescent_Layer2Ideal [hLayer2Ideal : Cert.Layer2Ideal.Facts] : Prop :=
  ∀ (m : (ℓ : Loc Cert.Layer2Ideal.nD Cert.Layer2Ideal.τ Cert.Layer2Ideal.sig) → Buf (Elt Ideal) ℓ) (g : Dev Cert.Layer2Ideal.nD → PrngReg), Pre_Layer2Ideal m →
    θ_run (Cert.Layer2Ideal.defs (F := Ideal)) (onTc (τ := Cert.Layer2Ideal.τ) (Cert.Layer2Ideal.main (F := Ideal))) ⟨m, fun _ => 0, g⟩ (fun r => (∀ c : Dev Cert.Layer2Ideal.nD,
      r.2.mem ((c.tc : Thread Cert.Layer2Ideal.nD Cert.Layer2Ideal.τ).loc Cert.Layer2Ideal.main_arg0) = m ((c.tc : Thread Cert.Layer2Ideal.nD Cert.Layer2Ideal.τ).loc Cert.Layer2Ideal.main_arg0)
      ∧ r.2.mem ((c.tc : Thread Cert.Layer2Ideal.nD Cert.Layer2Ideal.τ).loc Cert.Layer2Ideal.main_arg1) = m ((c.tc : Thread Cert.Layer2Ideal.nD Cert.Layer2Ideal.τ).loc Cert.Layer2Ideal.main_arg1)
      ∧ r.2.mem ((c.tc : Thread Cert.Layer2Ideal.nD Cert.Layer2Ideal.τ).loc Cert.Layer2Ideal.main_arg2) = m ((c.tc : Thread Cert.Layer2Ideal.nD Cert.Layer2Ideal.τ).loc Cert.Layer2Ideal.main_arg2)
      ∧ r.2.mem ((c.tc : Thread Cert.Layer2Ideal.nD Cert.Layer2Ideal.τ).loc Cert.Layer2Ideal.main_arg3) = m ((c.tc : Thread Cert.Layer2Ideal.nD Cert.Layer2Ideal.τ).loc Cert.Layer2Ideal.main_arg3)
      ∧ r.2.mem ((c.tc : Thread Cert.Layer2Ideal.nD Cert.Layer2Ideal.τ).loc Cert.Layer2Ideal.main_arg4) = m ((c.tc : Thread Cert.Layer2Ideal.nD Cert.Layer2Ideal.τ).loc Cert.Layer2Ideal.main_arg4)
      ∧ r.2.mem ((c.tc : Thread Cert.Layer2Ideal.nD Cert.Layer2Ideal.τ).loc Cert.Layer2Ideal.main_arg5) = m ((c.tc : Thread Cert.Layer2Ideal.nD Cert.Layer2Ideal.τ).loc Cert.Layer2Ideal.main_arg5)
      ∧ r.2.mem ((c.tc : Thread Cert.Layer2Ideal.nD Cert.Layer2Ideal.τ).loc Cert.Layer2Ideal.main_arg6) = m ((c.tc : Thread Cert.Layer2Ideal.nD Cert.Layer2Ideal.τ).loc Cert.Layer2Ideal.main_arg6)
      ∧ r.2.mem ((c.tc : Thread Cert.Layer2Ideal.nD Cert.Layer2Ideal.τ).loc Cert.Layer2Ideal.main_arg7) = m ((c.tc : Thread Cert.Layer2Ideal.nD Cert.Layer2Ideal.τ).loc Cert.Layer2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Layer0 [hLayer0 : Cert.Layer0.Facts] : Prop :=
  ∀ (m : (ℓ : Loc Cert.Layer0.nD Cert.Layer0.τ Cert.Layer0.sig) → Buf (Elt Bits) ℓ) (g : Dev Cert.Layer0.nD → PrngReg), Pre_Layer0 m →
    θ_run (Cert.Layer0.defs (F := Bits)) (onTc (τ := Cert.Layer0.τ) (Cert.Layer0.main (F := Bits))) ⟨m, fun _ => 0, g⟩ (fun r => (∀ c : Dev Cert.Layer0.nD,
      r.2.mem ((c.tc : Thread Cert.Layer0.nD Cert.Layer0.τ).loc Cert.Layer0.main_arg0) = m ((c.tc : Thread Cert.Layer0.nD Cert.Layer0.τ).loc Cert.Layer0.main_arg0)
      ∧ r.2.mem ((c.tc : Thread Cert.Layer0.nD Cert.Layer0.τ).loc Cert.Layer0.main_arg1) = m ((c.tc : Thread Cert.Layer0.nD Cert.Layer0.τ).loc Cert.Layer0.main_arg1)
      ∧ r.2.mem ((c.tc : Thread Cert.Layer0.nD Cert.Layer0.τ).loc Cert.Layer0.main_arg2) = m ((c.tc : Thread Cert.Layer0.nD Cert.Layer0.τ).loc Cert.Layer0.main_arg2))
      ∧ r.2.sem = fun _ => 0)

def quiescent_Layer0Ideal [hLayer0Ideal : Cert.Layer0Ideal.Facts] : Prop :=
  ∀ (m : (ℓ : Loc Cert.Layer0Ideal.nD Cert.Layer0Ideal.τ Cert.Layer0Ideal.sig) → Buf (Elt Ideal) ℓ) (g : Dev Cert.Layer0Ideal.nD → PrngReg), Pre_Layer0Ideal m →
    θ_run (Cert.Layer0Ideal.defs (F := Ideal)) (onTc (τ := Cert.Layer0Ideal.τ) (Cert.Layer0Ideal.main (F := Ideal))) ⟨m, fun _ => 0, g⟩ (fun r => (∀ c : Dev Cert.Layer0Ideal.nD,
      r.2.mem ((c.tc : Thread Cert.Layer0Ideal.nD Cert.Layer0Ideal.τ).loc Cert.Layer0Ideal.main_arg0) = m ((c.tc : Thread Cert.Layer0Ideal.nD Cert.Layer0Ideal.τ).loc Cert.Layer0Ideal.main_arg0)
      ∧ r.2.mem ((c.tc : Thread Cert.Layer0Ideal.nD Cert.Layer0Ideal.τ).loc Cert.Layer0Ideal.main_arg1) = m ((c.tc : Thread Cert.Layer0Ideal.nD Cert.Layer0Ideal.τ).loc Cert.Layer0Ideal.main_arg1)
      ∧ r.2.mem ((c.tc : Thread Cert.Layer0Ideal.nD Cert.Layer0Ideal.τ).loc Cert.Layer0Ideal.main_arg2) = m ((c.tc : Thread Cert.Layer0Ideal.nD Cert.Layer0Ideal.τ).loc Cert.Layer0Ideal.main_arg2))
      ∧ r.2.sem = fun _ => 0)

def quiescent_Layer0Ideal_pre_finite0 [hLayer0Ideal : Cert.Layer0Ideal.Facts] [hPre_finite0 : Cert.Pre_finite0.Facts] : Prop :=
  ∀ (m : (ℓ : Loc Cert.Layer0Ideal.nD Cert.Layer0Ideal.τ Cert.Layer0Ideal.sig) → Buf (Elt Ideal) ℓ) (g : Dev Cert.Layer0Ideal.nD → PrngReg), Pre_Layer0Ideal_finite0 m →
    θ_run (Cert.Layer0Ideal.defs (F := Ideal)) (onTc (τ := Cert.Layer0Ideal.τ) (Cert.Layer0Ideal.main (F := Ideal))) ⟨m, fun _ => 0, g⟩ (fun r => (∀ c : Dev Cert.Layer0Ideal.nD,
      r.2.mem ((c.tc : Thread Cert.Layer0Ideal.nD Cert.Layer0Ideal.τ).loc Cert.Layer0Ideal.main_arg0) = m ((c.tc : Thread Cert.Layer0Ideal.nD Cert.Layer0Ideal.τ).loc Cert.Layer0Ideal.main_arg0)
      ∧ r.2.mem ((c.tc : Thread Cert.Layer0Ideal.nD Cert.Layer0Ideal.τ).loc Cert.Layer0Ideal.main_arg1) = m ((c.tc : Thread Cert.Layer0Ideal.nD Cert.Layer0Ideal.τ).loc Cert.Layer0Ideal.main_arg1)
      ∧ r.2.mem ((c.tc : Thread Cert.Layer0Ideal.nD Cert.Layer0Ideal.τ).loc Cert.Layer0Ideal.main_arg2) = m ((c.tc : Thread Cert.Layer0Ideal.nD Cert.Layer0Ideal.τ).loc Cert.Layer0Ideal.main_arg2))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2))
      ∧ r.2.sem = fun _ => 0)

def quiescent_Reference0Ideal_pre_finite0 [hReference0Ideal : Cert.Reference0Ideal.Facts] [hPre_finite0 : Cert.Pre_finite0.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal_finite0 m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2))
      ∧ r.2.sem = fun _ => 0)

def preserves_Layer1_Layer1Ideal : Prop :=
  True

def algebraic_Layer1Ideal_Reference1Ideal [hLayer1Ideal : Cert.Layer1Ideal.Facts] [hReference1Ideal : Cert.Reference1Ideal.Facts] : Prop :=
  ∀ (m : (ℓ : Loc Cert.Layer1Ideal.nD Cert.Layer1Ideal.τ Cert.Layer1Ideal.sig) → Buf (Elt Ideal) ℓ) (g : Dev Cert.Layer1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Layer1Ideal m →
    (∀ c : Dev Cert.Layer1Ideal.nD,
      m' ((c.tc : Thread Cert.Reference1Ideal.nD Cert.Reference1Ideal.τ).loc Cert.Reference1Ideal.main_arg0) = m ((c.tc : Thread Cert.Layer1Ideal.nD Cert.Layer1Ideal.τ).loc Cert.Layer1Ideal.main_arg0)
      ∧ m' ((c.tc : Thread Cert.Reference1Ideal.nD Cert.Reference1Ideal.τ).loc Cert.Reference1Ideal.main_arg1) = m ((c.tc : Thread Cert.Layer1Ideal.nD Cert.Layer1Ideal.τ).loc Cert.Layer1Ideal.main_arg1)
      ∧ m' ((c.tc : Thread Cert.Reference1Ideal.nD Cert.Reference1Ideal.τ).loc Cert.Reference1Ideal.main_arg2) = m ((c.tc : Thread Cert.Layer1Ideal.nD Cert.Layer1Ideal.τ).loc Cert.Layer1Ideal.main_arg2)
      ∧ m' ((c.tc : Thread Cert.Reference1Ideal.nD Cert.Reference1Ideal.τ).loc Cert.Reference1Ideal.main_arg3) = m ((c.tc : Thread Cert.Layer1Ideal.nD Cert.Layer1Ideal.τ).loc Cert.Layer1Ideal.main_arg3)
      ∧ m' ((c.tc : Thread Cert.Reference1Ideal.nD Cert.Reference1Ideal.τ).loc Cert.Reference1Ideal.main_arg4) = m ((c.tc : Thread Cert.Layer1Ideal.nD Cert.Layer1Ideal.τ).loc Cert.Layer1Ideal.main_arg4)) →
    ∃ (v0 : (c : Dev Cert.Layer1Ideal.nD) → Buf (Elt Ideal) ((c.tc : Thread Cert.Layer1Ideal.nD Cert.Layer1Ideal.τ).loc Cert.Layer1Ideal.main_v2_0)) (v1 : (c : Dev Cert.Layer1Ideal.nD) → Buf (Elt Ideal) ((c.tc : Thread Cert.Layer1Ideal.nD Cert.Layer1Ideal.τ).loc Cert.Layer1Ideal.main_v2_1)),
      θ_run (Cert.Layer1Ideal.defs (F := Ideal)) (onTc (τ := Cert.Layer1Ideal.τ) (Cert.Layer1Ideal.main (F := Ideal))) ⟨m, fun _ => 0, g⟩ (fun r => ∀ c : Dev Cert.Layer1Ideal.nD,
          r.2.mem ((c.tc : Thread Cert.Layer1Ideal.nD Cert.Layer1Ideal.τ).loc Cert.Layer1Ideal.main_v2_0) = v0 c
          ∧ r.2.mem ((c.tc : Thread Cert.Layer1Ideal.nD Cert.Layer1Ideal.τ).loc Cert.Layer1Ideal.main_v2_1) = v1 c
          ∧ r.2.mem ((c.tc : Thread Cert.Layer1Ideal.nD Cert.Layer1Ideal.τ).loc Cert.Layer1Ideal.main_arg0) = m ((c.tc : Thread Cert.Layer1Ideal.nD Cert.Layer1Ideal.τ).loc Cert.Layer1Ideal.main_arg0)
          ∧ r.2.mem ((c.tc : Thread Cert.Layer1Ideal.nD Cert.Layer1Ideal.τ).loc Cert.Layer1Ideal.main_arg1) = m ((c.tc : Thread Cert.Layer1Ideal.nD Cert.Layer1Ideal.τ).loc Cert.Layer1Ideal.main_arg1)
          ∧ r.2.mem ((c.tc : Thread Cert.Layer1Ideal.nD Cert.Layer1Ideal.τ).loc Cert.Layer1Ideal.main_arg2) = m ((c.tc : Thread Cert.Layer1Ideal.nD Cert.Layer1Ideal.τ).loc Cert.Layer1Ideal.main_arg2)
          ∧ r.2.mem ((c.tc : Thread Cert.Layer1Ideal.nD Cert.Layer1Ideal.τ).loc Cert.Layer1Ideal.main_arg3) = m ((c.tc : Thread Cert.Layer1Ideal.nD Cert.Layer1Ideal.τ).loc Cert.Layer1Ideal.main_arg3)
          ∧ r.2.mem ((c.tc : Thread Cert.Layer1Ideal.nD Cert.Layer1Ideal.τ).loc Cert.Layer1Ideal.main_arg4) = m ((c.tc : Thread Cert.Layer1Ideal.nD Cert.Layer1Ideal.τ).loc Cert.Layer1Ideal.main_arg4))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v2_0) = v0 c
          ∧ r.2.mem ((c.tc : Thread Cert.Reference1Ideal.nD Cert.Reference1Ideal.τ).loc Cert.Reference1Ideal.main_v2_1) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4))

def preserves_Layer2_Layer2Ideal : Prop :=
  True

def algebraic_Layer2Ideal_Reference2Ideal [hLayer2Ideal : Cert.Layer2Ideal.Facts] [hReference2Ideal : Cert.Reference2Ideal.Facts] : Prop :=
  ∀ (m : (ℓ : Loc Cert.Layer2Ideal.nD Cert.Layer2Ideal.τ Cert.Layer2Ideal.sig) → Buf (Elt Ideal) ℓ) (g : Dev Cert.Layer2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Layer2Ideal m →
    (∀ c : Dev Cert.Layer2Ideal.nD,
      m' ((c.tc : Thread Cert.Reference2Ideal.nD Cert.Reference2Ideal.τ).loc Cert.Reference2Ideal.main_arg0) = m ((c.tc : Thread Cert.Layer2Ideal.nD Cert.Layer2Ideal.τ).loc Cert.Layer2Ideal.main_arg0)
      ∧ m' ((c.tc : Thread Cert.Reference2Ideal.nD Cert.Reference2Ideal.τ).loc Cert.Reference2Ideal.main_arg1) = m ((c.tc : Thread Cert.Layer2Ideal.nD Cert.Layer2Ideal.τ).loc Cert.Layer2Ideal.main_arg1)
      ∧ m' ((c.tc : Thread Cert.Reference2Ideal.nD Cert.Reference2Ideal.τ).loc Cert.Reference2Ideal.main_arg2) = m ((c.tc : Thread Cert.Layer2Ideal.nD Cert.Layer2Ideal.τ).loc Cert.Layer2Ideal.main_arg2)
      ∧ m' ((c.tc : Thread Cert.Reference2Ideal.nD Cert.Reference2Ideal.τ).loc Cert.Reference2Ideal.main_arg3) = m ((c.tc : Thread Cert.Layer2Ideal.nD Cert.Layer2Ideal.τ).loc Cert.Layer2Ideal.main_arg3)
      ∧ m' ((c.tc : Thread Cert.Reference2Ideal.nD Cert.Reference2Ideal.τ).loc Cert.Reference2Ideal.main_arg4) = m ((c.tc : Thread Cert.Layer2Ideal.nD Cert.Layer2Ideal.τ).loc Cert.Layer2Ideal.main_arg4)
      ∧ m' ((c.tc : Thread Cert.Reference2Ideal.nD Cert.Reference2Ideal.τ).loc Cert.Reference2Ideal.main_arg5) = m ((c.tc : Thread Cert.Layer2Ideal.nD Cert.Layer2Ideal.τ).loc Cert.Layer2Ideal.main_arg5)
      ∧ m' ((c.tc : Thread Cert.Reference2Ideal.nD Cert.Reference2Ideal.τ).loc Cert.Reference2Ideal.main_arg6) = m ((c.tc : Thread Cert.Layer2Ideal.nD Cert.Layer2Ideal.τ).loc Cert.Layer2Ideal.main_arg6)
      ∧ m' ((c.tc : Thread Cert.Reference2Ideal.nD Cert.Reference2Ideal.τ).loc Cert.Reference2Ideal.main_arg7) = m ((c.tc : Thread Cert.Layer2Ideal.nD Cert.Layer2Ideal.τ).loc Cert.Layer2Ideal.main_arg7)) →
    ∃ (v0 : (c : Dev Cert.Layer2Ideal.nD) → Buf (Elt Ideal) ((c.tc : Thread Cert.Layer2Ideal.nD Cert.Layer2Ideal.τ).loc Cert.Layer2Ideal.main_v5)) (v1 : (c : Dev Cert.Layer2Ideal.nD) → Buf (Elt Ideal) ((c.tc : Thread Cert.Layer2Ideal.nD Cert.Layer2Ideal.τ).loc Cert.Layer2Ideal.main_v10)) (v2 : (c : Dev Cert.Layer2Ideal.nD) → Buf (Elt Ideal) ((c.tc : Thread Cert.Layer2Ideal.nD Cert.Layer2Ideal.τ).loc Cert.Layer2Ideal.main_v11)) (v3 : (c : Dev Cert.Layer2Ideal.nD) → Buf (Elt Ideal) ((c.tc : Thread Cert.Layer2Ideal.nD Cert.Layer2Ideal.τ).loc Cert.Layer2Ideal.main_v12)),
      θ_run (Cert.Layer2Ideal.defs (F := Ideal)) (onTc (τ := Cert.Layer2Ideal.τ) (Cert.Layer2Ideal.main (F := Ideal))) ⟨m, fun _ => 0, g⟩ (fun r => ∀ c : Dev Cert.Layer2Ideal.nD,
          r.2.mem ((c.tc : Thread Cert.Layer2Ideal.nD Cert.Layer2Ideal.τ).loc Cert.Layer2Ideal.main_v5) = v0 c
          ∧ r.2.mem ((c.tc : Thread Cert.Layer2Ideal.nD Cert.Layer2Ideal.τ).loc Cert.Layer2Ideal.main_v10) = v1 c
          ∧ r.2.mem ((c.tc : Thread Cert.Layer2Ideal.nD Cert.Layer2Ideal.τ).loc Cert.Layer2Ideal.main_v11) = v2 c
          ∧ r.2.mem ((c.tc : Thread Cert.Layer2Ideal.nD Cert.Layer2Ideal.τ).loc Cert.Layer2Ideal.main_v12) = v3 c
          ∧ r.2.mem ((c.tc : Thread Cert.Layer2Ideal.nD Cert.Layer2Ideal.τ).loc Cert.Layer2Ideal.main_arg0) = m ((c.tc : Thread Cert.Layer2Ideal.nD Cert.Layer2Ideal.τ).loc Cert.Layer2Ideal.main_arg0)
          ∧ r.2.mem ((c.tc : Thread Cert.Layer2Ideal.nD Cert.Layer2Ideal.τ).loc Cert.Layer2Ideal.main_arg1) = m ((c.tc : Thread Cert.Layer2Ideal.nD Cert.Layer2Ideal.τ).loc Cert.Layer2Ideal.main_arg1)
          ∧ r.2.mem ((c.tc : Thread Cert.Layer2Ideal.nD Cert.Layer2Ideal.τ).loc Cert.Layer2Ideal.main_arg2) = m ((c.tc : Thread Cert.Layer2Ideal.nD Cert.Layer2Ideal.τ).loc Cert.Layer2Ideal.main_arg2)
          ∧ r.2.mem ((c.tc : Thread Cert.Layer2Ideal.nD Cert.Layer2Ideal.τ).loc Cert.Layer2Ideal.main_arg3) = m ((c.tc : Thread Cert.Layer2Ideal.nD Cert.Layer2Ideal.τ).loc Cert.Layer2Ideal.main_arg3)
          ∧ r.2.mem ((c.tc : Thread Cert.Layer2Ideal.nD Cert.Layer2Ideal.τ).loc Cert.Layer2Ideal.main_arg4) = m ((c.tc : Thread Cert.Layer2Ideal.nD Cert.Layer2Ideal.τ).loc Cert.Layer2Ideal.main_arg4)
          ∧ r.2.mem ((c.tc : Thread Cert.Layer2Ideal.nD Cert.Layer2Ideal.τ).loc Cert.Layer2Ideal.main_arg5) = m ((c.tc : Thread Cert.Layer2Ideal.nD Cert.Layer2Ideal.τ).loc Cert.Layer2Ideal.main_arg5)
          ∧ r.2.mem ((c.tc : Thread Cert.Layer2Ideal.nD Cert.Layer2Ideal.τ).loc Cert.Layer2Ideal.main_arg6) = m ((c.tc : Thread Cert.Layer2Ideal.nD Cert.Layer2Ideal.τ).loc Cert.Layer2Ideal.main_arg6)
          ∧ r.2.mem ((c.tc : Thread Cert.Layer2Ideal.nD Cert.Layer2Ideal.τ).loc Cert.Layer2Ideal.main_arg7) = m ((c.tc : Thread Cert.Layer2Ideal.nD Cert.Layer2Ideal.τ).loc Cert.Layer2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_v12) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Layer0_Layer0Ideal : Prop :=
  IdealRules.bf16_pack.Statement Cert.Layer0Ideal.S32x3
  ∧ IdealRules.bf16_pack.Statement Cert.Layer0Ideal.S3x256

def algebraic_Layer0Ideal_Reference0Ideal_pre_finite0 [hLayer0Ideal : Cert.Layer0Ideal.Facts] [hReference0Ideal : Cert.Reference0Ideal.Facts] [hPre_finite0 : Cert.Pre_finite0.Facts] : Prop :=
  ∀ (m : (ℓ : Loc Cert.Layer0Ideal.nD Cert.Layer0Ideal.τ Cert.Layer0Ideal.sig) → Buf (Elt Ideal) ℓ) (g : Dev Cert.Layer0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Layer0Ideal_finite0 m →
    (∀ c : Dev Cert.Layer0Ideal.nD,
      m' ((c.tc : Thread Cert.Reference0Ideal.nD Cert.Reference0Ideal.τ).loc Cert.Reference0Ideal.main_arg0) = m ((c.tc : Thread Cert.Layer0Ideal.nD Cert.Layer0Ideal.τ).loc Cert.Layer0Ideal.main_arg0)
      ∧ m' ((c.tc : Thread Cert.Reference0Ideal.nD Cert.Reference0Ideal.τ).loc Cert.Reference0Ideal.main_arg1) = m ((c.tc : Thread Cert.Layer0Ideal.nD Cert.Layer0Ideal.τ).loc Cert.Layer0Ideal.main_arg1)
      ∧ m' ((c.tc : Thread Cert.Reference0Ideal.nD Cert.Reference0Ideal.τ).loc Cert.Reference0Ideal.main_arg2) = m ((c.tc : Thread Cert.Layer0Ideal.nD Cert.Layer0Ideal.τ).loc Cert.Layer0Ideal.main_arg2)) →
    ∃ (v0 : (c : Dev Cert.Layer0Ideal.nD) → Buf (Elt Ideal) ((c.tc : Thread Cert.Layer0Ideal.nD Cert.Layer0Ideal.τ).loc Cert.Layer0Ideal.main_v2_0)) (v1 : (c : Dev Cert.Layer0Ideal.nD) → Buf (Elt Ideal) ((c.tc : Thread Cert.Layer0Ideal.nD Cert.Layer0Ideal.τ).loc Cert.Layer0Ideal.main_v2_1)),
      θ_run (Cert.Layer0Ideal.defs (F := Ideal)) (onTc (τ := Cert.Layer0Ideal.τ) (Cert.Layer0Ideal.main (F := Ideal))) ⟨m, fun _ => 0, g⟩ (fun r => ∀ c : Dev Cert.Layer0Ideal.nD,
          r.2.mem ((c.tc : Thread Cert.Layer0Ideal.nD Cert.Layer0Ideal.τ).loc Cert.Layer0Ideal.main_v2_0) = v0 c
          ∧ r.2.mem ((c.tc : Thread Cert.Layer0Ideal.nD Cert.Layer0Ideal.τ).loc Cert.Layer0Ideal.main_v2_1) = v1 c
          ∧ r.2.mem ((c.tc : Thread Cert.Layer0Ideal.nD Cert.Layer0Ideal.τ).loc Cert.Layer0Ideal.main_arg0) = m ((c.tc : Thread Cert.Layer0Ideal.nD Cert.Layer0Ideal.τ).loc Cert.Layer0Ideal.main_arg0)
          ∧ r.2.mem ((c.tc : Thread Cert.Layer0Ideal.nD Cert.Layer0Ideal.τ).loc Cert.Layer0Ideal.main_arg1) = m ((c.tc : Thread Cert.Layer0Ideal.nD Cert.Layer0Ideal.τ).loc Cert.Layer0Ideal.main_arg1)
          ∧ r.2.mem ((c.tc : Thread Cert.Layer0Ideal.nD Cert.Layer0Ideal.τ).loc Cert.Layer0Ideal.main_arg2) = m ((c.tc : Thread Cert.Layer0Ideal.nD Cert.Layer0Ideal.τ).loc Cert.Layer0Ideal.main_arg2))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v2_0) = v0 c
          ∧ r.2.mem ((c.tc : Thread Cert.Reference0Ideal.nD Cert.Reference0Ideal.τ).loc Cert.Reference0Ideal.main_v2_1) = v1 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2))

def Claim : Prop :=
  ∃ (hLayer1 : Cert.Layer1.Facts) (hLayer1Ideal : Cert.Layer1Ideal.Facts) (hReference1Ideal : Cert.Reference1Ideal.Facts) (hLayer2 : Cert.Layer2.Facts) (hLayer2Ideal : Cert.Layer2Ideal.Facts) (hReference2Ideal : Cert.Reference2Ideal.Facts) (hLayer0 : Cert.Layer0.Facts) (hLayer0Ideal : Cert.Layer0Ideal.Facts) (hReference0Ideal : Cert.Reference0Ideal.Facts) (hPre_finite0 : Cert.Pre_finite0.Facts),
    quiescent_Layer1 (hLayer1 := hLayer1)
    ∧ quiescent_Layer1Ideal (hLayer1Ideal := hLayer1Ideal)
    ∧ quiescent_Reference1Ideal (hReference1Ideal := hReference1Ideal)
    ∧ quiescent_Layer2 (hLayer2 := hLayer2)
    ∧ quiescent_Layer2Ideal (hLayer2Ideal := hLayer2Ideal)
    ∧ quiescent_Reference2Ideal (hReference2Ideal := hReference2Ideal)
    ∧ quiescent_Layer0 (hLayer0 := hLayer0)
    ∧ quiescent_Layer0Ideal (hLayer0Ideal := hLayer0Ideal)
    ∧ quiescent_Layer0Ideal_pre_finite0 (hLayer0Ideal := hLayer0Ideal) (hPre_finite0 := hPre_finite0)
    ∧ quiescent_Reference0Ideal (hReference0Ideal := hReference0Ideal)
    ∧ quiescent_Reference0Ideal_pre_finite0 (hReference0Ideal := hReference0Ideal) (hPre_finite0 := hPre_finite0)
    ∧ preserves_Layer1_Layer1Ideal
    ∧ algebraic_Layer1Ideal_Reference1Ideal (hLayer1Ideal := hLayer1Ideal) (hReference1Ideal := hReference1Ideal)
    ∧ preserves_Layer2_Layer2Ideal
    ∧ algebraic_Layer2Ideal_Reference2Ideal (hLayer2Ideal := hLayer2Ideal) (hReference2Ideal := hReference2Ideal)
    ∧ preserves_Layer0_Layer0Ideal
    ∧ algebraic_Layer0Ideal_Reference0Ideal_pre_finite0 (hLayer0Ideal := hLayer0Ideal) (hReference0Ideal := hReference0Ideal) (hPre_finite0 := hPre_finite0)
-- ==== Pre_finite0.lean ====
abbrev S2x2048x3 : Shape := ⟨3, ![2, 2048, 3]⟩
abbrev S3x4096 : Shape := ⟨2, ![3, 4096]⟩
abbrev S4096 : Shape := ⟨1, ![4096]⟩
abbrev S_ : Shape := ⟨0, ![]⟩

class Facts : Prop where
  bcast_S_S2x2048x3 : S_.BroadcastsInDim S2x2048x3 (![] : Fin 0 → Fin S2x2048x3.rank)
  bcast_S_S3x4096 : S_.BroadcastsInDim S3x4096 (![] : Fin 0 → Fin S3x4096.rank)

variable [Facts]

def fn {F : FTy → Type} [FloatOps F] (main_arg0 : FVec F S2x2048x3 .f32) (main_arg1 : FVec F S3x4096 .f32) (main_arg2 : FVec F S4096 .f32) : IVec S2x2048x3 1 × IVec S3x4096 1 :=
  let main_v0 : FVec F S2x2048x3 .f32 := Host.absf main_arg0
  let main_cst : FVec F S_ .f32 := constant S_ .f32 0x7F800000#32
  let main_v1 : FVec F S2x2048x3 .f32 := broadcastInDim S2x2048x3 ![] bcast_S_S2x2048x3 main_cst
  let main_v2 : IVec S2x2048x3 1 := cmpf .olt main_v0 main_v1
  let main_v3 : FVec F S3x4096 .f32 := Host.absf main_arg1
  let main_cst_0 : FVec F S_ .f32 := constant S_ .f32 0x7F800000#32
  let main_v4 : FVec F S3x4096 .f32 := broadcastInDim S3x4096 ![] bcast_S_S3x4096 main_cst_0
  let main_v5 : IVec S3x4096 1 := cmpf .olt main_v3 main_v4
  (main_v2, main_v5)
-- ==== Layer1.lean ====
abbrev S5x4096x4096 : Shape := ⟨3, ![5, 4096, 4096]⟩
abbrev S5x4096x1 : Shape := ⟨3, ![5, 4096, 1]⟩
abbrev S4096x11008 : Shape := ⟨2, ![4096, 11008]⟩
abbrev S11008 : Shape := ⟨1, ![11008]⟩
abbrev S1x11008 : Shape := ⟨2, ![1, 11008]⟩
abbrev S5x4096x11008 : Shape := ⟨3, ![5, 4096, 11008]⟩
abbrev S5x128x4096 : Shape := ⟨3, ![5, 128, 4096]⟩
abbrev S5x128x1 : Shape := ⟨3, ![5, 128, 1]⟩
abbrev S4096x256 : Shape := ⟨2, ![4096, 256]⟩
abbrev S1x256 : Shape := ⟨2, ![1, 256]⟩
abbrev S5x128x256 : Shape := ⟨3, ![5, 128, 256]⟩
abbrev S5x128x11008 : Shape := ⟨3, ![5, 128, 11008]⟩
abbrev S5x128x128 : Shape := ⟨3, ![5, 128, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x128x1 : Shape := ⟨3, ![1, 128, 1]⟩
abbrev S640x4096 : Shape := ⟨2, ![640, 4096]⟩
abbrev S640x256 : Shape := ⟨2, ![640, 256]⟩
abbrev S128x256 : Shape := ⟨2, ![128, 256]⟩
abbrev S1x128x256 : Shape := ⟨3, ![1, 128, 256]⟩

abbrev nBuf : Space → Nat
  | .hbm => 9
  | .vmem => 17
  | .smem => 0
  | _ => 0

abbrev bufTy : (tb : Table) → Fin (tcTables nBuf tb) → BufTy
  | .hbm, ⟨0, _⟩ => ⟨S5x4096x4096, .fp8e4m3⟩
  | .hbm, ⟨1, _⟩ => ⟨S5x4096x1, .f32⟩
  | .hbm, ⟨2, _⟩ => ⟨S4096x11008, .fp8e4m3⟩
  | .hbm, ⟨3, _⟩ => ⟨S11008, .f32⟩
  | .hbm, ⟨4, _⟩ => ⟨S11008, .f32⟩
  | .hbm, ⟨5, _⟩ => ⟨S1x11008, .f32⟩
  | .hbm, ⟨6, _⟩ => ⟨S1x11008, .f32⟩
  | .hbm, ⟨7, _⟩ => ⟨S5x4096x11008, .fp8e4m3⟩
  | .hbm, ⟨8, _⟩ => ⟨S5x4096x1, .f32⟩
  | .local _ .vmem, ⟨0, _⟩ => ⟨S5x128x4096, .fp8e4m3⟩
  | .local _ .vmem, ⟨1, _⟩ => ⟨S5x128x4096, .fp8e4m3⟩
  | .local _ .vmem, ⟨2, _⟩ => ⟨S5x128x1, .f32⟩
  | .local _ .vmem, ⟨3, _⟩ => ⟨S5x128x1, .f32⟩
  | .local _ .vmem, ⟨4, _⟩ => ⟨S4096x256, .fp8e4m3⟩
  | .local _ .vmem, ⟨5, _⟩ => ⟨S4096x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S5x128x256, .fp8e4m3⟩
  | .local _ .vmem, ⟨11, _⟩ => ⟨S5x128x256, .fp8e4m3⟩
  | .local _ .vmem, ⟨12, _⟩ => ⟨S5x128x1, .f32⟩
  | .local _ .vmem, ⟨13, _⟩ => ⟨S5x128x1, .f32⟩
  | .local _ .vmem, ⟨14, _⟩ => ⟨S5x128x11008, .f32⟩
  | .local _ .vmem, ⟨15, _⟩ => ⟨S5x128x128, .f32⟩
  | .local _ .vmem, ⟨16, _⟩ => ⟨S5x128x128, .f32⟩
  | _, _ => ⟨S5x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![33, 43], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond2 (i : grid0.Coords) : BitVec 1 :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .ne v8 c0_i32_3
  v9

def k0_mult2 (i : grid0.Coords) : BitVec 32 :=
  let arg1 : BitVec 32 := BitVec.ofNat 32 (i 1).val
  let c256_i32_5 : BitVec 32 := 256#32
  let v13 : BitVec 32 := Scalar.muli arg1 c256_i32_5
  let c0_i32_6 : BitVec 32 := 0#32
  let v14 : BitVec 32 := Scalar.addi v13 c0_i32_6
  v14
def k0_off1 (i : grid0.Coords) (c0_i32_6 : BitVec 32) : Fin 3 → Nat :=
  let c0 : Index := 0#32
  let c0_7 : Index := 0#32
  let arg1 : BitVec 32 := BitVec.ofNat 32 (i 1).val
  let c256_i32_5 : BitVec 32 := 256#32
  let v13 : BitVec 32 := Scalar.muli arg1 c256_i32_5
  let v14 : BitVec 32 := Scalar.addi v13 c0_i32_6
  let v15 : BitVec 32 := v14
  let v16 : Index := Scalar.indexCast v15
  ![0, 0, v16.toNat]
def k0_mult3 (i : grid0.Coords) : BitVec 32 :=
  let arg1 : BitVec 32 := BitVec.ofNat 32 (i 1).val
  let c256_i32_15 : BitVec 32 := 256#32
  let v30 : BitVec 32 := Scalar.muli arg1 c256_i32_15
  let c128_i32 : BitVec 32 := 128#32
  let v31 : BitVec 32 := Scalar.addi v30 c128_i32
  v31
def k0_mult4 (i : grid0.Coords) : BitVec 32 :=
  let arg1 : BitVec 32 := BitVec.ofNat 32 (i 1).val
  let c256_i32_25 : BitVec 32 := 256#32
  let v47 : BitVec 32 := Scalar.muli arg1 c256_i32_25
  let c0_i32_26 : BitVec 32 := 0#32
  let v48 : BitVec 32 := Scalar.addi v47 c0_i32_26
  v48
def k0_off2 (i : grid0.Coords) (c0_i32_26 : BitVec 32) : Fin 3 → Nat :=
  let c1 : Index := 1#32
  let c0_27 : Index := 0#32
  let arg1 : BitVec 32 := BitVec.ofNat 32 (i 1).val
  let c256_i32_25 : BitVec 32 := 256#32
  let v47 : BitVec 32 := Scalar.muli arg1 c256_i32_25
  let v48 : BitVec 32 := Scalar.addi v47 c0_i32_26
  let v49 : BitVec 32 := v48
  let v50 : Index := Scalar.indexCast v49
  ![1, 0, v50.toNat]
def k0_mult5 (i : grid0.Coords) : BitVec 32 :=
  let arg1 : BitVec 32 := BitVec.ofNat 32 (i 1).val
  let c256_i32_36 : BitVec 32 := 256#32
  let v64 : BitVec 32 := Scalar.muli arg1 c256_i32_36
  let c128_i32_37 : BitVec 32 := 128#32
  let v65 : BitVec 32 := Scalar.addi v64 c128_i32_37
  v65
def k0_mult6 (i : grid0.Coords) : BitVec 32 :=
  let arg1 : BitVec 32 := BitVec.ofNat 32 (i 1).val
  let c256_i32_48 : BitVec 32 := 256#32
  let v81 : BitVec 32 := Scalar.muli arg1 c256_i32_48
  let c0_i32_49 : BitVec 32 := 0#32
  let v82 : BitVec 32 := Scalar.addi v81 c0_i32_49
  v82
def k0_off3 (i : grid0.Coords) (c0_i32_49 : BitVec 32) : Fin 3 → Nat :=
  let c2 : Index := 2#32
  let c0_50 : Index := 0#32
  let arg1 : BitVec 32 := BitVec.ofNat 32 (i 1).val
  let c256_i32_48 : BitVec 32 := 256#32
  let v81 : BitVec 32 := Scalar.muli arg1 c256_i32_48
  let v82 : BitVec 32 := Scalar.addi v81 c0_i32_49
  let v83 : BitVec 32 := v82
  let v84 : Index := Scalar.indexCast v83
  ![2, 0, v84.toNat]
def k0_mult7 (i : grid0.Coords) : BitVec 32 :=
  let arg1 : BitVec 32 := BitVec.ofNat 32 (i 1).val
  let c256_i32_59 : BitVec 32 := 256#32
  let v98 : BitVec 32 := Scalar.muli arg1 c256_i32_59
  let c128_i32_60 : BitVec 32 := 128#32
  let v99 : BitVec 32 := Scalar.addi v98 c128_i32_60
  v99
def k0_mult8 (i : grid0.Coords) : BitVec 32 :=
  let arg1 : BitVec 32 := BitVec.ofNat 32 (i 1).val
  let c256_i32_71 : BitVec 32 := 256#32
  let v115 : BitVec 32 := Scalar.muli arg1 c256_i32_71
  let c0_i32_72 : BitVec 32 := 0#32
  let v116 : BitVec 32 := Scalar.addi v115 c0_i32_72
  v116
def k0_off4 (i : grid0.Coords) (c0_i32_72 : BitVec 32) : Fin 3 → Nat :=
  let c3 : Index := 3#32
  let c0_73 : Index := 0#32
  let arg1 : BitVec 32 := BitVec.ofNat 32 (i 1).val
  let c256_i32_71 : BitVec 32 := 256#32
  let v115 : BitVec 32 := Scalar.muli arg1 c256_i32_71
  let v116 : BitVec 32 := Scalar.addi v115 c0_i32_72
  let v117 : BitVec 32 := v116
  let v118 : Index := Scalar.indexCast v117
  ![3, 0, v118.toNat]
def k0_mult9 (i : grid0.Coords) : BitVec 32 :=
  let arg1 : BitVec 32 := BitVec.ofNat 32 (i 1).val
  let c256_i32_82 : BitVec 32 := 256#32
  let v132 : BitVec 32 := Scalar.muli arg1 c256_i32_82
  let c128_i32_83 : BitVec 32 := 128#32
  let v133 : BitVec 32 := Scalar.addi v132 c128_i32_83
  v133
def k0_mult10 (i : grid0.Coords) : BitVec 32 :=
  let arg1 : BitVec 32 := BitVec.ofNat 32 (i 1).val
  let c256_i32_94 : BitVec 32 := 256#32
  let v149 : BitVec 32 := Scalar.muli arg1 c256_i32_94
  let c0_i32_95 : BitVec 32 := 0#32
  let v150 : BitVec 32 := Scalar.addi v149 c0_i32_95
  v150
def k0_off5 (i : grid0.Coords) (c0_i32_95 : BitVec 32) : Fin 3 → Nat :=
  let c4 : Index := 4#32
  let c0_96 : Index := 0#32
  let arg1 : BitVec 32 := BitVec.ofNat 32 (i 1).val
  let c256_i32_94 : BitVec 32 := 256#32
  let v149 : BitVec 32 := Scalar.muli arg1 c256_i32_94
  let v150 : BitVec 32 := Scalar.addi v149 c0_i32_95
  let v151 : BitVec 32 := v150
  let v152 : Index := Scalar.indexCast v151
  ![4, 0, v152.toNat]
def k0_mult11 (i : grid0.Coords) : BitVec 32 :=
  let arg1 : BitVec 32 := BitVec.ofNat 32 (i 1).val
  let c256_i32_105 : BitVec 32 := 256#32
  let v166 : BitVec 32 := Scalar.muli arg1 c256_i32_105
  let c128_i32_106 : BitVec 32 := 128#32
  let v167 : BitVec 32 := Scalar.addi v166 c128_i32_106
  v167
def k0_cond3 (i : grid0.Coords) : BitVec 1 :=
  let arg0 : BitVec 32 := BitVec.ofNat 32 (i 0).val
  let c32_i32 : BitVec 32 := 32#32
  let v10 : BitVec 1 := Scalar.cmpi .slt arg0 c32_i32
  let v11 : BitVec 32 := Scalar.extui v10
  let c0_i32_4 : BitVec 32 := 0#32
  let v12 : BitVec 1 := Scalar.cmpi .ne v11 c0_i32_4
  v12

def k0_off6 (i : grid0.Coords) : Fin 3 → Nat :=
  let c0_34 : Index := 0#32
  let c0_35 : Index := 0#32
  let arg1 : BitVec 32 := BitVec.ofNat 32 (i 1).val
  let c256_i32 : BitVec 32 := 256#32
  let v0 : BitVec 32 := Scalar.muli arg1 c256_i32
  let v1 : BitVec 32 := v0
  let v84 : Index := Scalar.indexCast v1
  ![0, 0, v84.toNat]
def k0_off7 (i : grid0.Coords) : Fin 3 → Nat :=
  let c1_44 : Index := 1#32
  let c0_45 : Index := 0#32
  let arg1 : BitVec 32 := BitVec.ofNat 32 (i 1).val
  let c256_i32 : BitVec 32 := 256#32
  let v0 : BitVec 32 := Scalar.muli arg1 c256_i32
  let v1 : BitVec 32 := v0
  let v102 : Index := Scalar.indexCast v1
  ![1, 0, v102.toNat]
def k0_off8 (i : grid0.Coords) : Fin 3 → Nat :=
  let c2_54 : Index := 2#32
  let c0_55 : Index := 0#32
  let arg1 : BitVec 32 := BitVec.ofNat 32 (i 1).val
  let c256_i32 : BitVec 32 := 256#32
  let v0 : BitVec 32 := Scalar.muli arg1 c256_i32
  let v1 : BitVec 32 := v0
  let v120 : Index := Scalar.indexCast v1
  ![2, 0, v120.toNat]
def k0_off9 (i : grid0.Coords) : Fin 3 → Nat :=
  let c3_64 : Index := 3#32
  let c0_65 : Index := 0#32
  let arg1 : BitVec 32 := BitVec.ofNat 32 (i 1).val
  let c256_i32 : BitVec 32 := 256#32
  let v0 : BitVec 32 := Scalar.muli arg1 c256_i32
  let v1 : BitVec 32 := v0
  let v138 : Index := Scalar.indexCast v1
  ![3, 0, v138.toNat]
def k0_off10 (i : grid0.Coords) : Fin 3 → Nat :=
  let c4_74 : Index := 4#32
  let c0_75 : Index := 0#32
  let arg1 : BitVec 32 := BitVec.ofNat 32 (i 1).val
  let c256_i32 : BitVec 32 := 256#32
  let v0 : BitVec 32 := Scalar.muli arg1 c256_i32
  let v1 : BitVec 32 := v0
  let v156 : Index := Scalar.indexCast v1
  ![4, 0, v156.toNat]
def k0_cond1 (i : grid0.Coords) : BitVec 1 :=
  let arg0 : BitVec 32 := BitVec.ofNat 32 (i 0).val
  let c0_i32 : BitVec 32 := 0#32
  let v2 : BitVec 1 := Scalar.cmpi .sgt arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![c0_i32_2.toNat, v1.toNat, v3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S5x128x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S5x128x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S5x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference1Ideal.lean ====
abbrev S5x4096x4096 : Shape := ⟨3, ![5, 4096, 4096]⟩
abbrev S5x4096x1 : Shape := ⟨3, ![5, 4096, 1]⟩
abbrev S4096x11008 : Shape := ⟨2, ![4096, 11008]⟩
abbrev S11008 : Shape := ⟨1, ![11008]⟩
abbrev S1x11008 : Shape := ⟨2, ![1, 11008]⟩
abbrev S5x4096x11008 : Shape := ⟨3, ![5, 4096, 11008]⟩
abbrev S20480x4096 : Shape := ⟨2, ![20480, 4096]⟩
abbrev S20480x11008 : Shape := ⟨2, ![20480, 11008]⟩
abbrev S1x1x11008 : Shape := ⟨3, ![1, 1, 11008]⟩
abbrev S3x4096x11008 : Shape := ⟨3, ![3, 4096, 11008]⟩
abbrev S1x4096x11008 : Shape := ⟨3, ![1, 4096, 11008]⟩
abbrev S5x4096 : Shape := ⟨2, ![5, 4096]⟩

abbrev nBuf : Space → Nat
  | .hbm => 9
  | .vmem => 7
  | .smem => 0
  | _ => 0

abbrev bufTy : (tb : Table) → Fin (tcTables nBuf tb) → BufTy
  | .hbm, ⟨0, _⟩ => ⟨S5x4096x4096, .fp8e4m3⟩
  | .hbm, ⟨1, _⟩ => ⟨S5x4096x1, .f32⟩
  | .hbm, ⟨2, _⟩ => ⟨S4096x11008, .fp8e4m3⟩
  | .hbm, ⟨3, _⟩ => ⟨S11008, .f32⟩
  | .hbm, ⟨4, _⟩ => ⟨S11008, .f32⟩
  | .hbm, ⟨5, _⟩ => ⟨S1x11008, .f32⟩
  | .hbm, ⟨6, _⟩ => ⟨S1x11008, .f32⟩
  | .hbm, ⟨7, _⟩ => ⟨S5x4096x11008, .fp8e4m3⟩
  | .hbm, ⟨8, _⟩ => ⟨S5x4096x1, .f32⟩
  | .local _ .vmem, ⟨0, _⟩ => ⟨S5x4096x4096, .fp8e4m3⟩
  | .local _ .vmem, ⟨1, _⟩ => ⟨S5x4096x1, .f32⟩
  | .local _ .vmem, ⟨2, _⟩ => ⟨S4096x11008, .fp8e4m3⟩
  | .local _ .vmem, ⟨3, _⟩ => ⟨S1x11008, .f32⟩
  | .local _ .vmem, ⟨4, _⟩ => ⟨S1x11008, .f32⟩
  | .local _ .vmem, ⟨5, _⟩ => ⟨S5x4096x11008, .fp8e4m3⟩
  | .local _ .vmem, ⟨6, _⟩ => ⟨S5x4096x1, .f32⟩
  | _, _ => ⟨S5x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5x4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x11008 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x4096x11008 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Layer2.lean ====
abbrev S5x4096x11008 : Shape := ⟨3, ![5, 4096, 11008]⟩
abbrev S5x4096x1 : Shape := ⟨3, ![5, 4096, 1]⟩
abbrev S11008x4096 : Shape := ⟨2, ![11008, 4096]⟩
abbrev S4096 : Shape := ⟨1, ![4096]⟩
abbrev S2x2048 : Shape := ⟨2, ![2, 2048]⟩
abbrev S1 : Shape := ⟨1, ![1]⟩
abbrev S1x4096 : Shape := ⟨2, ![1, 4096]⟩
abbrev S4096x4096 : Shape := ⟨2, ![4096, 4096]⟩
abbrev S4096x1 : Shape := ⟨2, ![4096, 1]⟩
abbrev S5x256x11008 : Shape := ⟨3, ![5, 256, 11008]⟩
abbrev S5x256x1 : Shape := ⟨3, ![5, 256, 1]⟩
abbrev S11008x256 : Shape := ⟨2, ![11008, 256]⟩
abbrev S1x256 : Shape := ⟨2, ![1, 256]⟩
abbrev S256x256 : Shape := ⟨2, ![256, 256]⟩
abbrev S256x1 : Shape := ⟨2, ![256, 1]⟩
abbrev S2x256x128 : Shape := ⟨3, ![2, 256, 128]⟩
abbrev S1280x11008 : Shape := ⟨2, ![1280, 11008]⟩
abbrev S1280x256 : Shape := ⟨2, ![1280, 256]⟩
abbrev S1x256x1 : Shape := ⟨3, ![1, 256, 1]⟩
abbrev S256x128 : Shape := ⟨2, ![256, 128]⟩
abbrev S1x256x128 : Shape := ⟨3, ![1, 256, 128]⟩
abbrev S256 : Shape := ⟨1, ![256]⟩
abbrev S_ : Shape := ⟨0, ![]⟩
abbrev S2x2048x4096 : Shape := ⟨3, ![2, 2048, 4096]⟩

abbrev nBuf : Space → Nat
  | .hbm => 24
  | .vmem => 21
  | .smem => 0
  | _ => 0

abbrev bufTy : (tb : Table) → Fin (tcTables nBuf tb) → BufTy
  | .hbm, ⟨0, _⟩ => ⟨S5x4096x11008, .fp8e4m3⟩
  | .hbm, ⟨1, _⟩ => ⟨S5x4096x1, .f32⟩
  | .hbm, ⟨2, _⟩ => ⟨S11008x4096, .fp8e4m3⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S2x2048, .f32⟩
  | .hbm, ⟨7, _⟩ => ⟨S1, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x1, .f32⟩
  | .hbm, ⟨14, _⟩ => ⟨S4096x1, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S2x2048, .f32⟩
  | .hbm, ⟨20, _⟩ => ⟨S2x2048, .f32⟩
  | .hbm, ⟨21, _⟩ => ⟨S2x2048, .bf16⟩
  | .hbm, ⟨22, _⟩ => ⟨S2x2048x4096, .f32⟩
  | .hbm, ⟨23, _⟩ => ⟨S2x2048x4096, .f32⟩
  | .local _ .vmem, ⟨0, _⟩ => ⟨S5x256x11008, .fp8e4m3⟩
  | .local _ .vmem, ⟨1, _⟩ => ⟨S5x256x11008, .fp8e4m3⟩
  | .local _ .vmem, ⟨2, _⟩ => ⟨S5x256x1, .f32⟩
  | .local _ .vmem, ⟨3, _⟩ => ⟨S5x256x1, .f32⟩
  | .local _ .vmem, ⟨4, _⟩ => ⟨S11008x256, .fp8e4m3⟩
  | .local _ .vmem, ⟨5, _⟩ => ⟨S11008x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S2x256x128, .f32⟩
  | _, _ => ⟨S5x4096x11008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c15_i32 : BitVec 32 := 15#32
  let v102 : BitVec 1 := Scalar.cmpi .eq arg1 c15_i32
  let v103 : BitVec 32 := Scalar.extui v102
  let c0_i32_52 : BitVec 32 := 0#32
  let v104 : BitVec 1 := Scalar.cmpi .ne v103 c0_i32_52
  v104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5x256x11008 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S11008x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S5x4096x11008 : Shape := ⟨3, ![5, 4096, 11008]⟩
abbrev S5x4096x1 : Shape := ⟨3, ![5, 4096, 1]⟩
abbrev S11008x4096 : Shape := ⟨2, ![11008, 4096]⟩
abbrev S4096 : Shape := ⟨1, ![4096]⟩
abbrev S2x2048 : Shape := ⟨2, ![2, 2048]⟩
abbrev S1 : Shape := ⟨1, ![1]⟩
abbrev S1x4096 : Shape := ⟨2, ![1, 4096]⟩
abbrev S4096x4096 : Shape := ⟨2, ![4096, 4096]⟩
abbrev S4096x1 : Shape := ⟨2, ![4096, 1]⟩
abbrev S20480x11008 : Shape := ⟨2, ![20480, 11008]⟩
abbrev S20480x4096 : Shape := ⟨2, ![20480, 4096]⟩
abbrev S5x4096x4096 : Shape := ⟨3, ![5, 4096, 4096]⟩
abbrev S1x1x4096 : Shape := ⟨3, ![1, 1, 4096]⟩
abbrev S3x4096x4096 : Shape := ⟨3, ![3, 4096, 4096]⟩
abbrev S1x4096x4096 : Shape := ⟨3, ![1, 4096, 4096]⟩
abbrev S_ : Shape := ⟨0, ![]⟩
abbrev S2x2048x4096 : Shape := ⟨3, ![2, 2048, 4096]⟩

abbrev nBuf : Space → Nat
  | .hbm => 24
  | .vmem => 10
  | .smem => 0
  | _ => 0

abbrev bufTy : (tb : Table) → Fin (tcTables nBuf tb) → BufTy
  | .hbm, ⟨0, _⟩ => ⟨S5x4096x11008, .fp8e4m3⟩
  | .hbm, ⟨1, _⟩ => ⟨S5x4096x1, .f32⟩
  | .hbm, ⟨2, _⟩ => ⟨S11008x4096, .fp8e4m3⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S2x2048, .f32⟩
  | .hbm, ⟨7, _⟩ => ⟨S1, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x1, .f32⟩
  | .hbm, ⟨14, _⟩ => ⟨S4096x1, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S2x2048, .f32⟩
  | .hbm, ⟨20, _⟩ => ⟨S2x2048, .f32⟩
  | .hbm, ⟨21, _⟩ => ⟨S2x2048, .bf16⟩
  | .hbm, ⟨22, _⟩ => ⟨S2x2048x4096, .f32⟩
  | .hbm, ⟨23, _⟩ => ⟨S2x2048x4096, .f32⟩
  | .local _ .vmem, ⟨0, _⟩ => ⟨S5x4096x11008, .fp8e4m3⟩
  | .local _ .vmem, ⟨1, _⟩ => ⟨S5x4096x1, .f32⟩
  | .local _ .vmem, ⟨2, _⟩ => ⟨S11008x4096, .fp8e4m3⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S4096x4096, .f32⟩
  | .local _ .vmem, ⟨7, _⟩ => ⟨S4096x4096, .f32⟩
  | .local _ .vmem, ⟨8, _⟩ => ⟨S4096x1, .f32⟩
  | .local _ .vmem, ⟨9, _⟩ => ⟨S4096x1, .f32⟩
  | _, _ => ⟨S5x4096x11008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S5x4096x11008 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11008x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Layer0.lean ====
abbrev S2x2048x3 : Shape := ⟨3, ![2, 2048, 3]⟩
abbrev S3x4096 : Shape := ⟨2, ![3, 4096]⟩
abbrev S4096 : Shape := ⟨1, ![4096]⟩
abbrev S4096x3 : Shape := ⟨2, ![4096, 3]⟩
abbrev S1x4096 : Shape := ⟨2, ![1, 4096]⟩
abbrev S5x4096x4096 : Shape := ⟨3, ![5, 4096, 4096]⟩
abbrev S5x4096x1 : Shape := ⟨3, ![5, 4096, 1]⟩
abbrev S128x3 : Shape := ⟨2, ![128, 3]⟩
abbrev S5x128x4096 : Shape := ⟨3, ![5, 128, 4096]⟩
abbrev S5x128x1 : Shape := ⟨3, ![5, 128, 1]⟩
abbrev S5x32x4096 : Shape := ⟨3, ![5, 32, 4096]⟩
abbrev S5x32x128 : Shape := ⟨3, ![5, 32, 128]⟩
abbrev S32x3 : Shape := ⟨2, ![32, 3]⟩
abbrev S3x256 : Shape := ⟨2, ![3, 256]⟩
abbrev S32x1 : Shape := ⟨2, ![32, 1]⟩
abbrev S1x256 : Shape := ⟨2, ![1, 256]⟩
abbrev S32x256 : Shape := ⟨2, ![32, 256]⟩
abbrev S1x32x256 : Shape := ⟨3, ![1, 32, 256]⟩
abbrev S1x32x128 : Shape := ⟨3, ![1, 32, 128]⟩
abbrev S32x128 : Shape := ⟨2, ![32, 128]⟩
abbrev S32 : Shape := ⟨1, ![32]⟩
abbrev S1x32x1 : Shape := ⟨3, ![1, 32, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x3, .f32⟩
  | .hbm, ⟨1, _⟩ => ⟨S3x4096, .f32⟩
  | .hbm, ⟨2, _⟩ => ⟨S4096, .f32⟩
  | .hbm, ⟨3, _⟩ => ⟨S4096x3, .f32⟩
  | .hbm, ⟨4, _⟩ => ⟨S1x4096, .f32⟩
  | .hbm, ⟨5, _⟩ => ⟨S5x4096x4096, .fp8e4m3⟩
  | .hbm, ⟨6, _⟩ => ⟨S5x4096x1, .f32⟩
  | .local _ .vmem, ⟨0, _⟩ => ⟨S128x3, .f32⟩
  | .local _ .vmem, ⟨1, _⟩ => ⟨S128x3, .f32⟩
  | .local _ .vmem, ⟨2, _⟩ => ⟨S3x4096, .f32⟩
  | .local _ .vmem, ⟨3, _⟩ => ⟨S1x4096, .f32⟩
  | .local _ .vmem, ⟨4, _⟩ => ⟨S5x128x4096, .fp8e4m3⟩
  | .local _ .vmem, ⟨5, _⟩ => ⟨S5x128x4096, .fp8e4m3⟩
  | .local _ .vmem, ⟨6, _⟩ => ⟨S5x128x1, .f32⟩
  | .local _ .vmem, ⟨7, _⟩ => ⟨S5x128x1, .f32⟩
  | .local _ .vmem, ⟨8, _⟩ => ⟨S5x32x4096, .f32⟩
  | .local _ .vmem, ⟨9, _⟩ => ⟨S5x32x128, .f32⟩
  | _, _ => ⟨S2x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  v1776
def k0_off1 (k0_t1 : Fin k0_t1_loop.trips) : Fin 2 → Nat :=
  let c0_719 : Index := 0#32
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  let v1777 : BitVec 32 := v1776
  let v1778 : Index := Scalar.indexCast v1777
  ![0, v1778.toNat]
def k0_off2 (k0_t1 : Fin k0_t1_loop.trips) : Fin 2 → Nat :=
  let c0_725 : Index := 0#32
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  let v1777 : BitVec 32 := v1776
  let v1991 : Index := Scalar.indexCast v1777
  ![0, v1991.toNat]
def k0_off3 (k0_t1 : Fin k0_t1_loop.trips) : Fin 3 → Nat :=
  let c0_728 : Index := 0#32
  let c0_729 : Index := 0#32
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  let v1777 : BitVec 32 := v1776
  let v2025 : Index := Scalar.indexCast v1777
  ![0, 0, v2025.toNat]
def k0_off4 (k0_t1 : Fin k0_t1_loop.trips) : Fin 3 → Nat :=
  let c1_738 : Index := 1#32
  let c0_739 : Index := 0#32
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  let v1777 : BitVec 32 := v1776
  let v2043 : Index := Scalar.indexCast v1777
  ![1, 0, v2043.toNat]
def k0_off5 (k0_t1 : Fin k0_t1_loop.trips) : Fin 3 → Nat :=
  let c2_748 : Index := 2#32
  let c0_749 : Index := 0#32
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  let v1777 : BitVec 32 := v1776
  let v2061 : Index := Scalar.indexCast v1777
  ![2, 0, v2061.toNat]
def k0_off6 (k0_t1 : Fin k0_t1_loop.trips) : Fin 3 → Nat :=
  let c3_758 : Index := 3#32
  let c0_759 : Index := 0#32
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  let v1777 : BitVec 32 := v1776
  let v2079 : Index := Scalar.indexCast v1777
  ![3, 0, v2079.toNat]
def k0_off7 (k0_t1 : Fin k0_t1_loop.trips) : Fin 3 → Nat :=
  let c4_768 : Index := 4#32
  let c0_769 : Index := 0#32
  let c0_i32 : BitVec 32 := 0#32
  let c1_i32 : BitVec 32 := 1#32
  let arg8 : BitVec 32 := Scf.iv c0_i32 c1_i32 k0_t1
  let c256_i32 : BitVec 32 := 256#32
  let v1776 : BitVec 32 := Scalar.muli arg8 c256_i32
  let v1777 : BitVec 32 := v1776
  let v2097 : Index := Scalar.indexCast v1777
  ![4, 0, v2097.toNat]
@[reducible] def k0_t2_loop : Scf.Loop 32 :=
  let c0_i32_163 : BitVec 32 := 0#32
  let c32_i32_164 : BitVec 32 := 32#32
  let v443 : BitVec 32 := Scalar.addi c0_i32_163 c32_i32_164
  let c1_i32_165 : BitVec 32 := 1#32
  ⟨c0_i32_163, v443, c1_i32_165⟩
def k0_mult2 (k0_t2 : Fin k0_t2_loop.trips) : BitVec 32 :=
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  v1776
def k0_off8 (k0_t2 : Fin k0_t2_loop.trips) : Fin 3 → Nat :=
  let c0_720 : Index := 0#32
  let c0_721 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1778 : Index := Scalar.indexCast v1777
  ![0, 0, v1778.toNat]
def k0_off9 (k0_t2 : Fin k0_t2_loop.trips) : Fin 3 → Nat :=
  let c0_727 : Index := 0#32
  let c0_728 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1789 : Index := Scalar.indexCast v1777
  ![0, 0, v1789.toNat]
def k0_off10 (k0_t2 : Fin k0_t2_loop.trips) : Fin 3 → Nat :=
  let c1_729 : Index := 1#32
  let c0_730 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1793 : Index := Scalar.indexCast v1777
  ![1, 0, v1793.toNat]
def k0_off11 (k0_t2 : Fin k0_t2_loop.trips) : Fin 3 → Nat :=
  let c1_736 : Index := 1#32
  let c0_737 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1804 : Index := Scalar.indexCast v1777
  ![1, 0, v1804.toNat]
def k0_off12 (k0_t2 : Fin k0_t2_loop.trips) : Fin 3 → Nat :=
  let c2_738 : Index := 2#32
  let c0_739 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1808 : Index := Scalar.indexCast v1777
  ![2, 0, v1808.toNat]
def k0_off13 (k0_t2 : Fin k0_t2_loop.trips) : Fin 3 → Nat :=
  let c2_745 : Index := 2#32
  let c0_746 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1819 : Index := Scalar.indexCast v1777
  ![2, 0, v1819.toNat]
def k0_off14 (k0_t2 : Fin k0_t2_loop.trips) : Fin 3 → Nat :=
  let c3_747 : Index := 3#32
  let c0_748 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1823 : Index := Scalar.indexCast v1777
  ![3, 0, v1823.toNat]
def k0_off15 (k0_t2 : Fin k0_t2_loop.trips) : Fin 3 → Nat :=
  let c3_754 : Index := 3#32
  let c0_755 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1834 : Index := Scalar.indexCast v1777
  ![3, 0, v1834.toNat]
def k0_off16 (k0_t2 : Fin k0_t2_loop.trips) : Fin 3 → Nat :=
  let c4_756 : Index := 4#32
  let c0_757 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1838 : Index := Scalar.indexCast v1777
  ![4, 0, v1838.toNat]
def k0_off17 (k0_t2 : Fin k0_t2_loop.trips) : Fin 3 → Nat :=
  let c4_763 : Index := 4#32
  let c0_764 : Index := 0#32
  let c0_i32_163 : BitVec 32 := 0#32
  let c1_i32_165 : BitVec 32 := 1#32
  let arg8 : BitVec 32 := Scf.iv c0_i32_163 c1_i32_165 k0_t2
  let c128_i32_719 : BitVec 32 := 128#32
  let v1776 : BitVec 32 := Scalar.muli arg8 c128_i32_719
  let v1777 : BitVec 32 := v1776
  let v1849 : Index := Scalar.indexCast v1777
  ![4, 0, v1849.toNat]
@[reducible] def k0_t3_loop : Scf.Loop 32 :=
  let c0_i32_168 : BitVec 32 := 0#32
  let c16_i32_169 : BitVec 32 := 16#32
  let v446 : BitVec 32 := Scalar.addi c0_i32_168 c16_i32_169
  let c1_i32_170 : BitVec 32 := 1#32
  ⟨c0_i32_168, v446, c1_i32_170⟩
def k0_mult3 (k0_t3 : Fin k0_t3_loop.trips) : BitVec 32 :=
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  v1776
def k0_off18 (k0_t3 : Fin k0_t3_loop.trips) : Fin 2 → Nat :=
  let c0_719 : Index := 0#32
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  let v1777 : BitVec 32 := v1776
  let v1778 : Index := Scalar.indexCast v1777
  ![0, v1778.toNat]
def k0_off19 (k0_t3 : Fin k0_t3_loop.trips) : Fin 2 → Nat :=
  let c0_725 : Index := 0#32
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  let v1777 : BitVec 32 := v1776
  let v1991 : Index := Scalar.indexCast v1777
  ![0, v1991.toNat]
def k0_off20 (k0_t3 : Fin k0_t3_loop.trips) : Fin 3 → Nat :=
  let c0_728 : Index := 0#32
  let c0_729 : Index := 0#32
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  let v1777 : BitVec 32 := v1776
  let v2025 : Index := Scalar.indexCast v1777
  ![0, 0, v2025.toNat]
def k0_off21 (k0_t3 : Fin k0_t3_loop.trips) : Fin 3 → Nat :=
  let c1_738 : Index := 1#32
  let c0_739 : Index := 0#32
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  let v1777 : BitVec 32 := v1776
  let v2043 : Index := Scalar.indexCast v1777
  ![1, 0, v2043.toNat]
def k0_off22 (k0_t3 : Fin k0_t3_loop.trips) : Fin 3 → Nat :=
  let c2_748 : Index := 2#32
  let c0_749 : Index := 0#32
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  let v1777 : BitVec 32 := v1776
  let v2061 : Index := Scalar.indexCast v1777
  ![2, 0, v2061.toNat]
def k0_off23 (k0_t3 : Fin k0_t3_loop.trips) : Fin 3 → Nat :=
  let c3_758 : Index := 3#32
  let c0_759 : Index := 0#32
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  let v1777 : BitVec 32 := v1776
  let v2079 : Index := Scalar.indexCast v1777
  ![3, 0, v2079.toNat]
def k0_off24 (k0_t3 : Fin k0_t3_loop.trips) : Fin 3 → Nat :=
  let c4_768 : Index := 4#32
  let c0_769 : Index := 0#32
  let c0_i32_168 : BitVec 32 := 0#32
  let c1_i32_170 : BitVec 32 := 1#32
  let arg8 : BitVec 32 := Scf.iv c0_i32_168 c1_i32_170 k0_t3
  let c256_i32 : BitVec 32 := 256#32
  let v1776 : BitVec 32 := Scalar.muli arg8 c256_i32
  let v1777 : BitVec 32 := v1776
  let v2097 : Index := Scalar.indexCast v1777
  ![4, 0, v2097.toNat]
@[reducible] def k0_t4_loop : Scf.Loop 32 :=
  let c0_i32_347 : BitVec 32 := 0#32
  let c32_i32_348 : BitVec 32 := 32#32
  let v887 : BitVec 32 := Scalar.addi c0_i32_347 c32_i32_348
  let c1_i32_349 : BitVec 32 := 1#32
  ⟨c0_i32_347, v887, c1_i32_349⟩
def k0_mult4 (k0_t4 : Fin k0_t4_loop.trips) : BitVec 32 :=
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  v1776
def k0_off25 (k0_t4 : Fin k0_t4_loop.trips) : Fin 3 → Nat :=
  let c0_720 : Index := 0#32
  let c0_721 : Index := 0#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1778 : Index := Scalar.indexCast v1777
  ![0, 0, v1778.toNat]
def k0_off26 (k0_t4 : Fin k0_t4_loop.trips) : Fin 3 → Nat :=
  let c0_727 : Index := 0#32
  let c32_728 : Index := 32#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1789 : Index := Scalar.indexCast v1777
  ![0, 32, v1789.toNat]
def k0_off27 (k0_t4 : Fin k0_t4_loop.trips) : Fin 3 → Nat :=
  let c1_729 : Index := 1#32
  let c0_730 : Index := 0#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1793 : Index := Scalar.indexCast v1777
  ![1, 0, v1793.toNat]
def k0_off28 (k0_t4 : Fin k0_t4_loop.trips) : Fin 3 → Nat :=
  let c1_736 : Index := 1#32
  let c32_737 : Index := 32#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1804 : Index := Scalar.indexCast v1777
  ![1, 32, v1804.toNat]
def k0_off29 (k0_t4 : Fin k0_t4_loop.trips) : Fin 3 → Nat :=
  let c2_738 : Index := 2#32
  let c0_739 : Index := 0#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1808 : Index := Scalar.indexCast v1777
  ![2, 0, v1808.toNat]
def k0_off30 (k0_t4 : Fin k0_t4_loop.trips) : Fin 3 → Nat :=
  let c2_745 : Index := 2#32
  let c32_746 : Index := 32#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1819 : Index := Scalar.indexCast v1777
  ![2, 32, v1819.toNat]
def k0_off31 (k0_t4 : Fin k0_t4_loop.trips) : Fin 3 → Nat :=
  let c3_747 : Index := 3#32
  let c0_748 : Index := 0#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1823 : Index := Scalar.indexCast v1777
  ![3, 0, v1823.toNat]
def k0_off32 (k0_t4 : Fin k0_t4_loop.trips) : Fin 3 → Nat :=
  let c3_754 : Index := 3#32
  let c32_755 : Index := 32#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1834 : Index := Scalar.indexCast v1777
  ![3, 32, v1834.toNat]
def k0_off33 (k0_t4 : Fin k0_t4_loop.trips) : Fin 3 → Nat :=
  let c4_756 : Index := 4#32
  let c0_757 : Index := 0#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1838 : Index := Scalar.indexCast v1777
  ![4, 0, v1838.toNat]
def k0_off34 (k0_t4 : Fin k0_t4_loop.trips) : Fin 3 → Nat :=
  let c4_763 : Index := 4#32
  let c32_764 : Index := 32#32
  let c0_i32_347 : BitVec 32 := 0#32
  let c1_i32_349 : BitVec 32 := 1#32
  let arg8 : BitVec 32 := Scf.iv c0_i32_347 c1_i32_349 k0_t4
  let c128_i32_719 : BitVec 32 := 128#32
  let v1776 : BitVec 32 := Scalar.muli arg8 c128_i32_719
  let v1777 : BitVec 32 := v1776
  let v1849 : Index := Scalar.indexCast v1777
  ![4, 32, v1849.toNat]
@[reducible] def k0_t5_loop : Scf.Loop 32 :=
  let c0_i32_352 : BitVec 32 := 0#32
  let c16_i32_353 : BitVec 32 := 16#32
  let v890 : BitVec 32 := Scalar.addi c0_i32_352 c16_i32_353
  let c1_i32_354 : BitVec 32 := 1#32
  ⟨c0_i32_352, v890, c1_i32_354⟩
def k0_mult5 (k0_t5 : Fin k0_t5_loop.trips) : BitVec 32 :=
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  v1776
def k0_off35 (k0_t5 : Fin k0_t5_loop.trips) : Fin 2 → Nat :=
  let c0_719 : Index := 0#32
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  let v1777 : BitVec 32 := v1776
  let v1778 : Index := Scalar.indexCast v1777
  ![0, v1778.toNat]
def k0_off36 (k0_t5 : Fin k0_t5_loop.trips) : Fin 2 → Nat :=
  let c0_725 : Index := 0#32
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  let v1777 : BitVec 32 := v1776
  let v1991 : Index := Scalar.indexCast v1777
  ![0, v1991.toNat]
def k0_off37 (k0_t5 : Fin k0_t5_loop.trips) : Fin 3 → Nat :=
  let c0_728 : Index := 0#32
  let c0_729 : Index := 0#32
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  let v1777 : BitVec 32 := v1776
  let v2025 : Index := Scalar.indexCast v1777
  ![0, 0, v2025.toNat]
def k0_off38 (k0_t5 : Fin k0_t5_loop.trips) : Fin 3 → Nat :=
  let c1_738 : Index := 1#32
  let c0_739 : Index := 0#32
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  let v1777 : BitVec 32 := v1776
  let v2043 : Index := Scalar.indexCast v1777
  ![1, 0, v2043.toNat]
def k0_off39 (k0_t5 : Fin k0_t5_loop.trips) : Fin 3 → Nat :=
  let c2_748 : Index := 2#32
  let c0_749 : Index := 0#32
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  let v1777 : BitVec 32 := v1776
  let v2061 : Index := Scalar.indexCast v1777
  ![2, 0, v2061.toNat]
def k0_off40 (k0_t5 : Fin k0_t5_loop.trips) : Fin 3 → Nat :=
  let c3_758 : Index := 3#32
  let c0_759 : Index := 0#32
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  let v1777 : BitVec 32 := v1776
  let v2079 : Index := Scalar.indexCast v1777
  ![3, 0, v2079.toNat]
def k0_off41 (k0_t5 : Fin k0_t5_loop.trips) : Fin 3 → Nat :=
  let c4_768 : Index := 4#32
  let c0_769 : Index := 0#32
  let c0_i32_352 : BitVec 32 := 0#32
  let c1_i32_354 : BitVec 32 := 1#32
  let arg8 : BitVec 32 := Scf.iv c0_i32_352 c1_i32_354 k0_t5
  let c256_i32 : BitVec 32 := 256#32
  let v1776 : BitVec 32 := Scalar.muli arg8 c256_i32
  let v1777 : BitVec 32 := v1776
  let v2097 : Index := Scalar.indexCast v1777
  ![4, 0, v2097.toNat]
@[reducible] def k0_t6_loop : Scf.Loop 32 :=
  let c0_i32_531 : BitVec 32 := 0#32
  let c32_i32_532 : BitVec 32 := 32#32
  let v1331 : BitVec 32 := Scalar.addi c0_i32_531 c32_i32_532
  let c1_i32_533 : BitVec 32 := 1#32
  ⟨c0_i32_531, v1331, c1_i32_533⟩
def k0_mult6 (k0_t6 : Fin k0_t6_loop.trips) : BitVec 32 :=
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  v1776
def k0_off42 (k0_t6 : Fin k0_t6_loop.trips) : Fin 3 → Nat :=
  let c0_720 : Index := 0#32
  let c0_721 : Index := 0#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1778 : Index := Scalar.indexCast v1777
  ![0, 0, v1778.toNat]
def k0_off43 (k0_t6 : Fin k0_t6_loop.trips) : Fin 3 → Nat :=
  let c0_727 : Index := 0#32
  let c64_728 : Index := 64#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1789 : Index := Scalar.indexCast v1777
  ![0, 64, v1789.toNat]
def k0_off44 (k0_t6 : Fin k0_t6_loop.trips) : Fin 3 → Nat :=
  let c1_729 : Index := 1#32
  let c0_730 : Index := 0#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1793 : Index := Scalar.indexCast v1777
  ![1, 0, v1793.toNat]
def k0_off45 (k0_t6 : Fin k0_t6_loop.trips) : Fin 3 → Nat :=
  let c1_736 : Index := 1#32
  let c64_737 : Index := 64#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1804 : Index := Scalar.indexCast v1777
  ![1, 64, v1804.toNat]
def k0_off46 (k0_t6 : Fin k0_t6_loop.trips) : Fin 3 → Nat :=
  let c2_738 : Index := 2#32
  let c0_739 : Index := 0#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1808 : Index := Scalar.indexCast v1777
  ![2, 0, v1808.toNat]
def k0_off47 (k0_t6 : Fin k0_t6_loop.trips) : Fin 3 → Nat :=
  let c2_745 : Index := 2#32
  let c64_746 : Index := 64#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1819 : Index := Scalar.indexCast v1777
  ![2, 64, v1819.toNat]
def k0_off48 (k0_t6 : Fin k0_t6_loop.trips) : Fin 3 → Nat :=
  let c3_747 : Index := 3#32
  let c0_748 : Index := 0#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1823 : Index := Scalar.indexCast v1777
  ![3, 0, v1823.toNat]
def k0_off49 (k0_t6 : Fin k0_t6_loop.trips) : Fin 3 → Nat :=
  let c3_754 : Index := 3#32
  let c64_755 : Index := 64#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1834 : Index := Scalar.indexCast v1777
  ![3, 64, v1834.toNat]
def k0_off50 (k0_t6 : Fin k0_t6_loop.trips) : Fin 3 → Nat :=
  let c4_756 : Index := 4#32
  let c0_757 : Index := 0#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1838 : Index := Scalar.indexCast v1777
  ![4, 0, v1838.toNat]
def k0_off51 (k0_t6 : Fin k0_t6_loop.trips) : Fin 3 → Nat :=
  let c4_763 : Index := 4#32
  let c64_764 : Index := 64#32
  let c0_i32_531 : BitVec 32 := 0#32
  let c1_i32_533 : BitVec 32 := 1#32
  let arg8 : BitVec 32 := Scf.iv c0_i32_531 c1_i32_533 k0_t6
  let c128_i32_719 : BitVec 32 := 128#32
  let v1776 : BitVec 32 := Scalar.muli arg8 c128_i32_719
  let v1777 : BitVec 32 := v1776
  let v1849 : Index := Scalar.indexCast v1777
  ![4, 64, v1849.toNat]
@[reducible] def k0_t7_loop : Scf.Loop 32 :=
  let c0_i32_536 : BitVec 32 := 0#32
  let c16_i32_537 : BitVec 32 := 16#32
  let v1334 : BitVec 32 := Scalar.addi c0_i32_536 c16_i32_537
  let c1_i32_538 : BitVec 32 := 1#32
  ⟨c0_i32_536, v1334, c1_i32_538⟩
def k0_mult7 (k0_t7 : Fin k0_t7_loop.trips) : BitVec 32 :=
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  v1776
def k0_off52 (k0_t7 : Fin k0_t7_loop.trips) : Fin 2 → Nat :=
  let c0_719 : Index := 0#32
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  let v1777 : BitVec 32 := v1776
  let v1778 : Index := Scalar.indexCast v1777
  ![0, v1778.toNat]
def k0_off53 (k0_t7 : Fin k0_t7_loop.trips) : Fin 2 → Nat :=
  let c0_725 : Index := 0#32
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  let v1777 : BitVec 32 := v1776
  let v1991 : Index := Scalar.indexCast v1777
  ![0, v1991.toNat]
def k0_off54 (k0_t7 : Fin k0_t7_loop.trips) : Fin 3 → Nat :=
  let c0_728 : Index := 0#32
  let c0_729 : Index := 0#32
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  let v1777 : BitVec 32 := v1776
  let v2025 : Index := Scalar.indexCast v1777
  ![0, 0, v2025.toNat]
def k0_off55 (k0_t7 : Fin k0_t7_loop.trips) : Fin 3 → Nat :=
  let c1_738 : Index := 1#32
  let c0_739 : Index := 0#32
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  let v1777 : BitVec 32 := v1776
  let v2043 : Index := Scalar.indexCast v1777
  ![1, 0, v2043.toNat]
def k0_off56 (k0_t7 : Fin k0_t7_loop.trips) : Fin 3 → Nat :=
  let c2_748 : Index := 2#32
  let c0_749 : Index := 0#32
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  let v1777 : BitVec 32 := v1776
  let v2061 : Index := Scalar.indexCast v1777
  ![2, 0, v2061.toNat]
def k0_off57 (k0_t7 : Fin k0_t7_loop.trips) : Fin 3 → Nat :=
  let c3_758 : Index := 3#32
  let c0_759 : Index := 0#32
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  let v1777 : BitVec 32 := v1776
  let v2079 : Index := Scalar.indexCast v1777
  ![3, 0, v2079.toNat]
def k0_off58 (k0_t7 : Fin k0_t7_loop.trips) : Fin 3 → Nat :=
  let c4_768 : Index := 4#32
  let c0_769 : Index := 0#32
  let c0_i32_536 : BitVec 32 := 0#32
  let c1_i32_538 : BitVec 32 := 1#32
  let arg8 : BitVec 32 := Scf.iv c0_i32_536 c1_i32_538 k0_t7
  let c256_i32 : BitVec 32 := 256#32
  let v1776 : BitVec 32 := Scalar.muli arg8 c256_i32
  let v1777 : BitVec 32 := v1776
  let v2097 : Index := Scalar.indexCast v1777
  ![4, 0, v2097.toNat]
@[reducible] def k0_t8_loop : Scf.Loop 32 :=
  let c0_i32_715 : BitVec 32 := 0#32
  let c32_i32_716 : BitVec 32 := 32#32
  let v1775 : BitVec 32 := Scalar.addi c0_i32_715 c32_i32_716
  let c1_i32_717 : BitVec 32 := 1#32
  ⟨c0_i32_715, v1775, c1_i32_717⟩
def k0_mult8 (k0_t8 : Fin k0_t8_loop.trips) : BitVec 32 :=
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  v1776
def k0_off59 (k0_t8 : Fin k0_t8_loop.trips) : Fin 3 → Nat :=
  let c0_720 : Index := 0#32
  let c0_721 : Index := 0#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1778 : Index := Scalar.indexCast v1777
  ![0, 0, v1778.toNat]
def k0_off60 (k0_t8 : Fin k0_t8_loop.trips) : Fin 3 → Nat :=
  let c0_727 : Index := 0#32
  let c96_728 : Index := 96#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1789 : Index := Scalar.indexCast v1777
  ![0, 96, v1789.toNat]
def k0_off61 (k0_t8 : Fin k0_t8_loop.trips) : Fin 3 → Nat :=
  let c1_729 : Index := 1#32
  let c0_730 : Index := 0#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1793 : Index := Scalar.indexCast v1777
  ![1, 0, v1793.toNat]
def k0_off62 (k0_t8 : Fin k0_t8_loop.trips) : Fin 3 → Nat :=
  let c1_736 : Index := 1#32
  let c96_737 : Index := 96#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1804 : Index := Scalar.indexCast v1777
  ![1, 96, v1804.toNat]
def k0_off63 (k0_t8 : Fin k0_t8_loop.trips) : Fin 3 → Nat :=
  let c2_738 : Index := 2#32
  let c0_739 : Index := 0#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1808 : Index := Scalar.indexCast v1777
  ![2, 0, v1808.toNat]
def k0_off64 (k0_t8 : Fin k0_t8_loop.trips) : Fin 3 → Nat :=
  let c2_745 : Index := 2#32
  let c96_746 : Index := 96#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1819 : Index := Scalar.indexCast v1777
  ![2, 96, v1819.toNat]
def k0_off65 (k0_t8 : Fin k0_t8_loop.trips) : Fin 3 → Nat :=
  let c3_747 : Index := 3#32
  let c0_748 : Index := 0#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1823 : Index := Scalar.indexCast v1777
  ![3, 0, v1823.toNat]
def k0_off66 (k0_t8 : Fin k0_t8_loop.trips) : Fin 3 → Nat :=
  let c3_754 : Index := 3#32
  let c96_755 : Index := 96#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1834 : Index := Scalar.indexCast v1777
  ![3, 96, v1834.toNat]
def k0_off67 (k0_t8 : Fin k0_t8_loop.trips) : Fin 3 → Nat :=
  let c4_756 : Index := 4#32
  let c0_757 : Index := 0#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1838 : Index := Scalar.indexCast v1777
  ![4, 0, v1838.toNat]
def k0_off68 (k0_t8 : Fin k0_t8_loop.trips) : Fin 3 → Nat :=
  let c4_763 : Index := 4#32
  let c96_764 : Index := 96#32
  let c0_i32_715 : BitVec 32 := 0#32
  let c1_i32_717 : BitVec 32 := 1#32
  let arg8 : BitVec 32 := Scf.iv c0_i32_715 c1_i32_717 k0_t8
  let c128_i32_719 : BitVec 32 := 128#32
  let v1776 : BitVec 32 := Scalar.muli arg8 c128_i32_719
  let v1777 : BitVec 32 := v1776
  let v1849 : Index := Scalar.indexCast v1777
  ![4, 96, v1849.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Layer0Ideal.lean ====
variable {F : FTy → Type} [FloatOps F]
-- ==== Reference0Ideal.lean ====
abbrev S2x2048x3 : Shape := ⟨3, ![2, 2048, 3]⟩
abbrev S3x4096 : Shape := ⟨2, ![3, 4096]⟩
abbrev S4096 : Shape := ⟨1, ![4096]⟩
abbrev S4096x3 : Shape := ⟨2, ![4096, 3]⟩
abbrev S1x4096 : Shape := ⟨2, ![1, 4096]⟩
abbrev S5x4096x4096 : Shape := ⟨3, ![5, 4096, 4096]⟩
abbrev S5x4096x1 : Shape := ⟨3, ![5, 4096, 1]⟩
abbrev S4096x4096 : Shape := ⟨2, ![4096, 4096]⟩
abbrev S1x4096x4096 : Shape := ⟨3, ![1, 4096, 4096]⟩
abbrev S3x1x4096 : Shape := ⟨3, ![3, 1, 4096]⟩
abbrev S3x4096x4096 : Shape := ⟨3, ![3, 4096, 4096]⟩
abbrev S5x4096 : Shape := ⟨2, ![5, 4096]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x3, .f32⟩
  | .hbm, ⟨1, _⟩ => ⟨S3x4096, .f32⟩
  | .hbm, ⟨2, _⟩ => ⟨S4096, .f32⟩
  | .hbm, ⟨3, _⟩ => ⟨S4096x3, .f32⟩
  | .hbm, ⟨4, _⟩ => ⟨S1x4096, .f32⟩
  | .hbm, ⟨5, _⟩ => ⟨S5x4096x4096, .fp8e4m3⟩
  | .hbm, ⟨6, _⟩ => ⟨S5x4096x1, .f32⟩
  | .local _ .vmem, ⟨0, _⟩ => ⟨S4096x3, .f32⟩
  | .local _ .vmem, ⟨1, _⟩ => ⟨S3x4096, .f32⟩
  | .local _ .vmem, ⟨2, _⟩ => ⟨S1x4096, .f32⟩
  | .local _ .vmem, ⟨3, _⟩ => ⟨S5x4096x4096, .fp8e4m3⟩
  | .local _ .vmem, ⟨4, _⟩ => ⟨S5x4096x1, .f32⟩
  | _, _ => ⟨S2x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x4096x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Layer1Run.lean ====
module

public import proofs.«01_k».proof.Proof.Gen.Layer1.Skeleton
public import proofs.«01_k».proof.Proof.Gen.Layer1.Frame
public import Idealize.ShloMosaic.Lib.Pipeline.ValueKit
public import Idealize.ShloMosaic.Lib.WritesUnit

/-! The body of the kernel `layer1` as three blocks run one after the other, each under its own condition, and what each leaves in the
buffers it stores into, as a function of what it finds. -/

@[expose] public section

set_option maxRecDepth 16384

noncomputable section

namespace Cert.Layer1.Hand

open Cert.Layer1 Cert.Layer1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first block: per stream, the row maxima of the finished row block become its scales and their inverses. -/
noncomputable def block1 (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole) :
    Prog (TpuEff nD τ sig (Elt F) Λ₀ .tc) PUnit := do
  let arg1 : BitVec 32 := BitVec.ofNat 32 (i 1).val
  let v0 : BitVec 32 := Scalar.muli arg1 256#32
  let v1 : BitVec 32 := v0
  let ⟨v22, v51, v53, v55⟩ : Σ' (v22 : FVec F S128x128 .f32) (v51 : IVec S128x128 32) (v53 : IVec S128x128 32), IVec S128x128 32 ← k0_part1 i arg2 harg2 arg3 harg3 arg4 harg4 arg5 harg5 arg6 harg6 arg7 harg7 arg8 harg8 arg9 harg9 arg10 harg10 arg11 harg11
  let v93 : FVec F S128x128 .f32 ← k0_part2 i arg2 harg2 arg3 harg3 arg4 harg4 arg5 harg5 arg6 harg6 arg7 harg7 arg8 harg8 arg9 harg9 arg10 harg10 arg11 harg11 v22 v51 v53 v55
  let ⟨v110, v139, c8_i32_42⟩ : Σ' (v110 : FVec F S128x128 .f32) (v139 : IVec S128x128 32), BitVec 32 ← k0_part3 i arg2 harg2 arg3 harg3 arg4 harg4 arg5 harg5 arg6 harg6 arg7 harg7 arg8 harg8 arg9 harg9 arg10 harg10 arg11 harg11 v93
  let ⟨v181, v182, v183⟩ : Σ' (v181 : FVec F S128x128 .f32) (v182 : FVec F S128x1 .f32), Vec F S1x128x1 .f32 ← k0_part4 i arg2 harg2 arg3 harg3 arg4 harg4 arg5 harg5 arg6 harg6 arg7 harg7 arg8 harg8 arg9 harg9 arg10 harg10 arg11 harg11 v110 v139 c8_i32_42
  let ⟨v198, v220, v222, v223⟩ : Σ' (v198 : FVec F S128x128 .f32) (v220 : IVec S128x128 32) (v222 : IVec S128x128 32), IVec S128x128 32 ← k0_part5 i arg2 harg2 arg3 harg3 arg4 harg4 arg5 harg5 arg6 harg6 arg7 harg7 arg8 harg8 arg9 harg9 arg10 harg10 arg11 harg11 v181 v182 v183
  let ⟨v264, v269⟩ : Σ' (v264 : FVec F S128x128 .f32), FVec F S128x128 .f32 ← k0_part6 i arg2 harg2 arg3 harg3 arg4 harg4 arg5 harg5 arg6 harg6 arg7 harg7 arg8 harg8 arg9 harg9 arg10 harg10 arg11 harg11 v198 v220 v222 v223
  let ⟨v286, v308⟩ : Σ' (v286 : FVec F S128x128 .f32), IVec S128x128 32 ← k0_part7 i arg2 harg2 arg3 harg3 arg4 harg4 arg5 harg5 arg6 harg6 arg7 harg7 arg8 harg8 arg9 harg9 arg10 harg10 arg11 harg11 v264 v269
  let ⟨v345, v347, v352, v353⟩ : Σ' (v345 : IVec S128x128 32) (v347 : IVec S128x128 1) (v352 : FVec F S128x128 .f32), IVec S128x128 32 ← k0_part8 i arg2 harg2 arg3 harg3 arg4 harg4 arg5 harg5 arg6 harg6 arg7 harg7 arg8 harg8 arg9 harg9 arg10 harg10 arg11 harg11 v286 v308
  let ⟨v374, v389, v391, c23_i32_141⟩ : Σ' (v374 : FVec F S128x128 .f32) (v389 : IVec S128x128 32) (v391 : IVec S128x128 32), BitVec 32 ← k0_part9 i arg2 harg2 arg3 harg3 arg4 harg4 arg5 harg5 arg6 harg6 arg7 harg7 arg8 harg8 arg9 harg9 arg10 harg10 arg11 harg11 v345 v347 v352 v353
  let ⟨v433, v435, v438⟩ : Σ' (v433 : IVec S128x128 32) (v435 : IVec S128x128 1), FVec F S128x128 .f32 ← k0_part10 i arg2 harg2 arg3 harg3 arg4 harg4 arg5 harg5 arg6 harg6 arg7 harg7 arg8 harg8 arg9 harg9 arg10 harg10 arg11 harg11 v374 v389 v391 c23_i32_141
  let v447 : Vec F S1x128x1 .f32 ← Prog.lift (.load arg8 (Rect.unit (s := S5x128x1) ![4, 0, 0] S1x128x1.size inb_S5x128x1_S1x128x1_4_0_0).toLoadRect (View.loadsAt_vmem h_S1x128x1)) -- %447 = vector.load %arg8[%c4_158, %c0_159, %c0_160] : memref<5x128x1xf32, #tpu.memory_space<vmem>>, vector<1x128x1xf32>  @ test_k:69
  Prog.lift (.store arg8 (Rect.unit (s := S5x128x1) ![4, 0, 0] S1x128x1.size inb_S5x128x1_S1x128x1_4_0_0) (k0_pay1 v435 v438) Finset.univ (View.stores_vmem_bits_univ h_S1x128x1 rfl) (.inl rfl)) -- tpu.vector_store %arg8[%c4_158, %c0_159, %c0_160], %449 {strides = array<i32>} : memref<5x128x1xf32, #tpu.memory_space<vmem>>, vector<1x128x1xf32>,  @ test_k:69
  let v450 : Vec F S1x128x128 .f32 ← Prog.lift (.load arg11 (Rect.unit (s := S5x128x128) ![4, 0, 0] S1x128x128.size inb_S5x128x128_S1x128x128_4_0_0).toLoadRect (View.loadsAt_vmem h_S1x128x128)) -- %450 = vector.load %arg11[%c4_161, %c0_162, %c0_163] : memref<5x128x128xf32, #tpu.memory_space<vmem>>, vector<1x128x128xf32>  @ test_k:70
  Prog.lift (.store arg11 (Rect.unit (s := S5x128x128) ![4, 0, 0] S1x128x128.size inb_S5x128x128_S1x128x128_4_0_0) (k0_pay2 (F := F) v433 v435) Finset.univ (View.stores_vmem_bits_univ h_S1x128x128 rfl) (.inl rfl)) -- tpu.vector_store %arg11[%c4_161, %c0_162, %c0_163], %452 {strides = array<i32>} : memref<5x128x128xf32, #tpu.memory_space<vmem>>, vector<1x128x128xf32>,  @ test_k:70
  pure ⟨⟩

/-- The second block: one tile of the finished row block becomes codes. -/
noncomputable def block2 (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)
  (k0_h2 : k0_cond2 i = 1#1) :
    Prog (TpuEff nD τ sig (Elt F) Λ₀ .tc) PUnit := do
  let arg1 : BitVec 32 := BitVec.ofNat 32 (i 1).val
  let v0 : BitVec 32 := Scalar.muli arg1 256#32
  let v1 : BitVec 32 := v0
  k0_part11 i arg2 harg2 arg3 harg3 arg4 harg4 arg5 harg5 arg6 harg6 arg7 harg7 arg8 harg8 arg9 harg9 arg10 harg10 arg11 harg11 arg1 k0_h2
  k0_part12 i arg2 harg2 arg3 harg3 arg4 harg4 arg5 harg5 arg6 harg6 arg7 harg7 arg8 harg8 arg9 harg9 arg10 harg10 arg11 harg11 arg1 k0_h2
  k0_part13 i arg2 harg2 arg3 harg3 arg4 harg4 arg5 harg5 arg6 harg6 arg7 harg7 arg8 harg8 arg9 harg9 arg10 harg10 arg11 harg11 arg1 k0_h2
  k0_part14 i arg2 harg2 arg3 harg3 arg4 harg4 arg5 harg5 arg6 harg6 arg7 harg7 arg8 harg8 arg9 harg9 arg10 harg10 arg11 harg11 arg1 k0_h2
  k0_part15 i arg2 harg2 arg3 harg3 arg4 harg4 arg5 harg5 arg6 harg6 arg7 harg7 arg8 harg8 arg9 harg9 arg10 harg10 arg11 harg11 arg1 k0_h2
  pure ⟨⟩

/-- The third block: one tile of the current row block is computed and kept, and the row maxima take it in. -/
noncomputable def block3 (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)
  (k0_h3 : k0_cond3 i = 1#1) :
    Prog (TpuEff nD τ sig (Elt F) Λ₀ .tc) PUnit := do
  let arg1 : BitVec 32 := BitVec.ofNat 32 (i 1).val
  let v0 : BitVec 32 := Scalar.muli arg1 256#32
  let v1 : BitVec 32 := v0
  let ⟨v16, v25, v34, v43, v48⟩ : Σ' (v16 : FVec F S640x256 .f32) (v25 : FVec F S128x256 .f32) (v34 : FVec F S128x256 .f32) (v43 : FVec F S128x256 .f32), FVec F S128x256 .f32 ← k0_part16 i arg2 harg2 arg3 harg3 arg4 harg4 arg5 harg5 arg6 harg6 arg7 harg7 arg8 harg8 arg9 harg9 arg10 harg10 arg11 harg11
  let ⟨v66, v78, v79, v80, v83, v88, v90⟩ : Σ' (v66 : FVec F S128x256 .f32) (v78 : FVec F S128x256 .f32) (v79 : FVec F S128x256 .f32) (v80 : FVec F S128x256 .f32) (v83 : FVec F S128x256 .f32) (v88 : BitVec 1), FVec F S128x128 .f32 ← k0_part17 i arg2 harg2 arg3 harg3 arg4 harg4 arg5 harg5 arg6 harg6 arg7 harg7 arg8 harg8 arg9 harg9 arg10 harg10 arg11 harg11 arg1 v1 k0_h3 v16 v25 v34 v43 v48
  let ⟨v124, v126⟩ : Σ' (v124 : BitVec 1), FVec F S128x128 .f32 ← k0_part18 i arg2 harg2 arg3 harg3 arg4 harg4 arg5 harg5 arg6 harg6 arg7 harg7 arg8 harg8 arg9 harg9 arg10 harg10 arg11 harg11 arg1 v1 k0_h3 v66 v78 v79 v88 v90
  let ⟨v160, v162⟩ : Σ' (v160 : BitVec 1), FVec F S128x128 .f32 ← k0_part19 i arg2 harg2 arg3 harg3 arg4 harg4 arg5 harg5 arg6 harg6 arg7 harg7 arg8 harg8 arg9 harg9 arg10 harg10 arg11 harg11 arg1 v1 k0_h3 v79 v80 v83 v124 v126
  let v171 : Vec F S1x128x128 .f32 ← Prog.lift (.load arg10 (Rect.unit (s := S5x128x128) ![4, 0, 0] S1x128x128.size inb_S5x128x128_S1x128x128_4_0_0).toLoadRect (View.loadsAt_vmem h_S1x128x128)) -- %171 = vector.load %arg10[%c4_81, %c0_82, %c0_83] : memref<5x128x128xf32, #tpu.memory_space<vmem>>, vector<1x128x128xf32>  @ test_k:90
  Prog.lift (.store arg10 (Rect.unit (s := S5x128x128) ![4, 0, 0] S1x128x128.size inb_S5x128x128_S1x128x128_4_0_0) (k0_pay3 v83 v160 v162) Finset.univ (View.stores_vmem_bits_univ h_S1x128x128 rfl) (.inl rfl)) -- tpu.vector_store %arg10[%c4_81, %c0_82, %c0_83], %173 {strides = array<i32>} : memref<5x128x128xf32, #tpu.memory_space<vmem>>, vector<1x128x128xf32>,  @ test_k:90
  pure ⟨⟩

set_option maxRecDepth 65536 in
/-- The body is the three blocks in order, each under its condition. -/
theorem body_eq (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole) :
    cc0_layer1 (F := F) i arg2 harg2 arg3 harg3 arg4 harg4 arg5 harg5 arg6 harg6 arg7 harg7 arg8 harg8 arg9 harg9 arg10 harg10 arg11 harg11 = (do
      if h : k0_cond1 i = 1#1 then block1 i arg2 harg2 arg3 harg3 arg4 harg4 arg5 harg5 arg6 harg6 arg7 harg7 arg8 harg8 arg9 harg9 arg10 harg10 arg11 harg11 else pure ⟨⟩
      if h : k0_cond2 i = 1#1 then block2 i arg2 harg2 arg3 harg3 arg4 harg4 arg5 harg5 arg6 harg6 arg7 harg7 arg8 harg8 arg9 harg9 arg10 harg10 arg11 harg11 h else pure ⟨⟩
      if h : k0_cond3 i = 1#1 then block3 i arg2 harg2 arg3 harg3 arg4 harg4 arg5 harg5 arg6 harg6 arg7 harg7 arg8 harg8 arg9 harg9 arg10 harg10 arg11 harg11 h else pure ⟨⟩) := by
  rw [cc0_layer1_eq_skeleton]
  rfl

section Values

/-- Slab `s` of a five-stream buffer. -/
def slabOf {a b : ℕ} {e : EltTy} (x : Vec F ⟨3, ![5, a, b]⟩ e) (s : Fin 5) : Vec F ⟨3, ![1, a, b]⟩ e := fun z => x (ix3 s (z 1) (z 2))

/-- A stream's scales, and the inverse scales kept for its codes, from its row maxima. -/
def scaleSlab (x : Vec F S1x128x128 .f32) : Vec F S1x128x1 .f32 := k0_pay11 (k0_pay4 x) (k0_pay5 x) (k0_pay6 x) (k0_pay7 x)
def invSlab (x : Vec F S1x128x128 .f32) : Vec F S1x128x128 .f32 := k0_pay12 (k0_pay10 (k0_pay4 x) (k0_pay5 x) (k0_pay6 x) (k0_pay7 x))

/-- The five streams compute them alike. -/
theorem scale0 (x : Vec F S1x128x128 .f32) : k0_pay11 (k0_pay4 x) (k0_pay5 x) (k0_pay6 x) (k0_pay7 x) = scaleSlab x := rfl
theorem inv0 (x : Vec F S1x128x128 .f32) : k0_pay12 (k0_pay10 (k0_pay4 x) (k0_pay5 x) (k0_pay6 x) (k0_pay7 x)) = invSlab x := rfl
theorem scale1 (x : Vec F S1x128x128 .f32) : k0_pay19 (k0_pay18 (k0_pay13 x) (k0_pay14 x) 8#32) = scaleSlab x := rfl
theorem inv1 (x : Vec F S1x128x128 .f32) : k0_pay20 (k0_pay17 (k0_pay13 x) (k0_pay14 x) 8#32) = invSlab x := rfl
theorem scale2 (x : Vec F S1x128x128 .f32) : k0_pay29 (k0_pay27 (k0_pay21 x) (k0_pay22 x) (k0_pay23 x) k0_pay24) = scaleSlab x := rfl
theorem inv2 (x : Vec F S1x128x128 .f32) : k0_pay30 (k0_pay28 (k0_pay21 x) (k0_pay22 x) (k0_pay23 x) k0_pay24) = invSlab x := rfl
theorem scale3 (x : Vec F S1x128x128 .f32) : k0_pay37 (k0_pay35 (k0_pay31 x) (k0_pay32 x)) = scaleSlab x := rfl
theorem inv3 (x : Vec F S1x128x128 .f32) : k0_pay38 (F := F) (k0_pay33 (k0_pay31 x) (k0_pay32 x)) (k0_pay34 (k0_pay31 x) (k0_pay32 x)) k0_pay36 = invSlab x := rfl
theorem scale4 (x : Vec F S1x128x128 .f32) : k0_pay1 (k0_pay43 (k0_pay39 x) (k0_pay40 x) (k0_pay41 x) 23#32) (k0_pay44 (k0_pay39 x) (k0_pay40 x) (k0_pay41 x) 23#32) = scaleSlab x := rfl
theorem inv4 (x : Vec F S1x128x128 .f32) : k0_pay2 (F := F) (k0_pay42 (k0_pay39 x) (k0_pay40 x) (k0_pay41 x) 23#32) (k0_pay43 (k0_pay39 x) (k0_pay40 x) (k0_pay41 x) 23#32) = invSlab x := rfl

/-- All five streams' scales and inverse scales. -/
def scaleAll (xa : Vec F S5x128x128 .f32) : Vec F S5x128x1 .f32 := fun y => scaleSlab (slabOf xa (y 0)) (ix3 0 (y 1) (y 2))
def invAll (xa : Vec F S5x128x128 .f32) : Vec F S5x128x128 .f32 := fun y => invSlab (slabOf xa (y 0)) (ix3 0 (y 1) (y 2))

/-- Five stores of one slab each leave, slab by slab, what was stored. -/
theorem slabs5 {κ : Kind} {sp : Space} {a b : ℕ} {e : EltTy} (v : View sig κ sp ⟨3, ![5, a, b]⟩ e) (f : v.ty.Contents (Elt F))
    (W : Fin 5 → Vec F ⟨3, ![1, a, b]⟩ e) (h4 h3 h2 h1 h0) :
    v.read (Elt F) (v.writes (Elt F) f [⟨Rect.unit ![4, 0, 0] ![1, a, b] h4, W 4⟩, ⟨Rect.unit ![3, 0, 0] ![1, a, b] h3, W 3⟩,
      ⟨Rect.unit ![2, 0, 0] ![1, a, b] h2, W 2⟩, ⟨Rect.unit ![1, 0, 0] ![1, a, b] h1, W 1⟩, ⟨Rect.unit ![0, 0, 0] ![1, a, b] h0, W 0⟩])
      = fun y => W (y 0) (ix3 0 (y 1) (y 2)) := by
  funext y
  obtain ⟨s, p, j, rfl⟩ : ∃ (s : Fin 5) (p : Fin a) (j : Fin b), y = ix3 s p j := ⟨y 0, y 1, y 2, funext fun k => by fin_cases k <;> rfl⟩
  have miss : ∀ (k : Fin 5) (hk) (w : Vec F ⟨3, ![1, a, b]⟩ e) (L : List (View.Piece (Elt F) ⟨3, ![5, a, b]⟩ e)), k ≠ s →
      v.read (Elt F) (v.writes (Elt F) f (⟨Rect.unit ![k.val, 0, 0] ![1, a, b] hk, w⟩ :: L)) (ix3 s p j) = v.read (Elt F) (v.writes (Elt F) f L) (ix3 s p j) :=
    fun k hk w L hne => View.read_writes_cons_unit_of_not_mem v f hk w L _ rfl 0 (by
      show s.val < k.val ∨ k.val + 1 ≤ s.val
      have := Fin.val_ne_of_ne hne; omega)
  have hit : ∀ (hk) (w : Vec F ⟨3, ![1, a, b]⟩ e) (L : List (View.Piece (Elt F) ⟨3, ![5, a, b]⟩ e)),
      v.read (Elt F) (v.writes (Elt F) f (⟨Rect.unit ![s.val, 0, 0] ![1, a, b] hk, w⟩ :: L)) (ix3 s p j) = w (ix3 0 p j) :=
    fun hk w L => View.read_writes_cons_unit_of_mem v f hk w L _ (ix3 0 p j) rfl (fun ax => by
      fin_cases ax
      · show s.val = s.val + 0; rfl
      · show p.val = 0 + p.val; omega
      · show j.val = 0 + j.val; omega)
  fin_cases s
  · exact (miss 4 _ _ _ (by decide)).trans ((miss 3 _ _ _ (by decide)).trans ((miss 2 _ _ _ (by decide)).trans ((miss 1 _ _ _ (by decide)).trans (hit _ _ _))))
  · exact (miss 4 _ _ _ (by decide)).trans ((miss 3 _ _ _ (by decide)).trans ((miss 2 _ _ _ (by decide)).trans (hit _ _ _)))
  · exact (miss 4 _ _ _ (by decide)).trans ((miss 3 _ _ _ (by decide)).trans (hit _ _ _))
  · exact (miss 4 _ _ _ (by decide)).trans (hit _ _ _)
  · exact hit _ _ _

/-- Each slab of a five-stream buffer lies inside it. -/
theorem slab_inb {a b : ℕ} (s : Fin 5) : ∀ ax, (![s.val, 0, 0] : Fin 3 → ℕ) ax + (![1, a, b] : Fin 3 → ℕ) ax ≤ (⟨3, ![5, a, b]⟩ : Shape).size ax := fun ax => by
  fin_cases ax
  · show s.val + 1 ≤ 5; omega
  · show 0 + a ≤ a; omega
  · show 0 + b ≤ b; omega

/-- A load of slab `s` of a buffer holding `x`, and what it reads. -/
def rdSlab {κ : Kind} {sp : Space} {a b : ℕ} {e : EltTy} (v : Memref sig κ sp ⟨3, ![5, a, b]⟩ e) (hv : v.IsWhole) (x : Vec F ⟨3, ![5, a, b]⟩ e) (s : Fin 5) :
    Vec F ⟨3, ![1, a, b]⟩ e :=
  v.view.readAt (Elt F) (Rect.unit (s := ⟨3, ![5, a, b]⟩) ![s.val, 0, 0] ![1, a, b] (slab_inb s)).toLoadRect (hv.unread x)

theorem rdSlab_eq {κ : Kind} {sp : Space} {a b : ℕ} {e : EltTy} (v : Memref sig κ sp ⟨3, ![5, a, b]⟩ e) (hv : v.IsWhole) (x : Vec F ⟨3, ![5, a, b]⟩ e) (s : Fin 5) :
    rdSlab v hv x s = slabOf x s := by
  funext z
  unfold rdSlab slabOf
  rw [View.readAt_apply, hv.read_unread]
  refine congrArg x (funext fun ax => Fin.ext ?_)
  have hz : (z 0).val < 1 := (z 0).isLt
  fin_cases ax
  · show s.val + 1 * (z 0).val = s.val; omega
  · show 0 + 1 * (z 1).val = (z 1).val; omega
  · show 0 + 1 * (z 2).val = (z 2).val; omega

/-- A tile of a stream becomes codes: multiplied by the inverse scales, clipped, cast. The ten stores do it alike. -/
def codeSlab (x y : Vec F S1x128x128 .f32) : Vec F S1x128x128 .fp8e4m3 := k0_pay45 x y
theorem code0 (x y : Vec F S1x128x128 .f32) : k0_pay45 x y = codeSlab x y := rfl
theorem code1 (x y : Vec F S1x128x128 .f32) : k0_pay46 x y = codeSlab x y := rfl
theorem code2 (x y : Vec F S1x128x128 .f32) : k0_pay47 x y = codeSlab x y := rfl
theorem code3 (x y : Vec F S1x128x128 .f32) : k0_pay48 x y = codeSlab x y := rfl
theorem code4 (x y : Vec F S1x128x128 .f32) : k0_pay49 x y = codeSlab x y := rfl
theorem code5 (x y : Vec F S1x128x128 .f32) : k0_pay50 x y = codeSlab x y := rfl
theorem code6 (x y : Vec F S1x128x128 .f32) : k0_pay51 x y = codeSlab x y := rfl
theorem code7 (x y : Vec F S1x128x128 .f32) : k0_pay52 x y = codeSlab x y := rfl
theorem code8 (x y : Vec F S1x128x128 .f32) : k0_pay53 x y = codeSlab x y := rfl
theorem code9 (x y : Vec F S1x128x128 .f32) : k0_pay54 x y = codeSlab x y := rfl

/-- The half-tile `h` of tile `n` of stream `s`, out of the kept streams. -/
def stTile (n : ℕ) (xs : Vec F S5x128x11008 .f32) (s : Fin 5) (h : Fin 2) : Vec F S1x128x128 .f32 :=
  fun z => xs (ix3 s (z 1) ⟨(256 * n + 128 * h.val + (z 2).val) % 11008, Nat.mod_lt _ (by decide)⟩)

/-- A load at that place of a buffer holding `xs` reads it. -/
theorem rdSt {κ : Kind} {sp : Space} (v : Memref sig κ sp S5x128x11008 .f32) (hv : v.IsWhole) (xs : Vec F S5x128x11008 .f32) (n : ℕ) (s : Fin 5) (h : Fin 2)
    (o : Fin 3 → ℕ) (eo : o = ![s.val, 0, 256 * n + 128 * h.val]) (ho) :
    v.view.readAt (Elt F) (Rect.unit (s := S5x128x11008) o S1x128x128.size ho).toLoadRect (hv.unread xs) = stTile n xs s h := by
  subst eo
  funext z
  unfold stTile
  rw [View.readAt_apply, hv.read_unread]
  refine congrArg xs (funext fun ax => Fin.ext ?_)
  have hz : (z 0).val < 1 := (z 0).isLt
  have hz2 : (z 2).val < 128 := (z 2).isLt
  have hb : 256 * n + 128 * h.val + 128 ≤ 11008 := ho 2
  fin_cases ax
  · show s.val + 1 * (z 0).val = s.val; omega
  · show 0 + 1 * (z 1).val = (z 1).val; omega
  · show 256 * n + 128 * h.val + 1 * (z 2).val = (256 * n + 128 * h.val + (z 2).val) % 11008; omega

/-- All the codes of tile `n`. -/
def codesAll (n : ℕ) (xs : Vec F S5x128x11008 .f32) (xi : Vec F S5x128x128 .f32) : Vec F S5x128x256 .fp8e4m3 := fun y =>
  codeSlab (stTile n xs (y 0) ⟨(y 2).val / 128, by have h : (y 2).val < 256 := (y 2).isLt; omega⟩) (slabOf xi (y 0))
    (ix3 0 (y 1) ⟨(y 2).val % 128, Nat.mod_lt _ (by decide)⟩)

/-- Ten stores of half-tiles leave, half by half, what was stored. -/
theorem slabs10 {κ : Kind} {sp : Space} {e : EltTy} (v : View sig κ sp S5x128x256 e) (f : v.ty.Contents (Elt F))
    (W : Fin 5 → Fin 2 → Vec F S1x128x128 e) (h9 h8 h7 h6 h5 h4 h3 h2 h1 h0) :
    v.read (Elt F) (v.writes (Elt F) f [⟨Rect.unit ![4, 0, 128] ![1, 128, 128] h9, W 4 1⟩, ⟨Rect.unit ![4, 0, 0] ![1, 128, 128] h8, W 4 0⟩,
      ⟨Rect.unit ![3, 0, 128] ![1, 128, 128] h7, W 3 1⟩, ⟨Rect.unit ![3, 0, 0] ![1, 128, 128] h6, W 3 0⟩,
      ⟨Rect.unit ![2, 0, 128] ![1, 128, 128] h5, W 2 1⟩, ⟨Rect.unit ![2, 0, 0] ![1, 128, 128] h4, W 2 0⟩,
      ⟨Rect.unit ![1, 0, 128] ![1, 128, 128] h3, W 1 1⟩, ⟨Rect.unit ![1, 0, 0] ![1, 128, 128] h2, W 1 0⟩,
      ⟨Rect.unit ![0, 0, 128] ![1, 128, 128] h1, W 0 1⟩, ⟨Rect.unit ![0, 0, 0] ![1, 128, 128] h0, W 0 0⟩])
      = fun y => W (y 0) ⟨(y 2).val / 128, by have h : (y 2).val < 256 := (y 2).isLt; omega⟩ (ix3 0 (y 1) ⟨(y 2).val % 128, Nat.mod_lt _ (by decide)⟩) := by
  funext y
  obtain ⟨s, p, j, rfl⟩ : ∃ (s : Fin 5) (p : Fin 128) (j : Fin 256), y = ix3 s p j := ⟨y 0, y 1, y 2, funext fun k => by fin_cases k <;> rfl⟩
  obtain ⟨h, l, hj⟩ : ∃ (h : Fin 2) (l : Fin 128), j.val = 128 * h.val + l.val :=
    ⟨⟨j.val / 128, by have := j.isLt; omega⟩, ⟨j.val % 128, Nat.mod_lt _ (by decide)⟩, by show j.val = 128 * (j.val / 128) + j.val % 128; omega⟩
  have eh : (⟨j.val / 128, by have := j.isLt; omega⟩ : Fin 2) = h := Fin.ext (by show j.val / 128 = h.val; have := l.isLt; omega)
  have el : (⟨j.val % 128, Nat.mod_lt _ (by decide)⟩ : Fin 128) = l := Fin.ext (by show j.val % 128 = l.val; have := l.isLt; omega)
  show _ = W s ⟨j.val / 128, _⟩ (ix3 0 p ⟨j.val % 128, _⟩)
  rw [eh, el]
  have miss : ∀ (k : Fin 5) (g : Fin 2) (hk) (w : Vec F S1x128x128 e) (L : List (View.Piece (Elt F) S5x128x256 e)), (k ≠ s ∨ g ≠ h) →
      v.read (Elt F) (v.writes (Elt F) f (⟨Rect.unit ![k.val, 0, 128 * g.val] ![1, 128, 128] hk, w⟩ :: L)) (ix3 s p j) = v.read (Elt F) (v.writes (Elt F) f L) (ix3 s p j) :=
    fun k g hk w L hne => by
      rcases hne with hne | hne
      · exact View.read_writes_cons_unit_of_not_mem v f hk w L _ rfl 0 (by
          show s.val < k.val ∨ k.val + 1 ≤ s.val
          have := Fin.val_ne_of_ne hne; omega)
      · exact View.read_writes_cons_unit_of_not_mem v f hk w L _ rfl 2 (by
          show j.val < 128 * g.val ∨ 128 * g.val + 128 ≤ j.val
          have := Fin.val_ne_of_ne hne; have := l.isLt; omega)
  have hit : ∀ (hk) (w : Vec F S1x128x128 e) (L : List (View.Piece (Elt F) S5x128x256 e)),
      v.read (Elt F) (v.writes (Elt F) f (⟨Rect.unit ![s.val, 0, 128 * h.val] ![1, 128, 128] hk, w⟩ :: L)) (ix3 s p j) = w (ix3 0 p l) :=
    fun hk w L => View.read_writes_cons_unit_of_mem v f hk w L _ (ix3 0 p l) rfl (fun ax => by
      fin_cases ax
      · show s.val = s.val + 0; rfl
      · show p.val = 0 + p.val; omega
      · exact hj)
  by_cases e : s = 4 ∧ h = 1
  · obtain ⟨rfl, rfl⟩ := e; exact hit _ _ _
  refine (miss 4 1 _ _ _ (by omega)).trans ?_
  by_cases e : s = 4 ∧ h = 0
  · obtain ⟨rfl, rfl⟩ := e; exact hit _ _ _
  refine (miss 4 0 _ _ _ (by omega)).trans ?_
  by_cases e : s = 3 ∧ h = 1
  · obtain ⟨rfl, rfl⟩ := e; exact hit _ _ _
  refine (miss 3 1 _ _ _ (by omega)).trans ?_
  by_cases e : s = 3 ∧ h = 0
  · obtain ⟨rfl, rfl⟩ := e; exact hit _ _ _
  refine (miss 3 0 _ _ _ (by omega)).trans ?_
  by_cases e : s = 2 ∧ h = 1
  · obtain ⟨rfl, rfl⟩ := e; exact hit _ _ _
  refine (miss 2 1 _ _ _ (by omega)).trans ?_
  by_cases e : s = 2 ∧ h = 0
  · obtain ⟨rfl, rfl⟩ := e; exact hit _ _ _
  refine (miss 2 0 _ _ _ (by omega)).trans ?_
  by_cases e : s = 1 ∧ h = 1
  · obtain ⟨rfl, rfl⟩ := e; exact hit _ _ _
  refine (miss 1 1 _ _ _ (by omega)).trans ?_
  by_cases e : s = 1 ∧ h = 0
  · obtain ⟨rfl, rfl⟩ := e; exact hit _ _ _
  refine (miss 1 0 _ _ _ (by omega)).trans ?_
  by_cases e : s = 0 ∧ h = 1
  · obtain ⟨rfl, rfl⟩ := e; exact hit _ _ _
  refine (miss 0 1 _ _ _ (by omega)).trans ?_
  obtain rfl : s = 0 := by omega
  obtain rfl : h = 0 := by omega
  exact hit _ _ _

/-- The five streams of a tile: the value, the two tangents, the time derivative, the Laplacian stream, over the input blocks. -/
def tile (x0 : Vec F S5x128x4096 .fp8e4m3) (x1 : Vec F S5x128x1 .f32) (x2 : Vec F S4096x256 .fp8e4m3) (x3 x4 : Vec F S1x256 .f32) : Fin 5 → Vec F S128x256 .f32
  | 0 => k0_pay61 (k0_pay56 x0 x2 (slabOf x1 0) x3) x4
  | 1 => k0_pay63 (k0_pay56 x0 x2 (slabOf x1 0) x3) (k0_pay57 x0 x2 (slabOf x1 1) x3) x4
  | 2 => k0_pay64 (k0_pay56 x0 x2 (slabOf x1 0) x3) (k0_pay58 x0 x2 (slabOf x1 2) x3) x4
  | 3 => k0_pay65 (k0_pay56 x0 x2 (slabOf x1 0) x3) (k0_pay59 x0 x2 (slabOf x1 3)) x3 x4
  | 4 => k0_pay66 (k0_pay55 x0 x2) (k0_pay56 x0 x2 (slabOf x1 0) x3) (k0_pay57 x0 x2 (slabOf x1 1) x3) (k0_pay58 x0 x2 (slabOf x1 2) x3)
      (k0_pay59 x0 x2 (slabOf x1 3)) x3 (slabOf x1 4) x3 x4

/-- What is kept of a tile, and how it enters the row maxima; alike in the five streams. -/
def stSlab (t : Vec F S128x256 .f32) : Vec F S1x128x256 .f32 := k0_pay70 t
def amaxSlab (n : BitVec 32) (t : Vec F S128x256 .f32) (x : Vec F S1x128x128 .f32) : Vec F S1x128x128 .f32 := k0_pay71 n t x
theorem st0 (a : Vec F S128x256 .f32) (b : Vec F S1x256 .f32) : k0_pay67 a b = stSlab (k0_pay61 a b) := rfl
theorem st1 (t : Vec F S128x256 .f32) : k0_pay70 t = stSlab t := rfl
theorem st2 (t : Vec F S128x256 .f32) : k0_pay72 t = stSlab t := rfl
theorem st3 (t : Vec F S128x256 .f32) : k0_pay75 t = stSlab t := rfl
theorem st4 (t : Vec F S128x256 .f32) : k0_pay77 t = stSlab t := rfl
theorem am0 (n : BitVec 32) (t : Vec F S128x256 .f32) (x : Vec F S1x128x128 .f32) : k0_pay69 t (Scalar.cmpi .eq n 0#32) (k0_pay68 x) = amaxSlab n t x := rfl
theorem am1 (n : BitVec 32) (t : Vec F S128x256 .f32) (x : Vec F S1x128x128 .f32) : k0_pay71 n t x = amaxSlab n t x := rfl
theorem am2 (n : BitVec 32) (t : Vec F S128x256 .f32) (x : Vec F S1x128x128 .f32) : k0_pay74 t (Scalar.cmpi .eq n 0#32) (k0_pay73 x) = amaxSlab n t x := rfl
theorem am3 (n : BitVec 32) (t : Vec F S128x256 .f32) (x : Vec F S1x128x128 .f32) : k0_pay76 n t x = amaxSlab n t x := rfl
theorem am4 (n : BitVec 32) (t : Vec F S128x256 .f32) (x : Vec F S1x128x128 .f32) : k0_pay3 t (Scalar.cmpi .eq n 0#32) (k0_pay78 x) = amaxSlab n t x := rfl

/-- The row maxima after a tile `T` of column `n`, over those found. -/
def amaxNext (n : BitVec 32) (T : Fin 5 → Vec F S128x256 .f32) (xa : Vec F S5x128x128 .f32) : Vec F S5x128x128 .f32 :=
  fun y => amaxSlab n (T (y 0)) (slabOf xa (y 0)) (ix3 0 (y 1) (y 2))

/-- The kept streams after a tile `T` of column `n`, over those found. -/
def stNext (n : ℕ) (T : Fin 5 → Vec F S128x256 .f32) (xs : Vec F S5x128x11008 .f32) : Vec F S5x128x11008 .f32 := fun y =>
  if h : 256 * n ≤ (y 2).val ∧ (y 2).val < 256 * n + 256 then stSlab (T (y 0)) (ix3 0 (y 1) ⟨(y 2).val - 256 * n, by omega⟩) else xs y

/-- Five stores of one tile each into a buffer holding `xs`. -/
theorem slabsSt {κ : Kind} {sp : Space} {e : EltTy} (v : Memref sig κ sp S5x128x11008 e) (hv : v.IsWhole) (xs : Vec F S5x128x11008 e) (n : ℕ)
    (W : Fin 5 → Vec F S1x128x256 e) (o4 o3 o2 o1 o0 : Fin 3 → ℕ) (e4 : o4 = ![4, 0, 256 * n]) (e3 : o3 = ![3, 0, 256 * n]) (e2 : o2 = ![2, 0, 256 * n])
    (e1 : o1 = ![1, 0, 256 * n]) (e0 : o0 = ![0, 0, 256 * n]) (h4 h3 h2 h1 h0) :
    v.view.read (Elt F) (v.view.writes (Elt F) (hv.unread xs) [⟨Rect.unit o4 ![1, 128, 256] h4, W 4⟩, ⟨Rect.unit o3 ![1, 128, 256] h3, W 3⟩,
      ⟨Rect.unit o2 ![1, 128, 256] h2, W 2⟩, ⟨Rect.unit o1 ![1, 128, 256] h1, W 1⟩, ⟨Rect.unit o0 ![1, 128, 256] h0, W 0⟩])
      = fun y => if h : 256 * n ≤ (y 2).val ∧ (y 2).val < 256 * n + 256 then W (y 0) (ix3 0 (y 1) ⟨(y 2).val - 256 * n, by omega⟩) else xs y := by
  subst e4 e3 e2 e1 e0
  funext y
  obtain ⟨s, p, j, rfl⟩ : ∃ (s : Fin 5) (p : Fin 128) (j : Fin 11008), y = ix3 s p j := ⟨y 0, y 1, y 2, funext fun k => by fin_cases k <;> rfl⟩
  have miss : ∀ (k : Fin 5) (hk) (w : Vec F S1x128x256 e) (L : List (View.Piece (Elt F) S5x128x11008 e)), k ≠ s →
      v.view.read (Elt F) (v.view.writes (Elt F) (hv.unread xs) (⟨Rect.unit ![k.val, 0, 256 * n] ![1, 128, 256] hk, w⟩ :: L)) (ix3 s p j) = v.view.read (Elt F) (v.view.writes (Elt F) (hv.unread xs) L) (ix3 s p j) :=
    fun k hk w L hne => View.read_writes_cons_unit_of_not_mem v.view _ hk w L _ rfl 0 (by
      show s.val < k.val ∨ k.val + 1 ≤ s.val
      have := Fin.val_ne_of_ne hne; omega)
  by_cases h : 256 * n ≤ j.val ∧ j.val < 256 * n + 256
  · show _ = dite (256 * n ≤ j.val ∧ j.val < 256 * n + 256) _ _
    refine Eq.trans ?_ (dif_pos h).symm
    have hit : ∀ (hk) (w : Vec F S1x128x256 e) (L : List (View.Piece (Elt F) S5x128x11008 e)),
        v.view.read (Elt F) (v.view.writes (Elt F) (hv.unread xs) (⟨Rect.unit ![s.val, 0, 256 * n] ![1, 128, 256] hk, w⟩ :: L)) (ix3 s p j) = w (ix3 0 p ⟨j.val - 256 * n, by omega⟩) :=
      fun hk w L => View.read_writes_cons_unit_of_mem v.view _ hk w L _ (ix3 0 p ⟨j.val - 256 * n, by omega⟩) rfl (fun ax => by
        fin_cases ax
        · show s.val = s.val + 0; rfl
        · show p.val = 0 + p.val; omega
        · show j.val = 256 * n + (j.val - 256 * n); omega)
    fin_cases s
    · exact (miss 4 _ _ _ (by decide)).trans ((miss 3 _ _ _ (by decide)).trans ((miss 2 _ _ _ (by decide)).trans ((miss 1 _ _ _ (by decide)).trans (hit _ _ _))))
    · exact (miss 4 _ _ _ (by decide)).trans ((miss 3 _ _ _ (by decide)).trans ((miss 2 _ _ _ (by decide)).trans (hit _ _ _)))
    · exact (miss 4 _ _ _ (by decide)).trans ((miss 3 _ _ _ (by decide)).trans (hit _ _ _))
    · exact (miss 4 _ _ _ (by decide)).trans (hit _ _ _)
    · exact hit _ _ _
  · show _ = dite (256 * n ≤ j.val ∧ j.val < 256 * n + 256) _ _
    refine Eq.trans ?_ (dif_neg h).symm
    have off : ∀ (k : Fin 5) (hk) (w : Vec F S1x128x256 e) (L : List (View.Piece (Elt F) S5x128x11008 e)),
        v.view.read (Elt F) (v.view.writes (Elt F) (hv.unread xs) (⟨Rect.unit ![k.val, 0, 256 * n] ![1, 128, 256] hk, w⟩ :: L)) (ix3 s p j) = v.view.read (Elt F) (v.view.writes (Elt F) (hv.unread xs) L) (ix3 s p j) :=
      fun k hk w L => View.read_writes_cons_unit_of_not_mem v.view _ hk w L _ rfl 2 (by
        show j.val < 256 * n ∨ 256 * n + 256 ≤ j.val
        omega)
    exact (off 4 _ _ _).trans ((off 3 _ _ _).trans ((off 2 _ _ _).trans ((off 1 _ _ _).trans ((off 0 _ _ _).trans (congrFun (hv.read_unread xs) _)))))

/-- A load of a whole buffer reads it. -/
theorem rdFull3 {κ : Kind} {sp : Space} {a b d : ℕ} {e : EltTy} (v : Memref sig κ sp ⟨3, ![a, b, d]⟩ e) (hv : v.IsWhole) (x : Vec F ⟨3, ![a, b, d]⟩ e) (h) :
    v.view.readAt (Elt F) (Rect.unit (s := ⟨3, ![a, b, d]⟩) ![0, 0, 0] ![a, b, d] h).toLoadRect (hv.unread x) = x := by
  funext z
  rw [View.readAt_apply, hv.read_unread]
  refine congrArg x (funext fun ax => Fin.ext ?_)
  fin_cases ax
  · show 0 + 1 * (z 0).val = (z 0).val; omega
  · show 0 + 1 * (z 1).val = (z 1).val; omega
  · show 0 + 1 * (z 2).val = (z 2).val; omega
theorem rdFull2 {κ : Kind} {sp : Space} {a b : ℕ} {e : EltTy} (v : Memref sig κ sp ⟨2, ![a, b]⟩ e) (hv : v.IsWhole) (x : Vec F ⟨2, ![a, b]⟩ e) (h) :
    v.view.readAt (Elt F) (Rect.unit (s := ⟨2, ![a, b]⟩) ![0, 0] ![a, b] h).toLoadRect (hv.unread x) = x := by
  funext z
  rw [View.readAt_apply, hv.read_unread]
  refine congrArg x (funext fun ax => Fin.ext ?_)
  fin_cases ax
  · show 0 + 1 * (z 0).val = (z 0).val; omega
  · show 0 + 1 * (z 1).val = (z 1).val; omega

end Values

section Runs

variable (c : Dev nD) (i : grid0.Coords)
  (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)

set_option maxHeartbeats 1000000 in
/-- The first block leaves the scales and inverse scales of the row maxima it finds. -/
theorem run1 (E : Set ℕ) (K : PUnit → sProp 𝕄) (xa : Vec F S5x128x128 .f32) :
    iprop(owns (c : Thread nD τ) arg10 fullShare xa ∗ (∃ d, owns (c : Thread nD τ) arg8 fullShare d) ∗ (∃ d, owns (c : Thread nD τ) arg11 fullShare d)
        ∗ (iprop(owns (c : Thread nD τ) arg10 fullShare xa ∗ owns (c : Thread nD τ) arg8 fullShare (scaleAll xa) ∗ owns (c : Thread nD τ) arg11 fullShare (invAll xa)) -∗ K ⟨⟩))
      ⊢ wp frame (wpE (defs₀ (F := F)) Variants.none c none) E (block1 i arg2 harg2 arg3 harg3 arg4 harg4 arg5 harg5 arg6 harg6 arg7 harg7 arg8 harg8 arg9 harg9 arg10 harg10 arg11 harg11) K := by
  unfold block1
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold owns
  iintro ⟨⟨%fa, %hfa, HA⟩, ⟨%d8, %f8, -, H8⟩, ⟨%d11, %f11, -, H11⟩, Hk⟩
  obtain rfl := harg10.eq_unread hfa
  sl_exec
  sl_step
  iapply Hk
  isplitl [HA]
  · iexists _; isplitr; swap; · iexact HA
    ipureintro; exact harg10.read_unread _
  isplitl [H8]
  · iexists _; isplitr; swap; · iexact H8
    ipureintro
    (try delta run1.sl.r_24); (try delta run1.sl.r_23); (try delta run1.sl.r_22); (try delta run1.sl.r_21); (try delta run1.sl.r_20); (try delta run1.sl.r_19); (try delta run1.sl.r_18); (try delta run1.sl.r_17); (try delta run1.sl.r_16); (try delta run1.sl.r_15); (try delta run1.sl.r_14); (try delta run1.sl.r_13)
    (try delta run1.sl.r_12); (try delta run1.sl.r_11); (try delta run1.sl.r_10); (try delta run1.sl.r_9); (try delta run1.sl.r_8); (try delta run1.sl.r_7); (try delta run1.sl.r_6); (try delta run1.sl.r_5); (try delta run1.sl.r_4); (try delta run1.sl.r_3); (try delta run1.sl.r_2); (try delta run1.sl.r_1); (try delta run1.sl.r)
    beta_reduce
    simp only [scale0, scale1, scale2, scale3, scale4]
    refine (slabs5 arg8.view f8 (fun s => scaleSlab (rdSlab arg10 harg10 xa s)) _ _ _ _ _).trans ?_
    funext y
    exact congrArg (fun w => scaleSlab w (ix3 0 (y 1) (y 2))) (rdSlab_eq arg10 harg10 xa (y 0))
  · iexists _; isplitr; swap; · iexact H11
    ipureintro
    (try delta run1.sl.r_24); (try delta run1.sl.r_23); (try delta run1.sl.r_22); (try delta run1.sl.r_21); (try delta run1.sl.r_20); (try delta run1.sl.r_19); (try delta run1.sl.r_18); (try delta run1.sl.r_17); (try delta run1.sl.r_16); (try delta run1.sl.r_15); (try delta run1.sl.r_14); (try delta run1.sl.r_13)
    (try delta run1.sl.r_12); (try delta run1.sl.r_11); (try delta run1.sl.r_10); (try delta run1.sl.r_9); (try delta run1.sl.r_8); (try delta run1.sl.r_7); (try delta run1.sl.r_6); (try delta run1.sl.r_5); (try delta run1.sl.r_4); (try delta run1.sl.r_3); (try delta run1.sl.r_2); (try delta run1.sl.r_1); (try delta run1.sl.r)
    beta_reduce
    simp only [inv0, inv1, inv2, inv3, inv4]
    refine (slabs5 arg11.view f11 (fun s => invSlab (rdSlab arg10 harg10 xa s)) _ _ _ _ _).trans ?_
    funext y
    exact congrArg (fun w => invSlab w (ix3 0 (y 1) (y 2))) (rdSlab_eq arg10 harg10 xa (y 0))

set_option maxHeartbeats 1000000 in
/-- The second block leaves the codes of the tile it reads out of the kept streams. -/
theorem run2 (h2 : k0_cond2 i = 1#1) (E : Set ℕ) (K : PUnit → sProp 𝕄) (xs : Vec F S5x128x11008 .f32) (xi : Vec F S5x128x128 .f32) :
    iprop(owns (c : Thread nD τ) arg9 fullShare xs ∗ owns (c : Thread nD τ) arg11 fullShare xi ∗ (∃ d, owns (c : Thread nD τ) arg7 fullShare d)
        ∗ (iprop(owns (c : Thread nD τ) arg9 fullShare xs ∗ owns (c : Thread nD τ) arg11 fullShare xi ∗ owns (c : Thread nD τ) arg7 fullShare (codesAll (i 1).val xs xi)) -∗ K ⟨⟩))
      ⊢ wp frame (wpE (defs₀ (F := F)) Variants.none c none) E (block2 i arg2 harg2 arg3 harg3 arg4 harg4 arg5 harg5 arg6 harg6 arg7 harg7 arg8 harg8 arg9 harg9 arg10 harg10 arg11 harg11 h2) K := by
  unfold block2
  simp only [k0_part11_eq_skeleton, k0_part12_eq_skeleton, k0_part13_eq_skeleton, k0_part14_eq_skeleton, k0_part15_eq_skeleton]
  unfold owns
  iintro ⟨⟨%f9, %hf9, H9⟩, ⟨%f11, %hf11, H11⟩, ⟨%d7, %f7, -, H7⟩, Hk⟩
  obtain rfl := harg9.eq_unread hf9
  obtain rfl := harg11.eq_unread hf11
  sl_exec (disch := sl_exact h2)
  sl_step
  iapply Hk
  isplitl [H9]
  · iexists _; isplitr; swap; · iexact H9
    ipureintro; exact harg9.read_unread _
  isplitl [H11]
  · iexists _; isplitr; swap; · iexact H11
    ipureintro; exact harg11.read_unread _
  · iexists _; isplitr; swap; · iexact H7
    ipureintro
    have p0 : arg11.view.readAt (Elt F) (Rect.unit (s := S5x128x128) ![0, 0, 0] S1x128x128.size inb_S5x128x128_S1x128x128_0_0_0).toLoadRect (harg11.unread xi) = slabOf xi 0 := rdSlab_eq arg11 harg11 xi 0
    have p1 : arg11.view.readAt (Elt F) (Rect.unit (s := S5x128x128) ![1, 0, 0] S1x128x128.size inb_S5x128x128_S1x128x128_1_0_0).toLoadRect (harg11.unread xi) = slabOf xi 1 := rdSlab_eq arg11 harg11 xi 1
    have p2 : arg11.view.readAt (Elt F) (Rect.unit (s := S5x128x128) ![2, 0, 0] S1x128x128.size inb_S5x128x128_S1x128x128_2_0_0).toLoadRect (harg11.unread xi) = slabOf xi 2 := rdSlab_eq arg11 harg11 xi 2
    have p3 : arg11.view.readAt (Elt F) (Rect.unit (s := S5x128x128) ![3, 0, 0] S1x128x128.size inb_S5x128x128_S1x128x128_3_0_0).toLoadRect (harg11.unread xi) = slabOf xi 3 := rdSlab_eq arg11 harg11 xi 3
    have p4 : arg11.view.readAt (Elt F) (Rect.unit (s := S5x128x128) ![4, 0, 0] S1x128x128.size inb_S5x128x128_S1x128x128_4_0_0).toLoadRect (harg11.unread xi) = slabOf xi 4 := rdSlab_eq arg11 harg11 xi 4
    have q00 := rdSt arg9 harg9 xs (i 1).val 0 0 (k0_off1 i 0#32) (k0_off1_eq i 0) (k0_off1_inb i h2 0)
    have q01 := rdSt arg9 harg9 xs (i 1).val 0 1 (k0_off1 i 128#32) (k0_off1_eq i 1) (k0_off1_inb i h2 1)
    have q10 := rdSt arg9 harg9 xs (i 1).val 1 0 (k0_off2 i 0#32) (k0_off2_eq i 0) (k0_off2_inb i h2 0)
    have q11 := rdSt arg9 harg9 xs (i 1).val 1 1 (k0_off2 i 128#32) (k0_off2_eq i 1) (k0_off2_inb i h2 1)
    have q20 := rdSt arg9 harg9 xs (i 1).val 2 0 (k0_off3 i 0#32) (k0_off3_eq i 0) (k0_off3_inb i h2 0)
    have q21 := rdSt arg9 harg9 xs (i 1).val 2 1 (k0_off3 i 128#32) (k0_off3_eq i 1) (k0_off3_inb i h2 1)
    have q30 := rdSt arg9 harg9 xs (i 1).val 3 0 (k0_off4 i 0#32) (k0_off4_eq i 0) (k0_off4_inb i h2 0)
    have q31 := rdSt arg9 harg9 xs (i 1).val 3 1 (k0_off4 i 128#32) (k0_off4_eq i 1) (k0_off4_inb i h2 1)
    have q40 := rdSt arg9 harg9 xs (i 1).val 4 0 (k0_off5 i 0#32) (k0_off5_eq i 0) (k0_off5_inb i h2 0)
    have q41 := rdSt arg9 harg9 xs (i 1).val 4 1 (k0_off5 i 128#32) (k0_off5_eq i 1) (k0_off5_inb i h2 1)
    simp only [p0, p1, p2, p3, p4, q00, q01, q10, q11, q20, q21, q30, q31, q40, q41, code0, code1, code2, code3, code4, code5, code6, code7, code8, code9]
    exact slabs10 arg7.view f7 (fun s g => codeSlab (stTile (i 1).val xs s g) (slabOf xi s)) _ _ _ _ _ _ _ _ _ _

set_option maxHeartbeats 1000000 in
/-- The third block keeps the tile it computes from the input blocks, and takes it into the row maxima. -/
theorem run3 (h3 : k0_cond3 i = 1#1) (E : Set ℕ) (K : PUnit → sProp 𝕄) (x0 : Vec F S5x128x4096 .fp8e4m3) (x1 : Vec F S5x128x1 .f32) (x2 : Vec F S4096x256 .fp8e4m3)
    (x3 x4 : Vec F S1x256 .f32) (xs : Vec F S5x128x11008 .f32) (xa : Vec F S5x128x128 .f32) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare xs ∗ owns (c : Thread nD τ) arg10 fullShare xa
        ∗ (iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare (stNext (i 1).val (tile x0 x1 x2 x3 x4) xs)
            ∗ owns (c : Thread nD τ) arg10 fullShare (amaxNext (BitVec.ofNat 32 (i 1).val) (tile x0 x1 x2 x3 x4) xa)) -∗ K ⟨⟩))
      ⊢ wp frame (wpE (defs₀ (F := F)) Variants.none c none) E (block3 i arg2 harg2 arg3 harg3 arg4 harg4 arg5 harg5 arg6 harg6 arg7 harg7 arg8 harg8 arg9 harg9 arg10 harg10 arg11 harg11 h3) K := by
  unfold block3
  simp only [k0_part16_eq_skeleton, k0_part17_eq_skeleton, k0_part18_eq_skeleton, k0_part19_eq_skeleton]
  unfold owns
  iintro ⟨⟨⟨%f0, %hf0, H0⟩, ⟨%f1, %hf1, H1⟩, ⟨%f2, %hf2, H2⟩, ⟨%f3, %hf3, H3⟩, ⟨%f4, %hf4, H4⟩⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hf9
  obtain rfl := harg10.eq_unread hf10
  sl_exec (disch := sl_exact h3)
  sl_step
  iapply Hk
  isplitl [H0 H1 H2 H3 H4]
  · isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    iexists _; isplitr; swap; · iexact H4
    ipureintro; exact harg6.read_unread _
  isplitl [H9]
  · iexists _; isplitr; swap; · iexact H9
    ipureintro
    (try delta run3.sl.r_12); (try delta run3.sl.r_11); (try delta run3.sl.r_10); (try delta run3.sl.r_9); (try delta run3.sl.r_8); (try delta run3.sl.r_7)
    (try delta run3.sl.r_6); (try delta run3.sl.r_5); (try delta run3.sl.r_4); (try delta run3.sl.r_3); (try delta run3.sl.r_2); (try delta run3.sl.r_1)
    (try delta run3.sl.r); (try delta run3.sl.v143); (try delta run3.sl.v107); (try delta run3.sl.v161); (try delta run3.sl.v125); (try delta run3.sl.v89); (try delta run3.sl.v88)
    beta_reduce
    have w0 : arg2.view.readAt (Elt F) (Rect.unit (s := S5x128x4096) ![0, 0, 0] S5x128x4096.size inb_S5x128x4096_S5x128x4096_0_0_0).toLoadRect (harg2.unread x0) = x0 := rdFull3 arg2 harg2 x0 _
    have w2 : arg4.view.readAt (Elt F) (Rect.unit (s := S4096x256) ![0, 0] S4096x256.size inb_S4096x256_S4096x256_0_0).toLoadRect (harg4.unread x2) = x2 := rdFull2 arg4 harg4 x2 _
    have w3 : arg5.view.readAt (Elt F) (Rect.unit (s := S1x256) ![0, 0] S1x256.size inb_S1x256_S1x256_0_0).toLoadRect (harg5.unread x3) = x3 := rdFull2 arg5 harg5 x3 _
    have w4 : arg6.view.readAt (Elt F) (Rect.unit (s := S1x256) ![0, 0] S1x256.size inb_S1x256_S1x256_0_0).toLoadRect (harg6.unread x4) = x4 := rdFull2 arg6 harg6 x4 _
    have p0 : arg3.view.readAt (Elt F) (Rect.unit (s := S5x128x1) ![0, 0, 0] S1x128x1.size inb_S5x128x1_S1x128x1_0_0_0).toLoadRect (harg3.unread x1) = slabOf x1 0 := rdSlab_eq arg3 harg3 x1 0
    have p1 : arg3.view.readAt (Elt F) (Rect.unit (s := S5x128x1) ![1, 0, 0] S1x128x1.size inb_S5x128x1_S1x128x1_1_0_0).toLoadRect (harg3.unread x1) = slabOf x1 1 := rdSlab_eq arg3 harg3 x1 1
    have p2 : arg3.view.readAt (Elt F) (Rect.unit (s := S5x128x1) ![2, 0, 0] S1x128x1.size inb_S5x128x1_S1x128x1_2_0_0).toLoadRect (harg3.unread x1) = slabOf x1 2 := rdSlab_eq arg3 harg3 x1 2
    have p3 : arg3.view.readAt (Elt F) (Rect.unit (s := S5x128x1) ![3, 0, 0] S1x128x1.size inb_S5x128x1_S1x128x1_3_0_0).toLoadRect (harg3.unread x1) = slabOf x1 3 := rdSlab_eq arg3 harg3 x1 3
    have p4 : arg3.view.readAt (Elt F) (Rect.unit (s := S5x128x1) ![4, 0, 0] S1x128x1.size inb_S5x128x1_S1x128x1_4_0_0).toLoadRect (harg3.unread x1) = slabOf x1 4 := rdSlab_eq arg3 harg3 x1 4
    simp only [w0, w2, w3, w4, p0, p1, p2, p3, p4, st0, st1, st2, st3, st4]
    exact slabsSt arg9 harg9 xs (i 1).val (fun s => stSlab (tile x0 x1 x2 x3 x4 s)) _ _ _ _ _ (k0_off10_eq i) (k0_off9_eq i) (k0_off8_eq i) (k0_off7_eq i) (k0_off6_eq i) _ _ _ _ _
  · iexists _; isplitr; swap; · iexact H10
    ipureintro
    (try delta run3.sl.r_12); (try delta run3.sl.r_11); (try delta run3.sl.r_10); (try delta run3.sl.r_9); (try delta run3.sl.r_8); (try delta run3.sl.r_7)
    (try delta run3.sl.r_6); (try delta run3.sl.r_5); (try delta run3.sl.r_4); (try delta run3.sl.r_3); (try delta run3.sl.r_2); (try delta run3.sl.r_1)
    (try delta run3.sl.r); (try delta run3.sl.v143); (try delta run3.sl.v107); (try delta run3.sl.v161); (try delta run3.sl.v125); (try delta run3.sl.v89); (try delta run3.sl.v88)
    beta_reduce
    have w0 : arg2.view.readAt (Elt F) (Rect.unit (s := S5x128x4096) ![0, 0, 0] S5x128x4096.size inb_S5x128x4096_S5x128x4096_0_0_0).toLoadRect (harg2.unread x0) = x0 := rdFull3 arg2 harg2 x0 _
    have w2 : arg4.view.readAt (Elt F) (Rect.unit (s := S4096x256) ![0, 0] S4096x256.size inb_S4096x256_S4096x256_0_0).toLoadRect (harg4.unread x2) = x2 := rdFull2 arg4 harg4 x2 _
    have w3 : arg5.view.readAt (Elt F) (Rect.unit (s := S1x256) ![0, 0] S1x256.size inb_S1x256_S1x256_0_0).toLoadRect (harg5.unread x3) = x3 := rdFull2 arg5 harg5 x3 _
    have w4 : arg6.view.readAt (Elt F) (Rect.unit (s := S1x256) ![0, 0] S1x256.size inb_S1x256_S1x256_0_0).toLoadRect (harg6.unread x4) = x4 := rdFull2 arg6 harg6 x4 _
    have p0 : arg3.view.readAt (Elt F) (Rect.unit (s := S5x128x1) ![0, 0, 0] S1x128x1.size inb_S5x128x1_S1x128x1_0_0_0).toLoadRect (harg3.unread x1) = slabOf x1 0 := rdSlab_eq arg3 harg3 x1 0
    have p1 : arg3.view.readAt (Elt F) (Rect.unit (s := S5x128x1) ![1, 0, 0] S1x128x1.size inb_S5x128x1_S1x128x1_1_0_0).toLoadRect (harg3.unread x1) = slabOf x1 1 := rdSlab_eq arg3 harg3 x1 1
    have p2 : arg3.view.readAt (Elt F) (Rect.unit (s := S5x128x1) ![2, 0, 0] S1x128x1.size inb_S5x128x1_S1x128x1_2_0_0).toLoadRect (harg3.unread x1) = slabOf x1 2 := rdSlab_eq arg3 harg3 x1 2
    have p3 : arg3.view.readAt (Elt F) (Rect.unit (s := S5x128x1) ![3, 0, 0] S1x128x1.size inb_S5x128x1_S1x128x1_3_0_0).toLoadRect (harg3.unread x1) = slabOf x1 3 := rdSlab_eq arg3 harg3 x1 3
    have p4 : arg3.view.readAt (Elt F) (Rect.unit (s := S5x128x1) ![4, 0, 0] S1x128x1.size inb_S5x128x1_S1x128x1_4_0_0).toLoadRect (harg3.unread x1) = slabOf x1 4 := rdSlab_eq arg3 harg3 x1 4
    have a0 : arg10.view.readAt (Elt F) (Rect.unit (s := S5x128x128) ![0, 0, 0] S1x128x128.size inb_S5x128x128_S1x128x128_0_0_0).toLoadRect (harg10.unread xa) = slabOf xa 0 := rdSlab_eq arg10 harg10 xa 0
    have a1 : arg10.view.readAt (Elt F) (Rect.unit (s := S5x128x128) ![1, 0, 0] S1x128x128.size inb_S5x128x128_S1x128x128_1_0_0).toLoadRect (harg10.unread xa) = slabOf xa 1 := rdSlab_eq arg10 harg10 xa 1
    have a2 : arg10.view.readAt (Elt F) (Rect.unit (s := S5x128x128) ![2, 0, 0] S1x128x128.size inb_S5x128x128_S1x128x128_2_0_0).toLoadRect (harg10.unread xa) = slabOf xa 2 := rdSlab_eq arg10 harg10 xa 2
    have a3 : arg10.view.readAt (Elt F) (Rect.unit (s := S5x128x128) ![3, 0, 0] S1x128x128.size inb_S5x128x128_S1x128x128_3_0_0).toLoadRect (harg10.unread xa) = slabOf xa 3 := rdSlab_eq arg10 harg10 xa 3
    have a4 : arg10.view.readAt (Elt F) (Rect.unit (s := S5x128x128) ![4, 0, 0] S1x128x128.size inb_S5x128x128_S1x128x128_4_0_0).toLoadRect (harg10.unread xa) = slabOf xa 4 := rdSlab_eq arg10 harg10 xa 4
    simp only [w0, w2, w3, w4, p0, p1, p2, p3, p4, a0, a1, a2, a3, a4, am0, am1, am2, am3, am4]
    exact slabs5 arg10.view _ (fun s => amaxSlab (BitVec.ofNat 32 (i 1).val) (tile x0 x1 x2 x3 x4 s) (slabOf xa s)) _ _ _ _ _

end Runs

end Cert.Layer1.Hand

end
-- ==== Proof.Layer1Frame.lean ====
module

public import proofs.«01_k».proof.Proof.Layer1Run
public import Idealize.ShloMosaic.Lib.Pipeline.TableIdle

/-! The program `layer1` runs to the end and leaves its arguments as they were: what the kept streams, the row maxima and the inverse
scales hold before each grid point, what each point leaves in the result blocks, and the run of the whole grid. -/

@[expose] public section

set_option maxRecDepth 16384

noncomputable section

namespace Cert.Layer1.Hand

open Cert.Layer1 Cert.Layer1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

/-- Point `t` is column tile `t % 43` of row block `t / 43`; the last row block only finishes the one before it. -/
theorem cond1_iff : ∀ t : Fin cfg0.N, k0_cond1 (grid0.coords t) = 1#1 ↔ 43 ≤ t.val ∧ t.val % 43 = 0 := by decide +kernel
theorem cond2_iff : ∀ t : Fin cfg0.N, k0_cond2 (grid0.coords t) = 1#1 ↔ 43 ≤ t.val := by decide +kernel
theorem cond3_iff : ∀ t : Fin cfg0.N, k0_cond3 (grid0.coords t) = 1#1 ↔ t.val < 1376 := by decide +kernel
theorem col_val : ∀ t : Fin cfg0.N, (grid0.coords t 1).val = t.val % 43 := by decide +kernel
/-- After a row block's scales are stored, their buffer is not fresh until the next row block. -/
theorem fresh6 : ∀ t : Fin cfg0.N, 43 ≤ t.val → t.val % 43 ≠ 0 → cfg0.fresh 6 t.val = false := by decide +kernel
theorem noFlush5 : ∀ t : Fin cfg0.N, t.val < 43 → (cfg0.win 5).flush t = false := by decide +kernel
theorem noFlush6 : ∀ t : Fin cfg0.N, t.val < 43 → (cfg0.win 6).flush t = false := by decide +kernel
theorem idle6_late : ∀ t : Fin cfg0.N, cfg0.idle 6 (grid0.coords t) = true → cfg0.fresh 6 t.val = false → 43 ≤ t.val ∧ t.val % 43 ≠ 0 := by decide +kernel

theorem idle5 (t : Fin cfg0.N) (h : t.val < 43) : cfg0.idle 5 (grid0.coords t) = true := by
  show (!(k0_cond2 (grid0.coords t) == 1#1)) = true
  rw [Bool.not_eq_true', beq_eq_false_iff_ne, ne_eq, cond2_iff]; omega
theorem live5 (t : Fin cfg0.N) (h : 43 ≤ t.val) : cfg0.idle 5 (grid0.coords t) = false := by
  show (!(k0_cond2 (grid0.coords t) == 1#1)) = false
  rw [Bool.not_eq_false', beq_iff_eq, cond2_iff]; exact h
theorem idle6 (t : Fin cfg0.N) (h : ¬(43 ≤ t.val ∧ t.val % 43 = 0)) : cfg0.idle 6 (grid0.coords t) = true := by
  show (!(k0_cond1 (grid0.coords t) == 1#1)) = true
  rw [Bool.not_eq_true', beq_eq_false_iff_ne, ne_eq, cond1_iff]; exact h
theorem live6 (t : Fin cfg0.N) (h : 43 ≤ t.val ∧ t.val % 43 = 0) : cfg0.idle 6 (grid0.coords t) = false := by
  show (!(k0_cond1 (grid0.coords t) == 1#1)) = false
  rw [Bool.not_eq_false', beq_iff_eq, cond1_iff]; exact h

/-! ## The buffers -/

/-- The staging buffer of each window at a point, and that it is a whole buffer. -/
abbrev ms0 (t : Fin cfg0.N) : Memref sig .tc .vmem S5x128x4096 .fp8e4m3 := win0_0.stage (cfg0.slots t 0)
abbrev ms1 (t : Fin cfg0.N) : Memref sig .tc .vmem S5x128x1 .f32 := win0_1.stage (cfg0.slots t 1)
abbrev ms2 (t : Fin cfg0.N) : Memref sig .tc .vmem S4096x256 .fp8e4m3 := win0_2.stage (cfg0.slots t 2)
abbrev ms3 (t : Fin cfg0.N) : Memref sig .tc .vmem S1x256 .f32 := win0_3.stage (cfg0.slots t 3)
abbrev ms4 (t : Fin cfg0.N) : Memref sig .tc .vmem S1x256 .f32 := win0_4.stage (cfg0.slots t 4)
abbrev ms5 (t : Fin cfg0.N) : Memref sig .tc .vmem S5x128x256 .fp8e4m3 := win0_5.stage (cfg0.slots t 5)
abbrev ms6 (t : Fin cfg0.N) : Memref sig .tc .vmem S5x128x1 .f32 := win0_6.stage (cfg0.slots t 6)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)

/-- The kept streams of a row block, their row maxima, and the inverse scales: scratch buffers carried from point to point. -/
abbrev scS : Memref sig .tc .vmem S5x128x11008 .f32 := Memref.whole cc0_scratch0
abbrev scA : Memref sig .tc .vmem S5x128x128 .f32 := Memref.whole cc0_scratch1
abbrev scI : Memref sig .tc .vmem S5x128x128 .f32 := Memref.whole cc0_scratch2

/-- What the pipeline hands the first point besides the windows: the three scratch buffers and the generator register at anything. -/
theorem PhiA_eq (c : Dev nD) :
    (Pipeline.ΦA spec0 c : sProp 𝕄)
      = iprop(iprop((∃ d, owns (c : Thread nD τ) scS fullShare d) ∗ (∃ d, owns (c : Thread nD τ) scA fullShare d) ∗ (∃ d, owns (c : Thread nD τ) scI fullShare d)) ∗ (∃ r, prngReg c r)) := by
  unfold Pipeline.ΦA; rw [scopedRest0_eq]; simp only [scS, scA, scI, owns_whole]; try rfl

/-! ## The body, whole -/

section Body0

variable (c : Dev nD) (i : grid0.Coords)
  (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)

set_option maxRecDepth 65536 in
/-- The body, each block followed by the rest. -/
theorem body_seq :
    cc0_layer1 (F := F) i arg2 harg2 arg3 harg3 arg4 harg4 arg5 harg5 arg6 harg6 arg7 harg7 arg8 harg8 arg9 harg9 arg10 harg10 arg11 harg11 =
      (fun k2 : PUnit → Prog (TpuEff nD τ sig (Elt F) Λ₀ .tc) PUnit => if h : k0_cond1 i = 1#1 then block1 i arg2 harg2 arg3 harg3 arg4 harg4 arg5 harg5 arg6 harg6 arg7 harg7 arg8 harg8 arg9 harg9 arg10 harg10 arg11 harg11 >>= k2 else k2 ⟨⟩)
        (fun _ => (fun k3 : PUnit → Prog (TpuEff nD τ sig (Elt F) Λ₀ .tc) PUnit => if h : k0_cond2 i = 1#1 then block2 i arg2 harg2 arg3 harg3 arg4 harg4 arg5 harg5 arg6 harg6 arg7 harg7 arg8 harg8 arg9 harg9 arg10 harg10 arg11 harg11 h >>= k3 else k3 ⟨⟩)
          (fun _ => if h : k0_cond3 i = 1#1 then block3 i arg2 harg2 arg3 harg3 arg4 harg4 arg5 harg5 arg6 harg6 arg7 harg7 arg8 harg8 arg9 harg9 arg10 harg10 arg11 harg11 h else pure ⟨⟩)) := by
  rw [body_eq]

theorem first (E : Set ℕ) (k : PUnit → Prog (TpuEff nD τ sig (Elt F) Λ₀ .tc) PUnit) (K : PUnit → sProp 𝕄) (xa xi : Vec F S5x128x128 .f32) (d8 : Vec F S5x128x1 .f32) :
    iprop(owns (c : Thread nD τ) arg10 fullShare xa ∗ owns (c : Thread nD τ) arg8 fullShare d8 ∗ owns (c : Thread nD τ) arg11 fullShare xi
        ∗ (iprop(owns (c : Thread nD τ) arg10 fullShare xa ∗ owns (c : Thread nD τ) arg8 fullShare (if k0_cond1 i = 1#1 then scaleAll xa else d8) ∗ owns (c : Thread nD τ) arg11 fullShare (if k0_cond1 i = 1#1 then invAll xa else xi)) -∗ wp frame (wpE (defs₀ (F := F)) Variants.none c none) E (k ⟨⟩) K))
      ⊢ wp frame (wpE (defs₀ (F := F)) Variants.none c none) E (if h : k0_cond1 i = 1#1 then block1 i arg2 harg2 arg3 harg3 arg4 harg4 arg5 harg5 arg6 harg6 arg7 harg7 arg8 harg8 arg9 harg9 arg10 harg10 arg11 harg11 >>= k else k ⟨⟩) K := by
  by_cases h : k0_cond1 i = 1#1
  · rw [dif_pos h, if_pos h, if_pos h, wp_bind]
    iintro ⟨HA, H8, HI, Hk⟩
    iapply (run1 c i arg2 harg2 arg3 harg3 arg4 harg4 arg5 harg5 arg6 harg6 arg7 harg7 arg8 harg8 arg9 harg9 arg10 harg10 arg11 harg11 E _ xa)
    isplitl [HA]; · iexact HA
    isplitl [H8]; · iexists _; iexact H8
    isplitl [HI]; · iexists _; iexact HI
    iexact Hk
  · rw [dif_neg h, if_neg h, if_neg h]
    iintro ⟨HA, H8, HI, Hk⟩
    iapply Hk
    isplitl [HA]; · iexact HA
    isplitl [H8]; · iexact H8
    iexact HI

theorem second (E : Set ℕ) (k : PUnit → Prog (TpuEff nD τ sig (Elt F) Λ₀ .tc) PUnit) (K : PUnit → sProp 𝕄) (xs : Vec F S5x128x11008 .f32) (xi : Vec F S5x128x128 .f32) (d7 : Vec F S5x128x256 .fp8e4m3) :
    iprop(owns (c : Thread nD τ) arg9 fullShare xs ∗ owns (c : Thread nD τ) arg11 fullShare xi ∗ owns (c : Thread nD τ) arg7 fullShare d7
        ∗ (iprop(owns (c : Thread nD τ) arg9 fullShare xs ∗ owns (c : Thread nD τ) arg11 fullShare xi ∗ owns (c : Thread nD τ) arg7 fullShare (if k0_cond2 i = 1#1 then codesAll (i 1).val xs xi else d7)) -∗ wp frame (wpE (defs₀ (F := F)) Variants.none c none) E (k ⟨⟩) K))
      ⊢ wp frame (wpE (defs₀ (F := F)) Variants.none c none) E (if h : k0_cond2 i = 1#1 then block2 i arg2 harg2 arg3 harg3 arg4 harg4 arg5 harg5 arg6 harg6 arg7 harg7 arg8 harg8 arg9 harg9 arg10 harg10 arg11 harg11 h >>= k else k ⟨⟩) K := by
  by_cases h : k0_cond2 i = 1#1
  · rw [dif_pos h, if_pos h, wp_bind]
    iintro ⟨HS, HI, H7, Hk⟩
    iapply (run2 c i arg2 harg2 arg3 harg3 arg4 harg4 arg5 harg5 arg6 harg6 arg7 harg7 arg8 harg8 arg9 harg9 arg10 harg10 arg11 harg11 h E _ xs xi)
    isplitl [HS]; · iexact HS
    isplitl [HI]; · iexact HI
    isplitl [H7]; · iexists _; iexact H7
    iexact Hk
  · rw [dif_neg h, if_neg h]
    iintro ⟨HS, HI, H7, Hk⟩
    iapply Hk
    isplitl [HS]; · iexact HS
    isplitl [HI]; · iexact HI
    iexact H7

theorem third (E : Set ℕ) (K : PUnit → sProp 𝕄) (x0 : Vec F S5x128x4096 .fp8e4m3) (x1 : Vec F S5x128x1 .f32) (x2 : Vec F S4096x256 .fp8e4m3)
    (x3 x4 : Vec F S1x256 .f32) (xs : Vec F S5x128x11008 .f32) (xa : Vec F S5x128x128 .f32) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare xs ∗ owns (c : Thread nD τ) arg10 fullShare xa
        ∗ (iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare (if k0_cond3 i = 1#1 then stNext (i 1).val (tile x0 x1 x2 x3 x4) xs else xs) ∗ owns (c : Thread nD τ) arg10 fullShare (if k0_cond3 i = 1#1 then amaxNext (BitVec.ofNat 32 (i 1).val) (tile x0 x1 x2 x3 x4) xa else xa)) -∗ K ⟨⟩))
      ⊢ wp frame (wpE (defs₀ (F := F)) Variants.none c none) E (if h : k0_cond3 i = 1#1 then block3 i arg2 harg2 arg3 harg3 arg4 harg4 arg5 harg5 arg6 harg6 arg7 harg7 arg8 harg8 arg9 harg9 arg10 harg10 arg11 harg11 h else pure ⟨⟩) K := by
  by_cases h : k0_cond3 i = 1#1
  · rw [dif_pos h, if_pos h, if_pos h]
    exact run3 c i arg2 harg2 arg3 harg3 arg4 harg4 arg5 harg5 arg6 harg6 arg7 harg7 arg8 harg8 arg9 harg9 arg10 harg10 arg11 harg11 h E K x0 x1 x2 x3 x4 xs xa
  · rw [dif_neg h, if_neg h, if_neg h]
    iintro ⟨Hin, HS, HA, Hk⟩
    sl_step
    iapply Hk
    isplitl [Hin]; · iexact Hin
    isplitl [HS]; · iexact HS
    iexact HA

/-- One point of the grid, on any whole buffers: the first block finishes the row block before, the second stores a tile of its codes,
    the third computes a tile of this row block. -/
theorem body_run (E : Set ℕ) (K : PUnit → sProp 𝕄) (x0 : Vec F S5x128x4096 .fp8e4m3) (x1 : Vec F S5x128x1 .f32) (x2 : Vec F S4096x256 .fp8e4m3)
    (x3 x4 : Vec F S1x256 .f32) (xs : Vec F S5x128x11008 .f32) (xa xi : Vec F S5x128x128 .f32) (d7 : Vec F S5x128x256 .fp8e4m3) (d8 : Vec F S5x128x1 .f32) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare xs ∗ owns (c : Thread nD τ) arg10 fullShare xa ∗ owns (c : Thread nD τ) arg11 fullShare xi ∗ owns (c : Thread nD τ) arg7 fullShare d7 ∗ owns (c : Thread nD τ) arg8 fullShare d8
        ∗ (iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare (if k0_cond3 i = 1#1 then stNext (i 1).val (tile x0 x1 x2 x3 x4) xs else xs) ∗ owns (c : Thread nD τ) arg10 fullShare (if k0_cond3 i = 1#1 then amaxNext (BitVec.ofNat 32 (i 1).val) (tile x0 x1 x2 x3 x4) xa else xa) ∗ owns (c : Thread nD τ) arg11 fullShare (if k0_cond1 i = 1#1 then invAll xa else xi) ∗ owns (c : Thread nD τ) arg7 fullShare (if k0_cond2 i = 1#1 then codesAll (i 1).val xs (if k0_cond1 i = 1#1 then invAll xa else xi) else d7) ∗ owns (c : Thread nD τ) arg8 fullShare (if k0_cond1 i = 1#1 then scaleAll xa else d8)) -∗ K ⟨⟩))
      ⊢ wp frame (wpE (defs₀ (F := F)) Variants.none c none) E (cc0_layer1 i arg2 harg2 arg3 harg3 arg4 harg4 arg5 harg5 arg6 harg6 arg7 harg7 arg8 harg8 arg9 harg9 arg10 harg10 arg11 harg11) K := by
  rw [body_seq]; beta_reduce
  iintro ⟨Hin, HS, HA, HI, H7, H8, Hk⟩
  iapply (first c i arg2 harg2 arg3 harg3 arg4 harg4 arg5 harg5 arg6 harg6 arg7 harg7 arg8 harg8 arg9 harg9 arg10 harg10 arg11 harg11 E _ K xa xi d8)
  isplitl [HA]; · iexact HA
  isplitl [H8]; · iexact H8
  isplitl [HI]; · iexact HI
  iintro ⟨HA, H8, HI⟩
  iapply (second c i arg2 harg2 arg3 harg3 arg4 harg4 arg5 harg5 arg6 harg6 arg7 harg7 arg8 harg8 arg9 harg9 arg10 harg10 arg11 harg11 E _ K xs _ d7)
  isplitl [HS]; · iexact HS
  isplitl [HI]; · iexact HI
  isplitl [H7]; · iexact H7
  iintro ⟨HS, HI, H7⟩
  iapply (third c i arg2 harg2 arg3 harg3 arg4 harg4 arg5 harg5 arg6 harg6 arg7 harg7 arg8 harg8 arg9 harg9 arg10 harg10 arg11 harg11 E K x0 x1 x2 x3 x4 xs xa)
  isplitl [Hin]; · iexact Hin
  isplitl [HS]; · iexact HS
  isplitl [HA]; · iexact HA
  iintro ⟨Hin, HS, HA⟩
  iapply Hk
  isplitl [Hin]; · iexact Hin
  isplitl [HS]; · iexact HS
  isplitl [HA]; · iexact HA
  isplitl [HI]; · iexact HI
  isplitl [H7]; · iexact H7
  iexact H8

end Body0

/-! ## What is kept between points -/

section State

variable (m : (ℓ : Loc nD τ sig) → Buf (Elt F) ℓ) (ρ : Dev nD → PrngReg)

/-- The tile computed at a point. -/
def tileAt (c : Dev nD) (t : Fin cfg0.N) : Fin 5 → Vec F S128x256 .f32 := tile (iblk m c 0 t) (iblk m c 1 t) (iblk m c 2 t) (iblk m c 3 t) (iblk m c 4 t)

/-- The point of row block `r` and column tile `k`. -/
def pt (r k : ℕ) : Fin cfg0.N := ⟨(43 * r + k) % 1419, Nat.mod_lt _ (by decide)⟩

/-- The streams of row block `r`, all columns. -/
def stSpec (c : Dev nD) (r : ℕ) : Vec F S5x128x11008 .f32 := fun y =>
  stSlab (tileAt m c (pt r ((y 2).val / 256)) (y 0)) (ix3 0 (y 1) ⟨(y 2).val % 256, Nat.mod_lt _ (by decide)⟩)

/-- The row maxima before point `n`: one step of `amaxNext` per point that computes a tile, restarting at each row block. -/
noncomputable def amaxAt (c : Dev nD) : ℕ → Vec F S5x128x128 .f32
  | 0 => View.canon []
  | n + 1 => if h : n < cfg0.N then
      (if n < 1376 then amaxNext (BitVec.ofNat 32 (n % 43)) (tileAt m c ⟨n, h⟩) (amaxAt c n) else amaxAt c n)
    else amaxAt c n

/-- Before point `n` the kept streams hold this row block's tiles computed so far and, elsewhere, the row block before. -/
def StOk (c : Dev nD) (n : ℕ) (d : Vec F S5x128x11008 .f32) : Prop :=
  n < 1419 → ∀ y : S5x128x11008.Idx,
    ((y 2).val < 256 * (n % 43) ∧ n < 1376 → d y = stSpec m c (n / 43) y)
    ∧ (¬((y 2).val < 256 * (n % 43) ∧ n < 1376) → 43 ≤ n → d y = stSpec m c (n / 43 - 1) y)

theorem N_eq : cfg0.N = 1419 := N_0

/-- A restart at column 0 does not depend on what was there. -/
theorem amaxNext_zero (T : Fin 5 → Vec F S128x256 .f32) (x x' : Vec F S5x128x128 .f32) : amaxNext 0#32 T x = amaxNext 0#32 T x' := rfl

theorem amax_step (c : Dev nD) (t : Fin cfg0.N) (d : Vec F S5x128x128 .f32) (hd : t.val ≠ 0 → d = amaxAt m c t.val) :
    (if t.val < 1376 then amaxNext (BitVec.ofNat 32 (t.val % 43)) (tileAt m c t) d else d) = amaxAt m c (t.val + 1) := by
  rw [amaxAt, dif_pos t.isLt]
  by_cases h0 : t.val = 0
  · rw [if_pos (by omega), if_pos (by omega), show BitVec.ofNat 32 (t.val % 43) = 0#32 by rw [h0]]; exact amaxNext_zero _ _ _
  · rw [hd h0]

theorem st_step (c : Dev nD) (t : Fin cfg0.N) (d : Vec F S5x128x11008 .f32) (hd : StOk m c t.val d) :
    StOk m c (t.val + 1) (if t.val < 1376 then stNext (t.val % 43) (tileAt m c t) d else d) := by
  have hN : t.val < 1419 := lt_of_lt_of_eq t.isLt N_eq
  intro hlt y
  have hy : (y 2).val < 11008 := (y 2).isLt
  have hdy := hd hN y
  by_cases h3 : t.val < 1376
  · rw [if_pos h3]
    by_cases hin : 256 * (t.val % 43) ≤ (y 2).val ∧ (y 2).val < 256 * (t.val % 43) + 256
    · have key : stNext (t.val % 43) (tileAt m c t) d y = stSpec m c (t.val / 43) y := by
        unfold stNext stSpec
        rw [dif_pos hin]
        have hp : pt (t.val / 43) ((y 2).val / 256) = t := Fin.ext (by
          show (43 * (t.val / 43) + (y 2).val / 256) % 1419 = t.val
          omega)
        rw [hp]
        exact congrArg (stSlab (tileAt m c t (y 0))) (congrArg (ix3 0 (y 1)) (Fin.ext (by show (y 2).val - 256 * (t.val % 43) = (y 2).val % 256; omega)))
      rw [key]
      refine ⟨fun h => ?_, fun h h' => ?_⟩
      · rw [show (t.val + 1) / 43 = t.val / 43 by omega]
      · rw [show (t.val + 1) / 43 - 1 = t.val / 43 by omega]
    · have key : stNext (t.val % 43) (tileAt m c t) d y = d y := by unfold stNext; rw [dif_neg hin]
      rw [key]
      refine ⟨fun h => ?_, fun h h' => ?_⟩
      · rw [show (t.val + 1) / 43 = t.val / 43 by omega]
        exact hdy.1 (by omega)
      · by_cases hw : t.val % 43 = 42
        · rw [show (t.val + 1) / 43 - 1 = t.val / 43 by omega]; exact hdy.1 (by omega)
        · rw [show (t.val + 1) / 43 - 1 = t.val / 43 - 1 by omega]; exact hdy.2 (by omega) (by omega)
  · rw [if_neg h3]
    refine ⟨fun h => by omega, fun h h' => ?_⟩
    rw [show (t.val + 1) / 43 - 1 = t.val / 43 - 1 by omega]; exact hdy.2 (by omega) (by omega)

/-- The codes of a tile read the kept streams on that tile's columns only. -/
theorem codes_step (c : Dev nD) (t : Fin cfg0.N) (h : 43 ≤ t.val) (d : Vec F S5x128x11008 .f32) (hd : StOk m c t.val d) (xi : Vec F S5x128x128 .f32) :
    codesAll (t.val % 43) d xi = codesAll (t.val % 43) (stSpec m c (t.val / 43 - 1)) xi := by
  have hN : t.val < 1419 := lt_of_lt_of_eq t.isLt N_eq
  funext y
  unfold codesAll
  refine congrArg (fun w => codeSlab w (slabOf xi (y 0)) (ix3 0 (y 1) ⟨(y 2).val % 128, Nat.mod_lt _ (by decide)⟩)) ?_
  funext z
  have hz : (z 2).val < 128 := (z 2).isLt
  unfold stTile
  refine (hd hN _).2 ?_ h
  rintro ⟨hlt, -⟩
  have hlt' : (256 * (t.val % 43) + 128 * ((y 2).val / 128) + (z 2).val) % 11008 < 256 * (t.val % 43) := hlt
  have hy : (y 2).val < 256 := (y 2).isLt
  omega

/-- The codes and the scales a point past the first row block leaves. -/
def codesAt (c : Dev nD) (t : Fin cfg0.N) : Vec F S5x128x256 .fp8e4m3 :=
  codesAll (t.val % 43) (stSpec m c (t.val / 43 - 1)) (invAll (amaxAt m c (43 * (t.val / 43))))
def scalesAt (c : Dev nD) (t : Fin cfg0.N) : Vec F S5x128x1 .f32 := scaleAll (amaxAt m c (43 * (t.val / 43)))

/-- Between points: the kept streams as `StOk` says, the row maxima at `amaxAt`, the inverse scales those of the row block before; the
    generator register at anything. -/
def PhiS (c : Dev nD) (n : ℕ) : sProp 𝕄 :=
  iprop(((∃ d, ⌜StOk m c n d⌝ ∗ owns (c : Thread nD τ) scS fullShare d) ∗ (∃ d, ⌜n ≠ 0 → d = amaxAt m c n⌝ ∗ owns (c : Thread nD τ) scA fullShare d)
    ∗ (∃ d, ⌜43 ≤ n → n % 43 ≠ 0 → d = invAll (amaxAt m c (43 * (n / 43)))⌝ ∗ owns (c : Thread nD τ) scI fullShare d)) ∗ (∃ r, prngReg c r))

/-- Per core: the arrays the pipeline works on, what each point leaves in the windows, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesAt m c t
    | ⟨6, _⟩ => scalesAt m c t
  Φ t := PhiS m c t.val
  q _ := fullShare
  owed _ := 0

theorem A_eq (c : Dev nD) (w : Fin 7) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesAt m c t := by dsimp only [dats]
theorem after0_6 (c : Dev nD) (t : Fin cfg0.N) : (dats m 0 c).after 6 t = scalesAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- Past a row block's first point the scales' buffer holds the scales. -/
theorem before6 (c : Dev nD) (t : Fin cfg0.N) (h : 43 ≤ t.val) (h0 : t.val % 43 ≠ 0) (d) : (dats m 0 c).before 6 t d = scalesAt m c t := by
  have hs : ∀ (a b : Fin cfg0.N), a.val / 43 = b.val / 43 → scalesAt m c a = scalesAt m c b := fun a b e => by unfold scalesAt; rw [e]
  rw [(dats m 0 c).before_out_traj 6 rfl (fun _ _ => rfl) (fun t ht hi hf => ?_) t.val t rfl d, fresh6 t h h0, if_neg (by decide), after0_6]
  · exact hs _ _ (by show (t.val - 1) / 43 = t.val / 43; omega)
  · obtain ⟨h1, h2⟩ := idle6_late t hi hf
    rw [after0_6, after0_6]
    exact hs _ _ (by show t.val / 43 = (t.val - 1) / 43; omega)

/-- What point `t`'s body is given, and what it must leave. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- What is left in the codes' window, at a point of the first row block and past it. -/
theorem leaves5_early (c : Dev nD) (t : Fin cfg0.N) (h : t.val < 43) :
    (dats m 0 c).leavesExact 5 t = iprop(∃ d, owns (c : Thread nD τ) (ms5 t) fullShare ((dats m 0 c).before 5 t d)) :=
  Dat.leavesExact_idle (dats m 0 c) 5 t (idle5 t h) (noFlush5 t h)
theorem leaves5_late (c : Dev nD) (t : Fin cfg0.N) (h : 43 ≤ t.val) :
    (dats m 0 c).leavesExact 5 t = owns (c : Thread nD τ) (ms5 t) fullShare (codesAt m c t) := by
  unfold Dat.leavesExact; rw [show cfg0.idle 5 (cfg0.grid.coords t) = false from live5 t h, after0_5 m c t]
/-- And in the scales' window. -/
theorem leaves6_early (c : Dev nD) (t : Fin cfg0.N) (h : t.val < 43) :
    (dats m 0 c).leavesExact 6 t = iprop(∃ d, owns (c : Thread nD τ) (ms6 t) fullShare ((dats m 0 c).before 6 t d)) :=
  Dat.leavesExact_idle (dats m 0 c) 6 t (idle6 t (by omega)) (noFlush6 t h)
theorem leaves6_late (c : Dev nD) (t : Fin cfg0.N) (h : 43 ≤ t.val) :
    owns (c : Thread nD τ) (ms6 t) fullShare (scalesAt m c t) ⊢ (dats m 0 c).leavesExact 6 t := by
  by_cases h0 : t.val % 43 = 0
  · unfold Dat.leavesExact; rw [show cfg0.idle 6 (cfg0.grid.coords t) = false from live6 t ⟨h, h0⟩, after0_6 m c t]
  · unfold Dat.leavesExact; rw [show cfg0.idle 6 (cfg0.grid.coords t) = true from idle6 t (by omega)]
    cases hf : (cfg0.win 6).flush t
    · simp only [before6 m c t h h0]
      iintro H; iexists (scalesAt m c t); iexact H
    · rw [after0_6 m c t]

set_option maxHeartbeats 1000000 in
theorem sound_body (c : Dev nD) (t : Fin cfg0.N) :
    bodyPre m c t ⊢ wp frame (wpE (defs₀ (F := F)) Variants.none c none) Set.univ (bodyAt0 (F := F) t) fun _ => bodyPost m c t := by
  have hN : t.val < 1419 := lt_of_lt_of_eq t.isLt N_eq
  unfold bodyPre bodyPost bodyAt0
  simp only [before0_0, before0_1, before0_2, before0_3, before0_4]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  rw [show (dats m 0 c).leavesExact 0 t = owns (c : Thread nD τ) (ms0 t) fullShare (iblk m c 0 t) from by unfold Dat.leavesExact; rw [show cfg0.idle 0 (grid0.coords t) = false from rfl, after0_0 m c t]]
  rw [show (dats m 0 c).leavesExact 1 t = owns (c : Thread nD τ) (ms1 t) fullShare (iblk m c 1 t) from by unfold Dat.leavesExact; rw [show cfg0.idle 1 (grid0.coords t) = false from rfl, after0_1 m c t]]
  rw [show (dats m 0 c).leavesExact 2 t = owns (c : Thread nD τ) (ms2 t) fullShare (iblk m c 2 t) from by unfold Dat.leavesExact; rw [show cfg0.idle 2 (grid0.coords t) = false from rfl, after0_2 m c t]]
  rw [show (dats m 0 c).leavesExact 3 t = owns (c : Thread nD τ) (ms3 t) fullShare (iblk m c 3 t) from by unfold Dat.leavesExact; rw [show cfg0.idle 3 (grid0.coords t) = false from rfl, after0_3 m c t]]
  rw [show (dats m 0 c).leavesExact 4 t = owns (c : Thread nD τ) (ms4 t) fullShare (iblk m c 4 t) from by unfold Dat.leavesExact; rw [show cfg0.idle 4 (grid0.coords t) = false from rfl, after0_4 m c t]]
  iintro ⟨⟨⟨⟨%ds, %hds, HS⟩, ⟨%da, %hda, HA⟩, ⟨%di, %hdi, HI⟩⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scA (Memref.isWhole_whole _) scI (Memref.isWhole_whole _)
    Set.univ _ (iblk m c 0 t) (iblk m c 1 t) (iblk m c 2 t) (iblk m c 3 t) (iblk m c 4 t) ds da di ((dats m 0 c).before 5 t d5) ((dats m 0 c).before 6 t d6))
  isplitl [H0 H1 H2 H3 H4]
  · isplitl [H0]; · iexact H0
    isplitl [H1]; · iexact H1
    isplitl [H2]; · iexact H2
    isplitl [H3]; · iexact H3
    iexact H4
  isplitl [HS]; · iexact HS
  isplitl [HA]; · iexact HA
  isplitl [HI]; · iexact HI
  isplitl [H5]; · iexact H5
  isplitl [H6]; · iexact H6
  rw [col_val t]
  simp only [cond1_iff, cond2_iff, cond3_iff]
  iintro ⟨⟨H0, H1, H2, H3, H4⟩, HS, HA, HI, H5, H6⟩
  have hI : 43 ≤ t.val → (if 43 ≤ t.val ∧ t.val % 43 = 0 then invAll da else di) = invAll (amaxAt m c (43 * (t.val / 43))) := fun h => by
    by_cases h0 : t.val % 43 = 0
    · rw [if_pos ⟨h, h0⟩, hda (by omega), show 43 * (t.val / 43) = t.val by omega]
    · rw [if_neg (by omega), hdi h h0]
  isplitl [HS HA HI Hg]
  · isplitl [HS HA HI]
    · isplitl [HS]
      · iexists _; isplitr; swap; · iexact HS
        ipureintro; exact st_step m c t ds hds
      isplitl [HA]
      · iexists _; isplitr; swap; · iexact HA
        ipureintro; intro _; exact amax_step m c t da hda
      · iexists _; isplitr; swap; · iexact HI
        ipureintro; intro h1 h2
        rw [show (t.val + 1) / 43 = t.val / 43 by omega]
        exact hI (by omega)
    · iexact Hg
  isplitl [Ho]; · iexact Ho
  isplitl [H0]; · iexact H0
  isplitl [H1]; · iexact H1
  isplitl [H2]; · iexact H2
  isplitl [H3]; · iexact H3
  isplitl [H4]; · iexact H4
  by_cases h : 43 ≤ t.val
  · rw [leaves5_late m c t h]
    rw [if_pos h, hI h, codes_step m c t h ds hds]
    isplitl [H5]; · iexact H5
    iapply (leaves6_late m c t h)
    have h6 : (if 43 ≤ t.val ∧ t.val % 43 = 0 then scaleAll da else (dats m 0 c).before 6 t d6) = scalesAt m c t := by
      by_cases h0 : t.val % 43 = 0
      · rw [if_pos ⟨h, h0⟩, hda (by omega)]; unfold scalesAt; rw [show 43 * (t.val / 43) = t.val by omega]
      · rw [if_neg (by omega), before6 m c t h h0]
    rw [h6]
    iexact H6
  · rw [leaves5_early m c t (by omega), leaves6_early m c t (by omega)]
    rw [if_neg h, if_neg (by omega)]
    isplitl [H5]; · iexists d5; iexact H5
    iexists d6; iexact H6

theorem defs₀_row (t : Fin cfg0.N) : defs₀ (F := F) .tc cfg0.body (cfg0.bodyArgs t (cfg0.slots t)) = bodyAt0 (F := F) t := by
  unfold defs₀; rw [Defs.onTc_tc]

theorem body_obligation (c : Dev nD) : BodyObligation (dats m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  rw [PhiA_eq, show (dats m 0 c).Φ 0 = PhiS m c 0 from rfl]; unfold PhiS
  iintro ⟨⟨⟨%d, HS⟩, ⟨%da, HA⟩, ⟨%di, HI⟩⟩, Hg⟩
  isplitl [HS HA HI]
  · isplitl [HS]
    · iexists d; isplitr; swap; · iexact HS
      ipureintro; intro _ y; exact ⟨fun h => absurd h.1 (by omega), fun _ h => absurd h (by omega)⟩
    isplitl [HA]
    · iexists da; isplitr; swap; · iexact HA
      ipureintro; intro h; exact absurd rfl h
    · iexists di; isplitr; swap; · iexact HI
      ipureintro; intro h; exact absurd h (by omega)
  iexact Hg

theorem hout (c : Dev nD) : (dats m 0 c).Φ (Fin.last cfg0.N) ⊢ (Pipeline.ΦA spec0 c : sProp 𝕄) := by
  rw [PhiA_eq, show (dats m 0 c).Φ (Fin.last cfg0.N) = PhiS m c cfg0.N from rfl]; unfold PhiS
  iintro ⟨⟨⟨%d, -, HS⟩, ⟨%da, -, HA⟩, ⟨%di, -, HI⟩⟩, Hg⟩
  isplitl [HS HA HI]
  · isplitl [HS]; · iexists d; iexact HS
    isplitl [HA]; · iexists da; iexact HA
    iexists di; iexact HI
  iexact Hg

set_option backward.isDefEq.respectTransparency.types false in
/-- The program runs to the end and leaves every array the pipeline's windows over it say, and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs to the end, leaves the argument arrays as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end State

end Cert.Layer1.Hand

end
-- ==== Proof.Layer1IdealRun.lean ====
module

public import proofs.«01_k».proof.Proof.Gen.Layer1Ideal.Skeleton
public import proofs.«01_k».proof.Proof.Gen.Layer1Ideal.Frame
public import Idealize.ShloMosaic.Lib.Pipeline.ValueKit
public import Idealize.ShloMosaic.Lib.WritesUnit

/-! The body of the kernel `layer1` as three blocks run one after the other, each under its own condition, and what each leaves in the
buffers it stores into, as a function of what it finds. -/

@[expose] public section

set_option maxRecDepth 16384

noncomputable section

namespace Cert.Layer1Ideal.Hand

open Cert.Layer1Ideal Cert.Layer1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first block: per stream, the row maxima of the finished row block become its scales and their inverses. -/
noncomputable def block1 (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole) :
    Prog (TpuEff nD τ sig (Elt F) Λ₀ .tc) PUnit := do
  let arg1 : BitVec 32 := BitVec.ofNat 32 (i 1).val
  let v0 : BitVec 32 := Scalar.muli arg1 256#32
  let v1 : BitVec 32 := v0
  let ⟨v22, v51, v53, v55⟩ : Σ' (v22 : FVec F S128x128 .f32) (v51 : IVec S128x128 32) (v53 : IVec S128x128 32), IVec S128x128 32 ← k0_part1 i arg2 harg2 arg3 harg3 arg4 harg4 arg5 harg5 arg6 harg6 arg7 harg7 arg8 harg8 arg9 harg9 arg10 harg10 arg11 harg11
  let v93 : FVec F S128x128 .f32 ← k0_part2 i arg2 harg2 arg3 harg3 arg4 harg4 arg5 harg5 arg6 harg6 arg7 harg7 arg8 harg8 arg9 harg9 arg10 harg10 arg11 harg11 v22 v51 v53 v55
  let ⟨v110, v139, c8_i32_42⟩ : Σ' (v110 : FVec F S128x128 .f32) (v139 : IVec S128x128 32), BitVec 32 ← k0_part3 i arg2 harg2 arg3 harg3 arg4 harg4 arg5 harg5 arg6 harg6 arg7 harg7 arg8 harg8 arg9 harg9 arg10 harg10 arg11 harg11 v93
  let ⟨v181, v182, v183⟩ : Σ' (v181 : FVec F S128x128 .f32) (v182 : FVec F S128x1 .f32), Vec F S1x128x1 .f32 ← k0_part4 i arg2 harg2 arg3 harg3 arg4 harg4 arg5 harg5 arg6 harg6 arg7 harg7 arg8 harg8 arg9 harg9 arg10 harg10 arg11 harg11 v110 v139 c8_i32_42
  let ⟨v198, v220, v222, v223⟩ : Σ' (v198 : FVec F S128x128 .f32) (v220 : IVec S128x128 32) (v222 : IVec S128x128 32), IVec S128x128 32 ← k0_part5 i arg2 harg2 arg3 harg3 arg4 harg4 arg5 harg5 arg6 harg6 arg7 harg7 arg8 harg8 arg9 harg9 arg10 harg10 arg11 harg11 v181 v182 v183
  let ⟨v264, v269⟩ : Σ' (v264 : FVec F S128x128 .f32), FVec F S128x128 .f32 ← k0_part6 i arg2 harg2 arg3 harg3 arg4 harg4 arg5 harg5 arg6 harg6 arg7 harg7 arg8 harg8 arg9 harg9 arg10 harg10 arg11 harg11 v198 v220 v222 v223
  let ⟨v286, v308⟩ : Σ' (v286 : FVec F S128x128 .f32), IVec S128x128 32 ← k0_part7 i arg2 harg2 arg3 harg3 arg4 harg4 arg5 harg5 arg6 harg6 arg7 harg7 arg8 harg8 arg9 harg9 arg10 harg10 arg11 harg11 v264 v269
  let ⟨v345, v347, v352, v353⟩ : Σ' (v345 : IVec S128x128 32) (v347 : IVec S128x128 1) (v352 : FVec F S128x128 .f32), IVec S128x128 32 ← k0_part8 i arg2 harg2 arg3 harg3 arg4 harg4 arg5 harg5 arg6 harg6 arg7 harg7 arg8 harg8 arg9 harg9 arg10 harg10 arg11 harg11 v286 v308
  let ⟨v374, v389, v391, c23_i32_141⟩ : Σ' (v374 : FVec F S128x128 .f32) (v389 : IVec S128x128 32) (v391 : IVec S128x128 32), BitVec 32 ← k0_part9 i arg2 harg2 arg3 harg3 arg4 harg4 arg5 harg5 arg6 harg6 arg7 harg7 arg8 harg8 arg9 harg9 arg10 harg10 arg11 harg11 v345 v347 v352 v353
  let ⟨v433, v435, v438⟩ : Σ' (v433 : IVec S128x128 32) (v435 : IVec S128x128 1), FVec F S128x128 .f32 ← k0_part10 i arg2 harg2 arg3 harg3 arg4 harg4 arg5 harg5 arg6 harg6 arg7 harg7 arg8 harg8 arg9 harg9 arg10 harg10 arg11 harg11 v374 v389 v391 c23_i32_141
  let v447 : Vec F S1x128x1 .f32 ← Prog.lift (.load arg8 (Rect.unit (s := S5x128x1) ![4, 0, 0] S1x128x1.size inb_S5x128x1_S1x128x1_4_0_0).toLoadRect (View.loadsAt_vmem h_S1x128x1)) -- %447 = vector.load %arg8[%c4_158, %c0_159, %c0_160] : memref<5x128x1xf32, #tpu.memory_space<vmem>>, vector<1x128x1xf32>  @ test_k:69
  Prog.lift (.store arg8 (Rect.unit (s := S5x128x1) ![4, 0, 0] S1x128x1.size inb_S5x128x1_S1x128x1_4_0_0) (k0_pay1 v435 v438) Finset.univ (View.stores_vmem_bits_univ h_S1x128x1 rfl) (.inl rfl)) -- tpu.vector_store %arg8[%c4_158, %c0_159, %c0_160], %449 {strides = array<i32>} : memref<5x128x1xf32, #tpu.memory_space<vmem>>, vector<1x128x1xf32>,  @ test_k:69
  let v450 : Vec F S1x128x128 .f32 ← Prog.lift (.load arg11 (Rect.unit (s := S5x128x128) ![4, 0, 0] S1x128x128.size inb_S5x128x128_S1x128x128_4_0_0).toLoadRect (View.loadsAt_vmem h_S1x128x128)) -- %450 = vector.load %arg11[%c4_161, %c0_162, %c0_163] : memref<5x128x128xf32, #tpu.memory_space<vmem>>, vector<1x128x128xf32>  @ test_k:70
  Prog.lift (.store arg11 (Rect.unit (s := S5x128x128) ![4, 0, 0] S1x128x128.size inb_S5x128x128_S1x128x128_4_0_0) (k0_pay2 (F := F) v433 v435) Finset.univ (View.stores_vmem_bits_univ h_S1x128x128 rfl) (.inl rfl)) -- tpu.vector_store %arg11[%c4_161, %c0_162, %c0_163], %452 {strides = array<i32>} : memref<5x128x128xf32, #tpu.memory_space<vmem>>, vector<1x128x128xf32>,  @ test_k:70
  pure ⟨⟩

/-- The second block: one tile of the finished row block becomes codes. -/
noncomputable def block2 (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)
  (k0_h2 : k0_cond2 i = 1#1) :
    Prog (TpuEff nD τ sig (Elt F) Λ₀ .tc) PUnit := do
  let arg1 : BitVec 32 := BitVec.ofNat 32 (i 1).val
  let v0 : BitVec 32 := Scalar.muli arg1 256#32
  let v1 : BitVec 32 := v0
  k0_part11 i arg2 harg2 arg3 harg3 arg4 harg4 arg5 harg5 arg6 harg6 arg7 harg7 arg8 harg8 arg9 harg9 arg10 harg10 arg11 harg11 arg1 k0_h2
  k0_part12 i arg2 harg2 arg3 harg3 arg4 harg4 arg5 harg5 arg6 harg6 arg7 harg7 arg8 harg8 arg9 harg9 arg10 harg10 arg11 harg11 arg1 k0_h2
  k0_part13 i arg2 harg2 arg3 harg3 arg4 harg4 arg5 harg5 arg6 harg6 arg7 harg7 arg8 harg8 arg9 harg9 arg10 harg10 arg11 harg11 arg1 k0_h2
  k0_part14 i arg2 harg2 arg3 harg3 arg4 harg4 arg5 harg5 arg6 harg6 arg7 harg7 arg8 harg8 arg9 harg9 arg10 harg10 arg11 harg11 arg1 k0_h2
  k0_part15 i arg2 harg2 arg3 harg3 arg4 harg4 arg5 harg5 arg6 harg6 arg7 harg7 arg8 harg8 arg9 harg9 arg10 harg10 arg11 harg11 arg1 k0_h2
  pure ⟨⟩

/-- The third block: one tile of the current row block is computed and kept, and the row maxima take it in. -/
noncomputable def block3 (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)
  (k0_h3 : k0_cond3 i = 1#1) :
    Prog (TpuEff nD τ sig (Elt F) Λ₀ .tc) PUnit := do
  let arg1 : BitVec 32 := BitVec.ofNat 32 (i 1).val
  let v0 : BitVec 32 := Scalar.muli arg1 256#32
  let v1 : BitVec 32 := v0
  let ⟨v16, v25, v34, v43, v48⟩ : Σ' (v16 : FVec F S640x256 .f32) (v25 : FVec F S128x256 .f32) (v34 : FVec F S128x256 .f32) (v43 : FVec F S128x256 .f32), FVec F S128x256 .f32 ← k0_part16 i arg2 harg2 arg3 harg3 arg4 harg4 arg5 harg5 arg6 harg6 arg7 harg7 arg8 harg8 arg9 harg9 arg10 harg10 arg11 harg11
  let ⟨v66, v78, v79, v80, v83, v88, v90⟩ : Σ' (v66 : FVec F S128x256 .f32) (v78 : FVec F S128x256 .f32) (v79 : FVec F S128x256 .f32) (v80 : FVec F S128x256 .f32) (v83 : FVec F S128x256 .f32) (v88 : BitVec 1), FVec F S128x128 .f32 ← k0_part17 i arg2 harg2 arg3 harg3 arg4 harg4 arg5 harg5 arg6 harg6 arg7 harg7 arg8 harg8 arg9 harg9 arg10 harg10 arg11 harg11 arg1 v1 k0_h3 v16 v25 v34 v43 v48
  let ⟨v124, v126⟩ : Σ' (v124 : BitVec 1), FVec F S128x128 .f32 ← k0_part18 i arg2 harg2 arg3 harg3 arg4 harg4 arg5 harg5 arg6 harg6 arg7 harg7 arg8 harg8 arg9 harg9 arg10 harg10 arg11 harg11 arg1 v1 k0_h3 v66 v78 v79 v88 v90
  let ⟨v160, v162⟩ : Σ' (v160 : BitVec 1), FVec F S128x128 .f32 ← k0_part19 i arg2 harg2 arg3 harg3 arg4 harg4 arg5 harg5 arg6 harg6 arg7 harg7 arg8 harg8 arg9 harg9 arg10 harg10 arg11 harg11 arg1 v1 k0_h3 v79 v80 v83 v124 v126
  let v171 : Vec F S1x128x128 .f32 ← Prog.lift (.load arg10 (Rect.unit (s := S5x128x128) ![4, 0, 0] S1x128x128.size inb_S5x128x128_S1x128x128_4_0_0).toLoadRect (View.loadsAt_vmem h_S1x128x128)) -- %171 = vector.load %arg10[%c4_81, %c0_82, %c0_83] : memref<5x128x128xf32, #tpu.memory_space<vmem>>, vector<1x128x128xf32>  @ test_k:90
  Prog.lift (.store arg10 (Rect.unit (s := S5x128x128) ![4, 0, 0] S1x128x128.size inb_S5x128x128_S1x128x128_4_0_0) (k0_pay3 v83 v160 v162) Finset.univ (View.stores_vmem_bits_univ h_S1x128x128 rfl) (.inl rfl)) -- tpu.vector_store %arg10[%c4_81, %c0_82, %c0_83], %173 {strides = array<i32>} : memref<5x128x128xf32, #tpu.memory_space<vmem>>, vector<1x128x128xf32>,  @ test_k:90
  pure ⟨⟩

set_option maxRecDepth 65536 in
/-- The body is the three blocks in order, each under its condition. -/
theorem body_eq (i : grid0.Coords) (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole) :
    cc0_layer1 (F := F) i arg2 harg2 arg3 harg3 arg4 harg4 arg5 harg5 arg6 harg6 arg7 harg7 arg8 harg8 arg9 harg9 arg10 harg10 arg11 harg11 = (do
      if h : k0_cond1 i = 1#1 then block1 i arg2 harg2 arg3 harg3 arg4 harg4 arg5 harg5 arg6 harg6 arg7 harg7 arg8 harg8 arg9 harg9 arg10 harg10 arg11 harg11 else pure ⟨⟩
      if h : k0_cond2 i = 1#1 then block2 i arg2 harg2 arg3 harg3 arg4 harg4 arg5 harg5 arg6 harg6 arg7 harg7 arg8 harg8 arg9 harg9 arg10 harg10 arg11 harg11 h else pure ⟨⟩
      if h : k0_cond3 i = 1#1 then block3 i arg2 harg2 arg3 harg3 arg4 harg4 arg5 harg5 arg6 harg6 arg7 harg7 arg8 harg8 arg9 harg9 arg10 harg10 arg11 harg11 h else pure ⟨⟩) := by
  rw [cc0_layer1_eq_skeleton]
  rfl

section Values

/-- Slab `s` of a five-stream buffer. -/
def slabOf {a b : ℕ} {e : EltTy} (x : Vec F ⟨3, ![5, a, b]⟩ e) (s : Fin 5) : Vec F ⟨3, ![1, a, b]⟩ e := fun z => x (ix3 s (z 1) (z 2))

/-- A stream's scales, and the inverse scales kept for its codes, from its row maxima. -/
def scaleSlab (x : Vec F S1x128x128 .f32) : Vec F S1x128x1 .f32 := k0_pay11 (k0_pay4 x) (k0_pay5 x) (k0_pay6 x) (k0_pay7 x)
def invSlab (x : Vec F S1x128x128 .f32) : Vec F S1x128x128 .f32 := k0_pay12 (k0_pay10 (k0_pay4 x) (k0_pay5 x) (k0_pay6 x) (k0_pay7 x))

/-- The five streams compute them alike. -/
theorem scale0 (x : Vec F S1x128x128 .f32) : k0_pay11 (k0_pay4 x) (k0_pay5 x) (k0_pay6 x) (k0_pay7 x) = scaleSlab x := rfl
theorem inv0 (x : Vec F S1x128x128 .f32) : k0_pay12 (k0_pay10 (k0_pay4 x) (k0_pay5 x) (k0_pay6 x) (k0_pay7 x)) = invSlab x := rfl
theorem scale1 (x : Vec F S1x128x128 .f32) : k0_pay19 (k0_pay18 (k0_pay13 x) (k0_pay14 x) 8#32) = scaleSlab x := rfl
theorem inv1 (x : Vec F S1x128x128 .f32) : k0_pay20 (k0_pay17 (k0_pay13 x) (k0_pay14 x) 8#32) = invSlab x := rfl
theorem scale2 (x : Vec F S1x128x128 .f32) : k0_pay29 (k0_pay27 (k0_pay21 x) (k0_pay22 x) (k0_pay23 x) k0_pay24) = scaleSlab x := rfl
theorem inv2 (x : Vec F S1x128x128 .f32) : k0_pay30 (k0_pay28 (k0_pay21 x) (k0_pay22 x) (k0_pay23 x) k0_pay24) = invSlab x := rfl
theorem scale3 (x : Vec F S1x128x128 .f32) : k0_pay37 (k0_pay35 (k0_pay31 x) (k0_pay32 x)) = scaleSlab x := rfl
theorem inv3 (x : Vec F S1x128x128 .f32) : k0_pay38 (F := F) (k0_pay33 (k0_pay31 x) (k0_pay32 x)) (k0_pay34 (k0_pay31 x) (k0_pay32 x)) k0_pay36 = invSlab x := rfl
theorem scale4 (x : Vec F S1x128x128 .f32) : k0_pay1 (k0_pay43 (k0_pay39 x) (k0_pay40 x) (k0_pay41 x) 23#32) (k0_pay44 (k0_pay39 x) (k0_pay40 x) (k0_pay41 x) 23#32) = scaleSlab x := rfl
theorem inv4 (x : Vec F S1x128x128 .f32) : k0_pay2 (F := F) (k0_pay42 (k0_pay39 x) (k0_pay40 x) (k0_pay41 x) 23#32) (k0_pay43 (k0_pay39 x) (k0_pay40 x) (k0_pay41 x) 23#32) = invSlab x := rfl

/-- All five streams' scales and inverse scales. -/
def scaleAll (xa : Vec F S5x128x128 .f32) : Vec F S5x128x1 .f32 := fun y => scaleSlab (slabOf xa (y 0)) (ix3 0 (y 1) (y 2))
def invAll (xa : Vec F S5x128x128 .f32) : Vec F S5x128x128 .f32 := fun y => invSlab (slabOf xa (y 0)) (ix3 0 (y 1) (y 2))

/-- Five stores of one slab each leave, slab by slab, what was stored. -/
theorem slabs5 {κ : Kind} {sp : Space} {a b : ℕ} {e : EltTy} (v : View sig κ sp ⟨3, ![5, a, b]⟩ e) (f : v.ty.Contents (Elt F))
    (W : Fin 5 → Vec F ⟨3, ![1, a, b]⟩ e) (h4 h3 h2 h1 h0) :
    v.read (Elt F) (v.writes (Elt F) f [⟨Rect.unit ![4, 0, 0] ![1, a, b] h4, W 4⟩, ⟨Rect.unit ![3, 0, 0] ![1, a, b] h3, W 3⟩,
      ⟨Rect.unit ![2, 0, 0] ![1, a, b] h2, W 2⟩, ⟨Rect.unit ![1, 0, 0] ![1, a, b] h1, W 1⟩, ⟨Rect.unit ![0, 0, 0] ![1, a, b] h0, W 0⟩])
      = fun y => W (y 0) (ix3 0 (y 1) (y 2)) := by
  funext y
  obtain ⟨s, p, j, rfl⟩ : ∃ (s : Fin 5) (p : Fin a) (j : Fin b), y = ix3 s p j := ⟨y 0, y 1, y 2, funext fun k => by fin_cases k <;> rfl⟩
  have miss : ∀ (k : Fin 5) (hk) (w : Vec F ⟨3, ![1, a, b]⟩ e) (L : List (View.Piece (Elt F) ⟨3, ![5, a, b]⟩ e)), k ≠ s →
      v.read (Elt F) (v.writes (Elt F) f (⟨Rect.unit ![k.val, 0, 0] ![1, a, b] hk, w⟩ :: L)) (ix3 s p j) = v.read (Elt F) (v.writes (Elt F) f L) (ix3 s p j) :=
    fun k hk w L hne => View.read_writes_cons_unit_of_not_mem v f hk w L _ rfl 0 (by
      show s.val < k.val ∨ k.val + 1 ≤ s.val
      have := Fin.val_ne_of_ne hne; omega)
  have hit : ∀ (hk) (w : Vec F ⟨3, ![1, a, b]⟩ e) (L : List (View.Piece (Elt F) ⟨3, ![5, a, b]⟩ e)),
      v.read (Elt F) (v.writes (Elt F) f (⟨Rect.unit ![s.val, 0, 0] ![1, a, b] hk, w⟩ :: L)) (ix3 s p j) = w (ix3 0 p j) :=
    fun hk w L => View.read_writes_cons_unit_of_mem v f hk w L _ (ix3 0 p j) rfl (fun ax => by
      fin_cases ax
      · show s.val = s.val + 0; rfl
      · show p.val = 0 + p.val; omega
      · show j.val = 0 + j.val; omega)
  fin_cases s
  · exact (miss 4 _ _ _ (by decide)).trans ((miss 3 _ _ _ (by decide)).trans ((miss 2 _ _ _ (by decide)).trans ((miss 1 _ _ _ (by decide)).trans (hit _ _ _))))
  · exact (miss 4 _ _ _ (by decide)).trans ((miss 3 _ _ _ (by decide)).trans ((miss 2 _ _ _ (by decide)).trans (hit _ _ _)))
  · exact (miss 4 _ _ _ (by decide)).trans ((miss 3 _ _ _ (by decide)).trans (hit _ _ _))
  · exact (miss 4 _ _ _ (by decide)).trans (hit _ _ _)
  · exact hit _ _ _

/-- Each slab of a five-stream buffer lies inside it. -/
theorem slab_inb {a b : ℕ} (s : Fin 5) : ∀ ax, (![s.val, 0, 0] : Fin 3 → ℕ) ax + (![1, a, b] : Fin 3 → ℕ) ax ≤ (⟨3, ![5, a, b]⟩ : Shape).size ax := fun ax => by
  fin_cases ax
  · show s.val + 1 ≤ 5; omega
  · show 0 + a ≤ a; omega
  · show 0 + b ≤ b; omega

/-- A load of slab `s` of a buffer holding `x`, and what it reads. -/
def rdSlab {κ : Kind} {sp : Space} {a b : ℕ} {e : EltTy} (v : Memref sig κ sp ⟨3, ![5, a, b]⟩ e) (hv : v.IsWhole) (x : Vec F ⟨3, ![5, a, b]⟩ e) (s : Fin 5) :
    Vec F ⟨3, ![1, a, b]⟩ e :=
  v.view.readAt (Elt F) (Rect.unit (s := ⟨3, ![5, a, b]⟩) ![s.val, 0, 0] ![1, a, b] (slab_inb s)).toLoadRect (hv.unread x)

theorem rdSlab_eq {κ : Kind} {sp : Space} {a b : ℕ} {e : EltTy} (v : Memref sig κ sp ⟨3, ![5, a, b]⟩ e) (hv : v.IsWhole) (x : Vec F ⟨3, ![5, a, b]⟩ e) (s : Fin 5) :
    rdSlab v hv x s = slabOf x s := by
  funext z
  unfold rdSlab slabOf
  rw [View.readAt_apply, hv.read_unread]
  refine congrArg x (funext fun ax => Fin.ext ?_)
  have hz : (z 0).val < 1 := (z 0).isLt
  fin_cases ax
  · show s.val + 1 * (z 0).val = s.val; omega
  · show 0 + 1 * (z 1).val = (z 1).val; omega
  · show 0 + 1 * (z 2).val = (z 2).val; omega

/-- A tile of a stream becomes codes: multiplied by the inverse scales, clipped, cast. The ten stores do it alike. -/
def codeSlab (x y : Vec F S1x128x128 .f32) : Vec F S1x128x128 .fp8e4m3 := k0_pay45 x y
theorem code0 (x y : Vec F S1x128x128 .f32) : k0_pay45 x y = codeSlab x y := rfl
theorem code1 (x y : Vec F S1x128x128 .f32) : k0_pay46 x y = codeSlab x y := rfl
theorem code2 (x y : Vec F S1x128x128 .f32) : k0_pay47 x y = codeSlab x y := rfl
theorem code3 (x y : Vec F S1x128x128 .f32) : k0_pay48 x y = codeSlab x y := rfl
theorem code4 (x y : Vec F S1x128x128 .f32) : k0_pay49 x y = codeSlab x y := rfl
theorem code5 (x y : Vec F S1x128x128 .f32) : k0_pay50 x y = codeSlab x y := rfl
theorem code6 (x y : Vec F S1x128x128 .f32) : k0_pay51 x y = codeSlab x y := rfl
theorem code7 (x y : Vec F S1x128x128 .f32) : k0_pay52 x y = codeSlab x y := rfl
theorem code8 (x y : Vec F S1x128x128 .f32) : k0_pay53 x y = codeSlab x y := rfl
theorem code9 (x y : Vec F S1x128x128 .f32) : k0_pay54 x y = codeSlab x y := rfl

/-- The half-tile `h` of tile `n` of stream `s`, out of the kept streams. -/
def stTile (n : ℕ) (xs : Vec F S5x128x11008 .f32) (s : Fin 5) (h : Fin 2) : Vec F S1x128x128 .f32 :=
  fun z => xs (ix3 s (z 1) ⟨(256 * n + 128 * h.val + (z 2).val) % 11008, Nat.mod_lt _ (by decide)⟩)

/-- A load at that place of a buffer holding `xs` reads it. -/
theorem rdSt {κ : Kind} {sp : Space} (v : Memref sig κ sp S5x128x11008 .f32) (hv : v.IsWhole) (xs : Vec F S5x128x11008 .f32) (n : ℕ) (s : Fin 5) (h : Fin 2)
    (o : Fin 3 → ℕ) (eo : o = ![s.val, 0, 256 * n + 128 * h.val]) (ho) :
    v.view.readAt (Elt F) (Rect.unit (s := S5x128x11008) o S1x128x128.size ho).toLoadRect (hv.unread xs) = stTile n xs s h := by
  subst eo
  funext z
  unfold stTile
  rw [View.readAt_apply, hv.read_unread]
  refine congrArg xs (funext fun ax => Fin.ext ?_)
  have hz : (z 0).val < 1 := (z 0).isLt
  have hz2 : (z 2).val < 128 := (z 2).isLt
  have hb : 256 * n + 128 * h.val + 128 ≤ 11008 := ho 2
  fin_cases ax
  · show s.val + 1 * (z 0).val = s.val; omega
  · show 0 + 1 * (z 1).val = (z 1).val; omega
  · show 256 * n + 128 * h.val + 1 * (z 2).val = (256 * n + 128 * h.val + (z 2).val) % 11008; omega

/-- All the codes of tile `n`. -/
def codesAll (n : ℕ) (xs : Vec F S5x128x11008 .f32) (xi : Vec F S5x128x128 .f32) : Vec F S5x128x256 .fp8e4m3 := fun y =>
  codeSlab (stTile n xs (y 0) ⟨(y 2).val / 128, by have h : (y 2).val < 256 := (y 2).isLt; omega⟩) (slabOf xi (y 0))
    (ix3 0 (y 1) ⟨(y 2).val % 128, Nat.mod_lt _ (by decide)⟩)

/-- Ten stores of half-tiles leave, half by half, what was stored. -/
theorem slabs10 {κ : Kind} {sp : Space} {e : EltTy} (v : View sig κ sp S5x128x256 e) (f : v.ty.Contents (Elt F))
    (W : Fin 5 → Fin 2 → Vec F S1x128x128 e) (h9 h8 h7 h6 h5 h4 h3 h2 h1 h0) :
    v.read (Elt F) (v.writes (Elt F) f [⟨Rect.unit ![4, 0, 128] ![1, 128, 128] h9, W 4 1⟩, ⟨Rect.unit ![4, 0, 0] ![1, 128, 128] h8, W 4 0⟩,
      ⟨Rect.unit ![3, 0, 128] ![1, 128, 128] h7, W 3 1⟩, ⟨Rect.unit ![3, 0, 0] ![1, 128, 128] h6, W 3 0⟩,
      ⟨Rect.unit ![2, 0, 128] ![1, 128, 128] h5, W 2 1⟩, ⟨Rect.unit ![2, 0, 0] ![1, 128, 128] h4, W 2 0⟩,
      ⟨Rect.unit ![1, 0, 128] ![1, 128, 128] h3, W 1 1⟩, ⟨Rect.unit ![1, 0, 0] ![1, 128, 128] h2, W 1 0⟩,
      ⟨Rect.unit ![0, 0, 128] ![1, 128, 128] h1, W 0 1⟩, ⟨Rect.unit ![0, 0, 0] ![1, 128, 128] h0, W 0 0⟩])
      = fun y => W (y 0) ⟨(y 2).val / 128, by have h : (y 2).val < 256 := (y 2).isLt; omega⟩ (ix3 0 (y 1) ⟨(y 2).val % 128, Nat.mod_lt _ (by decide)⟩) := by
  funext y
  obtain ⟨s, p, j, rfl⟩ : ∃ (s : Fin 5) (p : Fin 128) (j : Fin 256), y = ix3 s p j := ⟨y 0, y 1, y 2, funext fun k => by fin_cases k <;> rfl⟩
  obtain ⟨h, l, hj⟩ : ∃ (h : Fin 2) (l : Fin 128), j.val = 128 * h.val + l.val :=
    ⟨⟨j.val / 128, by have := j.isLt; omega⟩, ⟨j.val % 128, Nat.mod_lt _ (by decide)⟩, by show j.val = 128 * (j.val / 128) + j.val % 128; omega⟩
  have eh : (⟨j.val / 128, by have := j.isLt; omega⟩ : Fin 2) = h := Fin.ext (by show j.val / 128 = h.val; have := l.isLt; omega)
  have el : (⟨j.val % 128, Nat.mod_lt _ (by decide)⟩ : Fin 128) = l := Fin.ext (by show j.val % 128 = l.val; have := l.isLt; omega)
  show _ = W s ⟨j.val / 128, _⟩ (ix3 0 p ⟨j.val % 128, _⟩)
  rw [eh, el]
  have miss : ∀ (k : Fin 5) (g : Fin 2) (hk) (w : Vec F S1x128x128 e) (L : List (View.Piece (Elt F) S5x128x256 e)), (k ≠ s ∨ g ≠ h) →
      v.read (Elt F) (v.writes (Elt F) f (⟨Rect.unit ![k.val, 0, 128 * g.val] ![1, 128, 128] hk, w⟩ :: L)) (ix3 s p j) = v.read (Elt F) (v.writes (Elt F) f L) (ix3 s p j) :=
    fun k g hk w L hne => by
      rcases hne with hne | hne
      · exact View.read_writes_cons_unit_of_not_mem v f hk w L _ rfl 0 (by
          show s.val < k.val ∨ k.val + 1 ≤ s.val
          have := Fin.val_ne_of_ne hne; omega)
      · exact View.read_writes_cons_unit_of_not_mem v f hk w L _ rfl 2 (by
          show j.val < 128 * g.val ∨ 128 * g.val + 128 ≤ j.val
          have := Fin.val_ne_of_ne hne; have := l.isLt; omega)
  have hit : ∀ (hk) (w : Vec F S1x128x128 e) (L : List (View.Piece (Elt F) S5x128x256 e)),
      v.read (Elt F) (v.writes (Elt F) f (⟨Rect.unit ![s.val, 0, 128 * h.val] ![1, 128, 128] hk, w⟩ :: L)) (ix3 s p j) = w (ix3 0 p l) :=
    fun hk w L => View.read_writes_cons_unit_of_mem v f hk w L _ (ix3 0 p l) rfl (fun ax => by
      fin_cases ax
      · show s.val = s.val + 0; rfl
      · show p.val = 0 + p.val; omega
      · exact hj)
  by_cases e : s = 4 ∧ h = 1
  · obtain ⟨rfl, rfl⟩ := e; exact hit _ _ _
  refine (miss 4 1 _ _ _ (by omega)).trans ?_
  by_cases e : s = 4 ∧ h = 0
  · obtain ⟨rfl, rfl⟩ := e; exact hit _ _ _
  refine (miss 4 0 _ _ _ (by omega)).trans ?_
  by_cases e : s = 3 ∧ h = 1
  · obtain ⟨rfl, rfl⟩ := e; exact hit _ _ _
  refine (miss 3 1 _ _ _ (by omega)).trans ?_
  by_cases e : s = 3 ∧ h = 0
  · obtain ⟨rfl, rfl⟩ := e; exact hit _ _ _
  refine (miss 3 0 _ _ _ (by omega)).trans ?_
  by_cases e : s = 2 ∧ h = 1
  · obtain ⟨rfl, rfl⟩ := e; exact hit _ _ _
  refine (miss 2 1 _ _ _ (by omega)).trans ?_
  by_cases e : s = 2 ∧ h = 0
  · obtain ⟨rfl, rfl⟩ := e; exact hit _ _ _
  refine (miss 2 0 _ _ _ (by omega)).trans ?_
  by_cases e : s = 1 ∧ h = 1
  · obtain ⟨rfl, rfl⟩ := e; exact hit _ _ _
  refine (miss 1 1 _ _ _ (by omega)).trans ?_
  by_cases e : s = 1 ∧ h = 0
  · obtain ⟨rfl, rfl⟩ := e; exact hit _ _ _
  refine (miss 1 0 _ _ _ (by omega)).trans ?_
  by_cases e : s = 0 ∧ h = 1
  · obtain ⟨rfl, rfl⟩ := e; exact hit _ _ _
  refine (miss 0 1 _ _ _ (by omega)).trans ?_
  obtain rfl : s = 0 := by omega
  obtain rfl : h = 0 := by omega
  exact hit _ _ _

/-- The five streams of a tile: the value, the two tangents, the time derivative, the Laplacian stream, over the input blocks. -/
def tile (x0 : Vec F S5x128x4096 .fp8e4m3) (x1 : Vec F S5x128x1 .f32) (x2 : Vec F S4096x256 .fp8e4m3) (x3 x4 : Vec F S1x256 .f32) : Fin 5 → Vec F S128x256 .f32
  | 0 => k0_pay61 (k0_pay56 x0 x2 (slabOf x1 0) x3) x4
  | 1 => k0_pay63 (k0_pay56 x0 x2 (slabOf x1 0) x3) (k0_pay57 x0 x2 (slabOf x1 1) x3) x4
  | 2 => k0_pay64 (k0_pay56 x0 x2 (slabOf x1 0) x3) (k0_pay58 x0 x2 (slabOf x1 2) x3) x4
  | 3 => k0_pay65 (k0_pay56 x0 x2 (slabOf x1 0) x3) (k0_pay59 x0 x2 (slabOf x1 3)) x3 x4
  | 4 => k0_pay66 (k0_pay55 x0 x2) (k0_pay56 x0 x2 (slabOf x1 0) x3) (k0_pay57 x0 x2 (slabOf x1 1) x3) (k0_pay58 x0 x2 (slabOf x1 2) x3)
      (k0_pay59 x0 x2 (slabOf x1 3)) x3 (slabOf x1 4) x3 x4

/-- What is kept of a tile, and how it enters the row maxima; alike in the five streams. -/
def stSlab (t : Vec F S128x256 .f32) : Vec F S1x128x256 .f32 := k0_pay70 t
def amaxSlab (n : BitVec 32) (t : Vec F S128x256 .f32) (x : Vec F S1x128x128 .f32) : Vec F S1x128x128 .f32 := k0_pay71 n t x
theorem st0 (a : Vec F S128x256 .f32) (b : Vec F S1x256 .f32) : k0_pay67 a b = stSlab (k0_pay61 a b) := rfl
theorem st1 (t : Vec F S128x256 .f32) : k0_pay70 t = stSlab t := rfl
theorem st2 (t : Vec F S128x256 .f32) : k0_pay72 t = stSlab t := rfl
theorem st3 (t : Vec F S128x256 .f32) : k0_pay75 t = stSlab t := rfl
theorem st4 (t : Vec F S128x256 .f32) : k0_pay77 t = stSlab t := rfl
theorem am0 (n : BitVec 32) (t : Vec F S128x256 .f32) (x : Vec F S1x128x128 .f32) : k0_pay69 t (Scalar.cmpi .eq n 0#32) (k0_pay68 x) = amaxSlab n t x := rfl
theorem am1 (n : BitVec 32) (t : Vec F S128x256 .f32) (x : Vec F S1x128x128 .f32) : k0_pay71 n t x = amaxSlab n t x := rfl
theorem am2 (n : BitVec 32) (t : Vec F S128x256 .f32) (x : Vec F S1x128x128 .f32) : k0_pay74 t (Scalar.cmpi .eq n 0#32) (k0_pay73 x) = amaxSlab n t x := rfl
theorem am3 (n : BitVec 32) (t : Vec F S128x256 .f32) (x : Vec F S1x128x128 .f32) : k0_pay76 n t x = amaxSlab n t x := rfl
theorem am4 (n : BitVec 32) (t : Vec F S128x256 .f32) (x : Vec F S1x128x128 .f32) : k0_pay3 t (Scalar.cmpi .eq n 0#32) (k0_pay78 x) = amaxSlab n t x := rfl

/-- The row maxima after a tile `T` of column `n`, over those found. -/
def amaxNext (n : BitVec 32) (T : Fin 5 → Vec F S128x256 .f32) (xa : Vec F S5x128x128 .f32) : Vec F S5x128x128 .f32 :=
  fun y => amaxSlab n (T (y 0)) (slabOf xa (y 0)) (ix3 0 (y 1) (y 2))

/-- The kept streams after a tile `T` of column `n`, over those found. -/
def stNext (n : ℕ) (T : Fin 5 → Vec F S128x256 .f32) (xs : Vec F S5x128x11008 .f32) : Vec F S5x128x11008 .f32 := fun y =>
  if h : 256 * n ≤ (y 2).val ∧ (y 2).val < 256 * n + 256 then stSlab (T (y 0)) (ix3 0 (y 1) ⟨(y 2).val - 256 * n, by omega⟩) else xs y

/-- Five stores of one tile each into a buffer holding `xs`. -/
theorem slabsSt {κ : Kind} {sp : Space} {e : EltTy} (v : Memref sig κ sp S5x128x11008 e) (hv : v.IsWhole) (xs : Vec F S5x128x11008 e) (n : ℕ)
    (W : Fin 5 → Vec F S1x128x256 e) (o4 o3 o2 o1 o0 : Fin 3 → ℕ) (e4 : o4 = ![4, 0, 256 * n]) (e3 : o3 = ![3, 0, 256 * n]) (e2 : o2 = ![2, 0, 256 * n])
    (e1 : o1 = ![1, 0, 256 * n]) (e0 : o0 = ![0, 0, 256 * n]) (h4 h3 h2 h1 h0) :
    v.view.read (Elt F) (v.view.writes (Elt F) (hv.unread xs) [⟨Rect.unit o4 ![1, 128, 256] h4, W 4⟩, ⟨Rect.unit o3 ![1, 128, 256] h3, W 3⟩,
      ⟨Rect.unit o2 ![1, 128, 256] h2, W 2⟩, ⟨Rect.unit o1 ![1, 128, 256] h1, W 1⟩, ⟨Rect.unit o0 ![1, 128, 256] h0, W 0⟩])
      = fun y => if h : 256 * n ≤ (y 2).val ∧ (y 2).val < 256 * n + 256 then W (y 0) (ix3 0 (y 1) ⟨(y 2).val - 256 * n, by omega⟩) else xs y := by
  subst e4 e3 e2 e1 e0
  funext y
  obtain ⟨s, p, j, rfl⟩ : ∃ (s : Fin 5) (p : Fin 128) (j : Fin 11008), y = ix3 s p j := ⟨y 0, y 1, y 2, funext fun k => by fin_cases k <;> rfl⟩
  have miss : ∀ (k : Fin 5) (hk) (w : Vec F S1x128x256 e) (L : List (View.Piece (Elt F) S5x128x11008 e)), k ≠ s →
      v.view.read (Elt F) (v.view.writes (Elt F) (hv.unread xs) (⟨Rect.unit ![k.val, 0, 256 * n] ![1, 128, 256] hk, w⟩ :: L)) (ix3 s p j) = v.view.read (Elt F) (v.view.writes (Elt F) (hv.unread xs) L) (ix3 s p j) :=
    fun k hk w L hne => View.read_writes_cons_unit_of_not_mem v.view _ hk w L _ rfl 0 (by
      show s.val < k.val ∨ k.val + 1 ≤ s.val
      have := Fin.val_ne_of_ne hne; omega)
  by_cases h : 256 * n ≤ j.val ∧ j.val < 256 * n + 256
  · show _ = dite (256 * n ≤ j.val ∧ j.val < 256 * n + 256) _ _
    refine Eq.trans ?_ (dif_pos h).symm
    have hit : ∀ (hk) (w : Vec F S1x128x256 e) (L : List (View.Piece (Elt F) S5x128x11008 e)),
        v.view.read (Elt F) (v.view.writes (Elt F) (hv.unread xs) (⟨Rect.unit ![s.val, 0, 256 * n] ![1, 128, 256] hk, w⟩ :: L)) (ix3 s p j) = w (ix3 0 p ⟨j.val - 256 * n, by omega⟩) :=
      fun hk w L => View.read_writes_cons_unit_of_mem v.view _ hk w L _ (ix3 0 p ⟨j.val - 256 * n, by omega⟩) rfl (fun ax => by
        fin_cases ax
        · show s.val = s.val + 0; rfl
        · show p.val = 0 + p.val; omega
        · show j.val = 256 * n + (j.val - 256 * n); omega)
    fin_cases s
    · exact (miss 4 _ _ _ (by decide)).trans ((miss 3 _ _ _ (by decide)).trans ((miss 2 _ _ _ (by decide)).trans ((miss 1 _ _ _ (by decide)).trans (hit _ _ _))))
    · exact (miss 4 _ _ _ (by decide)).trans ((miss 3 _ _ _ (by decide)).trans ((miss 2 _ _ _ (by decide)).trans (hit _ _ _)))
    · exact (miss 4 _ _ _ (by decide)).trans ((miss 3 _ _ _ (by decide)).trans (hit _ _ _))
    · exact (miss 4 _ _ _ (by decide)).trans (hit _ _ _)
    · exact hit _ _ _
  · show _ = dite (256 * n ≤ j.val ∧ j.val < 256 * n + 256) _ _
    refine Eq.trans ?_ (dif_neg h).symm
    have off : ∀ (k : Fin 5) (hk) (w : Vec F S1x128x256 e) (L : List (View.Piece (Elt F) S5x128x11008 e)),
        v.view.read (Elt F) (v.view.writes (Elt F) (hv.unread xs) (⟨Rect.unit ![k.val, 0, 256 * n] ![1, 128, 256] hk, w⟩ :: L)) (ix3 s p j) = v.view.read (Elt F) (v.view.writes (Elt F) (hv.unread xs) L) (ix3 s p j) :=
      fun k hk w L => View.read_writes_cons_unit_of_not_mem v.view _ hk w L _ rfl 2 (by
        show j.val < 256 * n ∨ 256 * n + 256 ≤ j.val
        omega)
    exact (off 4 _ _ _).trans ((off 3 _ _ _).trans ((off 2 _ _ _).trans ((off 1 _ _ _).trans ((off 0 _ _ _).trans (congrFun (hv.read_unread xs) _)))))

/-- A load of a whole buffer reads it. -/
theorem rdFull3 {κ : Kind} {sp : Space} {a b d : ℕ} {e : EltTy} (v : Memref sig κ sp ⟨3, ![a, b, d]⟩ e) (hv : v.IsWhole) (x : Vec F ⟨3, ![a, b, d]⟩ e) (h) :
    v.view.readAt (Elt F) (Rect.unit (s := ⟨3, ![a, b, d]⟩) ![0, 0, 0] ![a, b, d] h).toLoadRect (hv.unread x) = x := by
  funext z
  rw [View.readAt_apply, hv.read_unread]
  refine congrArg x (funext fun ax => Fin.ext ?_)
  fin_cases ax
  · show 0 + 1 * (z 0).val = (z 0).val; omega
  · show 0 + 1 * (z 1).val = (z 1).val; omega
  · show 0 + 1 * (z 2).val = (z 2).val; omega
theorem rdFull2 {κ : Kind} {sp : Space} {a b : ℕ} {e : EltTy} (v : Memref sig κ sp ⟨2, ![a, b]⟩ e) (hv : v.IsWhole) (x : Vec F ⟨2, ![a, b]⟩ e) (h) :
    v.view.readAt (Elt F) (Rect.unit (s := ⟨2, ![a, b]⟩) ![0, 0] ![a, b] h).toLoadRect (hv.unread x) = x := by
  funext z
  rw [View.readAt_apply, hv.read_unread]
  refine congrArg x (funext fun ax => Fin.ext ?_)
  fin_cases ax
  · show 0 + 1 * (z 0).val = (z 0).val; omega
  · show 0 + 1 * (z 1).val = (z 1).val; omega

end Values

section Runs

variable (c : Dev nD) (i : grid0.Coords)
  (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)

set_option maxHeartbeats 1000000 in
/-- The first block leaves the scales and inverse scales of the row maxima it finds. -/
theorem run1 (E : Set ℕ) (K : PUnit → sProp 𝕄) (xa : Vec F S5x128x128 .f32) :
    iprop(owns (c : Thread nD τ) arg10 fullShare xa ∗ (∃ d, owns (c : Thread nD τ) arg8 fullShare d) ∗ (∃ d, owns (c : Thread nD τ) arg11 fullShare d)
        ∗ (iprop(owns (c : Thread nD τ) arg10 fullShare xa ∗ owns (c : Thread nD τ) arg8 fullShare (scaleAll xa) ∗ owns (c : Thread nD τ) arg11 fullShare (invAll xa)) -∗ K ⟨⟩))
      ⊢ wp frame (wpE (defs₀ (F := F)) Variants.none c none) E (block1 i arg2 harg2 arg3 harg3 arg4 harg4 arg5 harg5 arg6 harg6 arg7 harg7 arg8 harg8 arg9 harg9 arg10 harg10 arg11 harg11) K := by
  unfold block1
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold owns
  iintro ⟨⟨%fa, %hfa, HA⟩, ⟨%d8, %f8, -, H8⟩, ⟨%d11, %f11, -, H11⟩, Hk⟩
  obtain rfl := harg10.eq_unread hfa
  sl_exec
  sl_step
  iapply Hk
  isplitl [HA]
  · iexists _; isplitr; swap; · iexact HA
    ipureintro; exact harg10.read_unread _
  isplitl [H8]
  · iexists _; isplitr; swap; · iexact H8
    ipureintro
    (try delta run1.sl.r_24); (try delta run1.sl.r_23); (try delta run1.sl.r_22); (try delta run1.sl.r_21); (try delta run1.sl.r_20); (try delta run1.sl.r_19); (try delta run1.sl.r_18); (try delta run1.sl.r_17); (try delta run1.sl.r_16); (try delta run1.sl.r_15); (try delta run1.sl.r_14); (try delta run1.sl.r_13)
    (try delta run1.sl.r_12); (try delta run1.sl.r_11); (try delta run1.sl.r_10); (try delta run1.sl.r_9); (try delta run1.sl.r_8); (try delta run1.sl.r_7); (try delta run1.sl.r_6); (try delta run1.sl.r_5); (try delta run1.sl.r_4); (try delta run1.sl.r_3); (try delta run1.sl.r_2); (try delta run1.sl.r_1); (try delta run1.sl.r)
    beta_reduce
    simp only [scale0, scale1, scale2, scale3, scale4]
    refine (slabs5 arg8.view f8 (fun s => scaleSlab (rdSlab arg10 harg10 xa s)) _ _ _ _ _).trans ?_
    funext y
    exact congrArg (fun w => scaleSlab w (ix3 0 (y 1) (y 2))) (rdSlab_eq arg10 harg10 xa (y 0))
  · iexists _; isplitr; swap; · iexact H11
    ipureintro
    (try delta run1.sl.r_24); (try delta run1.sl.r_23); (try delta run1.sl.r_22); (try delta run1.sl.r_21); (try delta run1.sl.r_20); (try delta run1.sl.r_19); (try delta run1.sl.r_18); (try delta run1.sl.r_17); (try delta run1.sl.r_16); (try delta run1.sl.r_15); (try delta run1.sl.r_14); (try delta run1.sl.r_13)
    (try delta run1.sl.r_12); (try delta run1.sl.r_11); (try delta run1.sl.r_10); (try delta run1.sl.r_9); (try delta run1.sl.r_8); (try delta run1.sl.r_7); (try delta run1.sl.r_6); (try delta run1.sl.r_5); (try delta run1.sl.r_4); (try delta run1.sl.r_3); (try delta run1.sl.r_2); (try delta run1.sl.r_1); (try delta run1.sl.r)
    beta_reduce
    simp only [inv0, inv1, inv2, inv3, inv4]
    refine (slabs5 arg11.view f11 (fun s => invSlab (rdSlab arg10 harg10 xa s)) _ _ _ _ _).trans ?_
    funext y
    exact congrArg (fun w => invSlab w (ix3 0 (y 1) (y 2))) (rdSlab_eq arg10 harg10 xa (y 0))

set_option maxHeartbeats 1000000 in
/-- The second block leaves the codes of the tile it reads out of the kept streams. -/
theorem run2 (h2 : k0_cond2 i = 1#1) (E : Set ℕ) (K : PUnit → sProp 𝕄) (xs : Vec F S5x128x11008 .f32) (xi : Vec F S5x128x128 .f32) :
    iprop(owns (c : Thread nD τ) arg9 fullShare xs ∗ owns (c : Thread nD τ) arg11 fullShare xi ∗ (∃ d, owns (c : Thread nD τ) arg7 fullShare d)
        ∗ (iprop(owns (c : Thread nD τ) arg9 fullShare xs ∗ owns (c : Thread nD τ) arg11 fullShare xi ∗ owns (c : Thread nD τ) arg7 fullShare (codesAll (i 1).val xs xi)) -∗ K ⟨⟩))
      ⊢ wp frame (wpE (defs₀ (F := F)) Variants.none c none) E (block2 i arg2 harg2 arg3 harg3 arg4 harg4 arg5 harg5 arg6 harg6 arg7 harg7 arg8 harg8 arg9 harg9 arg10 harg10 arg11 harg11 h2) K := by
  unfold block2
  simp only [k0_part11_eq_skeleton, k0_part12_eq_skeleton, k0_part13_eq_skeleton, k0_part14_eq_skeleton, k0_part15_eq_skeleton]
  unfold owns
  iintro ⟨⟨%f9, %hf9, H9⟩, ⟨%f11, %hf11, H11⟩, ⟨%d7, %f7, -, H7⟩, Hk⟩
  obtain rfl := harg9.eq_unread hf9
  obtain rfl := harg11.eq_unread hf11
  sl_exec (disch := sl_exact h2)
  sl_step
  iapply Hk
  isplitl [H9]
  · iexists _; isplitr; swap; · iexact H9
    ipureintro; exact harg9.read_unread _
  isplitl [H11]
  · iexists _; isplitr; swap; · iexact H11
    ipureintro; exact harg11.read_unread _
  · iexists _; isplitr; swap; · iexact H7
    ipureintro
    have p0 : arg11.view.readAt (Elt F) (Rect.unit (s := S5x128x128) ![0, 0, 0] S1x128x128.size inb_S5x128x128_S1x128x128_0_0_0).toLoadRect (harg11.unread xi) = slabOf xi 0 := rdSlab_eq arg11 harg11 xi 0
    have p1 : arg11.view.readAt (Elt F) (Rect.unit (s := S5x128x128) ![1, 0, 0] S1x128x128.size inb_S5x128x128_S1x128x128_1_0_0).toLoadRect (harg11.unread xi) = slabOf xi 1 := rdSlab_eq arg11 harg11 xi 1
    have p2 : arg11.view.readAt (Elt F) (Rect.unit (s := S5x128x128) ![2, 0, 0] S1x128x128.size inb_S5x128x128_S1x128x128_2_0_0).toLoadRect (harg11.unread xi) = slabOf xi 2 := rdSlab_eq arg11 harg11 xi 2
    have p3 : arg11.view.readAt (Elt F) (Rect.unit (s := S5x128x128) ![3, 0, 0] S1x128x128.size inb_S5x128x128_S1x128x128_3_0_0).toLoadRect (harg11.unread xi) = slabOf xi 3 := rdSlab_eq arg11 harg11 xi 3
    have p4 : arg11.view.readAt (Elt F) (Rect.unit (s := S5x128x128) ![4, 0, 0] S1x128x128.size inb_S5x128x128_S1x128x128_4_0_0).toLoadRect (harg11.unread xi) = slabOf xi 4 := rdSlab_eq arg11 harg11 xi 4
    have q00 := rdSt arg9 harg9 xs (i 1).val 0 0 (k0_off1 i 0#32) (k0_off1_eq i 0) (k0_off1_inb i h2 0)
    have q01 := rdSt arg9 harg9 xs (i 1).val 0 1 (k0_off1 i 128#32) (k0_off1_eq i 1) (k0_off1_inb i h2 1)
    have q10 := rdSt arg9 harg9 xs (i 1).val 1 0 (k0_off2 i 0#32) (k0_off2_eq i 0) (k0_off2_inb i h2 0)
    have q11 := rdSt arg9 harg9 xs (i 1).val 1 1 (k0_off2 i 128#32) (k0_off2_eq i 1) (k0_off2_inb i h2 1)
    have q20 := rdSt arg9 harg9 xs (i 1).val 2 0 (k0_off3 i 0#32) (k0_off3_eq i 0) (k0_off3_inb i h2 0)
    have q21 := rdSt arg9 harg9 xs (i 1).val 2 1 (k0_off3 i 128#32) (k0_off3_eq i 1) (k0_off3_inb i h2 1)
    have q30 := rdSt arg9 harg9 xs (i 1).val 3 0 (k0_off4 i 0#32) (k0_off4_eq i 0) (k0_off4_inb i h2 0)
    have q31 := rdSt arg9 harg9 xs (i 1).val 3 1 (k0_off4 i 128#32) (k0_off4_eq i 1) (k0_off4_inb i h2 1)
    have q40 := rdSt arg9 harg9 xs (i 1).val 4 0 (k0_off5 i 0#32) (k0_off5_eq i 0) (k0_off5_inb i h2 0)
    have q41 := rdSt arg9 harg9 xs (i 1).val 4 1 (k0_off5 i 128#32) (k0_off5_eq i 1) (k0_off5_inb i h2 1)
    simp only [p0, p1, p2, p3, p4, q00, q01, q10, q11, q20, q21, q30, q31, q40, q41, code0, code1, code2, code3, code4, code5, code6, code7, code8, code9]
    exact slabs10 arg7.view f7 (fun s g => codeSlab (stTile (i 1).val xs s g) (slabOf xi s)) _ _ _ _ _ _ _ _ _ _

set_option maxHeartbeats 1000000 in
/-- The third block keeps the tile it computes from the input blocks, and takes it into the row maxima. -/
theorem run3 (h3 : k0_cond3 i = 1#1) (E : Set ℕ) (K : PUnit → sProp 𝕄) (x0 : Vec F S5x128x4096 .fp8e4m3) (x1 : Vec F S5x128x1 .f32) (x2 : Vec F S4096x256 .fp8e4m3)
    (x3 x4 : Vec F S1x256 .f32) (xs : Vec F S5x128x11008 .f32) (xa : Vec F S5x128x128 .f32) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare xs ∗ owns (c : Thread nD τ) arg10 fullShare xa
        ∗ (iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare (stNext (i 1).val (tile x0 x1 x2 x3 x4) xs)
            ∗ owns (c : Thread nD τ) arg10 fullShare (amaxNext (BitVec.ofNat 32 (i 1).val) (tile x0 x1 x2 x3 x4) xa)) -∗ K ⟨⟩))
      ⊢ wp frame (wpE (defs₀ (F := F)) Variants.none c none) E (block3 i arg2 harg2 arg3 harg3 arg4 harg4 arg5 harg5 arg6 harg6 arg7 harg7 arg8 harg8 arg9 harg9 arg10 harg10 arg11 harg11 h3) K := by
  unfold block3
  simp only [k0_part16_eq_skeleton, k0_part17_eq_skeleton, k0_part18_eq_skeleton, k0_part19_eq_skeleton]
  unfold owns
  iintro ⟨⟨⟨%f0, %hf0, H0⟩, ⟨%f1, %hf1, H1⟩, ⟨%f2, %hf2, H2⟩, ⟨%f3, %hf3, H3⟩, ⟨%f4, %hf4, H4⟩⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hf9
  obtain rfl := harg10.eq_unread hf10
  sl_exec (disch := sl_exact h3)
  sl_step
  iapply Hk
  isplitl [H0 H1 H2 H3 H4]
  · isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    iexists _; isplitr; swap; · iexact H4
    ipureintro; exact harg6.read_unread _
  isplitl [H9]
  · iexists _; isplitr; swap; · iexact H9
    ipureintro
    (try delta run3.sl.r_12); (try delta run3.sl.r_11); (try delta run3.sl.r_10); (try delta run3.sl.r_9); (try delta run3.sl.r_8); (try delta run3.sl.r_7)
    (try delta run3.sl.r_6); (try delta run3.sl.r_5); (try delta run3.sl.r_4); (try delta run3.sl.r_3); (try delta run3.sl.r_2); (try delta run3.sl.r_1)
    (try delta run3.sl.r); (try delta run3.sl.v143); (try delta run3.sl.v107); (try delta run3.sl.v161); (try delta run3.sl.v125); (try delta run3.sl.v89); (try delta run3.sl.v88)
    beta_reduce
    have w0 : arg2.view.readAt (Elt F) (Rect.unit (s := S5x128x4096) ![0, 0, 0] S5x128x4096.size inb_S5x128x4096_S5x128x4096_0_0_0).toLoadRect (harg2.unread x0) = x0 := rdFull3 arg2 harg2 x0 _
    have w2 : arg4.view.readAt (Elt F) (Rect.unit (s := S4096x256) ![0, 0] S4096x256.size inb_S4096x256_S4096x256_0_0).toLoadRect (harg4.unread x2) = x2 := rdFull2 arg4 harg4 x2 _
    have w3 : arg5.view.readAt (Elt F) (Rect.unit (s := S1x256) ![0, 0] S1x256.size inb_S1x256_S1x256_0_0).toLoadRect (harg5.unread x3) = x3 := rdFull2 arg5 harg5 x3 _
    have w4 : arg6.view.readAt (Elt F) (Rect.unit (s := S1x256) ![0, 0] S1x256.size inb_S1x256_S1x256_0_0).toLoadRect (harg6.unread x4) = x4 := rdFull2 arg6 harg6 x4 _
    have p0 : arg3.view.readAt (Elt F) (Rect.unit (s := S5x128x1) ![0, 0, 0] S1x128x1.size inb_S5x128x1_S1x128x1_0_0_0).toLoadRect (harg3.unread x1) = slabOf x1 0 := rdSlab_eq arg3 harg3 x1 0
    have p1 : arg3.view.readAt (Elt F) (Rect.unit (s := S5x128x1) ![1, 0, 0] S1x128x1.size inb_S5x128x1_S1x128x1_1_0_0).toLoadRect (harg3.unread x1) = slabOf x1 1 := rdSlab_eq arg3 harg3 x1 1
    have p2 : arg3.view.readAt (Elt F) (Rect.unit (s := S5x128x1) ![2, 0, 0] S1x128x1.size inb_S5x128x1_S1x128x1_2_0_0).toLoadRect (harg3.unread x1) = slabOf x1 2 := rdSlab_eq arg3 harg3 x1 2
    have p3 : arg3.view.readAt (Elt F) (Rect.unit (s := S5x128x1) ![3, 0, 0] S1x128x1.size inb_S5x128x1_S1x128x1_3_0_0).toLoadRect (harg3.unread x1) = slabOf x1 3 := rdSlab_eq arg3 harg3 x1 3
    have p4 : arg3.view.readAt (Elt F) (Rect.unit (s := S5x128x1) ![4, 0, 0] S1x128x1.size inb_S5x128x1_S1x128x1_4_0_0).toLoadRect (harg3.unread x1) = slabOf x1 4 := rdSlab_eq arg3 harg3 x1 4
    simp only [w0, w2, w3, w4, p0, p1, p2, p3, p4, st0, st1, st2, st3, st4]
    exact slabsSt arg9 harg9 xs (i 1).val (fun s => stSlab (tile x0 x1 x2 x3 x4 s)) _ _ _ _ _ (k0_off10_eq i) (k0_off9_eq i) (k0_off8_eq i) (k0_off7_eq i) (k0_off6_eq i) _ _ _ _ _
  · iexists _; isplitr; swap; · iexact H10
    ipureintro
    (try delta run3.sl.r_12); (try delta run3.sl.r_11); (try delta run3.sl.r_10); (try delta run3.sl.r_9); (try delta run3.sl.r_8); (try delta run3.sl.r_7)
    (try delta run3.sl.r_6); (try delta run3.sl.r_5); (try delta run3.sl.r_4); (try delta run3.sl.r_3); (try delta run3.sl.r_2); (try delta run3.sl.r_1)
    (try delta run3.sl.r); (try delta run3.sl.v143); (try delta run3.sl.v107); (try delta run3.sl.v161); (try delta run3.sl.v125); (try delta run3.sl.v89); (try delta run3.sl.v88)
    beta_reduce
    have w0 : arg2.view.readAt (Elt F) (Rect.unit (s := S5x128x4096) ![0, 0, 0] S5x128x4096.size inb_S5x128x4096_S5x128x4096_0_0_0).toLoadRect (harg2.unread x0) = x0 := rdFull3 arg2 harg2 x0 _
    have w2 : arg4.view.readAt (Elt F) (Rect.unit (s := S4096x256) ![0, 0] S4096x256.size inb_S4096x256_S4096x256_0_0).toLoadRect (harg4.unread x2) = x2 := rdFull2 arg4 harg4 x2 _
    have w3 : arg5.view.readAt (Elt F) (Rect.unit (s := S1x256) ![0, 0] S1x256.size inb_S1x256_S1x256_0_0).toLoadRect (harg5.unread x3) = x3 := rdFull2 arg5 harg5 x3 _
    have w4 : arg6.view.readAt (Elt F) (Rect.unit (s := S1x256) ![0, 0] S1x256.size inb_S1x256_S1x256_0_0).toLoadRect (harg6.unread x4) = x4 := rdFull2 arg6 harg6 x4 _
    have p0 : arg3.view.readAt (Elt F) (Rect.unit (s := S5x128x1) ![0, 0, 0] S1x128x1.size inb_S5x128x1_S1x128x1_0_0_0).toLoadRect (harg3.unread x1) = slabOf x1 0 := rdSlab_eq arg3 harg3 x1 0
    have p1 : arg3.view.readAt (Elt F) (Rect.unit (s := S5x128x1) ![1, 0, 0] S1x128x1.size inb_S5x128x1_S1x128x1_1_0_0).toLoadRect (harg3.unread x1) = slabOf x1 1 := rdSlab_eq arg3 harg3 x1 1
    have p2 : arg3.view.readAt (Elt F) (Rect.unit (s := S5x128x1) ![2, 0, 0] S1x128x1.size inb_S5x128x1_S1x128x1_2_0_0).toLoadRect (harg3.unread x1) = slabOf x1 2 := rdSlab_eq arg3 harg3 x1 2
    have p3 : arg3.view.readAt (Elt F) (Rect.unit (s := S5x128x1) ![3, 0, 0] S1x128x1.size inb_S5x128x1_S1x128x1_3_0_0).toLoadRect (harg3.unread x1) = slabOf x1 3 := rdSlab_eq arg3 harg3 x1 3
    have p4 : arg3.view.readAt (Elt F) (Rect.unit (s := S5x128x1) ![4, 0, 0] S1x128x1.size inb_S5x128x1_S1x128x1_4_0_0).toLoadRect (harg3.unread x1) = slabOf x1 4 := rdSlab_eq arg3 harg3 x1 4
    have a0 : arg10.view.readAt (Elt F) (Rect.unit (s := S5x128x128) ![0, 0, 0] S1x128x128.size inb_S5x128x128_S1x128x128_0_0_0).toLoadRect (harg10.unread xa) = slabOf xa 0 := rdSlab_eq arg10 harg10 xa 0
    have a1 : arg10.view.readAt (Elt F) (Rect.unit (s := S5x128x128) ![1, 0, 0] S1x128x128.size inb_S5x128x128_S1x128x128_1_0_0).toLoadRect (harg10.unread xa) = slabOf xa 1 := rdSlab_eq arg10 harg10 xa 1
    have a2 : arg10.view.readAt (Elt F) (Rect.unit (s := S5x128x128) ![2, 0, 0] S1x128x128.size inb_S5x128x128_S1x128x128_2_0_0).toLoadRect (harg10.unread xa) = slabOf xa 2 := rdSlab_eq arg10 harg10 xa 2
    have a3 : arg10.view.readAt (Elt F) (Rect.unit (s := S5x128x128) ![3, 0, 0] S1x128x128.size inb_S5x128x128_S1x128x128_3_0_0).toLoadRect (harg10.unread xa) = slabOf xa 3 := rdSlab_eq arg10 harg10 xa 3
    have a4 : arg10.view.readAt (Elt F) (Rect.unit (s := S5x128x128) ![4, 0, 0] S1x128x128.size inb_S5x128x128_S1x128x128_4_0_0).toLoadRect (harg10.unread xa) = slabOf xa 4 := rdSlab_eq arg10 harg10 xa 4
    simp only [w0, w2, w3, w4, p0, p1, p2, p3, p4, a0, a1, a2, a3, a4, am0, am1, am2, am3, am4]
    exact slabs5 arg10.view _ (fun s => amaxSlab (BitVec.ofNat 32 (i 1).val) (tile x0 x1 x2 x3 x4 s) (slabOf xa s)) _ _ _ _ _

end Runs

end Cert.Layer1Ideal.Hand

end
-- ==== Proof.Layer1IdealFrame.lean ====
module

public import proofs.«01_k».proof.Proof.Layer1IdealRun
public import Idealize.ShloMosaic.Lib.Pipeline.TableIdle

/-! The program `layer1` runs to the end and leaves its arguments as they were: what the kept streams, the row maxima and the inverse
scales hold before each grid point, what each point leaves in the result blocks, and the run of the whole grid. -/

@[expose] public section

set_option maxRecDepth 16384

noncomputable section

namespace Cert.Layer1Ideal.Hand

open Cert.Layer1Ideal Cert.Layer1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

/-- Point `t` is column tile `t % 43` of row block `t / 43`; the last row block only finishes the one before it. -/
theorem cond1_iff : ∀ t : Fin cfg0.N, k0_cond1 (grid0.coords t) = 1#1 ↔ 43 ≤ t.val ∧ t.val % 43 = 0 := by decide +kernel
theorem cond2_iff : ∀ t : Fin cfg0.N, k0_cond2 (grid0.coords t) = 1#1 ↔ 43 ≤ t.val := by decide +kernel
theorem cond3_iff : ∀ t : Fin cfg0.N, k0_cond3 (grid0.coords t) = 1#1 ↔ t.val < 1376 := by decide +kernel
theorem col_val : ∀ t : Fin cfg0.N, (grid0.coords t 1).val = t.val % 43 := by decide +kernel
/-- After a row block's scales are stored, their buffer is not fresh until the next row block. -/
theorem fresh6 : ∀ t : Fin cfg0.N, 43 ≤ t.val → t.val % 43 ≠ 0 → cfg0.fresh 6 t.val = false := by decide +kernel
theorem noFlush5 : ∀ t : Fin cfg0.N, t.val < 43 → (cfg0.win 5).flush t = false := by decide +kernel
theorem noFlush6 : ∀ t : Fin cfg0.N, t.val < 43 → (cfg0.win 6).flush t = false := by decide +kernel
theorem idle6_late : ∀ t : Fin cfg0.N, cfg0.idle 6 (grid0.coords t) = true → cfg0.fresh 6 t.val = false → 43 ≤ t.val ∧ t.val % 43 ≠ 0 := by decide +kernel

theorem idle5 (t : Fin cfg0.N) (h : t.val < 43) : cfg0.idle 5 (grid0.coords t) = true := by
  show (!(k0_cond2 (grid0.coords t) == 1#1)) = true
  rw [Bool.not_eq_true', beq_eq_false_iff_ne, ne_eq, cond2_iff]; omega
theorem live5 (t : Fin cfg0.N) (h : 43 ≤ t.val) : cfg0.idle 5 (grid0.coords t) = false := by
  show (!(k0_cond2 (grid0.coords t) == 1#1)) = false
  rw [Bool.not_eq_false', beq_iff_eq, cond2_iff]; exact h
theorem idle6 (t : Fin cfg0.N) (h : ¬(43 ≤ t.val ∧ t.val % 43 = 0)) : cfg0.idle 6 (grid0.coords t) = true := by
  show (!(k0_cond1 (grid0.coords t) == 1#1)) = true
  rw [Bool.not_eq_true', beq_eq_false_iff_ne, ne_eq, cond1_iff]; exact h
theorem live6 (t : Fin cfg0.N) (h : 43 ≤ t.val ∧ t.val % 43 = 0) : cfg0.idle 6 (grid0.coords t) = false := by
  show (!(k0_cond1 (grid0.coords t) == 1#1)) = false
  rw [Bool.not_eq_false', beq_iff_eq, cond1_iff]; exact h

/-! ## The buffers -/

/-- The staging buffer of each window at a point, and that it is a whole buffer. -/
abbrev ms0 (t : Fin cfg0.N) : Memref sig .tc .vmem S5x128x4096 .fp8e4m3 := win0_0.stage (cfg0.slots t 0)
abbrev ms1 (t : Fin cfg0.N) : Memref sig .tc .vmem S5x128x1 .f32 := win0_1.stage (cfg0.slots t 1)
abbrev ms2 (t : Fin cfg0.N) : Memref sig .tc .vmem S4096x256 .fp8e4m3 := win0_2.stage (cfg0.slots t 2)
abbrev ms3 (t : Fin cfg0.N) : Memref sig .tc .vmem S1x256 .f32 := win0_3.stage (cfg0.slots t 3)
abbrev ms4 (t : Fin cfg0.N) : Memref sig .tc .vmem S1x256 .f32 := win0_4.stage (cfg0.slots t 4)
abbrev ms5 (t : Fin cfg0.N) : Memref sig .tc .vmem S5x128x256 .fp8e4m3 := win0_5.stage (cfg0.slots t 5)
abbrev ms6 (t : Fin cfg0.N) : Memref sig .tc .vmem S5x128x1 .f32 := win0_6.stage (cfg0.slots t 6)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)

/-- The kept streams of a row block, their row maxima, and the inverse scales: scratch buffers carried from point to point. -/
abbrev scS : Memref sig .tc .vmem S5x128x11008 .f32 := Memref.whole cc0_scratch0
abbrev scA : Memref sig .tc .vmem S5x128x128 .f32 := Memref.whole cc0_scratch1
abbrev scI : Memref sig .tc .vmem S5x128x128 .f32 := Memref.whole cc0_scratch2

/-- What the pipeline hands the first point besides the windows: the three scratch buffers and the generator register at anything. -/
theorem PhiA_eq (c : Dev nD) :
    (Pipeline.ΦA spec0 c : sProp 𝕄)
      = iprop(iprop((∃ d, owns (c : Thread nD τ) scS fullShare d) ∗ (∃ d, owns (c : Thread nD τ) scA fullShare d) ∗ (∃ d, owns (c : Thread nD τ) scI fullShare d)) ∗ (∃ r, prngReg c r)) := by
  unfold Pipeline.ΦA; rw [scopedRest0_eq]; simp only [scS, scA, scI, owns_whole]; try rfl

/-! ## The body, whole -/

section Body0

variable (c : Dev nD) (i : grid0.Coords)
  (arg2 : Memref sig .tc .vmem S5x128x4096 .fp8e4m3) (harg2 : arg2.IsWhole) (arg3 : Memref sig .tc .vmem S5x128x1 .f32) (harg3 : arg3.IsWhole)
  (arg4 : Memref sig .tc .vmem S4096x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5x128x256 .fp8e4m3) (harg7 : arg7.IsWhole)
  (arg8 : Memref sig .tc .vmem S5x128x1 .f32) (harg8 : arg8.IsWhole) (arg9 : Memref sig .tc .vmem S5x128x11008 .f32) (harg9 : arg9.IsWhole)
  (arg10 : Memref sig .tc .vmem S5x128x128 .f32) (harg10 : arg10.IsWhole) (arg11 : Memref sig .tc .vmem S5x128x128 .f32) (harg11 : arg11.IsWhole)

set_option maxRecDepth 65536 in
/-- The body, each block followed by the rest. -/
theorem body_seq :
    cc0_layer1 (F := F) i arg2 harg2 arg3 harg3 arg4 harg4 arg5 harg5 arg6 harg6 arg7 harg7 arg8 harg8 arg9 harg9 arg10 harg10 arg11 harg11 =
      (fun k2 : PUnit → Prog (TpuEff nD τ sig (Elt F) Λ₀ .tc) PUnit => if h : k0_cond1 i = 1#1 then block1 i arg2 harg2 arg3 harg3 arg4 harg4 arg5 harg5 arg6 harg6 arg7 harg7 arg8 harg8 arg9 harg9 arg10 harg10 arg11 harg11 >>= k2 else k2 ⟨⟩)
        (fun _ => (fun k3 : PUnit → Prog (TpuEff nD τ sig (Elt F) Λ₀ .tc) PUnit => if h : k0_cond2 i = 1#1 then block2 i arg2 harg2 arg3 harg3 arg4 harg4 arg5 harg5 arg6 harg6 arg7 harg7 arg8 harg8 arg9 harg9 arg10 harg10 arg11 harg11 h >>= k3 else k3 ⟨⟩)
          (fun _ => if h : k0_cond3 i = 1#1 then block3 i arg2 harg2 arg3 harg3 arg4 harg4 arg5 harg5 arg6 harg6 arg7 harg7 arg8 harg8 arg9 harg9 arg10 harg10 arg11 harg11 h else pure ⟨⟩)) := by
  rw [body_eq]

theorem first (E : Set ℕ) (k : PUnit → Prog (TpuEff nD τ sig (Elt F) Λ₀ .tc) PUnit) (K : PUnit → sProp 𝕄) (xa xi : Vec F S5x128x128 .f32) (d8 : Vec F S5x128x1 .f32) :
    iprop(owns (c : Thread nD τ) arg10 fullShare xa ∗ owns (c : Thread nD τ) arg8 fullShare d8 ∗ owns (c : Thread nD τ) arg11 fullShare xi
        ∗ (iprop(owns (c : Thread nD τ) arg10 fullShare xa ∗ owns (c : Thread nD τ) arg8 fullShare (if k0_cond1 i = 1#1 then scaleAll xa else d8) ∗ owns (c : Thread nD τ) arg11 fullShare (if k0_cond1 i = 1#1 then invAll xa else xi)) -∗ wp frame (wpE (defs₀ (F := F)) Variants.none c none) E (k ⟨⟩) K))
      ⊢ wp frame (wpE (defs₀ (F := F)) Variants.none c none) E (if h : k0_cond1 i = 1#1 then block1 i arg2 harg2 arg3 harg3 arg4 harg4 arg5 harg5 arg6 harg6 arg7 harg7 arg8 harg8 arg9 harg9 arg10 harg10 arg11 harg11 >>= k else k ⟨⟩) K := by
  by_cases h : k0_cond1 i = 1#1
  · rw [dif_pos h, if_pos h, if_pos h, wp_bind]
    iintro ⟨HA, H8, HI, Hk⟩
    iapply (run1 c i arg2 harg2 arg3 harg3 arg4 harg4 arg5 harg5 arg6 harg6 arg7 harg7 arg8 harg8 arg9 harg9 arg10 harg10 arg11 harg11 E _ xa)
    isplitl [HA]; · iexact HA
    isplitl [H8]; · iexists _; iexact H8
    isplitl [HI]; · iexists _; iexact HI
    iexact Hk
  · rw [dif_neg h, if_neg h, if_neg h]
    iintro ⟨HA, H8, HI, Hk⟩
    iapply Hk
    isplitl [HA]; · iexact HA
    isplitl [H8]; · iexact H8
    iexact HI

theorem second (E : Set ℕ) (k : PUnit → Prog (TpuEff nD τ sig (Elt F) Λ₀ .tc) PUnit) (K : PUnit → sProp 𝕄) (xs : Vec F S5x128x11008 .f32) (xi : Vec F S5x128x128 .f32) (d7 : Vec F S5x128x256 .fp8e4m3) :
    iprop(owns (c : Thread nD τ) arg9 fullShare xs ∗ owns (c : Thread nD τ) arg11 fullShare xi ∗ owns (c : Thread nD τ) arg7 fullShare d7
        ∗ (iprop(owns (c : Thread nD τ) arg9 fullShare xs ∗ owns (c : Thread nD τ) arg11 fullShare xi ∗ owns (c : Thread nD τ) arg7 fullShare (if k0_cond2 i = 1#1 then codesAll (i 1).val xs xi else d7)) -∗ wp frame (wpE (defs₀ (F := F)) Variants.none c none) E (k ⟨⟩) K))
      ⊢ wp frame (wpE (defs₀ (F := F)) Variants.none c none) E (if h : k0_cond2 i = 1#1 then block2 i arg2 harg2 arg3 harg3 arg4 harg4 arg5 harg5 arg6 harg6 arg7 harg7 arg8 harg8 arg9 harg9 arg10 harg10 arg11 harg11 h >>= k else k ⟨⟩) K := by
  by_cases h : k0_cond2 i = 1#1
  · rw [dif_pos h, if_pos h, wp_bind]
    iintro ⟨HS, HI, H7, Hk⟩
    iapply (run2 c i arg2 harg2 arg3 harg3 arg4 harg4 arg5 harg5 arg6 harg6 arg7 harg7 arg8 harg8 arg9 harg9 arg10 harg10 arg11 harg11 h E _ xs xi)
    isplitl [HS]; · iexact HS
    isplitl [HI]; · iexact HI
    isplitl [H7]; · iexists _; iexact H7
    iexact Hk
  · rw [dif_neg h, if_neg h]
    iintro ⟨HS, HI, H7, Hk⟩
    iapply Hk
    isplitl [HS]; · iexact HS
    isplitl [HI]; · iexact HI
    iexact H7

theorem third (E : Set ℕ) (K : PUnit → sProp 𝕄) (x0 : Vec F S5x128x4096 .fp8e4m3) (x1 : Vec F S5x128x1 .f32) (x2 : Vec F S4096x256 .fp8e4m3)
    (x3 x4 : Vec F S1x256 .f32) (xs : Vec F S5x128x11008 .f32) (xa : Vec F S5x128x128 .f32) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare xs ∗ owns (c : Thread nD τ) arg10 fullShare xa
        ∗ (iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare (if k0_cond3 i = 1#1 then stNext (i 1).val (tile x0 x1 x2 x3 x4) xs else xs) ∗ owns (c : Thread nD τ) arg10 fullShare (if k0_cond3 i = 1#1 then amaxNext (BitVec.ofNat 32 (i 1).val) (tile x0 x1 x2 x3 x4) xa else xa)) -∗ K ⟨⟩))
      ⊢ wp frame (wpE (defs₀ (F := F)) Variants.none c none) E (if h : k0_cond3 i = 1#1 then block3 i arg2 harg2 arg3 harg3 arg4 harg4 arg5 harg5 arg6 harg6 arg7 harg7 arg8 harg8 arg9 harg9 arg10 harg10 arg11 harg11 h else pure ⟨⟩) K := by
  by_cases h : k0_cond3 i = 1#1
  · rw [dif_pos h, if_pos h, if_pos h]
    exact run3 c i arg2 harg2 arg3 harg3 arg4 harg4 arg5 harg5 arg6 harg6 arg7 harg7 arg8 harg8 arg9 harg9 arg10 harg10 arg11 harg11 h E K x0 x1 x2 x3 x4 xs xa
  · rw [dif_neg h, if_neg h, if_neg h]
    iintro ⟨Hin, HS, HA, Hk⟩
    sl_step
    iapply Hk
    isplitl [Hin]; · iexact Hin
    isplitl [HS]; · iexact HS
    iexact HA

/-- One point of the grid, on any whole buffers: the first block finishes the row block before, the second stores a tile of its codes,
    the third computes a tile of this row block. -/
theorem body_run (E : Set ℕ) (K : PUnit → sProp 𝕄) (x0 : Vec F S5x128x4096 .fp8e4m3) (x1 : Vec F S5x128x1 .f32) (x2 : Vec F S4096x256 .fp8e4m3)
    (x3 x4 : Vec F S1x256 .f32) (xs : Vec F S5x128x11008 .f32) (xa xi : Vec F S5x128x128 .f32) (d7 : Vec F S5x128x256 .fp8e4m3) (d8 : Vec F S5x128x1 .f32) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare xs ∗ owns (c : Thread nD τ) arg10 fullShare xa ∗ owns (c : Thread nD τ) arg11 fullShare xi ∗ owns (c : Thread nD τ) arg7 fullShare d7 ∗ owns (c : Thread nD τ) arg8 fullShare d8
        ∗ (iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) ∗ owns (c : Thread nD τ) arg9 fullShare (if k0_cond3 i = 1#1 then stNext (i 1).val (tile x0 x1 x2 x3 x4) xs else xs) ∗ owns (c : Thread nD τ) arg10 fullShare (if k0_cond3 i = 1#1 then amaxNext (BitVec.ofNat 32 (i 1).val) (tile x0 x1 x2 x3 x4) xa else xa) ∗ owns (c : Thread nD τ) arg11 fullShare (if k0_cond1 i = 1#1 then invAll xa else xi) ∗ owns (c : Thread nD τ) arg7 fullShare (if k0_cond2 i = 1#1 then codesAll (i 1).val xs (if k0_cond1 i = 1#1 then invAll xa else xi) else d7) ∗ owns (c : Thread nD τ) arg8 fullShare (if k0_cond1 i = 1#1 then scaleAll xa else d8)) -∗ K ⟨⟩))
      ⊢ wp frame (wpE (defs₀ (F := F)) Variants.none c none) E (cc0_layer1 i arg2 harg2 arg3 harg3 arg4 harg4 arg5 harg5 arg6 harg6 arg7 harg7 arg8 harg8 arg9 harg9 arg10 harg10 arg11 harg11) K := by
  rw [body_seq]; beta_reduce
  iintro ⟨Hin, HS, HA, HI, H7, H8, Hk⟩
  iapply (first c i arg2 harg2 arg3 harg3 arg4 harg4 arg5 harg5 arg6 harg6 arg7 harg7 arg8 harg8 arg9 harg9 arg10 harg10 arg11 harg11 E _ K xa xi d8)
  isplitl [HA]; · iexact HA
  isplitl [H8]; · iexact H8
  isplitl [HI]; · iexact HI
  iintro ⟨HA, H8, HI⟩
  iapply (second c i arg2 harg2 arg3 harg3 arg4 harg4 arg5 harg5 arg6 harg6 arg7 harg7 arg8 harg8 arg9 harg9 arg10 harg10 arg11 harg11 E _ K xs _ d7)
  isplitl [HS]; · iexact HS
  isplitl [HI]; · iexact HI
  isplitl [H7]; · iexact H7
  iintro ⟨HS, HI, H7⟩
  iapply (third c i arg2 harg2 arg3 harg3 arg4 harg4 arg5 harg5 arg6 harg6 arg7 harg7 arg8 harg8 arg9 harg9 arg10 harg10 arg11 harg11 E K x0 x1 x2 x3 x4 xs xa)
  isplitl [Hin]; · iexact Hin
  isplitl [HS]; · iexact HS
  isplitl [HA]; · iexact HA
  iintro ⟨Hin, HS, HA⟩
  iapply Hk
  isplitl [Hin]; · iexact Hin
  isplitl [HS]; · iexact HS
  isplitl [HA]; · iexact HA
  isplitl [HI]; · iexact HI
  isplitl [H7]; · iexact H7
  iexact H8

end Body0

/-! ## What is kept between points -/

section State

variable (m : (ℓ : Loc nD τ sig) → Buf (Elt F) ℓ) (ρ : Dev nD → PrngReg)

/-- The tile computed at a point. -/
def tileAt (c : Dev nD) (t : Fin cfg0.N) : Fin 5 → Vec F S128x256 .f32 := tile (iblk m c 0 t) (iblk m c 1 t) (iblk m c 2 t) (iblk m c 3 t) (iblk m c 4 t)

/-- The point of row block `r` and column tile `k`. -/
def pt (r k : ℕ) : Fin cfg0.N := ⟨(43 * r + k) % 1419, Nat.mod_lt _ (by decide)⟩

/-- The streams of row block `r`, all columns. -/
def stSpec (c : Dev nD) (r : ℕ) : Vec F S5x128x11008 .f32 := fun y =>
  stSlab (tileAt m c (pt r ((y 2).val / 256)) (y 0)) (ix3 0 (y 1) ⟨(y 2).val % 256, Nat.mod_lt _ (by decide)⟩)

/-- The row maxima before point `n`: one step of `amaxNext` per point that computes a tile, restarting at each row block. -/
noncomputable def amaxAt (c : Dev nD) : ℕ → Vec F S5x128x128 .f32
  | 0 => View.canon []
  | n + 1 => if h : n < cfg0.N then
      (if n < 1376 then amaxNext (BitVec.ofNat 32 (n % 43)) (tileAt m c ⟨n, h⟩) (amaxAt c n) else amaxAt c n)
    else amaxAt c n

/-- Before point `n` the kept streams hold this row block's tiles computed so far and, elsewhere, the row block before. -/
def StOk (c : Dev nD) (n : ℕ) (d : Vec F S5x128x11008 .f32) : Prop :=
  n < 1419 → ∀ y : S5x128x11008.Idx,
    ((y 2).val < 256 * (n % 43) ∧ n < 1376 → d y = stSpec m c (n / 43) y)
    ∧ (¬((y 2).val < 256 * (n % 43) ∧ n < 1376) → 43 ≤ n → d y = stSpec m c (n / 43 - 1) y)

theorem N_eq : cfg0.N = 1419 := N_0

/-- A restart at column 0 does not depend on what was there. -/
theorem amaxNext_zero (T : Fin 5 → Vec F S128x256 .f32) (x x' : Vec F S5x128x128 .f32) : amaxNext 0#32 T x = amaxNext 0#32 T x' := rfl

theorem amax_step (c : Dev nD) (t : Fin cfg0.N) (d : Vec F S5x128x128 .f32) (hd : t.val ≠ 0 → d = amaxAt m c t.val) :
    (if t.val < 1376 then amaxNext (BitVec.ofNat 32 (t.val % 43)) (tileAt m c t) d else d) = amaxAt m c (t.val + 1) := by
  rw [amaxAt, dif_pos t.isLt]
  by_cases h0 : t.val = 0
  · rw [if_pos (by omega), if_pos (by omega), show BitVec.ofNat 32 (t.val % 43) = 0#32 by rw [h0]]; exact amaxNext_zero _ _ _
  · rw [hd h0]

theorem st_step (c : Dev nD) (t : Fin cfg0.N) (d : Vec F S5x128x11008 .f32) (hd : StOk m c t.val d) :
    StOk m c (t.val + 1) (if t.val < 1376 then stNext (t.val % 43) (tileAt m c t) d else d) := by
  have hN : t.val < 1419 := lt_of_lt_of_eq t.isLt N_eq
  intro hlt y
  have hy : (y 2).val < 11008 := (y 2).isLt
  have hdy := hd hN y
  by_cases h3 : t.val < 1376
  · rw [if_pos h3]
    by_cases hin : 256 * (t.val % 43) ≤ (y 2).val ∧ (y 2).val < 256 * (t.val % 43) + 256
    · have key : stNext (t.val % 43) (tileAt m c t) d y = stSpec m c (t.val / 43) y := by
        unfold stNext stSpec
        rw [dif_pos hin]
        have hp : pt (t.val / 43) ((y 2).val / 256) = t := Fin.ext (by
          show (43 * (t.val / 43) + (y 2).val / 256) % 1419 = t.val
          omega)
        rw [hp]
        exact congrArg (stSlab (tileAt m c t (y 0))) (congrArg (ix3 0 (y 1)) (Fin.ext (by show (y 2).val - 256 * (t.val % 43) = (y 2).val % 256; omega)))
      rw [key]
      refine ⟨fun h => ?_, fun h h' => ?_⟩
      · rw [show (t.val + 1) / 43 = t.val / 43 by omega]
      · rw [show (t.val + 1) / 43 - 1 = t.val / 43 by omega]
    · have key : stNext (t.val % 43) (tileAt m c t) d y = d y := by unfold stNext; rw [dif_neg hin]
      rw [key]
      refine ⟨fun h => ?_, fun h h' => ?_⟩
      · rw [show (t.val + 1) / 43 = t.val / 43 by omega]
        exact hdy.1 (by omega)
      · by_cases hw : t.val % 43 = 42
        · rw [show (t.val + 1) / 43 - 1 = t.val / 43 by omega]; exact hdy.1 (by omega)
        · rw [show (t.val + 1) / 43 - 1 = t.val / 43 - 1 by omega]; exact hdy.2 (by omega) (by omega)
  · rw [if_neg h3]
    refine ⟨fun h => by omega, fun h h' => ?_⟩
    rw [show (t.val + 1) / 43 - 1 = t.val / 43 - 1 by omega]; exact hdy.2 (by omega) (by omega)

/-- The codes of a tile read the kept streams on that tile's columns only. -/
theorem codes_step (c : Dev nD) (t : Fin cfg0.N) (h : 43 ≤ t.val) (d : Vec F S5x128x11008 .f32) (hd : StOk m c t.val d) (xi : Vec F S5x128x128 .f32) :
    codesAll (t.val % 43) d xi = codesAll (t.val % 43) (stSpec m c (t.val / 43 - 1)) xi := by
  have hN : t.val < 1419 := lt_of_lt_of_eq t.isLt N_eq
  funext y
  unfold codesAll
  refine congrArg (fun w => codeSlab w (slabOf xi (y 0)) (ix3 0 (y 1) ⟨(y 2).val % 128, Nat.mod_lt _ (by decide)⟩)) ?_
  funext z
  have hz : (z 2).val < 128 := (z 2).isLt
  unfold stTile
  refine (hd hN _).2 ?_ h
  rintro ⟨hlt, -⟩
  have hlt' : (256 * (t.val % 43) + 128 * ((y 2).val / 128) + (z 2).val) % 11008 < 256 * (t.val % 43) := hlt
  have hy : (y 2).val < 256 := (y 2).isLt
  omega

/-- The codes and the scales a point past the first row block leaves. -/
def codesAt (c : Dev nD) (t : Fin cfg0.N) : Vec F S5x128x256 .fp8e4m3 :=
  codesAll (t.val % 43) (stSpec m c (t.val / 43 - 1)) (invAll (amaxAt m c (43 * (t.val / 43))))
def scalesAt (c : Dev nD) (t : Fin cfg0.N) : Vec F S5x128x1 .f32 := scaleAll (amaxAt m c (43 * (t.val / 43)))

/-- Between points: the kept streams as `StOk` says, the row maxima at `amaxAt`, the inverse scales those of the row block before; the
    generator register at anything. -/
def PhiS (c : Dev nD) (n : ℕ) : sProp 𝕄 :=
  iprop(((∃ d, ⌜StOk m c n d⌝ ∗ owns (c : Thread nD τ) scS fullShare d) ∗ (∃ d, ⌜n ≠ 0 → d = amaxAt m c n⌝ ∗ owns (c : Thread nD τ) scA fullShare d)
    ∗ (∃ d, ⌜43 ≤ n → n % 43 ≠ 0 → d = invAll (amaxAt m c (43 * (n / 43)))⌝ ∗ owns (c : Thread nD τ) scI fullShare d)) ∗ (∃ r, prngReg c r))

/-- Per core: the arrays the pipeline works on, what each point leaves in the windows, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesAt m c t
    | ⟨6, _⟩ => scalesAt m c t
  Φ t := PhiS m c t.val
  q _ := fullShare
  owed _ := 0

theorem A_eq (c : Dev nD) (w : Fin 7) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesAt m c t := by dsimp only [dats]
theorem after0_6 (c : Dev nD) (t : Fin cfg0.N) : (dats m 0 c).after 6 t = scalesAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- Past a row block's first point the scales' buffer holds the scales. -/
theorem before6 (c : Dev nD) (t : Fin cfg0.N) (h : 43 ≤ t.val) (h0 : t.val % 43 ≠ 0) (d) : (dats m 0 c).before 6 t d = scalesAt m c t := by
  have hs : ∀ (a b : Fin cfg0.N), a.val / 43 = b.val / 43 → scalesAt m c a = scalesAt m c b := fun a b e => by unfold scalesAt; rw [e]
  rw [(dats m 0 c).before_out_traj 6 rfl (fun _ _ => rfl) (fun t ht hi hf => ?_) t.val t rfl d, fresh6 t h h0, if_neg (by decide), after0_6]
  · exact hs _ _ (by show (t.val - 1) / 43 = t.val / 43; omega)
  · obtain ⟨h1, h2⟩ := idle6_late t hi hf
    rw [after0_6, after0_6]
    exact hs _ _ (by show t.val / 43 = (t.val - 1) / 43; omega)

/-- What point `t`'s body is given, and what it must leave. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- What is left in the codes' window, at a point of the first row block and past it. -/
theorem leaves5_early (c : Dev nD) (t : Fin cfg0.N) (h : t.val < 43) :
    (dats m 0 c).leavesExact 5 t = iprop(∃ d, owns (c : Thread nD τ) (ms5 t) fullShare ((dats m 0 c).before 5 t d)) :=
  Dat.leavesExact_idle (dats m 0 c) 5 t (idle5 t h) (noFlush5 t h)
theorem leaves5_late (c : Dev nD) (t : Fin cfg0.N) (h : 43 ≤ t.val) :
    (dats m 0 c).leavesExact 5 t = owns (c : Thread nD τ) (ms5 t) fullShare (codesAt m c t) := by
  unfold Dat.leavesExact; rw [show cfg0.idle 5 (cfg0.grid.coords t) = false from live5 t h, after0_5 m c t]
/-- And in the scales' window. -/
theorem leaves6_early (c : Dev nD) (t : Fin cfg0.N) (h : t.val < 43) :
    (dats m 0 c).leavesExact 6 t = iprop(∃ d, owns (c : Thread nD τ) (ms6 t) fullShare ((dats m 0 c).before 6 t d)) :=
  Dat.leavesExact_idle (dats m 0 c) 6 t (idle6 t (by omega)) (noFlush6 t h)
theorem leaves6_late (c : Dev nD) (t : Fin cfg0.N) (h : 43 ≤ t.val) :
    owns (c : Thread nD τ) (ms6 t) fullShare (scalesAt m c t) ⊢ (dats m 0 c).leavesExact 6 t := by
  by_cases h0 : t.val % 43 = 0
  · unfold Dat.leavesExact; rw [show cfg0.idle 6 (cfg0.grid.coords t) = false from live6 t ⟨h, h0⟩, after0_6 m c t]
  · unfold Dat.leavesExact; rw [show cfg0.idle 6 (cfg0.grid.coords t) = true from idle6 t (by omega)]
    cases hf : (cfg0.win 6).flush t
    · simp only [before6 m c t h h0]
      iintro H; iexists (scalesAt m c t); iexact H
    · rw [after0_6 m c t]

set_option maxHeartbeats 1000000 in
theorem sound_body (c : Dev nD) (t : Fin cfg0.N) :
    bodyPre m c t ⊢ wp frame (wpE (defs₀ (F := F)) Variants.none c none) Set.univ (bodyAt0 (F := F) t) fun _ => bodyPost m c t := by
  have hN : t.val < 1419 := lt_of_lt_of_eq t.isLt N_eq
  unfold bodyPre bodyPost bodyAt0
  simp only [before0_0, before0_1, before0_2, before0_3, before0_4]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  rw [show (dats m 0 c).leavesExact 0 t = owns (c : Thread nD τ) (ms0 t) fullShare (iblk m c 0 t) from by unfold Dat.leavesExact; rw [show cfg0.idle 0 (grid0.coords t) = false from rfl, after0_0 m c t]]
  rw [show (dats m 0 c).leavesExact 1 t = owns (c : Thread nD τ) (ms1 t) fullShare (iblk m c 1 t) from by unfold Dat.leavesExact; rw [show cfg0.idle 1 (grid0.coords t) = false from rfl, after0_1 m c t]]
  rw [show (dats m 0 c).leavesExact 2 t = owns (c : Thread nD τ) (ms2 t) fullShare (iblk m c 2 t) from by unfold Dat.leavesExact; rw [show cfg0.idle 2 (grid0.coords t) = false from rfl, after0_2 m c t]]
  rw [show (dats m 0 c).leavesExact 3 t = owns (c : Thread nD τ) (ms3 t) fullShare (iblk m c 3 t) from by unfold Dat.leavesExact; rw [show cfg0.idle 3 (grid0.coords t) = false from rfl, after0_3 m c t]]
  rw [show (dats m 0 c).leavesExact 4 t = owns (c : Thread nD τ) (ms4 t) fullShare (iblk m c 4 t) from by unfold Dat.leavesExact; rw [show cfg0.idle 4 (grid0.coords t) = false from rfl, after0_4 m c t]]
  iintro ⟨⟨⟨⟨%ds, %hds, HS⟩, ⟨%da, %hda, HA⟩, ⟨%di, %hdi, HI⟩⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scA (Memref.isWhole_whole _) scI (Memref.isWhole_whole _)
    Set.univ _ (iblk m c 0 t) (iblk m c 1 t) (iblk m c 2 t) (iblk m c 3 t) (iblk m c 4 t) ds da di ((dats m 0 c).before 5 t d5) ((dats m 0 c).before 6 t d6))
  isplitl [H0 H1 H2 H3 H4]
  · isplitl [H0]; · iexact H0
    isplitl [H1]; · iexact H1
    isplitl [H2]; · iexact H2
    isplitl [H3]; · iexact H3
    iexact H4
  isplitl [HS]; · iexact HS
  isplitl [HA]; · iexact HA
  isplitl [HI]; · iexact HI
  isplitl [H5]; · iexact H5
  isplitl [H6]; · iexact H6
  rw [col_val t]
  simp only [cond1_iff, cond2_iff, cond3_iff]
  iintro ⟨⟨H0, H1, H2, H3, H4⟩, HS, HA, HI, H5, H6⟩
  have hI : 43 ≤ t.val → (if 43 ≤ t.val ∧ t.val % 43 = 0 then invAll da else di) = invAll (amaxAt m c (43 * (t.val / 43))) := fun h => by
    by_cases h0 : t.val % 43 = 0
    · rw [if_pos ⟨h, h0⟩, hda (by omega), show 43 * (t.val / 43) = t.val by omega]
    · rw [if_neg (by omega), hdi h h0]
  isplitl [HS HA HI Hg]
  · isplitl [HS HA HI]
    · isplitl [HS]
      · iexists _; isplitr; swap; · iexact HS
        ipureintro; exact st_step m c t ds hds
      isplitl [HA]
      · iexists _; isplitr; swap; · iexact HA
        ipureintro; intro _; exact amax_step m c t da hda
      · iexists _; isplitr; swap; · iexact HI
        ipureintro; intro h1 h2
        rw [show (t.val + 1) / 43 = t.val / 43 by omega]
        exact hI (by omega)
    · iexact Hg
  isplitl [Ho]; · iexact Ho
  isplitl [H0]; · iexact H0
  isplitl [H1]; · iexact H1
  isplitl [H2]; · iexact H2
  isplitl [H3]; · iexact H3
  isplitl [H4]; · iexact H4
  by_cases h : 43 ≤ t.val
  · rw [leaves5_late m c t h]
    rw [if_pos h, hI h, codes_step m c t h ds hds]
    isplitl [H5]; · iexact H5
    iapply (leaves6_late m c t h)
    have h6 : (if 43 ≤ t.val ∧ t.val % 43 = 0 then scaleAll da else (dats m 0 c).before 6 t d6) = scalesAt m c t := by
      by_cases h0 : t.val % 43 = 0
      · rw [if_pos ⟨h, h0⟩, hda (by omega)]; unfold scalesAt; rw [show 43 * (t.val / 43) = t.val by omega]
      · rw [if_neg (by omega), before6 m c t h h0]
    rw [h6]
    iexact H6
  · rw [leaves5_early m c t (by omega), leaves6_early m c t (by omega)]
    rw [if_neg h, if_neg (by omega)]
    isplitl [H5]; · iexists d5; iexact H5
    iexists d6; iexact H6

theorem defs₀_row (t : Fin cfg0.N) : defs₀ (F := F) .tc cfg0.body (cfg0.bodyArgs t (cfg0.slots t)) = bodyAt0 (F := F) t := by
  unfold defs₀; rw [Defs.onTc_tc]

theorem body_obligation (c : Dev nD) : BodyObligation (dats m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  rw [PhiA_eq, show (dats m 0 c).Φ 0 = PhiS m c 0 from rfl]; unfold PhiS
  iintro ⟨⟨⟨%d, HS⟩, ⟨%da, HA⟩, ⟨%di, HI⟩⟩, Hg⟩
  isplitl [HS HA HI]
  · isplitl [HS]
    · iexists d; isplitr; swap; · iexact HS
      ipureintro; intro _ y; exact ⟨fun h => absurd h.1 (by omega), fun _ h => absurd h (by omega)⟩
    isplitl [HA]
    · iexists da; isplitr; swap; · iexact HA
      ipureintro; intro h; exact absurd rfl h
    · iexists di; isplitr; swap; · iexact HI
      ipureintro; intro h; exact absurd h (by omega)
  iexact Hg

theorem hout (c : Dev nD) : (dats m 0 c).Φ (Fin.last cfg0.N) ⊢ (Pipeline.ΦA spec0 c : sProp 𝕄) := by
  rw [PhiA_eq, show (dats m 0 c).Φ (Fin.last cfg0.N) = PhiS m c cfg0.N from rfl]; unfold PhiS
  iintro ⟨⟨⟨%d, -, HS⟩, ⟨%da, -, HA⟩, ⟨%di, -, HI⟩⟩, Hg⟩
  isplitl [HS HA HI]
  · isplitl [HS]; · iexists d; iexact HS
    isplitl [HA]; · iexists da; iexact HA
    iexists di; iexact HI
  iexact Hg

set_option backward.isDefEq.respectTransparency.types false in
/-- The program runs to the end and leaves every array the pipeline's windows over it say, and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs to the end, leaves the argument arrays as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end State

end Cert.Layer1Ideal.Hand

end
-- ==== Proof.Layer1Streams.lean ====
module

public import proofs.«01_k».proof.Proof.Layer1IdealFrame
public import proofs.«01_k».proof.Proof.Gen.Reference1Ideal.Skeleton
public import Idealize.ShloMosaic.Lib.Pipeline.ValueKit

/-! What the first hidden layer's kernel computes, read at one row and one column, and the same of its reference: the five streams of the
layer's output, before they are quantised. -/

@[expose] public section

set_option maxRecDepth 16384

noncomputable section

namespace Cert.Layer1Ideal.Hand

open Cert.Layer1Ideal Cert.Layer1Ideal.Gen
open Idealize.ShloMosaic Idealize.ShloMosaic.TcCoe Idealize.SL.Sem
open Idealize.ShloMosaic.Pipeline (Dat)

variable (m : (ℓ : Loc nD τ sig) → Buf (Elt Ideal) ℓ)

/-- Where each window's block sits at point `t`: row block `t / 43`, column block `t % 43`; the results' row block is the one before. -/
theorem idx : ∀ t : Fin cfg0.N, win0_0.index t = ![0, min (t.val / 43) 31, 0] ∧ win0_1.index t = ![0, min (t.val / 43) 31, 0] ∧ win0_2.index t = ![0, t.val % 43]
    ∧ win0_3.index t = ![0, t.val % 43] ∧ win0_4.index t = ![0, t.val % 43]
    ∧ win0_5.index t = ![0, t.val / 43 - 1, if t.val / 43 = 0 then 0 else t.val % 43] ∧ win0_6.index t = ![0, t.val / 43 - 1, 0] :=
  (by decide +kernel : ∀ t : Fin grid0.N, _)

/-- The layer's output of stream `s`, from the value `h = tanh z` and the rescaled products of the five streams. -/
def outOf (s : Fin 5) (h : EReal) (y : Fin 5 → EReal) : EReal :=
  match s with
  | 0 => h
  | 1 => (1 - h * h) * y 1
  | 2 => (1 - h * h) * y 2
  | 3 => (1 - h * h) * y 3
  | 4 => (1 - h * h) * y 4 + Ideal.ofBits FTy.f32 3221225472#32 * h * (1 - h * h) * (y 1 * y 1 + y 2 * y 2 + y 3 * y 3)

section Blocks
variable (x0 : Vec Ideal S5x128x4096 .fp8e4m3) (x1 : Vec Ideal S5x128x1 .f32) (x2 : Vec Ideal S4096x256 .fp8e4m3) (x3 x4 : Vec Ideal S1x256 .f32)

theorem pay55_at (e : Fin 640) (q : Fin 256) :
    k0_pay55 x0 x2 (ix2 e q) = ∑ k : Fin 4096, x0 (ix3 (⟨e.val / 128, by omega⟩ : Fin 5) (⟨e.val % 128, by omega⟩ : Fin 128) k) * x2 (ix2 k q) := by
  pointwise [k0_pay55]

/-- The product of row `r` of stream `s`'s block and column `q` of the weights' block, in the stack of five products. -/
theorem prod_at (s : Fin 5) (r : Fin 128) (q : Fin 256) (e : Fin 640) (he : e.val = s.val * 128 + r.val) :
    k0_pay55 x0 x2 (ix2 e q) = ∑ k : Fin 4096, x0 (ix3 s r k) * x2 (ix2 k q) := by
  rw [pay55_at]
  have h1 : (⟨e.val / 128, by omega⟩ : Fin 5) = s := Fin.ext (by show e.val / 128 = s.val; omega)
  have h2 : (⟨e.val % 128, by omega⟩ : Fin 128) = r := Fin.ext (by show e.val % 128 = r.val; omega)
  rw [h1, h2]

/-- The rescaled product of stream `s` at row `r`, column `q` of the blocks. -/
def yB (s : Fin 5) (r : Fin 128) (q : Fin 256) : EReal :=
  (∑ k : Fin 4096, x0 (ix3 s r k) * x2 (ix2 k q)) * x1 (ix3 s r (0 : Fin 1)) * x3 (ix2 (0 : Fin 1) q)

theorem pay56_at (r : Fin 128) (q : Fin 256) : k0_pay56 x0 x2 (slabOf x1 0) x3 (ix2 r q) = yB x0 x1 x2 x3 0 r q := by
  pointwise [k0_pay56, slabOf]
  rw [prod_at x0 x2 0 r q _ (by simp), yB]
theorem pay57_at (r : Fin 128) (q : Fin 256) : k0_pay57 x0 x2 (slabOf x1 1) x3 (ix2 r q) = yB x0 x1 x2 x3 1 r q := by
  pointwise [k0_pay57, slabOf]
  rw [prod_at x0 x2 1 r q _ (by simp), yB]
theorem pay58_at (r : Fin 128) (q : Fin 256) : k0_pay58 x0 x2 (slabOf x1 2) x3 (ix2 r q) = yB x0 x1 x2 x3 2 r q := by
  pointwise [k0_pay58, slabOf]
  rw [prod_at x0 x2 2 r q _ (by simp), yB]
theorem pay60_at (r : Fin 128) (q : Fin 256) : k0_pay60 (k0_pay59 x0 x2 (slabOf x1 3)) x3 (ix2 r q) = yB x0 x1 x2 x3 3 r q := by
  pointwise [k0_pay60, k0_pay59, slabOf]
  rw [prod_at x0 x2 3 r q _ (by simp), yB]

/-- The five streams of a block's output. -/
theorem tile_at (s : Fin 5) (r : Fin 128) (q : Fin 256) : tile x0 x1 x2 x3 x4 s (ix2 r q)
    = outOf s (Ideal.tanh (yB x0 x1 x2 x3 0 r q + x4 (ix2 (0 : Fin 1) q))) (fun s => yB x0 x1 x2 x3 s r q) := by
  fin_cases s
  · show k0_pay61 _ _ (ix2 r q) = _
    pointwise [k0_pay61]
    rw [pay56_at]; rfl
  · show k0_pay63 _ _ _ (ix2 r q) = _
    pointwise [k0_pay63, k0_pay62, k0_pay61]
    rw [pay56_at, pay57_at]; rfl
  · show k0_pay64 _ _ _ (ix2 r q) = _
    pointwise [k0_pay64, k0_pay62, k0_pay61]
    rw [pay56_at, pay58_at]; rfl
  · show k0_pay65 _ _ _ _ (ix2 r q) = _
    pointwise [k0_pay65, k0_pay62, k0_pay61]
    rw [pay56_at, pay60_at]; rfl
  · show k0_pay66 _ _ _ _ _ _ _ _ _ (ix2 r q) = _
    pointwise [k0_pay66, k0_pay62, k0_pay61]
    rw [pay56_at, pay57_at, pay58_at, pay60_at, prod_at x0 x2 4 r q _ (by simp)]; rfl
end Blocks

section Ref
variable (A : Vec Ideal S5x4096x4096 .fp8e4m3) (SC : Vec Ideal S5x4096x1 .f32) (W : Vec Ideal S4096x11008 .fp8e4m3) (WS B : Vec Ideal S1x11008 .f32)

/-- The reference's five streams, as a function of the five operands. -/
abbrev REFst : Vec Ideal S5x4096x11008 .f32 := Cert.Reference1Ideal.Gen.k0_pay4 A W SC WS B

/-- The rescaled product of stream `s` at row `p`, column `j` of the whole arrays. -/
def yR (s : Fin 5) (p : Fin 4096) (j : Fin 11008) : EReal :=
  (∑ k : Fin 4096, A (ix3 s p k) * W (ix2 k j)) * SC (ix3 s p (0 : Fin 1)) * WS (ix2 (0 : Fin 1) j)

theorem REFst_at (s : Fin 5) (p : Fin 4096) (j : Fin 11008) :
    REFst A SC W WS B (ix3 s p j)
      = outOf s (Ideal.tanh (yR A SC W WS 0 p j + B (ix2 (0 : Fin 1) j))) (fun s => yR A SC W WS s p j) := by
  unfold REFst
  pointwise [Cert.Reference1Ideal.Gen.k0_pay4]
  have e1 : ∀ h, (⟨p.val / 4096, h⟩ : Fin 5) = 0 := fun h => Fin.ext (by show p.val / 4096 = 0; omega)
  have e2 : ∀ h, (⟨p.val % 4096, h⟩ : Fin 4096) = p := fun h => Fin.ext (by show p.val % 4096 = p.val; omega)
  have e3 : ∀ (n : ℕ) (h), (⟨((1 + n) * 4096 + p.val) / 4096, h⟩ : Fin 5) = ⟨1 + n, by omega⟩ := fun n h => Fin.ext (by show ((1 + n) * 4096 + p.val) / 4096 = 1 + n; omega)
  have e4 : ∀ h, (⟨(16384 + p.val) / 4096, h⟩ : Fin 5) = 4 := fun h => Fin.ext (by show (16384 + p.val) / 4096 = 4; omega)
  simp only [e1, e2, e3, e4, Fin.sum_univ_three]
  fin_cases s
  · exact dif_pos (by decide)
  · exact (dif_neg (by decide)).trans (dif_pos (by decide))
  · exact (dif_neg (by decide)).trans (dif_pos (by decide))
  · exact (dif_neg (by decide)).trans (dif_pos (by decide))
  · exact (dif_neg (by decide)).trans (dif_neg (by decide))
end Ref

/-- Row `r` of point `t`'s row block (the last row of blocks computes nothing new), and column `q` of its column tile. -/
abbrev rowOf (t : Fin cfg0.N) (r : Fin 128) : Fin 4096 := ⟨min (t.val / 43) 31 * 128 + r.val, by omega⟩
abbrev colOf (t : Fin cfg0.N) (q : Fin 256) : Fin 11008 := ⟨t.val % 43 * 256 + q.val, by omega⟩

theorem yB_eq (c : Dev nD) (t : Fin cfg0.N) (s : Fin 5) (r : Fin 128) (q : Fin 256) :
    yB (iblk m c 0 t) (iblk m c 1 t) (iblk m c 2 t) (iblk m c 3 t) s r q
      = yR (V m c main_arg0) (V m c main_arg1) (V m c main_arg2) (V m c main_v0) s (rowOf t r) (colOf t q) := by
  unfold yB yR
  blk_point [iblk, idx t]

/-- The reference's streams of this run's operands. -/
def ST (c : Dev nD) : Vec Ideal S5x4096x11008 .f32 := REFst (V m c main_arg0) (V m c main_arg1) (V m c main_arg2) (V m c main_v0) (V m c main_v1)

/-- The tile computed at point `t` is the reference's streams there. -/
theorem point_st (c : Dev nD) (t : Fin cfg0.N) (s : Fin 5) (r : Fin 128) (q : Fin 256) :
    tileAt m c t s (ix2 r q) = ST m c (ix3 s (rowOf t r) (colOf t q)) := by
  rw [tileAt, tile_at, ST, REFst_at]
  simp only [yB_eq]
  rw [show iblk m c 4 t (ix2 (0 : Fin 1) q) = V m c main_v1 (ix2 (0 : Fin 1) (colOf t q)) from by blk_ext [iblk, idx t]]

end Cert.Layer1Ideal.Hand

end
-- ==== Proof.Layer1Scale.lean ====
module

public import Idealize.ShloMosaic.Lib.Pipeline.ValueKit
public import Mathlib.Analysis.SpecialFunctions.Log.Basic
public import Mathlib.Analysis.SpecialFunctions.Pow.Real

/-! The scale of a row. The kernel finds the exponent of `v = a/448` by bisection over the exponents of the normal numbers, comparing `v`
with powers of two; the reference takes it from a logarithm. Over the reals both give the power of two above `v`, and 1 where `v` is below
the smallest normal number. -/

@[expose] public section

noncomputable section

namespace Cert.Scale

open Idealize.ShloMosaic

/-- A pattern with the exponent field `k` and nothing else is the power of two `2 ^ (k - 127)`. -/
theorem ofBits_pow (k : ℕ) (h1 : 1 ≤ k) (h2 : k ≤ 254) (b : BitVec 32) (hb : b = BitVec.ofNat 32 k <<< 23) :
    Ideal.ofBits .f32 b = (((2 : ℝ) ^ ((k : ℤ) - 127) : ℝ) : EReal) := by
  have key : ∀ k : Fin 256, ((BitVec.ofNat 32 k.val <<< 23).extractLsb' 31 1 == 1#1) = false
      ∧ ((BitVec.ofNat 32 k.val <<< 23).extractLsb' 23 8).toNat = k.val ∧ ((BitVec.ofNat 32 k.val <<< 23).extractLsb' 0 23).toNat = 0 := by decide +kernel
  obtain ⟨e1, e2, e3⟩ := key ⟨k, by omega⟩
  dsimp only at e1 e2 e3
  subst hb
  simp only [Ideal.ofBits, Ideal.ieee, e1, e2, e3]
  rw [if_neg (by omega), if_neg (by omega)]
  refine congrArg _ ?_
  have : (2 : ℝ) ^ ((k : ℤ) - 127) = 2 ^ (23 : ℤ) * 2 ^ ((k : ℤ) - 127 - 23) := by
    rw [← zpow_add₀ (two_ne_zero)]; exact congrArg (fun z : ℤ => (2 : ℝ) ^ z) (by ring)
  rw [this]
  exact congrArg₂ (· * ·) (by rw [if_neg (by simp)]; norm_num) (congrArg (fun z : ℤ => (2 : ℝ) ^ z) (by norm_num))

theorem ofBits_inf : Ideal.ofBits .f32 0x7F800000#32 = ⊤ := by simp [Ideal.ofBits, Ideal.ieee]
theorem ofBits_bot : Ideal.ofBits .f32 0xFF800000#32 = ⊥ := by simp [Ideal.ofBits, Ideal.ieee]

/-- One step of the bisection: the exponent field `e + s` is taken where its power of two is at most `v`. -/
def stp (v : EReal) (e s : BitVec 32) : BitVec 32 :=
  if Ideal.ofBits .f32 (IntOp.shli .vector (IntOp.addi e s) 23#32) ≤ v then IntOp.addi e s else e
/-- The bisection, down to steps of one. -/
def bis (v : EReal) : BitVec 32 :=
  stp v (stp v (stp v (stp v (stp v (stp v (stp v (stp v 0#32 128#32) 64#32) 32#32) 16#32) 8#32) 4#32) 2#32) 1#32

/-- The same over the exponents: `E` is the largest that passes. -/
def stpN (E : ℕ) (e s : BitVec 32) : BitVec 32 := if (e + s).toNat ≤ E then e + s else e

section Bisection
variable (v : EReal) (E : ℕ) (hp : ∀ t : BitVec 32, 1 ≤ t.toNat → t.toNat ≤ 255 → (Ideal.ofBits .f32 (t <<< 23) ≤ v ↔ t.toNat ≤ E))
include hp

theorem stp_eq (e s : BitVec 32) (hs : 1 ≤ s.toNat) (h : e.toNat + 2 * s.toNat ≤ 256) :
    stp v e s = stpN E e s ∧ (stpN E e s).toNat + s.toNat ≤ 256 := by
  have hadd : (e + s).toNat = e.toNat + s.toNat := by rw [BitVec.toNat_add]; omega
  have hsh : IntOp.shli .vector (IntOp.addi e s) 23#32 = (e + s) <<< 23 := rfl
  refine ⟨?_, ?_⟩
  · unfold stp stpN
    rw [hsh]
    exact if_congr (hp _ (by omega) (by omega)) rfl rfl
  · unfold stpN; split <;> omega

theorem bis_eq (hE : E ≤ 255) : bis v = BitVec.ofNat 32 E := by
  have a1 := stp_eq v E hp 0#32 128#32 (by decide) (by decide)
  have a2 := stp_eq v E hp _ 64#32 (by decide) (le_of_eq_of_le rfl a1.2)
  have a3 := stp_eq v E hp _ 32#32 (by decide) (le_of_eq_of_le rfl a2.2)
  have a4 := stp_eq v E hp _ 16#32 (by decide) (le_of_eq_of_le rfl a3.2)
  have a5 := stp_eq v E hp _ 8#32 (by decide) (le_of_eq_of_le rfl a4.2)
  have a6 := stp_eq v E hp _ 4#32 (by decide) (le_of_eq_of_le rfl a5.2)
  have a7 := stp_eq v E hp _ 2#32 (by decide) (le_of_eq_of_le rfl a6.2)
  have a8 := stp_eq v E hp _ 1#32 (by decide) (le_of_eq_of_le rfl a7.2)
  unfold bis
  rw [a1.1, a2.1, a3.1, a4.1, a5.1, a6.1, a7.1, a8.1]
  have key : ∀ E : Fin 256, stpN E.val (stpN E.val (stpN E.val (stpN E.val (stpN E.val (stpN E.val (stpN E.val (stpN E.val 0#32 128#32) 64#32) 32#32) 16#32) 8#32) 4#32) 2#32) 1#32
      = BitVec.ofNat 32 E.val := by decide +kernel
  exact key ⟨E, by omega⟩
end Bisection

/-- The constants: the reciprocal of 448, the largest finite number, the smallest normal one. -/
abbrev cInv : EReal := Ideal.ofBits .f32 991054117#32
abbrev cMax : EReal := Ideal.ofBits .f32 2139095039#32
abbrev cMin : EReal := Ideal.ofBits .f32 8388608#32
abbrev cTop : EReal := Ideal.ofBits .f32 2063597568#32
abbrev cTwo : EReal := Ideal.ofBits .f32 1073741824#32

theorem cInv_eq : cInv = ((9586981 / 4294967296 : ℝ) : EReal) := by
  simp [Ideal.ofBits, Ideal.ieee, -EReal.coe_mul]; norm_num
theorem cMax_eq : cMax = (((2 ^ 24 - 1) * 2 ^ 104 : ℝ) : EReal) := by
  simp [Ideal.ofBits, Ideal.ieee, -EReal.coe_mul]; norm_num
theorem cMin_eq : cMin = (((2 : ℝ) ^ (-126 : ℤ) : ℝ) : EReal) := ofBits_pow 1 (by decide) (by decide) _ (by decide)
theorem cTop_eq : cTop = (((2 : ℝ) ^ (119 : ℤ) : ℝ) : EReal) := ofBits_pow 246 (by decide) (by decide) _ (by decide)
theorem cTwo_eq : cTwo = ((2 : ℝ) : EReal) := (ofBits_pow 128 (by decide) (by decide) _ (by decide)).trans (by norm_num)

/-- The kernel's scale and inverse scale of a row whose largest magnitude is `a`. -/
def field (a : EReal) : BitVec 32 := IntOp.shli .vector (bis (min (a * cInv) cTop)) 23#32
def kScale (a : EReal) : EReal := if field a = 0#32 then 1 else Ideal.ofBits .f32 (IntOp.addi (field a) 8388608#32)
def kInv (a : EReal) : EReal := if field a = 0#32 then 1 else Ideal.ofBits .f32 (IntOp.subi 2122317824#32 (field a))

/-- The reference's exponent of that row. -/
def rExp (a : EReal) : EReal :=
  if min a cMax * cInv < cMin then 0
  else Ideal.liftRound Int.floor (Ideal.div (Ideal.log (min a cMax * cInv)) (Ideal.log cTwo)) + 1

/-- The exponent of a positive real number. -/
def expo (v : ℝ) : ℤ := ⌊Real.log v / Real.log 2⌋

/-- It is the largest `x` with `2 ^ x ≤ v`. -/
theorem zpow_le_iff (x : ℤ) (v : ℝ) (hv : 0 < v) : (2 : ℝ) ^ x ≤ v ↔ x ≤ expo v := by
  have hl : 0 < Real.log 2 := Real.log_pos (by norm_num)
  rw [expo, Int.le_floor, le_div_iff₀ hl, ← Real.log_zpow, Real.log_le_log_iff (by positivity) hv]

/-- What both sides take the exponent of, as a real number. -/
theorem quotient (a : EReal) (ha : 0 ≤ a) : ∃ v : ℝ, 0 ≤ v ∧ v < 2 ^ (120 : ℤ) ∧ min a cMax * cInv = (v : EReal)
    ∧ min (a * cInv) cTop = ((min v (2 ^ (119 : ℤ)) : ℝ) : EReal) := by
  rw [cInv_eq, cMax_eq, cTop_eq]
  induction a with
  | bot => exact absurd ha (by simp)
  | top =>
    refine ⟨((2 ^ 24 - 1) * 2 ^ 104) * (9586981 / 4294967296), by norm_num, by norm_num, ?_, ?_⟩
    · rw [min_eq_right le_top]; exact (EReal.coe_mul _ _).symm
    · rw [EReal.top_mul_of_pos (by exact_mod_cast (by norm_num : (0 : ℝ) < 9586981 / 4294967296)), min_eq_right le_top]
      refine congrArg _ (min_eq_right ?_).symm
      norm_num
  | coe r =>
    have hr : 0 ≤ r := by exact_mod_cast ha
    have hm : min (r : EReal) (((2 ^ 24 - 1) * 2 ^ 104 : ℝ) : EReal) = ((min r ((2 ^ 24 - 1) * 2 ^ 104) : ℝ) : EReal) := (EReal.coe_strictMono.monotone.map_min).symm
    refine ⟨min r ((2 ^ 24 - 1) * 2 ^ 104) * (9586981 / 4294967296), by positivity, ?_, ?_, ?_⟩
    · refine lt_of_le_of_lt (mul_le_mul_of_nonneg_right (min_le_right _ _) (by norm_num)) (by norm_num)
    · rw [hm, EReal.coe_mul]
    · rw [← EReal.coe_mul, ← EReal.coe_strictMono.monotone.map_min]
      refine congrArg _ ?_
      rcases le_total r ((2 ^ 24 - 1) * 2 ^ 104) with h | h
      · rw [min_eq_left h]
      · rw [min_eq_right h]
        have h2 : (2 : ℝ) ^ (119 : ℤ) ≤ ((2 ^ 24 - 1) * 2 ^ 104) * (9586981 / 4294967296) := by norm_num
        rw [min_eq_right h2, min_eq_right (h2.trans (mul_le_mul_of_nonneg_right h (by norm_num)))]

/-- Both sides' scales, from the exponent. -/
theorem scales_eq (a : EReal) (ha : 0 ≤ a) : kScale a = Ideal.exp2 (rExp a) ∧ kInv a = Ideal.exp2 (0 - rExp a) := by
  obtain ⟨v, h0, h1, hr, hk⟩ := quotient a ha
  by_cases hv : v < 2 ^ (-126 : ℤ)
  · have hb : bis (min (a * cInv) cTop) = BitVec.ofNat 32 0 := by
      refine bis_eq _ 0 (fun t t1 t2 => ?_) (by omega)
      refine iff_of_false ?_ (by omega)
      rw [hk, not_le]
      rcases Nat.lt_or_ge t.toNat 255 with h | h
      · rw [ofBits_pow t.toNat t1 (by omega) _ (by rw [BitVec.ofNat_toNat, BitVec.setWidth_eq])]
        refine EReal.coe_lt_coe_iff.2 (lt_of_le_of_lt (min_le_left _ _) (lt_of_lt_of_le hv (zpow_le_zpow_right₀ (by norm_num) (by omega))))
      · have : t = 255#32 := BitVec.eq_of_toNat_eq (by show t.toNat = 255; omega)
        subst this
        rw [show (255#32 <<< 23) = 0x7F800000#32 by decide, ofBits_inf]
        exact EReal.coe_lt_top _
    have hf : field a = 0#32 := by unfold field; rw [hb]; rfl
    have he : rExp a = 0 := by unfold rExp; rw [hr, cMin_eq, if_pos (EReal.coe_lt_coe_iff.2 hv)]
    unfold kScale kInv
    rw [if_pos hf, if_pos hf, he, sub_zero]
    have : Ideal.exp2 0 = 1 := by rw [← EReal.coe_zero, Ideal.exp2_coe]; simp
    exact ⟨this.symm, this.symm⟩
  · have hv' : (2 : ℝ) ^ (-126 : ℤ) ≤ v := not_lt.1 hv
    have hpos : 0 < v := lt_of_lt_of_le (by positivity) hv'
    have hlo : -126 ≤ expo v := (zpow_le_iff _ v hpos).1 hv'
    have hhi : expo v < 120 := not_le.1 fun h => absurd ((zpow_le_iff _ v hpos).2 h) (not_le.2 h1)
    obtain ⟨E, hE⟩ : ∃ E : ℕ, (E : ℤ) = expo v + 127 := ⟨(expo v + 127).toNat, by omega⟩
    have hb : bis (min (a * cInv) cTop) = BitVec.ofNat 32 E := by
      refine bis_eq _ E (fun t t1 t2 => ?_) (by omega)
      rw [hk]
      rcases Nat.lt_or_ge t.toNat 255 with h | h
      · rw [ofBits_pow t.toNat t1 (by omega) _ (by rw [BitVec.ofNat_toNat, BitVec.setWidth_eq]), EReal.coe_le_coe_iff, le_min_iff]
        have e1 : (2 : ℝ) ^ ((t.toNat : ℤ) - 127) ≤ v ↔ (t.toNat : ℤ) - 127 ≤ expo v := zpow_le_iff _ v hpos
        have e2 : (2 : ℝ) ^ ((t.toNat : ℤ) - 127) ≤ 2 ^ (119 : ℤ) ↔ (t.toNat : ℤ) - 127 ≤ 119 := zpow_le_zpow_iff_right₀ (by norm_num)
        rw [e1, e2]; omega
      · refine iff_of_false ?_ (by omega)
        have : t = 255#32 := BitVec.eq_of_toNat_eq (by show t.toNat = 255; omega)
        subst this
        rw [show (255#32 <<< 23) = 0x7F800000#32 by decide, ofBits_inf, not_le]
        exact EReal.coe_lt_top _
    have key : ∀ E : Fin 247, 1 ≤ E.val → IntOp.shli .vector (BitVec.ofNat 32 E.val) 23#32 ≠ 0#32
        ∧ IntOp.addi (IntOp.shli .vector (BitVec.ofNat 32 E.val) 23#32) 8388608#32 = BitVec.ofNat 32 (E.val + 1) <<< 23
        ∧ IntOp.subi 2122317824#32 (IntOp.shli .vector (BitVec.ofNat 32 E.val) 23#32) = BitVec.ofNat 32 (253 - E.val) <<< 23 := by decide +kernel
    obtain ⟨k1, k2, k3⟩ := key ⟨E, by omega⟩ (by show 1 ≤ E; omega)
    dsimp only at k1 k2 k3
    have hf : field a = IntOp.shli .vector (BitVec.ofNat 32 E) 23#32 := by unfold field; rw [hb]
    have he : rExp a = (((expo v + 1 : ℤ) : ℝ) : EReal) := by
      unfold rExp
      rw [hr, cMin_eq, if_neg (by rw [EReal.coe_lt_coe_iff]; exact hv), cTwo_eq, Ideal.log_coe, Ideal.log_coe, if_neg (not_le.2 hpos), if_neg (by norm_num)]
      have hl : Real.log 2 ≠ 0 := (Real.log_pos (by norm_num)).ne'
      rw [Ideal.div, if_neg (by exact_mod_cast hl), ← EReal.coe_inv, ← EReal.coe_mul, Ideal.liftRound_coe, ← div_eq_mul_inv]
      show (((expo v : ℤ) : ℝ) : EReal) + 1 = _
      push_cast
      rfl
    unfold kScale kInv
    rw [hf, if_neg k1, if_neg k1, k2, k3, he, ofBits_pow (E + 1) (by omega) (by omega) _ rfl, ofBits_pow (253 - E) (by omega) (by omega) _ rfl]
    constructor
    · rw [Ideal.exp2_coe]
      refine congrArg _ ?_
      show _ = (2 : ℝ) ^ (((expo v + 1 : ℤ) : ℝ))
      rw [Real.rpow_intCast]
      congr 1; omega
    · rw [show (0 : EReal) - (((expo v + 1 : ℤ) : ℝ) : EReal) = (((-(expo v + 1) : ℤ) : ℝ) : EReal) from by
        rw [← EReal.coe_zero, ← EReal.coe_sub]; push_cast; exact congrArg Real.toEReal (by ring), Ideal.exp2_coe]
      refine congrArg _ ?_
      show _ = (2 : ℝ) ^ (((-(expo v + 1) : ℤ) : ℝ))
      rw [Real.rpow_intCast]
      congr 1; omega

end Cert.Scale

end
-- ==== Proof.Layer1Value.lean ====
module

public import proofs.«01_k».proof.Proof.Layer1Streams
public import proofs.«01_k».proof.Proof.Layer1Scale
public import Idealize.ShloMosaic.Lib.Pipeline.ValueKit

/-! The first hidden layer's results: each row's largest magnitude, accumulated lane by lane over the column tiles, is the one the reference
takes over the whole row; so the scales agree, and with them the codes. -/

@[expose] public section

set_option maxRecDepth 16384

noncomputable section

namespace Cert.Layer1Ideal.Hand

open Cert.Layer1Ideal Cert.Layer1Ideal.Gen Cert.Scale
open Idealize.ShloMosaic Idealize.ShloMosaic.TcCoe Idealize.SL.Sem
open Idealize.ShloMosaic.Pipeline (Dat)

/-! ## One row's scale, inverse scale and codes -/

section Quantise
variable (x y : Vec Ideal S1x128x128 .f32)

/-- The row maximum, divided by 448 and capped. -/
theorem pay4_at (p q : Fin 128) :
    k0_pay4 x (ix2 p q) = min (Finset.univ.sup (fun k : Fin 128 => x (ix3 (0 : Fin 1) p k)) * cInv) cTop := by
  pointwise [k0_pay4]
  rw [ofBits_bot]; rfl

theorem pay5_at (p q : Fin 128) (v : EReal) (hv : k0_pay4 x (ix2 p q) = v) :
    k0_pay5 x (ix2 p q) = stp v (stp v (stp v (stp v 0#32 128#32) 64#32) 32#32) 16#32 := by
  pointwise [k0_pay5]
  rw [hv]; rfl

theorem pay8_at (p q : Fin 128) (v : EReal) (hv : k0_pay4 x (ix2 p q) = v) :
    k0_pay8 (k0_pay4 x) (k0_pay5 x) (k0_pay6 x) (k0_pay7 x) (ix2 p q) = IntOp.shli .vector (bis v) 23#32 := by
  pointwise [k0_pay8, k0_pay7, k0_pay6]
  rw [pay5_at x p q v hv, hv]; rfl

theorem sel_eq (b : BitVec 32) (u v : EReal) : Scalar.select (IntOp.cmpi CmpIPredicate.eq b 0#32) u v = if b = 0#32 then u else v := by
  by_cases h : b = 0#32
  · subst h; rfl
  · rw [if_neg h]
    have : IntOp.cmpi CmpIPredicate.eq b 0#32 = 0#1 := by
      have hb : (b == 0#32) = false := by simpa using h
      simp [IntOp.cmpi, hb]
    rw [this]; rfl

theorem scaleSlab_at (p : Fin 128) :
    scaleSlab x (ix3 (0 : Fin 1) p (0 : Fin 1)) = kScale (Finset.univ.sup (fun k : Fin 128 => x (ix3 (0 : Fin 1) p k))) := by
  unfold scaleSlab
  pointwise [k0_pay11, k0_pay9]
  rw [pay8_at x p _ _ (pay4_at x p _)]
  exact sel_eq _ _ _

theorem invSlab_at (p q : Fin 128) :
    invSlab x (ix3 (0 : Fin 1) p q) = kInv (Finset.univ.sup (fun k : Fin 128 => x (ix3 (0 : Fin 1) p k))) := by
  unfold invSlab
  pointwise [k0_pay12, k0_pay10, k0_pay9]
  rw [pay8_at x p _ _ (pay4_at x p _)]
  exact sel_eq _ _ _

/-- A code: the value over the scale, clipped. -/
def clip (x y : EReal) : EReal := min (Ideal.ofBits .f32 1138753536#32) (max (Ideal.ofBits .f32 3286237184#32) (x * y))

theorem codeSlab_at (p q : Fin 128) : codeSlab x y (ix3 (0 : Fin 1) p q) = clip (x (ix3 (0 : Fin 1) p q)) (y (ix3 (0 : Fin 1) p q)) := by
  unfold codeSlab
  pointwise [k0_pay45]
  rfl

theorem stSlab_at (t : Vec Ideal S128x256 .f32) (r : Fin 128) (q : Fin 256) : stSlab t (ix3 (0 : Fin 1) r q) = t (ix2 r q) := by
  unfold stSlab
  pointwise [k0_pay70]

/-- The halves of a 256-column tile's row, lane by lane. -/
abbrev lo (q : Fin 128) : Fin 256 := ⟨q.val, by omega⟩
abbrev hi (q : Fin 128) : Fin 256 := ⟨128 + q.val, by omega⟩

/-- The magnitude of a value. -/
def mag (x : EReal) : EReal := max x (-x)
theorem mag_nonneg (x : EReal) : 0 ≤ mag x := by
  rcases le_total 0 x with h | h
  · exact h.trans (le_max_left _ _)
  · exact (by simpa using EReal.neg_le_neg_iff.2 h : (0 : EReal) ≤ -x).trans (le_max_right _ _)

theorem amaxSlab_at (n : BitVec 32) (t : Vec Ideal S128x256 .f32) (p q : Fin 128) : amaxSlab n t x (ix3 (0 : Fin 1) p q)
    = max (Scalar.select (Scalar.cmpi CmpIPredicate.eq n 0#32) 0 (x (ix3 (0 : Fin 1) p q))) (max (mag (t (ix2 p (lo q)))) (mag (t (ix2 p (hi q))))) := by
  unfold amaxSlab
  pointwise [k0_pay71]
  rfl
end Quantise

/-! ## The same of the reference -/

section Ref
variable (A : Vec Ideal S5x4096x4096 .fp8e4m3) (SC : Vec Ideal S5x4096x1 .f32) (W : Vec Ideal S4096x11008 .fp8e4m3) (WS B : Vec Ideal S1x11008 .f32)

theorem REFamax_at (s : Fin 5) (p : Fin 4096) : Cert.Reference1Ideal.Gen.k0_pay5 A W SC WS B (ix3 s p (0 : Fin 1))
    = Finset.univ.sup fun j : Fin 11008 => mag (REFst A SC W WS B (ix3 s p j)) := by
  pointwise [Cert.Reference1Ideal.Gen.k0_pay5]
  rw [ofBits_bot]; rfl

theorem REFexp_at (a : Vec Ideal S5x4096x1 .f32) (s : Fin 5) (p : Fin 4096) :
    Cert.Reference1Ideal.Gen.k0_pay1 (F := Ideal) a (ix3 s p (0 : Fin 1)) = rExp (a (ix3 s p (0 : Fin 1))) := by
  pointwise [Cert.Reference1Ideal.Gen.k0_pay1]
  rfl
theorem REFscale_at (a : Vec Ideal S5x4096x1 .f32) (s : Fin 5) (p : Fin 4096) :
    Cert.Reference1Ideal.Gen.k0_pay2 (F := Ideal) a (ix3 s p (0 : Fin 1)) = Ideal.exp2 (rExp (a (ix3 s p (0 : Fin 1)))) := by
  pointwise [Cert.Reference1Ideal.Gen.k0_pay2]
  rw [REFexp_at]; rfl
theorem REFcode_at (v : Vec Ideal S5x4096x11008 .f32) (a : Vec Ideal S5x4096x1 .f32) (s : Fin 5) (p : Fin 4096) (j : Fin 11008) :
    Cert.Reference1Ideal.Gen.k0_pay3 (F := Ideal) v a (ix3 s p j) = clip (v (ix3 s p j)) (Ideal.exp2 (0 - rExp (a (ix3 s p (0 : Fin 1))))) := by
  pointwise [Cert.Reference1Ideal.Gen.k0_pay3]
  rw [REFexp_at]; rfl
end Ref

/-! ## The largest magnitude of a row, accumulated lane by lane over the column tiles -/

/-- The two columns of column tile `n` that lane `q` accumulates. -/
abbrev jlo (n : Fin 43) (q : Fin 128) : Fin 11008 := ⟨n.val * 256 + q.val, by omega⟩
abbrev jhi (n : Fin 43) (q : Fin 128) : Fin 11008 := ⟨n.val * 256 + (128 + q.val), by omega⟩

/-- An accumulator restarted at column tile 0 and raised at each holds, after the 43 tiles, the maximum over them. -/
theorem fold_max (a : ℕ → EReal) (g : ℕ → EReal) (hg : ∀ n, 0 ≤ g n)
    (h : ∀ n < 43, a (n + 1) = max (Scalar.select (Scalar.cmpi CmpIPredicate.eq (BitVec.ofNat 32 n) 0#32) 0 (a n)) (g n)) :
    ∀ k < 43, a (k + 1) = (Finset.range (k + 1)).sup g
  | 0, _ => by
    rw [h 0 (by omega), Finset.range_one, Finset.sup_singleton]
    exact max_eq_right (hg 0)
  | k + 1, hk => by
    rw [h (k + 1) hk, Finset.range_add_one, Finset.sup_insert, ← fold_max a g hg h k (by omega)]
    have hc : Scalar.cmpi CmpIPredicate.eq (BitVec.ofNat 32 (k + 1)) 0#32 = 0#1 := by
      have : ∀ k : Fin 42, Scalar.cmpi CmpIPredicate.eq (BitVec.ofNat 32 (k.val + 1)) 0#32 = 0#1 := by decide
      exact this ⟨k, by omega⟩
    rw [hc]; exact max_comm _ _

/-- The maximum of the lanes' maxima is the one over the row. -/
theorem lanes_max (f : Fin 11008 → EReal) :
    (Finset.univ.sup fun q : Fin 128 => Finset.univ.sup fun n : Fin 43 => max (f (jlo n q)) (f (jhi n q))) = Finset.univ.sup f := by
  refine le_antisymm (Finset.sup_le fun q _ => Finset.sup_le fun n _ => max_le (Finset.le_sup (Finset.mem_univ _)) (Finset.le_sup (Finset.mem_univ _))) ?_
  refine Finset.sup_le fun j _ => ?_
  have hn : j.val / 256 < 43 := by omega
  have hq : j.val % 128 < 128 := by omega
  refine le_trans ?_ (Finset.le_sup (f := fun q : Fin 128 => Finset.univ.sup fun n : Fin 43 => max (f (jlo n q)) (f (jhi n q))) (Finset.mem_univ (⟨_, hq⟩ : Fin 128)))
  refine le_trans ?_ (Finset.le_sup (f := fun n : Fin 43 => max (f (jlo n ⟨_, hq⟩)) (f (jhi n ⟨_, hq⟩))) (Finset.mem_univ (⟨_, hn⟩ : Fin 43)))
  rcases Nat.lt_or_ge (j.val % 256) 128 with h | h
  · exact le_trans (le_of_eq (congrArg f (Fin.ext (by show j.val = j.val / 256 * 256 + j.val % 128; omega)))) (le_max_left _ _)
  · exact le_trans (le_of_eq (congrArg f (Fin.ext (by show j.val = j.val / 256 * 256 + (128 + j.val % 128); omega)))) (le_max_right _ _)

section Rows
variable (m : (ℓ : Loc nD τ sig) → Buf (Elt Ideal) ℓ) (c : Dev nD)

theorem amax_at (t : Fin cfg0.N) (ht : t.val < 1376) (s : Fin 5) (r q : Fin 128) : amaxAt m c (t.val + 1) (ix3 s r q)
    = max (Scalar.select (Scalar.cmpi CmpIPredicate.eq (BitVec.ofNat 32 (t.val % 43)) 0#32) 0 (amaxAt m c t.val (ix3 s r q)))
      (max (mag (ST m c (ix3 s (rowOf t r) (colOf t (lo q))))) (mag (ST m c (ix3 s (rowOf t r) (colOf t (hi q)))))) := by
  have : amaxAt m c (t.val + 1) = amaxNext (BitVec.ofNat 32 (t.val % 43)) (tileAt m c t) (amaxAt m c t.val) := by
    rw [amaxAt, dif_pos t.isLt, if_pos ht]
  rw [this, ← point_st, ← point_st]
  exact amaxSlab_at _ _ _ r q

/-- Row `r` of row block `R`. -/
abbrev rowB (R : Fin 32) (r : Fin 128) : Fin 4096 := ⟨R.val * 128 + r.val, by omega⟩

/-- After row block `R`, the largest of the lanes is the row's largest magnitude. -/
theorem amax_row (R : Fin 32) (s : Fin 5) (r : Fin 128) :
    (Finset.univ.sup fun q : Fin 128 => amaxAt m c (43 * (R.val + 1)) (ix3 s r q)) = Finset.univ.sup fun j => mag (ST m c (ix3 s (rowB R r) j)) := by
  rw [← lanes_max (fun j => mag (ST m c (ix3 s (rowB R r) j)))]
  refine Finset.sup_congr rfl fun q _ => ?_
  have key := fold_max (fun n => amaxAt m c (43 * R.val + n) (ix3 s r q))
    (fun n => if h : n < 43 then max (mag (ST m c (ix3 s (rowB R r) (jlo ⟨n, h⟩ q)))) (mag (ST m c (ix3 s (rowB R r) (jhi ⟨n, h⟩ q)))) else 0)
    (fun n => by
      split
      · exact (mag_nonneg _).trans (le_max_left _ _)
      · exact le_rfl)
    (fun n hn => by
      have hlt : 43 * R.val + n < cfg0.N := Nat.lt_of_lt_of_eq (by omega) N_eq.symm
      have e1 : (43 * R.val + n) % 43 = n := by omega
      have e2 : rowOf ⟨_, hlt⟩ r = rowB R r := Fin.ext (by show min ((43 * R.val + n) / 43) 31 * 128 + r.val = R.val * 128 + r.val; omega)
      have e3 : ∀ e, colOf ⟨_, hlt⟩ e = (⟨n * 256 + e.val, by omega⟩ : Fin 11008) := fun e => Fin.ext (by show (43 * R.val + n) % 43 * 256 + e.val = n * 256 + e.val; omega)
      have := amax_at m c ⟨_, hlt⟩ (by show 43 * R.val + n < 1376; omega) s r q
      rw [e2, e3, e3] at this
      dsimp only at this
      rw [e1] at this
      rw [dif_pos hn]
      exact this) 42 (by omega)
  rw [show 43 * (R.val + 1) = 43 * R.val + (42 + 1) by omega]
  refine key.trans ?_
  refine le_antisymm (Finset.sup_le fun n hn => ?_) (Finset.sup_le fun n _ => ?_)
  · have hn' : n < 43 := Finset.mem_range.1 hn
    rw [dif_pos hn']
    exact Finset.le_sup (f := fun n : Fin 43 => max (mag (ST m c (ix3 s (rowB R r) (jlo n q)))) (mag (ST m c (ix3 s (rowB R r) (jhi n q))))) (Finset.mem_univ (⟨n, hn'⟩ : Fin 43))
  · refine le_trans (le_of_eq ?_) (Finset.le_sup (Finset.mem_range.2 n.isLt))
    rw [dif_pos n.isLt]

/-- The reference's row maxima, scales and codes of this run's operands. -/
abbrev AMAX : Vec Ideal S5x4096x1 .f32 :=
  Cert.Reference1Ideal.Gen.k0_pay5 (V m c main_arg0) (V m c main_arg2) (V m c main_arg1) (V m c main_v0) (V m c main_v1)

theorem AMAX_at (s : Fin 5) (p : Fin 4096) : AMAX m c (ix3 s p (0 : Fin 1)) = Finset.univ.sup fun j => mag (ST m c (ix3 s p j)) := REFamax_at _ _ _ _ _ s p
theorem AMAX_nonneg (s : Fin 5) (p : Fin 4096) : 0 ≤ AMAX m c (ix3 s p (0 : Fin 1)) := by
  rw [AMAX_at]
  exact (mag_nonneg _).trans (Finset.le_sup (f := fun j => mag (ST m c (ix3 s p j))) (Finset.mem_univ (0 : Fin 11008)))

theorem scale_row (R : Fin 32) (s : Fin 5) (r : Fin 128) : scaleAll (amaxAt m c (43 * (R.val + 1))) (ix3 s r (0 : Fin 1))
    = Cert.Reference1Ideal.Gen.k0_pay2 (F := Ideal) (AMAX m c) (ix3 s (rowB R r) (0 : Fin 1)) := by
  rw [REFscale_at, ← (scales_eq _ (AMAX_nonneg m c s (rowB R r))).1, AMAX_at, ← amax_row m c R s r]
  exact scaleSlab_at _ r
theorem inv_row (R : Fin 32) (s : Fin 5) (r q : Fin 128) : invAll (amaxAt m c (43 * (R.val + 1))) (ix3 s r q)
    = Ideal.exp2 (0 - rExp (AMAX m c (ix3 s (rowB R r) (0 : Fin 1)))) := by
  rw [← (scales_eq _ (AMAX_nonneg m c s (rowB R r))).2, AMAX_at, ← amax_row m c R s r]
  exact invSlab_at _ r q

/-- The kept streams of row block `R`. -/
theorem st_row (R : Fin 32) (s : Fin 5) (r : Fin 128) (j : Fin 11008) : stSpec m c R.val (ix3 s r j) = ST m c (ix3 s (rowB R r) j) := by
  have hp : (pt R.val (j.val / 256)).val = 43 * R.val + j.val / 256 := Nat.mod_eq_of_lt (by omega)
  have : stSpec m c R.val (ix3 s r j) = tileAt m c (pt R.val (j.val / 256)) s (ix2 r (⟨j.val % 256, by omega⟩ : Fin 256)) := stSlab_at _ r _
  rw [this, point_st]
  have e1 : rowOf (pt R.val (j.val / 256)) r = rowB R r := Fin.ext (by show min ((pt R.val (j.val / 256)).val / 43) 31 * 128 + r.val = R.val * 128 + r.val; rw [hp]; omega)
  have e2 : colOf (pt R.val (j.val / 256)) (⟨j.val % 256, by omega⟩ : Fin 256) = j := Fin.ext (by show (pt R.val (j.val / 256)).val % 43 * 256 + j.val % 256 = j.val; rw [hp]; omega)
  rw [e1, e2]

theorem code_row (R : Fin 32) (n : ℕ) (hn : n < 43) (s : Fin 5) (r : Fin 128) (q : Fin 256) :
    codesAll n (stSpec m c R.val) (invAll (amaxAt m c (43 * (R.val + 1)))) (ix3 s r q)
      = Cert.Reference1Ideal.Gen.k0_pay3 (F := Ideal) (ST m c) (AMAX m c) (ix3 s (rowB R r) (⟨n * 256 + q.val, by omega⟩ : Fin 11008)) := by
  rw [REFcode_at]
  refine (codeSlab_at _ _ r (⟨q.val % 128, by omega⟩ : Fin 128)).trans (congrArg₂ clip ?_ (inv_row m c R s r _))
  refine (st_row m c R s r _).trans (congrArg (fun j => ST m c (ix3 s (rowB R r) j)) (Fin.ext ?_))
  show (256 * n + 128 * (q.val / 128) + q.val % 128) % 11008 = n * 256 + q.val
  omega

theorem final_codes : (dats m 0 c).arrAt 5 (cfgs 0).N = Cert.Reference1Ideal.Gen.k0_pay3 (F := Ideal) (ST m c) (AMAX m c) := by
  refine (dats m 0 c).arrAt_eq_of_covers 5 _ (by decide +kernel) fun t hf y => ?_
  have ht : 43 ≤ t.val := by
    by_contra h
    rw [noFlush5 t (by omega)] at hf
    exact Bool.noConfusion hf
  have hN : t.val < 1419 := Nat.lt_of_lt_of_eq t.isLt N_eq
  blk_simp
  rw [after0_5]
  idx_vars y
  have key := code_row m c ⟨t.val / 43 - 1, by omega⟩ (t.val % 43) (by omega) y0 y1 y2
  dsimp only at key
  rw [show 43 * (t.val / 43 - 1 + 1) = 43 * (t.val / 43) by omega] at key
  refine key.trans (congrArg _ ?_)
  have hne : ¬ t.val / 43 = 0 := by omega
  blk_ext [idx t, hne]
  rw [if_neg not_false]

theorem final_scales : (dats m 0 c).arrAt 6 (cfgs 0).N = Cert.Reference1Ideal.Gen.k0_pay2 (F := Ideal) (AMAX m c) := by
  refine (dats m 0 c).arrAt_eq_of_covers 6 _ (by decide +kernel) fun t hf y => ?_
  have ht : 43 ≤ t.val := by
    by_contra h
    rw [noFlush6 t (by omega)] at hf
    exact Bool.noConfusion hf
  have hN : t.val < 1419 := Nat.lt_of_lt_of_eq t.isLt N_eq
  blk_simp
  rw [after0_6]
  idx_vars y
  have h0 : y2 = 0 := by omega
  subst h0
  have key := scale_row m c ⟨t.val / 43 - 1, by omega⟩ y0 y1
  dsimp only at key
  rw [show 43 * (t.val / 43 - 1 + 1) = 43 * (t.val / 43) by omega] at key
  exact key.trans (congrArg _ (by blk_ext [idx t]))
end Rows

end Cert.Layer1Ideal.Hand

end
-- ==== Proof.Reference1Value.lean ====
module

public import proofs.«01_k».proof.Proof.Gen.Reference1Ideal.Frame
public import Idealize.ShloMosaic.Lib.Pipeline.ValueKit

/-! The reference of the first hidden layer: its one grid point reads the whole operands and stores its two results whole. -/

@[expose] public section

set_option maxRecDepth 16384

noncomputable section

namespace Cert.Reference1Ideal.Hand

open Cert.Reference1Ideal Cert.Reference1Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0, 0] ∧ win0_6.index t = ![0, 0, 0] :=
  (by decide +kernel : ∀ t : Fin grid0.N, _)

/-- The one point's blocks are the whole operands. -/
theorem iblk0 (t) : iblk m c 0 t = V m c main_arg0 := by blk_ext! [iblk, idx t]
theorem iblk1 (t) : iblk m c 1 t = V m c main_arg1 := by blk_ext! [iblk, idx t]
theorem iblk2 (t) : iblk m c 2 t = V m c main_arg2 := by blk_ext! [iblk, idx t]
theorem iblk3 (t) : iblk m c 3 t = V m c main_v0 := by blk_ext! [iblk, idx t]
theorem iblk4 (t) : iblk m c 4 t = V m c main_v1 := by blk_ext! [iblk, idx t]

/-- The codes. -/
theorem final_codes : (dats m 0 c).arrAt 5 (cfgs 0).N
    = k0_pay3 (F := Ideal) (k0_pay4 (V m c main_arg0) (V m c main_arg2) (V m c main_arg1) (V m c main_v0) (V m c main_v1))
        (k0_pay5 (V m c main_arg0) (V m c main_arg2) (V m c main_arg1) (V m c main_v0) (V m c main_v1)) := by
  refine (dats m 0 c).arrAt_eq_of_after_last 5 t0_0 (by decide +kernel) _ fun j => ?_
  blk_simp
  rw [after0_5]; unfold_out out0_5; frame_out
  rw [iblk0, iblk1, iblk2, iblk3, iblk4]
/-- The scales. -/
theorem final_scales : (dats m 0 c).arrAt 6 (cfgs 0).N
    = k0_pay2 (F := Ideal) (k0_pay5 (V m c main_arg0) (V m c main_arg2) (V m c main_arg1) (V m c main_v0) (V m c main_v1)) := by
  refine (dats m 0 c).arrAt_eq_of_after_last 6 t0_0 (by decide +kernel) _ fun j => ?_
  blk_simp
  rw [after0_6]; unfold_out out0_6; frame_out
  rw [iblk0, iblk1, iblk2, iblk3, iblk4]

end Cert.Reference1Ideal.Hand

end
-- ==== Proof.Layer1Equation.lean ====
module

public import proofs.«01_k».proof.Proof.Layer1Value
public import proofs.«01_k».proof.Proof.Reference1Value
public import Idealize.ShloMosaic.Lib.Claim

/-! The first hidden layer: on the same arguments, the kernel and the reference end with the same codes and the same scales. -/

@[expose] public section

set_option maxRecDepth 16384

noncomputable section

namespace Cert.Layer1Equation

open Idealize.ShloMosaic Idealize.ShloMosaic.TcCoe Idealize.SL.Sem

variable (m : (ℓ : Loc Cert.Layer1Ideal.nD Cert.Layer1Ideal.τ Cert.Layer1Ideal.sig) → Buf (Elt Ideal) ℓ)
  (m' : (ℓ : Loc Cert.Reference1Ideal.nD Cert.Reference1Ideal.τ Cert.Reference1Ideal.sig) → Buf (Elt Ideal) ℓ)

/-- Both programs are started on the same five arguments. -/
abbrev Agree : Prop := ∀ c : Dev Cert.Layer1Ideal.nD,
  m' ((c.tc : Thread Cert.Reference1Ideal.nD Cert.Reference1Ideal.τ).loc Cert.Reference1Ideal.main_arg0) = m ((c.tc : Thread Cert.Layer1Ideal.nD Cert.Layer1Ideal.τ).loc Cert.Layer1Ideal.main_arg0)
  ∧ m' ((c.tc : Thread Cert.Reference1Ideal.nD Cert.Reference1Ideal.τ).loc Cert.Reference1Ideal.main_arg1) = m ((c.tc : Thread Cert.Layer1Ideal.nD Cert.Layer1Ideal.τ).loc Cert.Layer1Ideal.main_arg1)
  ∧ m' ((c.tc : Thread Cert.Reference1Ideal.nD Cert.Reference1Ideal.τ).loc Cert.Reference1Ideal.main_arg2) = m ((c.tc : Thread Cert.Layer1Ideal.nD Cert.Layer1Ideal.τ).loc Cert.Layer1Ideal.main_arg2)
  ∧ m' ((c.tc : Thread Cert.Reference1Ideal.nD Cert.Reference1Ideal.τ).loc Cert.Reference1Ideal.main_arg3) = m ((c.tc : Thread Cert.Layer1Ideal.nD Cert.Layer1Ideal.τ).loc Cert.Layer1Ideal.main_arg3)
  ∧ m' ((c.tc : Thread Cert.Reference1Ideal.nD Cert.Reference1Ideal.τ).loc Cert.Reference1Ideal.main_arg4) = m ((c.tc : Thread Cert.Layer1Ideal.nD Cert.Layer1Ideal.τ).loc Cert.Layer1Ideal.main_arg4)

section Operands
variable (c : Dev Cert.Layer1Ideal.nD) (h : Agree m m')
include h

/-- So their five operands are the same arrays. -/
theorem op0 : (Cert.Reference1Ideal.Gen.V m' c Cert.Reference1Ideal.main_arg0 : Vec Ideal Cert.Layer1Ideal.S5x4096x4096 .fp8e4m3) = Cert.Layer1Ideal.Gen.V m c Cert.Layer1Ideal.main_arg0 :=
  (Cert.Reference1Ideal.Gen.V_main_arg0 m' c).trans ((h c).1.trans (Cert.Layer1Ideal.Gen.V_main_arg0 m c).symm)
theorem op1 : (Cert.Reference1Ideal.Gen.V m' c Cert.Reference1Ideal.main_arg1 : Vec Ideal Cert.Layer1Ideal.S5x4096x1 .f32) = Cert.Layer1Ideal.Gen.V m c Cert.Layer1Ideal.main_arg1 :=
  (Cert.Reference1Ideal.Gen.V_main_arg1 m' c).trans ((h c).2.1.trans (Cert.Layer1Ideal.Gen.V_main_arg1 m c).symm)
theorem op2 : (Cert.Reference1Ideal.Gen.V m' c Cert.Reference1Ideal.main_arg2 : Vec Ideal Cert.Layer1Ideal.S4096x11008 .fp8e4m3) = Cert.Layer1Ideal.Gen.V m c Cert.Layer1Ideal.main_arg2 :=
  (Cert.Reference1Ideal.Gen.V_main_arg2 m' c).trans ((h c).2.2.1.trans (Cert.Layer1Ideal.Gen.V_main_arg2 m c).symm)
theorem op3 : (Cert.Reference1Ideal.Gen.V m' c Cert.Reference1Ideal.main_v0 : Vec Ideal Cert.Layer1Ideal.S1x11008 .f32) = Cert.Layer1Ideal.Gen.V m c Cert.Layer1Ideal.main_v0 := by
  entry_read; rw [(h c).2.2.2.1]; rfl
theorem op4 : (Cert.Reference1Ideal.Gen.V m' c Cert.Reference1Ideal.main_v1 : Vec Ideal Cert.Layer1Ideal.S1x11008 .f32) = Cert.Layer1Ideal.Gen.V m c Cert.Layer1Ideal.main_v1 := by
  entry_read; rw [(h c).2.2.2.2]; rfl
/-- And their results. -/
theorem eq_codes : (Cert.Reference1Ideal.Gen.dats m' 0 c).arrAt 5 (Cert.Reference1Ideal.cfgs 0).N
    = ((Cert.Layer1Ideal.Hand.dats m 0 c).arrAt 5 (Cert.Layer1Ideal.cfgs 0).N : Vec Ideal Cert.Layer1Ideal.S5x4096x11008 .fp8e4m3) := by
  rw [Cert.Reference1Ideal.Hand.final_codes, Cert.Layer1Ideal.Hand.final_codes, op0 m m' c h, op1 m m' c h, op2 m m' c h, op3 m m' c h, op4 m m' c h]
  rfl
theorem eq_scales : (Cert.Reference1Ideal.Gen.dats m' 0 c).arrAt 6 (Cert.Reference1Ideal.cfgs 0).N
    = ((Cert.Layer1Ideal.Hand.dats m 0 c).arrAt 6 (Cert.Layer1Ideal.cfgs 0).N : Vec Ideal Cert.Layer1Ideal.S5x4096x1 .f32) := by
  rw [Cert.Reference1Ideal.Hand.final_scales, Cert.Layer1Ideal.Hand.final_scales, op0 m m' c h, op1 m m' c h, op2 m m' c h, op3 m m' c h, op4 m m' c h]

end Operands
end Cert.Layer1Equation

end
-- ==== Proof.Layer2Run.lean ====
module

public import proofs.«01_k».proof.Proof.Gen.Layer2.Skeleton
public import proofs.«01_k».proof.Proof.Gen.Layer2.Frame

/-! What one grid point of the last hidden layer's kernel does to memory: the blocks it reads, what it stores, and the accumulators it
keeps. -/

@[expose] public section

set_option maxRecDepth 16384

noncomputable section

namespace Cert.Layer2.Hand

open Cert.Layer2 Cert.Layer2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last column block of a row block is being computed: the two accumulated lane sums are reduced and stored. -/
abbrev isLast (i : grid0.Coords) : Prop := k0_cond1 i = 1#1

/-- The last column block is met at the points ≡ 15 (mod 16). -/
theorem isLast_iff : ∀ t : Fin cfg0.N, isLast (grid0.coords t) ↔ t.val % 16 = 15 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 1 % 16 := Pipeline.Grid.coords_val t 1 (by decide) rfl
    simp only [isLast, k0_cond1, e0, e1]
    word_cmp
   : ∀ t : Fin grid0.N, isLast (grid0.coords t) ↔ t.val % 16 = 15)

/-- The column index is zero at the points ≡ 0 (mod 16). -/
theorem col_val (t : Fin cfg0.N) : (grid0.coords t 1).val = t.val % 16 := by
  have e1 : (grid0.coords t 1).val = t.val / 1 % 16 := Pipeline.Grid.coords_val t 1 (by decide) rfl
  rw [e1, Nat.div_one]

/-- Off the last column block the row results (windows 8 and 9) are not written back, and the body leaves them alone. -/
theorem idle8 : ∀ t : Fin cfg0.N, ¬isLast (grid0.coords t) → cfg0.idle 8 (grid0.coords t) = true := by decide +kernel
theorem idle9 : ∀ t : Fin cfg0.N, ¬isLast (grid0.coords t) → cfg0.idle 9 (grid0.coords t) = true := by decide +kernel
theorem noFlush8 : ∀ t : Fin cfg0.N, ¬isLast (grid0.coords t) → (cfg0.win 8).flush t = false := by decide +kernel
theorem noFlush9 : ∀ t : Fin cfg0.N, ¬isLast (grid0.coords t) → (cfg0.win 9).flush t = false := by decide +kernel
/-- On the last column block both are stored. -/
theorem live8 : ∀ t : Fin cfg0.N, isLast (grid0.coords t) → cfg0.idle 8 (grid0.coords t) = false := by decide +kernel
theorem live9 : ∀ t : Fin cfg0.N, isLast (grid0.coords t) → cfg0.idle 9 (grid0.coords t) = false := by decide +kernel

/-- The windows' current staging buffers at point `t`. -/
abbrev ms0 (t : Fin cfg0.N) : Memref sig .tc .vmem S5x256x11008 .fp8e4m3 := win0_0.stage (cfg0.slots t 0)
abbrev ms1 (t : Fin cfg0.N) : Memref sig .tc .vmem S5x256x1 .f32 := win0_1.stage (cfg0.slots t 1)
abbrev ms2 (t : Fin cfg0.N) : Memref sig .tc .vmem S11008x256 .fp8e4m3 := win0_2.stage (cfg0.slots t 2)
abbrev ms3 (t : Fin cfg0.N) : Memref sig .tc .vmem S1x256 .f32 := win0_3.stage (cfg0.slots t 3)
abbrev ms4 (t : Fin cfg0.N) : Memref sig .tc .vmem S1x256 .f32 := win0_4.stage (cfg0.slots t 4)
abbrev ms5 (t : Fin cfg0.N) : Memref sig .tc .vmem S1x256 .f32 := win0_5.stage (cfg0.slots t 5)
abbrev ms6 (t : Fin cfg0.N) : Memref sig .tc .vmem S256x256 .f32 := win0_6.stage (cfg0.slots t 6)
abbrev ms7 (t : Fin cfg0.N) : Memref sig .tc .vmem S256x256 .f32 := win0_7.stage (cfg0.slots t 7)
abbrev ms8 (t : Fin cfg0.N) : Memref sig .tc .vmem S256x1 .f32 := win0_8.stage (cfg0.slots t 8)
abbrev ms9 (t : Fin cfg0.N) : Memref sig .tc .vmem S256x1 .f32 := win0_9.stage (cfg0.slots t 9)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)
abbrev hs7 (t : Fin cfg0.N) : (ms7 t).IsWhole := hstage0_7 ((cfg0.slots t 7).cast nbuf0_7)
abbrev hs8 (t : Fin cfg0.N) : (ms8 t).IsWhole := hstage0_8 ((cfg0.slots t 8).cast nbuf0_8)
abbrev hs9 (t : Fin cfg0.N) : (ms9 t).IsWhole := hstage0_9 ((cfg0.slots t 9).cast nbuf0_9)

/-- The two lane-sum accumulators: a scratch buffer of the kernel's own, carried from point to point. -/
abbrev scM : Memref sig .tc .vmem S2x256x128 .f32 := Memref.whole cc0_scratch0

/-- What the pipeline hands the first point besides the windows: the scratch at anything, the generator register at anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

section Runs

variable (c : Dev nD) (i : grid0.Coords)
  (arg2 : Memref sig .tc .vmem S5x256x11008 .fp8e4m3) (harg2 : arg2.IsWhole) (arg3 : Memref sig .tc .vmem S5x256x1 .f32) (harg3 : arg3.IsWhole)
  (arg4 : Memref sig .tc .vmem S11008x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1x256 .f32) (harg7 : arg7.IsWhole)
  (arg8 : Memref sig .tc .vmem S256x256 .f32) (harg8 : arg8.IsWhole) (arg9 : Memref sig .tc .vmem S256x256 .f32) (harg9 : arg9.IsWhole)
  (arg10 : Memref sig .tc .vmem S256x1 .f32) (harg10 : arg10.IsWhole) (arg11 : Memref sig .tc .vmem S256x1 .f32) (harg11 : arg11.IsWhole)
  (arg12 : Memref sig .tc .vmem S2x256x128 .f32) (harg12 : arg12.IsWhole)
  (x0 : Vec F S5x256x11008 .fp8e4m3) (x1 : Vec F S5x256x1 .f32) (x2 : Vec F S11008x256 .fp8e4m3) (x3 : Vec F S1x256 .f32)
  (x4 : Vec F S1x256 .f32) (x5 : Vec F S1x256 .f32) (xs : Vec F S2x256x128 .f32)

/-- The six input blocks are held, each in its own buffer. -/
abbrev insOwned : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

set_option maxHeartbeats 1000000 in
/-- The body off the last column block, run on any whole buffers holding the six input blocks and the accumulators `xs`: the
    pieces it stores into the blocks of `h`, of the Laplacian stream and into the accumulators (found by the run), and that it ends
    with the inputs as they were, those pieces written and the two row results untouched. -/
noncomputable def runMid (hc : ¬isLast i) :
    Σ' (L6 : List (View.Piece (Elt F) S256x256 .f32)), Σ' (L7 : List (View.Piece (Elt F) S256x256 .f32)), { LS : List (View.Piece (Elt F) S2x256x128 .f32) //
      ∀ (E : Set ℕ) (K : PUnit → sProp 𝕄) (d8 d9 : Vec F S256x1 .f32),
        iprop(insOwned c arg2 arg3 arg4 arg5 arg6 arg7 x0 x1 x2 x3 x4 x5 ∗ (∃ d, owns (c : Thread nD τ) arg8 fullShare d) ∗ (∃ d, owns (c : Thread nD τ) arg9 fullShare d) ∗ owns (c : Thread nD τ) arg10 fullShare d8 ∗ owns (c : Thread nD τ) arg11 fullShare d9 ∗ owns (c : Thread nD τ) arg12 fullShare xs
            ∗ (iprop(insOwned c arg2 arg3 arg4 arg5 arg6 arg7 x0 x1 x2 x3 x4 x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare d8 ∗ owns (c : Thread nD τ) arg11 fullShare d9 ∗ (∃ f, arg12.view.loc (c : Thread nD τ) ↦[arg12.view.set]{fullShare} arg12.view.writes (Elt F) f LS)) -∗ K ⟨⟩))
          ⊢ wp frame (wpE (defs₀ (F := F)) Variants.none c none) E (cc0_layer2 i arg2 harg2 arg3 harg3 arg4 harg4 arg5 harg5 arg6 harg6 arg7 harg7 arg8 harg8 arg9 harg9 arg10 harg10 arg11 harg11 arg12 harg12) K } := by
  refine ⟨?_, ?_, ?_, fun E K d8 d9 => ?run⟩
  case run =>
    simp only [cc0_layer2_eq_skeleton]; unfold cc0_layer2_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, H8, H9, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg12.eq_unread hfs0
    sl_exec (disch := sl_exact hc)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexists _; iexact H6
    isplitl [H7]; · iexists _; iexact H7
    isplitl [H8]; · iexact H8
    isplitl [H9]; · iexact H9
    iexists _; iexact HS0

set_option maxHeartbeats 1000000 in
/-- The body on the last column block, as `runMid`, with the pieces it stores into the two row results as well. -/
noncomputable def runLast (hc : isLast i) :
    Σ' (L6 : List (View.Piece (Elt F) S256x256 .f32)), Σ' (L7 : List (View.Piece (Elt F) S256x256 .f32)), Σ' (L8 : List (View.Piece (Elt F) S256x1 .f32)), Σ' (L9 : List (View.Piece (Elt F) S256x1 .f32)), { LS : List (View.Piece (Elt F) S2x256x128 .f32) //
      ∀ (E : Set ℕ) (K : PUnit → sProp 𝕄),
        iprop(insOwned c arg2 arg3 arg4 arg5 arg6 arg7 x0 x1 x2 x3 x4 x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(insOwned c arg2 arg3 arg4 arg5 arg6 arg7 x0 x1 x2 x3 x4 x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS)) -∗ K ⟨⟩))
          ⊢ wp frame (wpE (defs₀ (F := F)) Variants.none c none) E (cc0_layer2 i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_layer2_eq_skeleton]; unfold cc0_layer2_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg12.eq_unread hfs0
    sl_exec (disch := sl_exact hc)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Runs

end Cert.Layer2.Hand

end
-- ==== Proof.Layer2Frame.lean ====
module

public import proofs.«01_k».proof.Proof.Layer2Run
public import Idealize.ShloMosaic.Lib.Pipeline.ValueKit

/-! The frame of the last hidden layer's kernel: it ends, faults nowhere, and writes only its results. -/

@[expose] public section

set_option maxRecDepth 16384

noncomputable section

namespace Cert.Layer2.Hand

open Cert.Layer2 Cert.Layer2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Blocks

variable (n : BitVec 32) (x0 : Vec F S5x256x11008 .fp8e4m3) (x1 : Vec F S5x256x1 .f32) (x2 : Vec F S11008x256 .fp8e4m3) (x3 : Vec F S1x256 .f32)
  (x4 : Vec F S1x256 .f32) (x5 : Vec F S1x256 .f32) (xs : Vec F S2x256x128 .f32)

/-- The rescaled products of the value stream, the block of `h`, and the block of the Laplacian stream, over a point's input blocks. -/
def zBlk : Vec F S256x256 .f32 := k0_pay6 x0 x2 (View.ld x1 (Rect.unit ![0, 0, 0] ![1, 256, 1] inb_S5x256x1_S1x256x1_0_0_0)) x3
def hBlk : Vec F S256x256 .f32 := k0_pay11 (zBlk x0 x1 x2 x3) x4
def lBlk : Vec F S256x256 .f32 :=
  k0_pay12 (k0_pay5 x0 x2) (zBlk x0 x1 x2 x3)
    (k0_pay7 x0 x2 (View.ld x1 (Rect.unit ![1, 0, 0] ![1, 256, 1] inb_S5x256x1_S1x256x1_1_0_0)) x3)
    (k0_pay8 x0 x2 (View.ld x1 (Rect.unit ![2, 0, 0] ![1, 256, 1] inb_S5x256x1_S1x256x1_2_0_0)) x3)
    (k0_pay9 x0 x2) (k0_pay10 (View.ld x1 (Rect.unit ![3, 0, 0] ![1, 256, 1] inb_S5x256x1_S1x256x1_3_0_0)))
    x3 (View.ld x1 (Rect.unit ![4, 0, 0] ![1, 256, 1] inb_S5x256x1_S1x256x1_4_0_0)) x3 x4

/-- The two accumulated lane sums after a point of column `n`, over what it finds (`xs`). -/
def uSlab : Vec F S1x256x128 .f32 :=
  k0_pay1 n (k0_pay13 (zBlk x0 x1 x2 x3) x4 x5) (k0_pay14 (zBlk x0 x1 x2 x3) x4 x5)
    (View.ld xs (Rect.unit ![0, 0, 0] ![1, 256, 128] inb_S2x256x128_S1x256x128_0_0_0))
def lapSlab : Vec F S1x256x128 .f32 :=
  k0_pay2 n (lBlk x0 x1 x2 x3 x4) x5
    (View.ld xs (Rect.unit ![1, 0, 0] ![1, 256, 128] inb_S2x256x128_S1x256x128_1_0_0))

/-- The accumulators as one buffer. -/
def accNext : Vec F S2x256x128 .f32 :=
  View.canon [⟨Rect.unit ![1, 0, 0] ![1, 256, 128] inb_S2x256x128_S1x256x128_1_0_0, lapSlab n x0 x1 x2 x3 x4 x5 xs⟩,
    ⟨Rect.unit ![0, 0, 0] ![1, 256, 128] inb_S2x256x128_S1x256x128_0_0_0, uSlab n x0 x1 x2 x3 x4 x5 xs⟩]

/-- At column 0 the accumulators restart: what they held does not matter. -/
theorem accNext_zero (xs' : Vec F S2x256x128 .f32) : accNext 0#32 x0 x1 x2 x3 x4 x5 xs = accNext 0#32 x0 x1 x2 x3 x4 x5 xs' := by
  have hu : uSlab 0#32 x0 x1 x2 x3 x4 x5 xs = uSlab 0#32 x0 x1 x2 x3 x4 x5 xs' := rfl
  have hl : lapSlab 0#32 x0 x1 x2 x3 x4 x5 xs = lapSlab 0#32 x0 x1 x2 x3 x4 x5 xs' := rfl
  unfold accNext; rw [hu, hl]

end Blocks

/-- The run off the last column block, at point `t`'s buffers and input blocks, over accumulators `xs`. -/
abbrev midAt (c : Dev nD) (t : Fin cfg0.N) (h : ¬isLast (grid0.coords t)) (xs : Vec F S2x256x128 .f32) :=
  runMid c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) scM (Memref.isWhole_whole _)
    (iblk m c 0 t) (iblk m c 1 t) (iblk m c 2 t) (iblk m c 3 t) (iblk m c 4 t) (iblk m c 5 t) xs h
/-- The run on the last column block, likewise. -/
abbrev lastAt (c : Dev nD) (t : Fin cfg0.N) (h : isLast (grid0.coords t)) (xs : Vec F S2x256x128 .f32) :=
  runLast c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) scM (Memref.isWhole_whole _)
    (iblk m c 0 t) (iblk m c 1 t) (iblk m c 2 t) (iblk m c 3 t) (iblk m c 4 t) (iblk m c 5 t) xs h

/-- The stored pieces cover the buffers they go into. -/
theorem midCover6 (c : Dev nD) (t : Fin cfg0.N) (h) (xs : Vec F S2x256x128 .f32) (y : S256x256.Idx) : ∃ pc ∈ (midAt m c t h xs).1, y ∈ pc.1.set :=
  View.cover_of_tiledL (midAt m c t h xs).1 S256x256.size (by sl_kernel_rfl) y
theorem midCover7 (c : Dev nD) (t : Fin cfg0.N) (h) (xs : Vec F S2x256x128 .f32) (y : S256x256.Idx) : ∃ pc ∈ (midAt m c t h xs).2.1, y ∈ pc.1.set :=
  View.cover_of_tiledL (midAt m c t h xs).2.1 S256x256.size (by sl_kernel_rfl) y
theorem midCoverS (c : Dev nD) (t : Fin cfg0.N) (h) (xs : Vec F S2x256x128 .f32) (y : S2x256x128.Idx) : ∃ pc ∈ (midAt m c t h xs).2.2.1, y ∈ pc.1.set :=
  View.cover_of_tiledL (midAt m c t h xs).2.2.1 S1x256x128.size (by sl_kernel_rfl) y
theorem lastCover6 (c : Dev nD) (t : Fin cfg0.N) (h) (xs : Vec F S2x256x128 .f32) (y : S256x256.Idx) : ∃ pc ∈ (lastAt m c t h xs).1, y ∈ pc.1.set :=
  View.cover_of_tiledL (lastAt m c t h xs).1 S256x256.size (by sl_kernel_rfl) y
theorem lastCover7 (c : Dev nD) (t : Fin cfg0.N) (h) (xs : Vec F S2x256x128 .f32) (y : S256x256.Idx) : ∃ pc ∈ (lastAt m c t h xs).2.1, y ∈ pc.1.set :=
  View.cover_of_tiledL (lastAt m c t h xs).2.1 S256x256.size (by sl_kernel_rfl) y
theorem lastCover8 (c : Dev nD) (t : Fin cfg0.N) (h) (xs : Vec F S2x256x128 .f32) (y : S256x1.Idx) : ∃ pc ∈ (lastAt m c t h xs).2.2.1, y ∈ pc.1.set :=
  View.cover_of_tiledL (lastAt m c t h xs).2.2.1 S256x1.size (by sl_kernel_rfl) y
theorem lastCover9 (c : Dev nD) (t : Fin cfg0.N) (h) (xs : Vec F S2x256x128 .f32) (y : S256x1.Idx) : ∃ pc ∈ (lastAt m c t h xs).2.2.2.1, y ∈ pc.1.set :=
  View.cover_of_tiledL (lastAt m c t h xs).2.2.2.1 S256x1.size (by sl_kernel_rfl) y
theorem lastCoverS (c : Dev nD) (t : Fin cfg0.N) (h) (xs : Vec F S2x256x128 .f32) (y : S2x256x128.Idx) : ∃ pc ∈ (lastAt m c t h xs).2.2.2.2.1, y ∈ pc.1.set :=
  View.cover_of_tiledL (lastAt m c t h xs).2.2.2.2.1 S1x256x128.size (by sl_kernel_rfl) y

/-- The two accumulators are different rows of the scratch buffer. -/
theorem slabs_disjoint : Disjoint (Rect.unit (s := S2x256x128) ![1, 0, 0] ![1, 256, 128] inb_S2x256x128_S1x256x128_1_0_0).set
    (Rect.unit (s := S2x256x128) ![0, 0, 0] ![1, 256, 128] inb_S2x256x128_S1x256x128_0_0_0).toLoadRect.set := by
  exact LoadRect.disjoint_of_separated _ _ (0 : Fin 3) (Or.inr (Or.inr (by decide)))

/-- So the first accumulator is read back past the second one's store. -/
theorem slab0_read (v : View sig .tc .vmem S2x256x128 .f32) (a b : Vec F S1x256x128 .f32) :
    v.readCov (Val := Elt F) [⟨Rect.unit ![1, 0, 0] ![1, 256, 128] inb_S2x256x128_S1x256x128_1_0_0, a⟩,
      ⟨Rect.unit ![0, 0, 0] ![1, 256, 128] inb_S2x256x128_S1x256x128_0_0_0, b⟩]
      (Rect.unit (s := S2x256x128) ![0, 0, 0] ![1, 256, 128] inb_S2x256x128_S1x256x128_0_0_0).toLoadRect = b := by
  rw [View.readCov_cons_of_disjoint]
  · rw [View.readCov_cons_toLoadRect]
  · exact slabs_disjoint

/-- What the stored pieces hold: the blocks above. -/
theorem midOut6 (c : Dev nD) (t : Fin cfg0.N) (h) (xs : Vec F S2x256x128 .f32) :
    View.canon (midAt m c t h xs).1 = hBlk (iblk m c 0 t) (iblk m c 1 t) (iblk m c 2 t) (iblk m c 3 t) (iblk m c 4 t) := by
  unfold midAt hBlk zBlk; frame_out
theorem midOut7 (c : Dev nD) (t : Fin cfg0.N) (h) (xs : Vec F S2x256x128 .f32) :
    View.canon (midAt m c t h xs).2.1 = lBlk (iblk m c 0 t) (iblk m c 1 t) (iblk m c 2 t) (iblk m c 3 t) (iblk m c 4 t) := by
  unfold midAt lBlk zBlk; frame_out
theorem midOutS (c : Dev nD) (t : Fin cfg0.N) (h) (xs : Vec F S2x256x128 .f32) :
    View.canon (midAt m c t h xs).2.2.1 = accNext (BitVec.ofNat 32 (grid0.coords t 1).val) (iblk m c 0 t) (iblk m c 1 t) (iblk m c 2 t) (iblk m c 3 t) (iblk m c 4 t) (iblk m c 5 t) xs := by
  unfold midAt accNext uSlab lapSlab lBlk zBlk; frame_out
  rw [show View.read (Elt F) (View.whole cc0_scratch0) ((Memref.isWhole_whole cc0_scratch0).unread xs) = xs from (Memref.isWhole_whole cc0_scratch0).read_unread xs]
theorem lastOut6 (c : Dev nD) (t : Fin cfg0.N) (h) (xs : Vec F S2x256x128 .f32) :
    View.canon (lastAt m c t h xs).1 = hBlk (iblk m c 0 t) (iblk m c 1 t) (iblk m c 2 t) (iblk m c 3 t) (iblk m c 4 t) := by
  unfold lastAt hBlk zBlk; frame_out
theorem lastOut7 (c : Dev nD) (t : Fin cfg0.N) (h) (xs : Vec F S2x256x128 .f32) :
    View.canon (lastAt m c t h xs).2.1 = lBlk (iblk m c 0 t) (iblk m c 1 t) (iblk m c 2 t) (iblk m c 3 t) (iblk m c 4 t) := by
  unfold lastAt lBlk zBlk; frame_out
theorem lastOut8 (c : Dev nD) (t : Fin cfg0.N) (h) (xs : Vec F S2x256x128 .f32) :
    View.canon (lastAt m c t h xs).2.2.1 = k0_pay3 (uSlab (BitVec.ofNat 32 (grid0.coords t 1).val) (iblk m c 0 t) (iblk m c 1 t) (iblk m c 2 t) (iblk m c 3 t) (iblk m c 4 t) (iblk m c 5 t) xs) := by
  unfold lastAt uSlab zBlk; frame_out
  rw [slab0_read]
  rw [show View.read (Elt F) (View.whole cc0_scratch0) ((Memref.isWhole_whole cc0_scratch0).unread xs) = xs from (Memref.isWhole_whole cc0_scratch0).read_unread xs]
theorem lastOut9 (c : Dev nD) (t : Fin cfg0.N) (h) (xs : Vec F S2x256x128 .f32) :
    View.canon (lastAt m c t h xs).2.2.2.1 = k0_pay4 (lapSlab (BitVec.ofNat 32 (grid0.coords t 1).val) (iblk m c 0 t) (iblk m c 1 t) (iblk m c 2 t) (iblk m c 3 t) (iblk m c 4 t) (iblk m c 5 t) xs) := by
  unfold lastAt lapSlab lBlk zBlk; frame_out
  rw [View.readCov_cons_toLoadRect]
  rw [show View.read (Elt F) (View.whole cc0_scratch0) ((Memref.isWhole_whole cc0_scratch0).unread xs) = xs from (Memref.isWhole_whole cc0_scratch0).read_unread xs]
theorem lastOutS (c : Dev nD) (t : Fin cfg0.N) (h) (xs : Vec F S2x256x128 .f32) :
    View.canon (lastAt m c t h xs).2.2.2.2.1 = accNext (BitVec.ofNat 32 (grid0.coords t 1).val) (iblk m c 0 t) (iblk m c 1 t) (iblk m c 2 t) (iblk m c 3 t) (iblk m c 4 t) (iblk m c 5 t) xs := by
  unfold lastAt accNext uSlab lapSlab lBlk zBlk; frame_out
  rw [show View.read (Elt F) (View.whole cc0_scratch0) ((Memref.isWhole_whole cc0_scratch0).unread xs) = xs from (Memref.isWhole_whole cc0_scratch0).read_unread xs]

section Body

/-- The accumulators before point `t`'s body runs: one step of `accNext` per point run so far, restarting (by `accNext_zero`) at each row block. -/
noncomputable def accAt (c : Dev nD) : ℕ → Vec F S2x256x128 .f32
  | 0 => View.canon []
  | n + 1 => if h : n < cfg0.N then
      accNext (BitVec.ofNat 32 (grid0.coords ⟨n, h⟩ 1).val) (iblk m c 0 ⟨n, h⟩) (iblk m c 1 ⟨n, h⟩) (iblk m c 2 ⟨n, h⟩) (iblk m c 3 ⟨n, h⟩) (iblk m c 4 ⟨n, h⟩) (iblk m c 5 ⟨n, h⟩) (accAt c n)
    else accAt c n

theorem accAt_succ (c : Dev nD) (t : Fin cfg0.N) :
    accAt m c (t.val + 1) = accNext (BitVec.ofNat 32 (grid0.coords t 1).val) (iblk m c 0 t) (iblk m c 1 t) (iblk m c 2 t) (iblk m c 3 t) (iblk m c 4 t) (iblk m c 5 t) (accAt m c t.val) := by
  rw [accAt, dif_pos t.isLt]

/-- What the two row results' blocks are given on the last column block. -/
def uBlk (c : Dev nD) (t : Fin cfg0.N) : Vec F S256x1 .f32 := k0_pay3 (uSlab (BitVec.ofNat 32 (grid0.coords t 1).val) (iblk m c 0 t) (iblk m c 1 t) (iblk m c 2 t) (iblk m c 3 t) (iblk m c 4 t) (iblk m c 5 t) (accAt m c t.val))
def lapBlk (c : Dev nD) (t : Fin cfg0.N) : Vec F S256x1 .f32 := k0_pay4 (lapSlab (BitVec.ofNat 32 (grid0.coords t 1).val) (iblk m c 0 t) (iblk m c 1 t) (iblk m c 2 t) (iblk m c 3 t) (iblk m c 4 t) (iblk m c 5 t) (accAt m c t.val))

/-- Between points: the accumulators at `accAt`, except at the start of a row block, where they may hold anything; and the
    generator register at anything. -/
def PhiS (c : Dev nD) (n : ℕ) : sProp 𝕄 :=
  iprop((∃ d, ⌜n % 16 ≠ 0 → d = accAt m c n⌝ ∗ owns (c : Thread nD τ) scM fullShare d) ∗ (∃ r, prngReg c r))

/-- Per core: the arrays the pipeline works on, what each point leaves in the windows, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlk (iblk m c 0 t) (iblk m c 1 t) (iblk m c 2 t) (iblk m c 3 t) (iblk m c 4 t)
    | ⟨7, _⟩ => lBlk (iblk m c 0 t) (iblk m c 1 t) (iblk m c 2 t) (iblk m c 3 t) (iblk m c 4 t)
    | ⟨8, _⟩ => uBlk m c t
    | ⟨9, _⟩ => lapBlk m c t
  Φ t := PhiS m c t.val
  q _ := fullShare
  owed _ := 0

theorem A_eq (c : Dev nD) (w : Fin 10) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hBlk (iblk m c 0 t) (iblk m c 1 t) (iblk m c 2 t) (iblk m c 3 t) (iblk m c 4 t) := by dsimp only [dats]
theorem after0_7 (c : Dev nD) (t : Fin cfg0.N) : (dats m 0 c).after 7 t = lBlk (iblk m c 0 t) (iblk m c 1 t) (iblk m c 2 t) (iblk m c 3 t) (iblk m c 4 t) := by dsimp only [dats]
theorem after0_8 (c : Dev nD) (t : Fin cfg0.N) : (dats m 0 c).after 8 t = uBlk m c t := by dsimp only [dats]
theorem after0_9 (c : Dev nD) (t : Fin cfg0.N) : (dats m 0 c).after 9 t = lapBlk m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What point `t`'s body is given, and what it must leave. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

/-- The accumulators a point finds give, whatever they are, what it should leave there. -/
theorem acc_step (c : Dev nD) (t : Fin cfg0.N) (d : Vec F S2x256x128 .f32) (hd : t.val % 16 ≠ 0 → d = accAt m c t.val) :
    accNext (BitVec.ofNat 32 (grid0.coords t 1).val) (iblk m c 0 t) (iblk m c 1 t) (iblk m c 2 t) (iblk m c 3 t) (iblk m c 4 t) (iblk m c 5 t) d = accAt m c (t.val + 1) := by
  rw [accAt_succ]
  by_cases h0 : t.val % 16 = 0
  · rw [col_val t, h0]; exact accNext_zero ..
  · rw [hd h0]

set_option maxHeartbeats 1000000 in
theorem sound_body (c : Dev nD) (t : Fin cfg0.N) :
    bodyPre m c t ⊢ wp frame (wpE (defs₀ (F := F)) Variants.none c none) Set.univ (bodyAt0 (F := F) t) fun _ => bodyPost m c t := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  by_cases h : isLast (grid0.coords t)
  · have hm : t.val % 16 = 15 := (isLast_iff t).1 h
    rw [show (dats m 0 c).leavesExact 0 t = owns (c : Thread nD τ) (ms0 t) fullShare ((dats m 0 c).after 0 t) from by unfold Dat.leavesExact; rw [show cfg0.idle 0 (grid0.coords t) = false from rfl], after0_0 m c t]
    rw [show (dats m 0 c).leavesExact 1 t = owns (c : Thread nD τ) (ms1 t) fullShare ((dats m 0 c).after 1 t) from by unfold Dat.leavesExact; rw [show cfg0.idle 1 (grid0.coords t) = false from rfl], after0_1 m c t]
    rw [show (dats m 0 c).leavesExact 2 t = owns (c : Thread nD τ) (ms2 t) fullShare ((dats m 0 c).after 2 t) from by unfold Dat.leavesExact; rw [show cfg0.idle 2 (grid0.coords t) = false from rfl], after0_2 m c t]
    rw [show (dats m 0 c).leavesExact 3 t = owns (c : Thread nD τ) (ms3 t) fullShare ((dats m 0 c).after 3 t) from by unfold Dat.leavesExact; rw [show cfg0.idle 3 (grid0.coords t) = false from rfl], after0_3 m c t]
    rw [show (dats m 0 c).leavesExact 4 t = owns (c : Thread nD τ) (ms4 t) fullShare ((dats m 0 c).after 4 t) from by unfold Dat.leavesExact; rw [show cfg0.idle 4 (grid0.coords t) = false from rfl], after0_4 m c t]
    rw [show (dats m 0 c).leavesExact 5 t = owns (c : Thread nD τ) (ms5 t) fullShare ((dats m 0 c).after 5 t) from by unfold Dat.leavesExact; rw [show cfg0.idle 5 (grid0.coords t) = false from rfl], after0_5 m c t]
    rw [show (dats m 0 c).leavesExact 6 t = owns (c : Thread nD τ) (ms6 t) fullShare ((dats m 0 c).after 6 t) from by unfold Dat.leavesExact; rw [show cfg0.idle 6 (grid0.coords t) = false from rfl], after0_6 m c t]
    rw [show (dats m 0 c).leavesExact 7 t = owns (c : Thread nD τ) (ms7 t) fullShare ((dats m 0 c).after 7 t) from by unfold Dat.leavesExact; rw [show cfg0.idle 7 (grid0.coords t) = false from rfl], after0_7 m c t]
    rw [show (dats m 0 c).leavesExact 8 t = owns (c : Thread nD τ) (ms8 t) fullShare ((dats m 0 c).after 8 t) from by unfold Dat.leavesExact; rw [show cfg0.idle 8 (grid0.coords t) = false from live8 t h], after0_8 m c t]
    rw [show (dats m 0 c).leavesExact 9 t = owns (c : Thread nD τ) (ms9 t) fullShare ((dats m 0 c).after 9 t) from by unfold Dat.leavesExact; rw [show cfg0.idle 9 (grid0.coords t) = false from live9 t h], after0_9 m c t]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hds' : ds = accAt m c t.val := hds (by rw [hm]; decide)
    iapply ((lastAt m c t h ds).2.2.2.2.2 Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [H9]; · iexists _; iexact H9
    isplitl [HS0]; · iexact HS0
    iintro ⟨⟨H0, H1, H2, H3, H4, H5⟩, ⟨%f6, H6⟩, ⟨%f7, H7⟩, ⟨%f8, H8⟩, ⟨%f9, H9⟩, ⟨%fs, HS0⟩⟩
    isplitl [HS0 Hg]
    · isplitl [HS0]
      · iexists _; isplitr; swap
        · unfold owns; iexists _; isplitr; swap; · iexact HS0
          ipureintro; exact (View.read_writes_eq_canon _ _ _ (lastCoverS m c t h _)).trans (lastOutS m c t h _)
        · ipureintro; intro _; exact acc_step m c t _ hds
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact (View.read_writes_eq_canon _ _ _ (lastCover6 m c t h _)).trans (lastOut6 m c t h _)
    isplitl [H7]
    · unfold owns; iexists _; isplitr; swap; · iexact H7
      ipureintro; exact (View.read_writes_eq_canon _ _ _ (lastCover7 m c t h _)).trans (lastOut7 m c t h _)
    isplitl [H8]
    · unfold owns; iexists _; isplitr; swap; · iexact H8
      ipureintro; exact (View.read_writes_eq_canon _ _ _ (lastCover8 m c t h _)).trans ((lastOut8 m c t h _).trans (by rw [hds']; rfl))
    · unfold owns; iexists _; isplitr; swap; · iexact H9
      ipureintro; exact (View.read_writes_eq_canon _ _ _ (lastCover9 m c t h _)).trans ((lastOut9 m c t h _).trans (by rw [hds']; rfl))
  · rw [show (dats m 0 c).leavesExact 0 t = owns (c : Thread nD τ) (ms0 t) fullShare ((dats m 0 c).after 0 t) from by unfold Dat.leavesExact; rw [show cfg0.idle 0 (grid0.coords t) = false from rfl], after0_0 m c t]
    rw [show (dats m 0 c).leavesExact 1 t = owns (c : Thread nD τ) (ms1 t) fullShare ((dats m 0 c).after 1 t) from by unfold Dat.leavesExact; rw [show cfg0.idle 1 (grid0.coords t) = false from rfl], after0_1 m c t]
    rw [show (dats m 0 c).leavesExact 2 t = owns (c : Thread nD τ) (ms2 t) fullShare ((dats m 0 c).after 2 t) from by unfold Dat.leavesExact; rw [show cfg0.idle 2 (grid0.coords t) = false from rfl], after0_2 m c t]
    rw [show (dats m 0 c).leavesExact 3 t = owns (c : Thread nD τ) (ms3 t) fullShare ((dats m 0 c).after 3 t) from by unfold Dat.leavesExact; rw [show cfg0.idle 3 (grid0.coords t) = false from rfl], after0_3 m c t]
    rw [show (dats m 0 c).leavesExact 4 t = owns (c : Thread nD τ) (ms4 t) fullShare ((dats m 0 c).after 4 t) from by unfold Dat.leavesExact; rw [show cfg0.idle 4 (grid0.coords t) = false from rfl], after0_4 m c t]
    rw [show (dats m 0 c).leavesExact 5 t = owns (c : Thread nD τ) (ms5 t) fullShare ((dats m 0 c).after 5 t) from by unfold Dat.leavesExact; rw [show cfg0.idle 5 (grid0.coords t) = false from rfl], after0_5 m c t]
    rw [show (dats m 0 c).leavesExact 6 t = owns (c : Thread nD τ) (ms6 t) fullShare ((dats m 0 c).after 6 t) from by unfold Dat.leavesExact; rw [show cfg0.idle 6 (grid0.coords t) = false from rfl], after0_6 m c t]
    rw [show (dats m 0 c).leavesExact 7 t = owns (c : Thread nD τ) (ms7 t) fullShare ((dats m 0 c).after 7 t) from by unfold Dat.leavesExact; rw [show cfg0.idle 7 (grid0.coords t) = false from rfl], after0_7 m c t]
    rw [Dat.leavesExact_idle (dats m 0 c) 8 t (idle8 t h) (noFlush8 t h), Dat.leavesExact_idle (dats m 0 c) 9 t (idle9 t h) (noFlush9 t h)]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((midAt m c t h ds).2.2.2 Set.univ _ _ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexact H8
    isplitl [H9]; · iexact H9
    isplitl [HS0]; · iexact HS0
    iintro ⟨⟨H0, H1, H2, H3, H4, H5⟩, ⟨%f6, H6⟩, ⟨%f7, H7⟩, H8, H9, ⟨%fs, HS0⟩⟩
    isplitl [HS0 Hg]
    · isplitl [HS0]
      · iexists _; isplitr; swap
        · unfold owns; iexists _; isplitr; swap; · iexact HS0
          ipureintro; exact (View.read_writes_eq_canon _ _ _ (midCoverS m c t h _)).trans (midOutS m c t h _)
        · ipureintro; intro _; exact acc_step m c t _ hds
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact (View.read_writes_eq_canon _ _ _ (midCover6 m c t h _)).trans (midOut6 m c t h _)
    isplitl [H7]
    · unfold owns; iexists _; isplitr; swap; · iexact H7
      ipureintro; exact (View.read_writes_eq_canon _ _ _ (midCover7 m c t h _)).trans (midOut7 m c t h _)
    isplitl [H8]; · iexists _; iexact H8
    iexists _; iexact H9

theorem defs₀_row (t : Fin cfg0.N) : defs₀ (F := F) .tc cfg0.body (cfg0.bodyArgs t (cfg0.slots t)) = bodyAt0 (F := F) t := by
  unfold defs₀; rw [Defs.onTc_tc]

theorem body_obligation (c : Dev nD) : BodyObligation (dats m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  rw [PhiA_eq, show (dats m 0 c).Φ 0 = PhiS m c 0 from rfl]; unfold PhiS
  iintro ⟨⟨%d, HS⟩, Hg⟩
  isplitl [HS]
  · iexists d; isplitr; swap; · iexact HS
    ipureintro; intro h; exact absurd rfl h
  iexact Hg

theorem hout (c : Dev nD) : (dats m 0 c).Φ (Fin.last cfg0.N) ⊢ (Pipeline.ΦA spec0 c : sProp 𝕄) := by
  rw [PhiA_eq, show (dats m 0 c).Φ (Fin.last cfg0.N) = PhiS m c cfg0.N from rfl]; unfold PhiS
  iintro ⟨⟨%d, -, HS⟩, Hg⟩
  isplitl [HS]; · iexists d; iexact HS
  iexact Hg

set_option backward.isDefEq.respectTransparency.types false in
/-- The program runs to the end and leaves every array the pipeline's windows over it say, and no semaphore raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The program runs to the end, leaves the argument arrays as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Body

end Cert.Layer2.Hand

end
-- ==== Proof.Layer2IdealRun.lean ====
module

public import proofs.«01_k».proof.Proof.Gen.Layer2Ideal.Skeleton
public import proofs.«01_k».proof.Proof.Gen.Layer2Ideal.Frame

/-! What one grid point of the idealized last layer does to memory: the blocks it reads, what it stores, and the accumulators it keeps. -/

@[expose] public section

set_option maxRecDepth 16384

noncomputable section

namespace Cert.Layer2Ideal.Hand

open Cert.Layer2Ideal Cert.Layer2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last column block of a row block is being computed: the two accumulated lane sums are reduced and stored. -/
abbrev isLast (i : grid0.Coords) : Prop := k0_cond1 i = 1#1

/-- The last column block is met at the points ≡ 15 (mod 16). -/
theorem isLast_iff : ∀ t : Fin cfg0.N, isLast (grid0.coords t) ↔ t.val % 16 = 15 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 1 % 16 := Pipeline.Grid.coords_val t 1 (by decide) rfl
    simp only [isLast, k0_cond1, e0, e1]
    word_cmp
   : ∀ t : Fin grid0.N, isLast (grid0.coords t) ↔ t.val % 16 = 15)

/-- The column index is zero at the points ≡ 0 (mod 16). -/
theorem col_val (t : Fin cfg0.N) : (grid0.coords t 1).val = t.val % 16 := by
  have e1 : (grid0.coords t 1).val = t.val / 1 % 16 := Pipeline.Grid.coords_val t 1 (by decide) rfl
  rw [e1, Nat.div_one]

/-- Off the last column block the row results (windows 8 and 9) are not written back, and the body leaves them alone. -/
theorem idle8 : ∀ t : Fin cfg0.N, ¬isLast (grid0.coords t) → cfg0.idle 8 (grid0.coords t) = true := by decide +kernel
theorem idle9 : ∀ t : Fin cfg0.N, ¬isLast (grid0.coords t) → cfg0.idle 9 (grid0.coords t) = true := by decide +kernel
theorem noFlush8 : ∀ t : Fin cfg0.N, ¬isLast (grid0.coords t) → (cfg0.win 8).flush t = false := by decide +kernel
theorem noFlush9 : ∀ t : Fin cfg0.N, ¬isLast (grid0.coords t) → (cfg0.win 9).flush t = false := by decide +kernel
/-- On the last column block both are stored. -/
theorem live8 : ∀ t : Fin cfg0.N, isLast (grid0.coords t) → cfg0.idle 8 (grid0.coords t) = false := by decide +kernel
theorem live9 : ∀ t : Fin cfg0.N, isLast (grid0.coords t) → cfg0.idle 9 (grid0.coords t) = false := by decide +kernel

/-- The windows' current staging buffers at point `t`. -/
abbrev ms0 (t : Fin cfg0.N) : Memref sig .tc .vmem S5x256x11008 .fp8e4m3 := win0_0.stage (cfg0.slots t 0)
abbrev ms1 (t : Fin cfg0.N) : Memref sig .tc .vmem S5x256x1 .f32 := win0_1.stage (cfg0.slots t 1)
abbrev ms2 (t : Fin cfg0.N) : Memref sig .tc .vmem S11008x256 .fp8e4m3 := win0_2.stage (cfg0.slots t 2)
abbrev ms3 (t : Fin cfg0.N) : Memref sig .tc .vmem S1x256 .f32 := win0_3.stage (cfg0.slots t 3)
abbrev ms4 (t : Fin cfg0.N) : Memref sig .tc .vmem S1x256 .f32 := win0_4.stage (cfg0.slots t 4)
abbrev ms5 (t : Fin cfg0.N) : Memref sig .tc .vmem S1x256 .f32 := win0_5.stage (cfg0.slots t 5)
abbrev ms6 (t : Fin cfg0.N) : Memref sig .tc .vmem S256x256 .f32 := win0_6.stage (cfg0.slots t 6)
abbrev ms7 (t : Fin cfg0.N) : Memref sig .tc .vmem S256x256 .f32 := win0_7.stage (cfg0.slots t 7)
abbrev ms8 (t : Fin cfg0.N) : Memref sig .tc .vmem S256x1 .f32 := win0_8.stage (cfg0.slots t 8)
abbrev ms9 (t : Fin cfg0.N) : Memref sig .tc .vmem S256x1 .f32 := win0_9.stage (cfg0.slots t 9)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)
abbrev hs7 (t : Fin cfg0.N) : (ms7 t).IsWhole := hstage0_7 ((cfg0.slots t 7).cast nbuf0_7)
abbrev hs8 (t : Fin cfg0.N) : (ms8 t).IsWhole := hstage0_8 ((cfg0.slots t 8).cast nbuf0_8)
abbrev hs9 (t : Fin cfg0.N) : (ms9 t).IsWhole := hstage0_9 ((cfg0.slots t 9).cast nbuf0_9)

/-- The two lane-sum accumulators: a scratch buffer of the kernel's own, carried from point to point. -/
abbrev scM : Memref sig .tc .vmem S2x256x128 .f32 := Memref.whole cc0_scratch0

/-- What the pipeline hands the first point besides the windows: the scratch at anything, the generator register at anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

section Runs

variable (c : Dev nD) (i : grid0.Coords)
  (arg2 : Memref sig .tc .vmem S5x256x11008 .fp8e4m3) (harg2 : arg2.IsWhole) (arg3 : Memref sig .tc .vmem S5x256x1 .f32) (harg3 : arg3.IsWhole)
  (arg4 : Memref sig .tc .vmem S11008x256 .fp8e4m3) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1x256 .f32) (harg7 : arg7.IsWhole)
  (arg8 : Memref sig .tc .vmem S256x256 .f32) (harg8 : arg8.IsWhole) (arg9 : Memref sig .tc .vmem S256x256 .f32) (harg9 : arg9.IsWhole)
  (arg10 : Memref sig .tc .vmem S256x1 .f32) (harg10 : arg10.IsWhole) (arg11 : Memref sig .tc .vmem S256x1 .f32) (harg11 : arg11.IsWhole)
  (arg12 : Memref sig .tc .vmem S2x256x128 .f32) (harg12 : arg12.IsWhole)
  (x0 : Vec F S5x256x11008 .fp8e4m3) (x1 : Vec F S5x256x1 .f32) (x2 : Vec F S11008x256 .fp8e4m3) (x3 : Vec F S1x256 .f32)
  (x4 : Vec F S1x256 .f32) (x5 : Vec F S1x256 .f32) (xs : Vec F S2x256x128 .f32)

/-- The six input blocks are held, each in its own buffer. -/
abbrev insOwned : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

set_option maxHeartbeats 1000000 in
/-- The body off the last column block, run on any whole buffers holding the six input blocks and the accumulators `xs`: the
    pieces it stores into the blocks of `h`, of the Laplacian stream and into the accumulators (found by the run), and that it ends
    with the inputs as they were, those pieces written and the two row results untouched. -/
noncomputable def runMid (hc : ¬isLast i) :
    Σ' (L6 : List (View.Piece (Elt F) S256x256 .f32)), Σ' (L7 : List (View.Piece (Elt F) S256x256 .f32)), { LS : List (View.Piece (Elt F) S2x256x128 .f32) //
      ∀ (E : Set ℕ) (K : PUnit → sProp 𝕄) (d8 d9 : Vec F S256x1 .f32),
        iprop(insOwned c arg2 arg3 arg4 arg5 arg6 arg7 x0 x1 x2 x3 x4 x5 ∗ (∃ d, owns (c : Thread nD τ) arg8 fullShare d) ∗ (∃ d, owns (c : Thread nD τ) arg9 fullShare d) ∗ owns (c : Thread nD τ) arg10 fullShare d8 ∗ owns (c : Thread nD τ) arg11 fullShare d9 ∗ owns (c : Thread nD τ) arg12 fullShare xs
            ∗ (iprop(insOwned c arg2 arg3 arg4 arg5 arg6 arg7 x0 x1 x2 x3 x4 x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare d8 ∗ owns (c : Thread nD τ) arg11 fullShare d9 ∗ (∃ f, arg12.view.loc (c : Thread nD τ) ↦[arg12.view.set]{fullShare} arg12.view.writes (Elt F) f LS)) -∗ K ⟨⟩))
          ⊢ wp frame (wpE (defs₀ (F := F)) Variants.none c none) E (cc0_layer2 i arg2 harg2 arg3 harg3 arg4 harg4 arg5 harg5 arg6 harg6 arg7 harg7 arg8 harg8 arg9 harg9 arg10 harg10 arg11 harg11 arg12 harg12) K } := by
  refine ⟨?_, ?_, ?_, fun E K d8 d9 => ?run⟩
  case run =>
    simp only [cc0_layer2_eq_skeleton]; unfold cc0_layer2_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, H8, H9, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg12.eq_unread hfs0
    sl_exec (disch := sl_exact hc)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexists _; iexact H6
    isplitl [H7]; · iexists _; iexact H7
    isplitl [H8]; · iexact H8
    isplitl [H9]; · iexact H9
    iexists _; iexact HS0

set_option maxHeartbeats 1000000 in
/-- The body on the last column block, as `runMid`, with the pieces it stores into the two row results as well. -/
noncomputable def runLast (hc : isLast i) :
    Σ' (L6 : List (View.Piece (Elt F) S256x256 .f32)), Σ' (L7 : List (View.Piece (Elt F) S256x256 .f32)), Σ' (L8 : List (View.Piece (Elt F) S256x1 .f32)), Σ' (L9 : List (View.Piece (Elt F) S256x1 .f32)), { LS : List (View.Piece (Elt F) S2x256x128 .f32) //
      ∀ (E : Set ℕ) (K : PUnit → sProp 𝕄),
        iprop(insOwned c arg2 arg3 arg4 arg5 arg6 arg7 x0 x1 x2 x3 x4 x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(insOwned c arg2 arg3 arg4 arg5 arg6 arg7 x0 x1 x2 x3 x4 x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS)) -∗ K ⟨⟩))
          ⊢ wp frame (wpE (defs₀ (F := F)) Variants.none c none) E (cc0_layer2 i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_layer2_eq_skeleton]; unfold cc0_layer2_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg12.eq_unread hfs0
    sl_exec (disch := sl_exact hc)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Runs

end Cert.Layer2Ideal.Hand

end
-- ==== Proof.Layer2IdealFrame.lean ====
module

public import proofs.«01_k».proof.Proof.Layer2IdealRun
public import Idealize.ShloMosaic.Lib.Pipeline.ValueKit

/-! The frame of the idealized last layer: it ends, faults nowhere, and writes only its results. -/

@[expose] public section

set_option maxRecDepth 16384

noncomputable section

namespace Cert.Layer2Ideal.Hand

open Cert.Layer2Ideal Cert.Layer2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Blocks

variable (n : BitVec 32) (x0 : Vec F S5x256x11008 .fp8e4m3) (x1 : Vec F S5x256x1 .f32) (x2 : Vec F S11008x256 .fp8e4m3) (x3 : Vec F S1x256 .f32)
  (x4 : Vec F S1x256 .f32) (x5 : Vec F S1x256 .f32) (xs : Vec F S2x256x128 .f32)

/-- The rescaled products of the value stream, the block of `h`, and the block of the Laplacian stream, over a point's input blocks. -/
def zBlk : Vec F S256x256 .f32 := k0_pay6 x0 x2 (View.ld x1 (Rect.unit ![0, 0, 0] ![1, 256, 1] inb_S5x256x1_S1x256x1_0_0_0)) x3
def hBlk : Vec F S256x256 .f32 := k0_pay11 (zBlk x0 x1 x2 x3) x4
def lBlk : Vec F S256x256 .f32 :=
  k0_pay12 (k0_pay5 x0 x2) (zBlk x0 x1 x2 x3)
    (k0_pay7 x0 x2 (View.ld x1 (Rect.unit ![1, 0, 0] ![1, 256, 1] inb_S5x256x1_S1x256x1_1_0_0)) x3)
    (k0_pay8 x0 x2 (View.ld x1 (Rect.unit ![2, 0, 0] ![1, 256, 1] inb_S5x256x1_S1x256x1_2_0_0)) x3)
    (k0_pay9 x0 x2) (k0_pay10 (View.ld x1 (Rect.unit ![3, 0, 0] ![1, 256, 1] inb_S5x256x1_S1x256x1_3_0_0)))
    x3 (View.ld x1 (Rect.unit ![4, 0, 0] ![1, 256, 1] inb_S5x256x1_S1x256x1_4_0_0)) x3 x4

/-- The two accumulated lane sums after a point of column `n`, over what it finds (`xs`). -/
def uSlab : Vec F S1x256x128 .f32 :=
  k0_pay1 n (k0_pay13 (zBlk x0 x1 x2 x3) x4 x5) (k0_pay14 (zBlk x0 x1 x2 x3) x4 x5)
    (View.ld xs (Rect.unit ![0, 0, 0] ![1, 256, 128] inb_S2x256x128_S1x256x128_0_0_0))
def lapSlab : Vec F S1x256x128 .f32 :=
  k0_pay2 n (lBlk x0 x1 x2 x3 x4) x5
    (View.ld xs (Rect.unit ![1, 0, 0] ![1, 256, 128] inb_S2x256x128_S1x256x128_1_0_0))

/-- The accumulators as one buffer. -/
def accNext : Vec F S2x256x128 .f32 :=
  View.canon [⟨Rect.unit ![1, 0, 0] ![1, 256, 128] inb_S2x256x128_S1x256x128_1_0_0, lapSlab n x0 x1 x2 x3 x4 x5 xs⟩,
    ⟨Rect.unit ![0, 0, 0] ![1, 256, 128] inb_S2x256x128_S1x256x128_0_0_0, uSlab n x0 x1 x2 x3 x4 x5 xs⟩]

/-- At column 0 the accumulators restart: what they held does not matter. -/
theorem accNext_zero (xs' : Vec F S2x256x128 .f32) : accNext 0#32 x0 x1 x2 x3 x4 x5 xs = accNext 0#32 x0 x1 x2 x3 x4 x5 xs' := by
  have hu : uSlab 0#32 x0 x1 x2 x3 x4 x5 xs = uSlab 0#32 x0 x1 x2 x3 x4 x5 xs' := rfl
  have hl : lapSlab 0#32 x0 x1 x2 x3 x4 x5 xs = lapSlab 0#32 x0 x1 x2 x3 x4 x5 xs' := rfl
  unfold accNext; rw [hu, hl]

end Blocks

/-- The run off the last column block, at point `t`'s buffers and input blocks, over accumulators `xs`. -/
abbrev midAt (c : Dev nD) (t : Fin cfg0.N) (h : ¬isLast (grid0.coords t)) (xs : Vec F S2x256x128 .f32) :=
  runMid c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) scM (Memref.isWhole_whole _)
    (iblk m c 0 t) (iblk m c 1 t) (iblk m c 2 t) (iblk m c 3 t) (iblk m c 4 t) (iblk m c 5 t) xs h
/-- The run on the last column block, likewise. -/
abbrev lastAt (c : Dev nD) (t : Fin cfg0.N) (h : isLast (grid0.coords t)) (xs : Vec F S2x256x128 .f32) :=
  runLast c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) scM (Memref.isWhole_whole _)
    (iblk m c 0 t) (iblk m c 1 t) (iblk m c 2 t) (iblk m c 3 t) (iblk m c 4 t) (iblk m c 5 t) xs h

/-- The stored pieces cover the buffers they go into. -/
theorem midCover6 (c : Dev nD) (t : Fin cfg0.N) (h) (xs : Vec F S2x256x128 .f32) (y : S256x256.Idx) : ∃ pc ∈ (midAt m c t h xs).1, y ∈ pc.1.set :=
  View.cover_of_tiledL (midAt m c t h xs).1 S256x256.size (by sl_kernel_rfl) y
theorem midCover7 (c : Dev nD) (t : Fin cfg0.N) (h) (xs : Vec F S2x256x128 .f32) (y : S256x256.Idx) : ∃ pc ∈ (midAt m c t h xs).2.1, y ∈ pc.1.set :=
  View.cover_of_tiledL (midAt m c t h xs).2.1 S256x256.size (by sl_kernel_rfl) y
theorem midCoverS (c : Dev nD) (t : Fin cfg0.N) (h) (xs : Vec F S2x256x128 .f32) (y : S2x256x128.Idx) : ∃ pc ∈ (midAt m c t h xs).2.2.1, y ∈ pc.1.set :=
  View.cover_of_tiledL (midAt m c t h xs).2.2.1 S1x256x128.size (by sl_kernel_rfl) y
theorem lastCover6 (c : Dev nD) (t : Fin cfg0.N) (h) (xs : Vec F S2x256x128 .f32) (y : S256x256.Idx) : ∃ pc ∈ (lastAt m c t h xs).1, y ∈ pc.1.set :=
  View.cover_of_tiledL (lastAt m c t h xs).1 S256x256.size (by sl_kernel_rfl) y
theorem lastCover7 (c : Dev nD) (t : Fin cfg0.N) (h) (xs : Vec F S2x256x128 .f32) (y : S256x256.Idx) : ∃ pc ∈ (lastAt m c t h xs).2.1, y ∈ pc.1.set :=
  View.cover_of_tiledL (lastAt m c t h xs).2.1 S256x256.size (by sl_kernel_rfl) y
theorem lastCover8 (c : Dev nD) (t : Fin cfg0.N) (h) (xs : Vec F S2x256x128 .f32) (y : S256x1.Idx) : ∃ pc ∈ (lastAt m c t h xs).2.2.1, y ∈ pc.1.set :=
  View.cover_of_tiledL (lastAt m c t h xs).2.2.1 S256x1.size (by sl_kernel_rfl) y
theorem lastCover9 (c : Dev nD) (t : Fin cfg0.N) (h) (xs : Vec F S2x256x128 .f32) (y : S256x1.Idx) : ∃ pc ∈ (lastAt m c t h xs).2.2.2.1, y ∈ pc.1.set :=
  View.cover_of_tiledL (lastAt m c t h xs).2.2.2.1 S256x1.size (by sl_kernel_rfl) y
theorem lastCoverS (c : Dev nD) (t : Fin cfg0.N) (h) (xs : Vec F S2x256x128 .f32) (y : S2x256x128.Idx) : ∃ pc ∈ (lastAt m c t h xs).2.2.2.2.1, y ∈ pc.1.set :=
  View.cover_of_tiledL (lastAt m c t h xs).2.2.2.2.1 S1x256x128.size (by sl_kernel_rfl) y

/-- The two accumulators are different rows of the scratch buffer. -/
theorem slabs_disjoint : Disjoint (Rect.unit (s := S2x256x128) ![1, 0, 0] ![1, 256, 128] inb_S2x256x128_S1x256x128_1_0_0).set
    (Rect.unit (s := S2x256x128) ![0, 0, 0] ![1, 256, 128] inb_S2x256x128_S1x256x128_0_0_0).toLoadRect.set := by
  exact LoadRect.disjoint_of_separated _ _ (0 : Fin 3) (Or.inr (Or.inr (by decide)))

/-- So the first accumulator is read back past the second one's store. -/
theorem slab0_read (v : View sig .tc .vmem S2x256x128 .f32) (a b : Vec F S1x256x128 .f32) :
    v.readCov (Val := Elt F) [⟨Rect.unit ![1, 0, 0] ![1, 256, 128] inb_S2x256x128_S1x256x128_1_0_0, a⟩,
      ⟨Rect.unit ![0, 0, 0] ![1, 256, 128] inb_S2x256x128_S1x256x128_0_0_0, b⟩]
      (Rect.unit (s := S2x256x128) ![0, 0, 0] ![1, 256, 128] inb_S2x256x128_S1x256x128_0_0_0).toLoadRect = b := by
  rw [View.readCov_cons_of_disjoint]
  · rw [View.readCov_cons_toLoadRect]
  · exact slabs_disjoint

/-- What the stored pieces hold: the blocks above. -/
theorem midOut6 (c : Dev nD) (t : Fin cfg0.N) (h) (xs : Vec F S2x256x128 .f32) :
    View.canon (midAt m c t h xs).1 = hBlk (iblk m c 0 t) (iblk m c 1 t) (iblk m c 2 t) (iblk m c 3 t) (iblk m c 4 t) := by
  unfold midAt hBlk zBlk; frame_out
theorem midOut7 (c : Dev nD) (t : Fin cfg0.N) (h) (xs : Vec F S2x256x128 .f32) :
    View.canon (midAt m c t h xs).2.1 = lBlk (iblk m c 0 t) (iblk m c 1 t) (iblk m c 2 t) (iblk m c 3 t) (iblk m c 4 t) := by
  unfold midAt lBlk zBlk; frame_out
theorem midOutS (c : Dev nD) (t : Fin cfg0.N) (h) (xs : Vec F S2x256x128 .f32) :
    View.canon (midAt m c t h xs).2.2.1 = accNext (BitVec.ofNat 32 (grid0.coords t 1).val) (iblk m c 0 t) (iblk m c 1 t) (iblk m c 2 t) (iblk m c 3 t) (iblk m c 4 t) (iblk m c 5 t) xs := by
  unfold midAt accNext uSlab lapSlab lBlk zBlk; frame_out
  rw [show View.read (Elt F) (View.whole cc0_scratch0) ((Memref.isWhole_whole cc0_scratch0).unread xs) = xs from (Memref.isWhole_whole cc0_scratch0).read_unread xs]
theorem lastOut6 (c : Dev nD) (t : Fin cfg0.N) (h) (xs : Vec F S2x256x128 .f32) :
    View.canon (lastAt m c t h xs).1 = hBlk (iblk m c 0 t) (iblk m c 1 t) (iblk m c 2 t) (iblk m c 3 t) (iblk m c 4 t) := by
  unfold lastAt hBlk zBlk; frame_out
theorem lastOut7 (c : Dev nD) (t : Fin cfg0.N) (h) (xs : Vec F S2x256x128 .f32) :
    View.canon (lastAt m c t h xs).2.1 = lBlk (iblk m c 0 t) (iblk m c 1 t) (iblk m c 2 t) (iblk m c 3 t) (iblk m c 4 t) := by
  unfold lastAt lBlk zBlk; frame_out
theorem lastOut8 (c : Dev nD) (t : Fin cfg0.N) (h) (xs : Vec F S2x256x128 .f32) :
    View.canon (lastAt m c t h xs).2.2.1 = k0_pay3 (uSlab (BitVec.ofNat 32 (grid0.coords t 1).val) (iblk m c 0 t) (iblk m c 1 t) (iblk m c 2 t) (iblk m c 3 t) (iblk m c 4 t) (iblk m c 5 t) xs) := by
  unfold lastAt uSlab zBlk; frame_out
  rw [slab0_read]
  rw [show View.read (Elt F) (View.whole cc0_scratch0) ((Memref.isWhole_whole cc0_scratch0).unread xs) = xs from (Memref.isWhole_whole cc0_scratch0).read_unread xs]
theorem lastOut9 (c : Dev nD) (t : Fin cfg0.N) (h) (xs : Vec F S2x256x128 .f32) :
    View.canon (lastAt m c t h xs).2.2.2.1 = k0_pay4 (lapSlab (BitVec.ofNat 32 (grid0.coords t 1).val) (iblk m c 0 t) (iblk m c 1 t) (iblk m c 2 t) (iblk m c 3 t) (iblk m c 4 t) (iblk m c 5 t) xs) := by
  unfold lastAt lapSlab lBlk zBlk; frame_out
  rw [View.readCov_cons_toLoadRect]
  rw [show View.read (Elt F) (View.whole cc0_scratch0) ((Memref.isWhole_whole cc0_scratch0).unread xs) = xs from (Memref.isWhole_whole cc0_scratch0).read_unread xs]
theorem lastOutS (c : Dev nD) (t : Fin cfg0.N) (h) (xs : Vec F S2x256x128 .f32) :
    View.canon (lastAt m c t h xs).2.2.2.2.1 = accNext (BitVec.ofNat 32 (grid0.coords t 1).val) (iblk m c 0 t) (iblk m c 1 t) (iblk m c 2 t) (iblk m c 3 t) (iblk m c 4 t) (iblk m c 5 t) xs := by
  unfold lastAt accNext uSlab lapSlab lBlk zBlk; frame_out
  rw [show View.read (Elt F) (View.whole cc0_scratch0) ((Memref.isWhole_whole cc0_scratch0).unread xs) = xs from (Memref.isWhole_whole cc0_scratch0).read_unread xs]

section Body

/-- The accumulators before point `t`'s body runs: one step of `accNext` per point run so far, restarting (by `accNext_zero`) at each row block. -/
noncomputable def accAt (c : Dev nD) : ℕ → Vec F S2x256x128 .f32
  | 0 => View.canon []
  | n + 1 => if h : n < cfg0.N then
      accNext (BitVec.ofNat 32 (grid0.coords ⟨n, h⟩ 1).val) (iblk m c 0 ⟨n, h⟩) (iblk m c 1 ⟨n, h⟩) (iblk m c 2 ⟨n, h⟩) (iblk m c 3 ⟨n, h⟩) (iblk m c 4 ⟨n, h⟩) (iblk m c 5 ⟨n, h⟩) (accAt c n)
    else accAt c n

theorem accAt_succ (c : Dev nD) (t : Fin cfg0.N) :
    accAt m c (t.val + 1) = accNext (BitVec.ofNat 32 (grid0.coords t 1).val) (iblk m c 0 t) (iblk m c 1 t) (iblk m c 2 t) (iblk m c 3 t) (iblk m c 4 t) (iblk m c 5 t) (accAt m c t.val) := by
  rw [accAt, dif_pos t.isLt]

/-- What the two row results' blocks are given on the last column block. -/
def uBlk (c : Dev nD) (t : Fin cfg0.N) : Vec F S256x1 .f32 := k0_pay3 (uSlab (BitVec.ofNat 32 (grid0.coords t 1).val) (iblk m c 0 t) (iblk m c 1 t) (iblk m c 2 t) (iblk m c 3 t) (iblk m c 4 t) (iblk m c 5 t) (accAt m c t.val))
def lapBlk (c : Dev nD) (t : Fin cfg0.N) : Vec F S256x1 .f32 := k0_pay4 (lapSlab (BitVec.ofNat 32 (grid0.coords t 1).val) (iblk m c 0 t) (iblk m c 1 t) (iblk m c 2 t) (iblk m c 3 t) (iblk m c 4 t) (iblk m c 5 t) (accAt m c t.val))

/-- Between points: the accumulators at `accAt`, except at the start of a row block, where they may hold anything; and the
    generator register at anything. -/
def PhiS (c : Dev nD) (n : ℕ) : sProp 𝕄 :=
  iprop((∃ d, ⌜n % 16 ≠ 0 → d = accAt m c n⌝ ∗ owns (c : Thread nD τ) scM fullShare d) ∗ (∃ r, prngReg c r))

/-- Per core: the arrays the pipeline works on, what each point leaves in the windows, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlk (iblk m c 0 t) (iblk m c 1 t) (iblk m c 2 t) (iblk m c 3 t) (iblk m c 4 t)
    | ⟨7, _⟩ => lBlk (iblk m c 0 t) (iblk m c 1 t) (iblk m c 2 t) (iblk m c 3 t) (iblk m c 4 t)
    | ⟨8, _⟩ => uBlk m c t
    | ⟨9, _⟩ => lapBlk m c t
  Φ t := PhiS m c t.val
  q _ := fullShare
  owed _ := 0

theorem A_eq (c : Dev nD) (w : Fin 10) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hBlk (iblk m c 0 t) (iblk m c 1 t) (iblk m c 2 t) (iblk m c 3 t) (iblk m c 4 t) := by dsimp only [dats]
theorem after0_7 (c : Dev nD) (t : Fin cfg0.N) : (dats m 0 c).after 7 t = lBlk (iblk m c 0 t) (iblk m c 1 t) (iblk m c 2 t) (iblk m c 3 t) (iblk m c 4 t) := by dsimp only [dats]
theorem after0_8 (c : Dev nD) (t : Fin cfg0.N) : (dats m 0 c).after 8 t = uBlk m c t := by dsimp only [dats]
theorem after0_9 (c : Dev nD) (t : Fin cfg0.N) : (dats m 0 c).after 9 t = lapBlk m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What point `t`'s body is given, and what it must leave. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

/-- The accumulators a point finds give, whatever they are, what it should leave there. -/
theorem acc_step (c : Dev nD) (t : Fin cfg0.N) (d : Vec F S2x256x128 .f32) (hd : t.val % 16 ≠ 0 → d = accAt m c t.val) :
    accNext (BitVec.ofNat 32 (grid0.coords t 1).val) (iblk m c 0 t) (iblk m c 1 t) (iblk m c 2 t) (iblk m c 3 t) (iblk m c 4 t) (iblk m c 5 t) d = accAt m c (t.val + 1) := by
  rw [accAt_succ]
  by_cases h0 : t.val % 16 = 0
  · rw [col_val t, h0]; exact accNext_zero ..
  · rw [hd h0]

set_option maxHeartbeats 1000000 in
theorem sound_body (c : Dev nD) (t : Fin cfg0.N) :
    bodyPre m c t ⊢ wp frame (wpE (defs₀ (F := F)) Variants.none c none) Set.univ (bodyAt0 (F := F) t) fun _ => bodyPost m c t := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  by_cases h : isLast (grid0.coords t)
  · have hm : t.val % 16 = 15 := (isLast_iff t).1 h
    rw [show (dats m 0 c).leavesExact 0 t = owns (c : Thread nD τ) (ms0 t) fullShare ((dats m 0 c).after 0 t) from by unfold Dat.leavesExact; rw [show cfg0.idle 0 (grid0.coords t) = false from rfl], after0_0 m c t]
    rw [show (dats m 0 c).leavesExact 1 t = owns (c : Thread nD τ) (ms1 t) fullShare ((dats m 0 c).after 1 t) from by unfold Dat.leavesExact; rw [show cfg0.idle 1 (grid0.coords t) = false from rfl], after0_1 m c t]
    rw [show (dats m 0 c).leavesExact 2 t = owns (c : Thread nD τ) (ms2 t) fullShare ((dats m 0 c).after 2 t) from by unfold Dat.leavesExact; rw [show cfg0.idle 2 (grid0.coords t) = false from rfl], after0_2 m c t]
    rw [show (dats m 0 c).leavesExact 3 t = owns (c : Thread nD τ) (ms3 t) fullShare ((dats m 0 c).after 3 t) from by unfold Dat.leavesExact; rw [show cfg0.idle 3 (grid0.coords t) = false from rfl], after0_3 m c t]
    rw [show (dats m 0 c).leavesExact 4 t = owns (c : Thread nD τ) (ms4 t) fullShare ((dats m 0 c).after 4 t) from by unfold Dat.leavesExact; rw [show cfg0.idle 4 (grid0.coords t) = false from rfl], after0_4 m c t]
    rw [show (dats m 0 c).leavesExact 5 t = owns (c : Thread nD τ) (ms5 t) fullShare ((dats m 0 c).after 5 t) from by unfold Dat.leavesExact; rw [show cfg0.idle 5 (grid0.coords t) = false from rfl], after0_5 m c t]
    rw [show (dats m 0 c).leavesExact 6 t = owns (c : Thread nD τ) (ms6 t) fullShare ((dats m 0 c).after 6 t) from by unfold Dat.leavesExact; rw [show cfg0.idle 6 (grid0.coords t) = false from rfl], after0_6 m c t]
    rw [show (dats m 0 c).leavesExact 7 t = owns (c : Thread nD τ) (ms7 t) fullShare ((dats m 0 c).after 7 t) from by unfold Dat.leavesExact; rw [show cfg0.idle 7 (grid0.coords t) = false from rfl], after0_7 m c t]
    rw [show (dats m 0 c).leavesExact 8 t = owns (c : Thread nD τ) (ms8 t) fullShare ((dats m 0 c).after 8 t) from by unfold Dat.leavesExact; rw [show cfg0.idle 8 (grid0.coords t) = false from live8 t h], after0_8 m c t]
    rw [show (dats m 0 c).leavesExact 9 t = owns (c : Thread nD τ) (ms9 t) fullShare ((dats m 0 c).after 9 t) from by unfold Dat.leavesExact; rw [show cfg0.idle 9 (grid0.coords t) = false from live9 t h], after0_9 m c t]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hds' : ds = accAt m c t.val := hds (by rw [hm]; decide)
    iapply ((lastAt m c t h ds).2.2.2.2.2 Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [H9]; · iexists _; iexact H9
    isplitl [HS0]; · iexact HS0
    iintro ⟨⟨H0, H1, H2, H3, H4, H5⟩, ⟨%f6, H6⟩, ⟨%f7, H7⟩, ⟨%f8, H8⟩, ⟨%f9, H9⟩, ⟨%fs, HS0⟩⟩
    isplitl [HS0 Hg]
    · isplitl [HS0]
      · iexists _; isplitr; swap
        · unfold owns; iexists _; isplitr; swap; · iexact HS0
          ipureintro; exact (View.read_writes_eq_canon _ _ _ (lastCoverS m c t h _)).trans (lastOutS m c t h _)
        · ipureintro; intro _; exact acc_step m c t _ hds
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact (View.read_writes_eq_canon _ _ _ (lastCover6 m c t h _)).trans (lastOut6 m c t h _)
    isplitl [H7]
    · unfold owns; iexists _; isplitr; swap; · iexact H7
      ipureintro; exact (View.read_writes_eq_canon _ _ _ (lastCover7 m c t h _)).trans (lastOut7 m c t h _)
    isplitl [H8]
    · unfold owns; iexists _; isplitr; swap; · iexact H8
      ipureintro; exact (View.read_writes_eq_canon _ _ _ (lastCover8 m c t h _)).trans ((lastOut8 m c t h _).trans (by rw [hds']; rfl))
    · unfold owns; iexists _; isplitr; swap; · iexact H9
      ipureintro; exact (View.read_writes_eq_canon _ _ _ (lastCover9 m c t h _)).trans ((lastOut9 m c t h _).trans (by rw [hds']; rfl))
  · rw [show (dats m 0 c).leavesExact 0 t = owns (c : Thread nD τ) (ms0 t) fullShare ((dats m 0 c).after 0 t) from by unfold Dat.leavesExact; rw [show cfg0.idle 0 (grid0.coords t) = false from rfl], after0_0 m c t]
    rw [show (dats m 0 c).leavesExact 1 t = owns (c : Thread nD τ) (ms1 t) fullShare ((dats m 0 c).after 1 t) from by unfold Dat.leavesExact; rw [show cfg0.idle 1 (grid0.coords t) = false from rfl], after0_1 m c t]
    rw [show (dats m 0 c).leavesExact 2 t = owns (c : Thread nD τ) (ms2 t) fullShare ((dats m 0 c).after 2 t) from by unfold Dat.leavesExact; rw [show cfg0.idle 2 (grid0.coords t) = false from rfl], after0_2 m c t]
    rw [show (dats m 0 c).leavesExact 3 t = owns (c : Thread nD τ) (ms3 t) fullShare ((dats m 0 c).after 3 t) from by unfold Dat.leavesExact; rw [show cfg0.idle 3 (grid0.coords t) = false from rfl], after0_3 m c t]
    rw [show (dats m 0 c).leavesExact 4 t = owns (c : Thread nD τ) (ms4 t) fullShare ((dats m 0 c).after 4 t) from by unfold Dat.leavesExact; rw [show cfg0.idle 4 (grid0.coords t) = false from rfl], after0_4 m c t]
    rw [show (dats m 0 c).leavesExact 5 t = owns (c : Thread nD τ) (ms5 t) fullShare ((dats m 0 c).after 5 t) from by unfold Dat.leavesExact; rw [show cfg0.idle 5 (grid0.coords t) = false from rfl], after0_5 m c t]
    rw [show (dats m 0 c).leavesExact 6 t = owns (c : Thread nD τ) (ms6 t) fullShare ((dats m 0 c).after 6 t) from by unfold Dat.leavesExact; rw [show cfg0.idle 6 (grid0.coords t) = false from rfl], after0_6 m c t]
    rw [show (dats m 0 c).leavesExact 7 t = owns (c : Thread nD τ) (ms7 t) fullShare ((dats m 0 c).after 7 t) from by unfold Dat.leavesExact; rw [show cfg0.idle 7 (grid0.coords t) = false from rfl], after0_7 m c t]
    rw [Dat.leavesExact_idle (dats m 0 c) 8 t (idle8 t h) (noFlush8 t h), Dat.leavesExact_idle (dats m 0 c) 9 t (idle9 t h) (noFlush9 t h)]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((midAt m c t h ds).2.2.2 Set.univ _ _ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexact H8
    isplitl [H9]; · iexact H9
    isplitl [HS0]; · iexact HS0
    iintro ⟨⟨H0, H1, H2, H3, H4, H5⟩, ⟨%f6, H6⟩, ⟨%f7, H7⟩, H8, H9, ⟨%fs, HS0⟩⟩
    isplitl [HS0 Hg]
    · isplitl [HS0]
      · iexists _; isplitr; swap
        · unfold owns; iexists _; isplitr; swap; · iexact HS0
          ipureintro; exact (View.read_writes_eq_canon _ _ _ (midCoverS m c t h _)).trans (midOutS m c t h _)
        · ipureintro; intro _; exact acc_step m c t _ hds
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact (View.read_writes_eq_canon _ _ _ (midCover6 m c t h _)).trans (midOut6 m c t h _)
    isplitl [H7]
    · unfold owns; iexists _; isplitr; swap; · iexact H7
      ipureintro; exact (View.read_writes_eq_canon _ _ _ (midCover7 m c t h _)).trans (midOut7 m c t h _)
    isplitl [H8]; · iexists _; iexact H8
    iexists _; iexact H9

theorem defs₀_row (t : Fin cfg0.N) : defs₀ (F := F) .tc cfg0.body (cfg0.bodyArgs t (cfg0.slots t)) = bodyAt0 (F := F) t := by
  unfold defs₀; rw [Defs.onTc_tc]

theorem body_obligation (c : Dev nD) : BodyObligation (dats m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  rw [PhiA_eq, show (dats m 0 c).Φ 0 = PhiS m c 0 from rfl]; unfold PhiS
  iintro ⟨⟨%d, HS⟩, Hg⟩
  isplitl [HS]
  · iexists d; isplitr; swap; · iexact HS
    ipureintro; intro h; exact absurd rfl h
  iexact Hg

theorem hout (c : Dev nD) : (dats m 0 c).Φ (Fin.last cfg0.N) ⊢ (Pipeline.ΦA spec0 c : sProp 𝕄) := by
  rw [PhiA_eq, show (dats m 0 c).Φ (Fin.last cfg0.N) = PhiS m c cfg0.N from rfl]; unfold PhiS
  iintro ⟨⟨%d, -, HS⟩, Hg⟩
  isplitl [HS]; · iexists d; iexact HS
  iexact Hg

set_option backward.isDefEq.respectTransparency.types false in
/-- The program runs to the end and leaves every array the pipeline's windows over it say, and no semaphore raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The program runs to the end, leaves the argument arrays as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Body

end Cert.Layer2Ideal.Hand

end
-- ==== Proof.Layer2Value.lean ====
module

public import proofs.«01_k».proof.Proof.Layer2IdealFrame
public import proofs.«01_k».proof.Proof.Gen.Reference2Ideal.Skeleton
public import Idealize.ShloMosaic.Lib.Pipeline.ValueKit

/-! What the last hidden layer's kernel computes, read at one row and one column, and the same of its reference: `h`, the Laplacian
stream, and their two sums against the output weights, accumulated lane by lane. -/

@[expose] public section

set_option maxRecDepth 16384

noncomputable section

namespace Cert.Layer2Ideal.Hand

open Cert.Layer2Ideal Cert.Layer2Ideal.Gen
open Idealize.ShloMosaic Idealize.ShloMosaic.TcCoe Idealize.SL.Sem
open Idealize.ShloMosaic.Pipeline (Dat)

variable (m : (ℓ : Loc nD τ sig) → Buf (Elt Ideal) ℓ)

/-- Where each window's block sits at point `t`: row block `t / 16`, column block `t % 16`. -/
theorem idx : ∀ t : Fin cfg0.N, win0_0.index t = ![0, t.val / 16, 0] ∧ win0_1.index t = ![0, t.val / 16, 0] ∧ win0_2.index t = ![0, t.val % 16]
    ∧ win0_3.index t = ![0, t.val % 16] ∧ win0_4.index t = ![0, t.val % 16] ∧ win0_5.index t = ![0, t.val % 16]
    ∧ win0_6.index t = ![t.val / 16, t.val % 16] ∧ win0_7.index t = ![t.val / 16, t.val % 16]
    ∧ win0_8.index t = ![t.val / 16, 0] ∧ win0_9.index t = ![t.val / 16, 0] :=
  (by decide +kernel : ∀ t : Fin grid0.N, _)

/-- The reference's `h`, as a function of the six operands. -/
abbrev REFh (A : Vec Ideal S5x4096x11008 .fp8e4m3) (SC : Vec Ideal S5x4096x1 .f32) (W : Vec Ideal S11008x4096 .fp8e4m3) (WS B : Vec Ideal S1x4096 .f32) : Vec Ideal S4096x4096 .f32 :=
  Cert.Reference2Ideal.Gen.k0_pay4 A W SC WS B
/-- The reference's Laplacian stream. -/
abbrev REFl (A : Vec Ideal S5x4096x11008 .fp8e4m3) (SC : Vec Ideal S5x4096x1 .f32) (W : Vec Ideal S11008x4096 .fp8e4m3) (WS B : Vec Ideal S1x4096 .f32) : Vec Ideal S4096x4096 .f32 :=
  Cert.Reference2Ideal.Gen.k0_pay5 A W SC WS B

/-- The Laplacian stream of the last layer from the value `h = tanh z` and the rescaled products of the four other streams. -/
def lOf (h y1 y2 y3 y4 : EReal) : EReal :=
  (1 - h * h) * y4 + Ideal.ofBits FTy.f32 3221225472#32 * h * (1 - h * h) * (y1 * y1 + y2 * y2 + y3 * y3)

section Blocks
variable (x0 : Vec Ideal S5x256x11008 .fp8e4m3) (x1 : Vec Ideal S5x256x1 .f32) (x2 : Vec Ideal S11008x256 .fp8e4m3) (x3 x4 x5 : Vec Ideal S1x256 .f32)

theorem pay5_at (e : Fin 1280) (q : Fin 256) :
    k0_pay5 x0 x2 (ix2 e q) = ∑ k : Fin 11008, x0 (ix3 (⟨e.val / 256, by omega⟩ : Fin 5) (⟨e.val % 256, by omega⟩ : Fin 256) k) * x2 (ix2 k q) := by
  pointwise [k0_pay5]

/-- The product of row `r` of stream `s`'s block and column `q` of the weights' block, in the stack of five products. -/
theorem prod_at (s : Fin 5) (r q : Fin 256) (e : Fin 1280) (he : e.val = s.val * 256 + r.val) :
    k0_pay5 x0 x2 (ix2 e q) = ∑ k : Fin 11008, x0 (ix3 s r k) * x2 (ix2 k q) := by
  rw [pay5_at]
  have h1 : (⟨e.val / 256, by omega⟩ : Fin 5) = s := Fin.ext (by show e.val / 256 = s.val; omega)
  have h2 : (⟨e.val % 256, by omega⟩ : Fin 256) = r := Fin.ext (by show e.val % 256 = r.val; omega)
  rw [h1, h2]

/-- The rescaled product of stream `s` at row `r`, column `q` of the blocks. -/
def yB (s : Fin 5) (r q : Fin 256) : EReal :=
  (∑ k : Fin 11008, x0 (ix3 s r k) * x2 (ix2 k q)) * x1 (ix3 s r (0 : Fin 1)) * x3 (ix2 (0 : Fin 1) q)

theorem zBlk_at (r q : Fin 256) : zBlk x0 x1 x2 x3 (ix2 r q) = yB x0 x1 x2 x3 0 r q := by
  pointwise [zBlk, k0_pay6]
  rw [prod_at x0 x2 0 r q _ (by simp), yB]
theorem pay7_at (r q : Fin 256) : k0_pay7 x0 x2 (View.ld x1 (Rect.unit ![1, 0, 0] ![1, 256, 1] inb_S5x256x1_S1x256x1_1_0_0)) x3 (ix2 r q) = yB x0 x1 x2 x3 1 r q := by
  pointwise [k0_pay7]
  rw [prod_at x0 x2 1 r q _ (by simp), yB]
theorem pay8_at (r q : Fin 256) : k0_pay8 x0 x2 (View.ld x1 (Rect.unit ![2, 0, 0] ![1, 256, 1] inb_S5x256x1_S1x256x1_2_0_0)) x3 (ix2 r q) = yB x0 x1 x2 x3 2 r q := by
  pointwise [k0_pay8]
  rw [prod_at x0 x2 2 r q _ (by simp), yB]
theorem hBlk_at (r q : Fin 256) : hBlk x0 x1 x2 x3 x4 (ix2 r q) = Ideal.tanh (yB x0 x1 x2 x3 0 r q + x4 (ix2 (0 : Fin 1) q)) := by
  pointwise [hBlk, k0_pay11]
  rw [zBlk_at]
theorem lBlk_at (r q : Fin 256) : lBlk x0 x1 x2 x3 x4 (ix2 r q)
    = lOf (Ideal.tanh (yB x0 x1 x2 x3 0 r q + x4 (ix2 (0 : Fin 1) q))) (yB x0 x1 x2 x3 1 r q) (yB x0 x1 x2 x3 2 r q) (yB x0 x1 x2 x3 3 r q) (yB x0 x1 x2 x3 4 r q) := by
  unfold lBlk
  pointwise [k0_pay12, k0_pay11, k0_pay9, k0_pay10]
  rw [zBlk_at, pay7_at, pay8_at, prod_at x0 x2 4 r q _ (by simp), prod_at x0 x2 3 r q _ (by simp), lOf, yB, yB, yB, yB, yB]
end Blocks

section Ref
variable (A : Vec Ideal S5x4096x11008 .fp8e4m3) (SC : Vec Ideal S5x4096x1 .f32) (W : Vec Ideal S11008x4096 .fp8e4m3) (WS B WO : Vec Ideal S1x4096 .f32)

/-- The rescaled product of stream `s` at row `p`, column `j` of the whole arrays. -/
def yR (s : Fin 5) (p j : Fin 4096) : EReal :=
  (∑ k : Fin 11008, A (ix3 s p k) * W (ix2 k j)) * SC (ix3 s p (0 : Fin 1)) * WS (ix2 (0 : Fin 1) j)

theorem pay3_at (s : Fin 5) (p j : Fin 4096) :
    Cert.Reference2Ideal.Gen.k0_pay3 A W SC WS (ix3 s p j) = yR A SC W WS s p j := by
  pointwise [Cert.Reference2Ideal.Gen.k0_pay3]
  rw [yR]
theorem REFh_at (p j : Fin 4096) :
    REFh A SC W WS B (ix2 p j) = Ideal.tanh (yR A SC W WS 0 p j + B (ix2 (0 : Fin 1) j)) := by
  pointwise [Cert.Reference2Ideal.Gen.k0_pay4]
  rw [pay3_at]
theorem REFl_at (p j : Fin 4096) :
    REFl A SC W WS B (ix2 p j)
      = lOf (Ideal.tanh (yR A SC W WS 0 p j + B (ix2 (0 : Fin 1) j))) (yR A SC W WS 1 p j) (yR A SC W WS 2 p j) (yR A SC W WS 3 p j) (yR A SC W WS 4 p j) := by
  pointwise [Cert.Reference2Ideal.Gen.k0_pay5]
  rw [show Cert.Reference2Ideal.Gen.k0_pay4 A W SC WS B (ix2 p j) = _ from REFh_at A SC W WS B p j, Fin.sum_univ_three, lOf]
  simp only [pay3_at]
  rfl
end Ref

/-- Row `256 i + r` of the arrays. -/
abbrev rowOf (t : Fin cfg0.N) (r : Fin 256) : Fin 4096 := ⟨t.val / 16 * 256 + r.val, by have := t.isLt; have : cfg0.N = 256 := N_0; omega⟩
abbrev colOf (t : Fin cfg0.N) (q : Fin 256) : Fin 4096 := ⟨t.val % 16 * 256 + q.val, by omega⟩

theorem yB_eq (c : Dev nD) (t : Fin cfg0.N) (s : Fin 5) (r q : Fin 256) :
    yB (iblk m c 0 t) (iblk m c 1 t) (iblk m c 2 t) (iblk m c 3 t) s r q
      = yR (V m c main_arg0) (V m c main_arg1) (V m c main_arg2) (V m c main_v0) s (rowOf t r) (colOf t q) := by
  unfold yB yR
  blk_point [iblk, idx t]

theorem point_h (c : Dev nD) (t : Fin cfg0.N) (r q : Fin 256) :
    hBlk (iblk m c 0 t) (iblk m c 1 t) (iblk m c 2 t) (iblk m c 3 t) (iblk m c 4 t) (ix2 r q)
      = REFh (V m c main_arg0) (V m c main_arg1) (V m c main_arg2) (V m c main_v0) (V m c main_v1) (ix2 (rowOf t r) (colOf t q)) := by
  rw [hBlk_at, REFh_at, yB_eq]
  blk_point [iblk, idx t]

theorem point_l (c : Dev nD) (t : Fin cfg0.N) (r q : Fin 256) :
    lBlk (iblk m c 0 t) (iblk m c 1 t) (iblk m c 2 t) (iblk m c 3 t) (iblk m c 4 t) (ix2 r q)
      = REFl (V m c main_arg0) (V m c main_arg1) (V m c main_arg2) (V m c main_v0) (V m c main_v1) (ix2 (rowOf t r) (colOf t q)) := by
  rw [lBlk_at, REFl_at, yB_eq, yB_eq, yB_eq, yB_eq, yB_eq]
  rw [show iblk m c 4 t (ix2 (0 : Fin 1) q) = V m c main_v1 (ix2 (0 : Fin 1) (colOf t q)) from by blk_ext [iblk, idx t]]

theorem final_h (c : Dev nD) : (dats m 0 c).arrAt 6 (cfgs 0).N
    = REFh (V m c main_arg0) (V m c main_arg1) (V m c main_arg2) (V m c main_v0) (V m c main_v1) := by
  refine (dats m 0 c).arrAt_eq_of_covers 6 _ (by decide +kernel) fun t _ y => ?_
  blk_simp
  rw [after0_6]
  idx_vars y
  exact (point_h m c t y0 y1).trans (congrArg _ (by blk_ext [idx t]))

theorem final_l (c : Dev nD) : (dats m 0 c).arrAt 7 (cfgs 0).N
    = REFl (V m c main_arg0) (V m c main_arg1) (V m c main_arg2) (V m c main_v0) (V m c main_v1) := by
  refine (dats m 0 c).arrAt_eq_of_covers 7 _ (by decide +kernel) fun t _ y => ?_
  blk_simp
  rw [after0_7]
  idx_vars y
  exact (point_l m c t y0 y1).trans (congrArg _ (by blk_ext [idx t]))

section Slabs
variable (n : BitVec 32) (x0 : Vec Ideal S5x256x11008 .fp8e4m3) (x1 : Vec Ideal S5x256x1 .f32) (x2 : Vec Ideal S11008x256 .fp8e4m3) (x3 x4 x5 : Vec Ideal S1x256 .f32)
  (xs : Vec Ideal S2x256x128 .f32)

/-- Reading the accumulators after a point. -/
theorem accNext_0 (r : Fin 256) (q : Fin 128) : accNext n x0 x1 x2 x3 x4 x5 xs (ix3 (0 : Fin 2) r q)
    = uSlab n x0 x1 x2 x3 x4 x5 xs (ix3 (0 : Fin 1) r q) := by
  unfold accNext
  canon_tiles
  case piece0 => exfalso; simp at h0
  case piece1 => have e1 : r.val = (x 1).val := h1; have e2 : q.val = (x 2).val := h2; refine congrArg _ ?_; blk_ext []
theorem accNext_1 (r : Fin 256) (q : Fin 128) : accNext n x0 x1 x2 x3 x4 x5 xs (ix3 (1 : Fin 2) r q)
    = lapSlab n x0 x1 x2 x3 x4 x5 xs (ix3 (0 : Fin 1) r q) := by
  unfold accNext
  canon_tiles
  case piece0 => have e1 : r.val = (x 1).val := h1; have e2 : q.val = (x 2).val := h2; refine congrArg _ ?_; blk_ext []
  case piece1 => exfalso; simp at h0

/-- The halves of a 256-column block's row, lane by lane. -/
abbrev lo (q : Fin 128) : Fin 256 := ⟨q.val, by omega⟩
abbrev hi (q : Fin 128) : Fin 256 := ⟨128 + q.val, by omega⟩

theorem uSlab_at (r : Fin 256) (q : Fin 128) : uSlab n x0 x1 x2 x3 x4 x5 xs (ix3 (0 : Fin 1) r q)
    = Scalar.select (Scalar.cmpi CmpIPredicate.eq n 0#32) 0 (xs (ix3 (0 : Fin 2) r q))
      + (hBlk x0 x1 x2 x3 x4 (ix2 r (lo q)) * x5 (ix2 (0 : Fin 1) (lo q)) + hBlk x0 x1 x2 x3 x4 (ix2 r (hi q)) * x5 (ix2 (0 : Fin 1) (hi q))) := by
  unfold uSlab
  pointwise [k0_pay1, k0_pay13, k0_pay14, k0_pay11]
  simp only [zBlk_at, hBlk_at]
theorem lapSlab_at (r : Fin 256) (q : Fin 128) : lapSlab n x0 x1 x2 x3 x4 x5 xs (ix3 (0 : Fin 1) r q)
    = Scalar.select (Scalar.cmpi CmpIPredicate.eq n 0#32) 0 (xs (ix3 (1 : Fin 2) r q))
      + (lBlk x0 x1 x2 x3 x4 (ix2 r (lo q)) * x5 (ix2 (0 : Fin 1) (lo q)) + lBlk x0 x1 x2 x3 x4 (ix2 r (hi q)) * x5 (ix2 (0 : Fin 1) (hi q))) := by
  unfold lapSlab
  pointwise [k0_pay2]
theorem pay3_sum (v : Vec Ideal S1x256x128 .f32) (r : Fin 256) : k0_pay3 v (ix2 r (0 : Fin 1)) = ∑ q : Fin 128, v (ix3 (0 : Fin 1) r q) := by
  pointwise [k0_pay3]
theorem pay4_sum (v : Vec Ideal S1x256x128 .f32) (r : Fin 256) : k0_pay4 v (ix2 r (0 : Fin 1)) = ∑ q : Fin 128, v (ix3 (0 : Fin 1) r q) := by
  pointwise [k0_pay4]
end Slabs

section Ref
variable (WO : Vec Ideal S1x4096 .f32)
theorem REFu_at (v : Vec Ideal S4096x4096 .f32) (p : Fin 4096) : Cert.Reference2Ideal.Gen.k0_pay1 v WO (ix2 p (0 : Fin 1)) = ∑ j : Fin 4096, v (ix2 p j) * WO (ix2 (0 : Fin 1) j) := by
  pointwise [Cert.Reference2Ideal.Gen.k0_pay1]
theorem REFlap_at (v : Vec Ideal S4096x4096 .f32) (p : Fin 4096) : Cert.Reference2Ideal.Gen.k0_pay2 v WO (ix2 p (0 : Fin 1)) = ∑ j : Fin 4096, v (ix2 p j) * WO (ix2 (0 : Fin 1) j) := by
  pointwise [Cert.Reference2Ideal.Gen.k0_pay2]
end Ref

/-! ## The sum over a row, accumulated lane by lane over the column blocks -/

/-- The two columns of column block `n` that lane `q` accumulates. -/
abbrev jlo (n : Fin 16) (q : Fin 128) : Fin 4096 := ⟨n.val * 256 + q.val, by omega⟩
abbrev jhi (n : Fin 16) (q : Fin 128) : Fin 4096 := ⟨n.val * 256 + (128 + q.val), by omega⟩

/-- An accumulator restarted at column block 0 and added to at each holds, after the sixteen blocks, the sum over them. -/
theorem fold_sum (a : ℕ → EReal) (g : ℕ → EReal)
    (h : ∀ n < 16, a (n + 1) = Scalar.select (Scalar.cmpi CmpIPredicate.eq (BitVec.ofNat 32 n) 0#32) 0 (a n) + g n) :
    ∀ k < 16, a (k + 1) = ∑ n ∈ Finset.range (k + 1), g n
  | 0, _ => by rw [h 0 (by omega), Finset.sum_range_one]; exact zero_add _
  | k + 1, hk => by
    rw [h (k + 1) hk, Finset.sum_range_succ, ← fold_sum a g h k (by omega)]
    have hc : Scalar.cmpi CmpIPredicate.eq (BitVec.ofNat 32 (k + 1)) 0#32 = 0#1 := by
      have : ∀ k : Fin 15, Scalar.cmpi CmpIPredicate.eq (BitVec.ofNat 32 (k.val + 1)) 0#32 = 0#1 := by decide
      exact this ⟨k, by omega⟩
    rw [hc]; rfl

/-- Summing the lanes' sums gives the sum over the row. -/
theorem lanes_sum (f : Fin 4096 → EReal) : ∑ q : Fin 128, ∑ n : Fin 16, (f (jlo n q) + f (jhi n q)) = ∑ j, f j := by
  rw [Finset.sum_comm]
  rw [← (finProdFinEquiv (m := 16) (n := 256)).sum_comp (fun j : Fin (16 * 256) => f j), Fintype.sum_prod_type]
  refine Finset.sum_congr rfl fun n _ => ?_
  rw [Fin.sum_univ_add (a := 128) (b := 128) (fun e : Fin (128 + 128) => f (finProdFinEquiv (n, e))), Finset.sum_add_distrib]
  refine congrArg₂ (· + ·) (Finset.sum_congr rfl fun q _ => congrArg f (Fin.ext ?_)) (Finset.sum_congr rfl fun q _ => congrArg f (Fin.ext ?_))
  · simp [finProdFinEquiv]; omega
  · simp [finProdFinEquiv, Fin.natAdd]; omega

section Rows
variable (c : Dev nD)

/-- The terms of row `p`'s two sums. -/
def uTerm (p j : Fin 4096) : EReal :=
  REFh (V m c main_arg0) (V m c main_arg1) (V m c main_arg2) (V m c main_v0) (V m c main_v1) (ix2 p j) * (V m c main_v2 : Vec Ideal S1x4096 .f32) (ix2 (0 : Fin 1) j)
def lapTerm (p j : Fin 4096) : EReal :=
  REFl (V m c main_arg0) (V m c main_arg1) (V m c main_arg2) (V m c main_v0) (V m c main_v1) (ix2 p j) * (V m c main_v2 : Vec Ideal S1x4096 .f32) (ix2 (0 : Fin 1) j)

theorem wo_eq (t : Fin cfg0.N) (q : Fin 256) : iblk m c 5 t (ix2 (0 : Fin 1) q) = (V m c main_v2 : Vec Ideal S1x4096 .f32) (ix2 (0 : Fin 1) (colOf t q)) := by
  blk_ext [iblk, idx t]

theorem acc_0 (t : Fin cfg0.N) (r : Fin 256) (q : Fin 128) : accAt m c (t.val + 1) (ix3 (0 : Fin 2) r q)
    = Scalar.select (Scalar.cmpi CmpIPredicate.eq (BitVec.ofNat 32 (t.val % 16)) 0#32) 0 (accAt m c t.val (ix3 (0 : Fin 2) r q))
      + (uTerm m c (rowOf t r) (colOf t (lo q)) + uTerm m c (rowOf t r) (colOf t (hi q))) := by
  rw [accAt_succ, accNext_0, uSlab_at, point_h, point_h, wo_eq, wo_eq, col_val]; rfl
theorem acc_1 (t : Fin cfg0.N) (r : Fin 256) (q : Fin 128) : accAt m c (t.val + 1) (ix3 (1 : Fin 2) r q)
    = Scalar.select (Scalar.cmpi CmpIPredicate.eq (BitVec.ofNat 32 (t.val % 16)) 0#32) 0 (accAt m c t.val (ix3 (1 : Fin 2) r q))
      + (lapTerm m c (rowOf t r) (colOf t (lo q)) + lapTerm m c (rowOf t r) (colOf t (hi q))) := by
  rw [accAt_succ, accNext_1, lapSlab_at, point_l, point_l, wo_eq, wo_eq, col_val]; rfl

/-- After a row block's last point, lane `q` of an accumulator that each point adds its two terms to holds the sum over the column blocks. -/
theorem acc_last (k : Fin 2) (T : Fin 4096 → Fin 4096 → EReal)
    (hT : ∀ (t : Fin cfg0.N) (r : Fin 256) (q : Fin 128), accAt m c (t.val + 1) (ix3 k r q)
      = Scalar.select (Scalar.cmpi CmpIPredicate.eq (BitVec.ofNat 32 (t.val % 16)) 0#32) 0 (accAt m c t.val (ix3 k r q))
        + (T (rowOf t r) (colOf t (lo q)) + T (rowOf t r) (colOf t (hi q))))
    (t : Fin cfg0.N) (ht : t.val % 16 = 15) (r : Fin 256) :
    ∑ q : Fin 128, accAt m c (t.val + 1) (ix3 k r q) = ∑ j, T (rowOf t r) j := by
  have hN : t.val < 256 := Nat.lt_of_lt_of_eq t.isLt N_0
  rw [← lanes_sum (T (rowOf t r))]
  refine Finset.sum_congr rfl fun q _ => ?_
  have key := fold_sum (fun n => accAt m c (t.val / 16 * 16 + n) (ix3 k r q))
    (fun n => if h : n < 16 then T (rowOf t r) (jlo ⟨n, h⟩ q) + T (rowOf t r) (jhi ⟨n, h⟩ q) else 0)
    (fun n hn => by
      have hlt : t.val / 16 * 16 + n < cfg0.N := Nat.lt_of_lt_of_eq (by omega) N_0.symm
      have e1 : (t.val / 16 * 16 + n) % 16 = n := by omega
      have e2 : rowOf ⟨_, hlt⟩ r = rowOf t r := Fin.ext (by show (t.val / 16 * 16 + n) / 16 * 256 + r.val = t.val / 16 * 256 + r.val; omega)
      have e3 : ∀ e, colOf ⟨_, hlt⟩ e = (⟨n * 256 + e.val, by omega⟩ : Fin 4096) := fun e => Fin.ext (by show (t.val / 16 * 16 + n) % 16 * 256 + e.val = n * 256 + e.val; omega)
      have := hT ⟨_, hlt⟩ r q
      rw [e2, e3, e3] at this
      dsimp only at this
      rw [e1] at this
      rw [dif_pos hn]
      exact this) 15 (by omega)
  rw [show t.val + 1 = t.val / 16 * 16 + (15 + 1) by omega]
  refine key.trans ?_
  rw [Finset.sum_range]
  exact Finset.sum_congr rfl fun n _ => dif_pos n.isLt

theorem u_row (t : Fin cfg0.N) (ht : t.val % 16 = 15) (r : Fin 256) : uBlk m c t (ix2 r (0 : Fin 1)) = ∑ j : Fin 4096, uTerm m c (rowOf t r) j := by
  rw [← acc_last m c 0 (uTerm m c) (acc_0 m c) t ht r, uBlk, pay3_sum]
  refine Finset.sum_congr rfl fun q _ => ?_
  rw [accAt_succ, accNext_0]

theorem final_u : (dats m 0 c).arrAt 8 (cfgs 0).N
    = Cert.Reference2Ideal.Gen.k0_pay1 (REFh (V m c main_arg0) (V m c main_arg1) (V m c main_arg2) (V m c main_v0) (V m c main_v1)) (V m c main_v2) := by
  refine (dats m 0 c).arrAt_eq_of_covers 8 _ (by decide +kernel) fun t hf y => ?_
  have ht : t.val % 16 = 15 := (flush0_8 t).mp hf
  blk_simp
  rw [after0_8]
  idx_vars y
  have h0 : y1 = 0 := by omega
  subst h0
  rw [show ((View.whole main_v3_2).slice (win0_8.rect t)).emb (ix2 y0 (0 : Fin 1)) = ix2 (rowOf t y0) (0 : Fin 1) from by blk_ext [idx t]]
  exact (u_row m c t ht y0).trans (REFu_at _ _ _).symm

theorem lap_row (t : Fin cfg0.N) (ht : t.val % 16 = 15) (r : Fin 256) : lapBlk m c t (ix2 r (0 : Fin 1)) = ∑ j : Fin 4096, lapTerm m c (rowOf t r) j := by
  rw [← acc_last m c 1 (lapTerm m c) (acc_1 m c) t ht r, lapBlk, pay4_sum]
  refine Finset.sum_congr rfl fun q _ => ?_
  rw [accAt_succ, accNext_1]

theorem final_lap : (dats m 0 c).arrAt 9 (cfgs 0).N
    = Cert.Reference2Ideal.Gen.k0_pay2 (REFl (V m c main_arg0) (V m c main_arg1) (V m c main_arg2) (V m c main_v0) (V m c main_v1)) (V m c main_v2) := by
  refine (dats m 0 c).arrAt_eq_of_covers 9 _ (by decide +kernel) fun t hf y => ?_
  have ht : t.val % 16 = 15 := (flush0_9 t).mp hf
  blk_simp
  rw [after0_9]
  idx_vars y
  have h0 : y1 = 0 := by omega
  subst h0
  rw [show ((View.whole main_v3_3).slice (win0_9.rect t)).emb (ix2 y0 (0 : Fin 1)) = ix2 (rowOf t y0) (0 : Fin 1) from by blk_ext [idx t]]
  exact (lap_row m c t ht y0).trans (REFlap_at _ _ _).symm
end Rows

end Cert.Layer2Ideal.Hand

end
-- ==== Proof.Layer2Tail.lean ====
module

public import proofs.«01_k».proof.Proof.Layer2IdealFrame
public import proofs.«01_k».proof.Proof.Gen.Reference2Ideal.Frame
public import Idealize.ShloMosaic.Lib.Claim

/-! The last hidden layer: what the host lines after the call read, in the kernel's program and in the reference's. -/

@[expose] public section

set_option maxRecDepth 16384

noncomputable section

open Idealize.ShloMosaic Idealize.ShloMosaic.TcCoe Idealize.SL.Sem

namespace Cert.Layer2Ideal.Tail
open Cert.Layer2Ideal Cert.Layer2Ideal.Gen

variable (m : (ℓ : Loc nD τ sig) → Buf (Elt Ideal) ℓ) (c : Dev nD)

/-- Every buffer as the kernel's call leaves it, before the host lines that follow. -/
def exit : Valuation τ sig (Elt Ideal) :=
  Pipeline.withArrays (cfgs 0).spec c (V0 m c) fun w => (Cert.Layer2Ideal.Hand.dats m 0 c).arrAt w (cfgs 0).N

/-- A window's array stands as the pipeline left it. -/
theorem exit_array (w : Fin (cfgs 0).W) : exit m c (Proc.tc.devRef (Pipeline.arrRef (cfgs 0).spec w)) = (Cert.Layer2Ideal.Hand.dats m 0 c).arrAt w (cfgs 0).N :=
  Pipeline.withArrays_arr (cfgs 0).spec (by decide) c (V0 m c) _ w

/-- The two arguments only the host reads stand as launched. -/
theorem exit_arg6 : exit m c (Proc.tc.devRef main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem exit_arg7 : exit m c (Proc.tc.devRef main_arg7) = m ((c.tc : Thread nD τ).loc main_arg7) :=
  (Pipeline.withArrays_of_ne _ c (V0 m c) _ main_arg7 (by exact (by decide : ∀ w, Pipeline.arrRef spec0 w ≠ main_arg7))).trans (V_main_arg7 m c)

theorem exit_h : exit m c (Proc.tc.devRef main_v3_0) = (Cert.Layer2Ideal.Hand.dats m 0 c).arrAt 6 (cfgs 0).N := exit_array m c 6
theorem exit_l : exit m c (Proc.tc.devRef main_v3_1) = (Cert.Layer2Ideal.Hand.dats m 0 c).arrAt 7 (cfgs 0).N := exit_array m c 7
theorem exit_u : exit m c (Proc.tc.devRef main_v3_2) = (Cert.Layer2Ideal.Hand.dats m 0 c).arrAt 8 (cfgs 0).N := exit_array m c 8
theorem exit_lap : exit m c (Proc.tc.devRef main_v3_3) = (Cert.Layer2Ideal.Hand.dats m 0 c).arrAt 9 (cfgs 0).N := exit_array m c 9

end Cert.Layer2Ideal.Tail

namespace Cert.Reference2Ideal.Tail
open Cert.Reference2Ideal Cert.Reference2Ideal.Gen

variable (m : (ℓ : Loc nD τ sig) → Buf (Elt Ideal) ℓ) (c : Dev nD)

/-- Every buffer as the reference's call leaves it, before the host lines that follow. -/
def exit : Valuation τ sig (Elt Ideal) :=
  Pipeline.withArrays (cfgs 0).spec c (V0 m c) fun w => (Cert.Reference2Ideal.Gen.dats m 0 c).arrAt w (cfgs 0).N

/-- A window's array stands as the pipeline left it. -/
theorem exit_array (w : Fin (cfgs 0).W) : exit m c (Proc.tc.devRef (Pipeline.arrRef (cfgs 0).spec w)) = (Cert.Reference2Ideal.Gen.dats m 0 c).arrAt w (cfgs 0).N :=
  Pipeline.withArrays_arr (cfgs 0).spec (by decide) c (V0 m c) _ w

/-- The two arguments only the host reads stand as launched. -/
theorem exit_arg6 : exit m c (Proc.tc.devRef main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem exit_arg7 : exit m c (Proc.tc.devRef main_arg7) = m ((c.tc : Thread nD τ).loc main_arg7) :=
  (Pipeline.withArrays_of_ne _ c (V0 m c) _ main_arg7 (by exact (by decide : ∀ w, Pipeline.arrRef spec0 w ≠ main_arg7))).trans (V_main_arg7 m c)

theorem exit_h : exit m c (Proc.tc.devRef main_v3_0) = (Cert.Reference2Ideal.Gen.dats m 0 c).arrAt 6 (cfgs 0).N := exit_array m c 6
theorem exit_l : exit m c (Proc.tc.devRef main_v3_1) = (Cert.Reference2Ideal.Gen.dats m 0 c).arrAt 7 (cfgs 0).N := exit_array m c 7
theorem exit_u : exit m c (Proc.tc.devRef main_v3_2) = (Cert.Reference2Ideal.Gen.dats m 0 c).arrAt 8 (cfgs 0).N := exit_array m c 8
theorem exit_lap : exit m c (Proc.tc.devRef main_v3_3) = (Cert.Reference2Ideal.Gen.dats m 0 c).arrAt 9 (cfgs 0).N := exit_array m c 9

end Cert.Reference2Ideal.Tail

end
-- ==== Proof.Reference2Value.lean ====
module

public import proofs.«01_k».proof.Proof.Gen.Reference2Ideal.Frame
public import Idealize.ShloMosaic.Lib.Pipeline.ValueKit

/-! The reference of the last hidden layer: its one grid point reads the whole operands and stores its four results whole. -/

@[expose] public section

set_option maxRecDepth 16384

noncomputable section

namespace Cert.Reference2Ideal.Hand

open Cert.Reference2Ideal Cert.Reference2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

/-- The one point's blocks are the whole operands. -/
theorem iblk0 (t) : iblk m c 0 t = V m c main_arg0 := by blk_ext! [iblk, idx t]
theorem iblk1 (t) : iblk m c 1 t = V m c main_arg1 := by blk_ext! [iblk, idx t]
theorem iblk2 (t) : iblk m c 2 t = V m c main_arg2 := by blk_ext! [iblk, idx t]
theorem iblk3 (t) : iblk m c 3 t = V m c main_v0 := by blk_ext! [iblk, idx t]
theorem iblk4 (t) : iblk m c 4 t = V m c main_v1 := by blk_ext! [iblk, idx t]
theorem iblk5 (t) : iblk m c 5 t = V m c main_v2 := by blk_ext! [iblk, idx t]

theorem final_h : (dats m 0 c).arrAt 6 (cfgs 0).N
    = k0_pay4 (V m c main_arg0) (V m c main_arg2) (V m c main_arg1) (V m c main_v0) (V m c main_v1) := by
  refine (dats m 0 c).arrAt_eq_of_after_last 6 t0_0 (by decide +kernel) _ fun j => ?_
  blk_simp
  rw [after0_6]; frame_out
  rw [iblk0, iblk1, iblk2, iblk3, iblk4]
theorem final_l : (dats m 0 c).arrAt 7 (cfgs 0).N
    = k0_pay5 (V m c main_arg0) (V m c main_arg2) (V m c main_arg1) (V m c main_v0) (V m c main_v1) := by
  refine (dats m 0 c).arrAt_eq_of_after_last 7 t0_0 (by decide +kernel) _ fun j => ?_
  blk_simp
  rw [after0_7]; frame_out
  rw [iblk0, iblk1, iblk2, iblk3, iblk4]
theorem final_u : (dats m 0 c).arrAt 8 (cfgs 0).N
    = k0_pay1 (k0_pay4 (V m c main_arg0) (V m c main_arg2) (V m c main_arg1) (V m c main_v0) (V m c main_v1)) (V m c main_v2) := by
  refine (dats m 0 c).arrAt_eq_of_after_last 8 t0_0 (by decide +kernel) _ fun j => ?_
  blk_simp
  rw [after0_8]; frame_out
  rw [iblk0, iblk1, iblk2, iblk3, iblk4, iblk5]
theorem final_lap : (dats m 0 c).arrAt 9 (cfgs 0).N
    = k0_pay2 (k0_pay5 (V m c main_arg0) (V m c main_arg2) (V m c main_arg1) (V m c main_v0) (V m c main_v1)) (V m c main_v2) := by
  refine (dats m 0 c).arrAt_eq_of_after_last 9 t0_0 (by decide +kernel) _ fun j => ?_
  blk_simp
  rw [after0_9]; frame_out
  rw [iblk0, iblk1, iblk2, iblk3, iblk4, iblk5]

end Cert.Reference2Ideal.Hand

end
-- ==== Proof.Layer2Equation.lean ====
module

public import proofs.«01_k».proof.Proof.Layer2Value
public import proofs.«01_k».proof.Proof.Reference2Value
public import proofs.«01_k».proof.Proof.Layer2Tail
public import Idealize.ShloMosaic.Lib.Claim

/-! The last hidden layer: on the same arguments, the kernel and the reference end with the same four results. -/

@[expose] public section

set_option maxRecDepth 16384

noncomputable section

namespace Cert.Layer2Equation

open Idealize.ShloMosaic Idealize.ShloMosaic.TcCoe Idealize.SL.Sem

variable (m : (ℓ : Loc Cert.Layer2Ideal.nD Cert.Layer2Ideal.τ Cert.Layer2Ideal.sig) → Buf (Elt Ideal) ℓ)
  (m' : (ℓ : Loc Cert.Reference2Ideal.nD Cert.Reference2Ideal.τ Cert.Reference2Ideal.sig) → Buf (Elt Ideal) ℓ)

/-- Both programs are started on the same eight arguments. -/
abbrev Agree : Prop := ∀ c : Dev Cert.Layer2Ideal.nD,
  m' ((c.tc : Thread Cert.Reference2Ideal.nD Cert.Reference2Ideal.τ).loc Cert.Reference2Ideal.main_arg0) = m ((c.tc : Thread Cert.Layer2Ideal.nD Cert.Layer2Ideal.τ).loc Cert.Layer2Ideal.main_arg0)
  ∧ m' ((c.tc : Thread Cert.Reference2Ideal.nD Cert.Reference2Ideal.τ).loc Cert.Reference2Ideal.main_arg1) = m ((c.tc : Thread Cert.Layer2Ideal.nD Cert.Layer2Ideal.τ).loc Cert.Layer2Ideal.main_arg1)
  ∧ m' ((c.tc : Thread Cert.Reference2Ideal.nD Cert.Reference2Ideal.τ).loc Cert.Reference2Ideal.main_arg2) = m ((c.tc : Thread Cert.Layer2Ideal.nD Cert.Layer2Ideal.τ).loc Cert.Layer2Ideal.main_arg2)
  ∧ m' ((c.tc : Thread Cert.Reference2Ideal.nD Cert.Reference2Ideal.τ).loc Cert.Reference2Ideal.main_arg3) = m ((c.tc : Thread Cert.Layer2Ideal.nD Cert.Layer2Ideal.τ).loc Cert.Layer2Ideal.main_arg3)
  ∧ m' ((c.tc : Thread Cert.Reference2Ideal.nD Cert.Reference2Ideal.τ).loc Cert.Reference2Ideal.main_arg4) = m ((c.tc : Thread Cert.Layer2Ideal.nD Cert.Layer2Ideal.τ).loc Cert.Layer2Ideal.main_arg4)
  ∧ m' ((c.tc : Thread Cert.Reference2Ideal.nD Cert.Reference2Ideal.τ).loc Cert.Reference2Ideal.main_arg5) = m ((c.tc : Thread Cert.Layer2Ideal.nD Cert.Layer2Ideal.τ).loc Cert.Layer2Ideal.main_arg5)
  ∧ m' ((c.tc : Thread Cert.Reference2Ideal.nD Cert.Reference2Ideal.τ).loc Cert.Reference2Ideal.main_arg6) = m ((c.tc : Thread Cert.Layer2Ideal.nD Cert.Layer2Ideal.τ).loc Cert.Layer2Ideal.main_arg6)
  ∧ m' ((c.tc : Thread Cert.Reference2Ideal.nD Cert.Reference2Ideal.τ).loc Cert.Reference2Ideal.main_arg7) = m ((c.tc : Thread Cert.Layer2Ideal.nD Cert.Layer2Ideal.τ).loc Cert.Layer2Ideal.main_arg7)

section Operands
variable (c : Dev Cert.Layer2Ideal.nD) (h : Agree m m')
include h

/-- So their six operands are the same arrays. -/
theorem op0 : (Cert.Reference2Ideal.Gen.V m' c Cert.Reference2Ideal.main_arg0 : Vec Ideal Cert.Layer2Ideal.S5x4096x11008 .fp8e4m3) = Cert.Layer2Ideal.Gen.V m c Cert.Layer2Ideal.main_arg0 :=
  (Cert.Reference2Ideal.Gen.V_main_arg0 m' c).trans ((h c).1.trans (Cert.Layer2Ideal.Gen.V_main_arg0 m c).symm)
theorem op1 : (Cert.Reference2Ideal.Gen.V m' c Cert.Reference2Ideal.main_arg1 : Vec Ideal Cert.Layer2Ideal.S5x4096x1 .f32) = Cert.Layer2Ideal.Gen.V m c Cert.Layer2Ideal.main_arg1 :=
  (Cert.Reference2Ideal.Gen.V_main_arg1 m' c).trans ((h c).2.1.trans (Cert.Layer2Ideal.Gen.V_main_arg1 m c).symm)
theorem op2 : (Cert.Reference2Ideal.Gen.V m' c Cert.Reference2Ideal.main_arg2 : Vec Ideal Cert.Layer2Ideal.S11008x4096 .fp8e4m3) = Cert.Layer2Ideal.Gen.V m c Cert.Layer2Ideal.main_arg2 :=
  (Cert.Reference2Ideal.Gen.V_main_arg2 m' c).trans ((h c).2.2.1.trans (Cert.Layer2Ideal.Gen.V_main_arg2 m c).symm)
theorem op3 : (Cert.Reference2Ideal.Gen.V m' c Cert.Reference2Ideal.main_v0 : Vec Ideal Cert.Layer2Ideal.S1x4096 .f32) = Cert.Layer2Ideal.Gen.V m c Cert.Layer2Ideal.main_v0 := by
  simp only [Cert.Reference2Ideal.Gen.V, Cert.Reference2Ideal.Gen.V0, Cert.Layer2Ideal.Gen.V, Cert.Layer2Ideal.Gen.V0, Cert.Reference2Ideal.Gen.hostOps0, Cert.Layer2Ideal.Gen.hostOps0, List.flatten_cons, List.flatten_nil, List.append_nil, List.cons_append, List.nil_append]
  after_results
  rw [(h c).2.2.2.1]; rfl
theorem op4 : (Cert.Reference2Ideal.Gen.V m' c Cert.Reference2Ideal.main_v1 : Vec Ideal Cert.Layer2Ideal.S1x4096 .f32) = Cert.Layer2Ideal.Gen.V m c Cert.Layer2Ideal.main_v1 := by
  simp only [Cert.Reference2Ideal.Gen.V, Cert.Reference2Ideal.Gen.V0, Cert.Layer2Ideal.Gen.V, Cert.Layer2Ideal.Gen.V0, Cert.Reference2Ideal.Gen.hostOps0, Cert.Layer2Ideal.Gen.hostOps0, List.flatten_cons, List.flatten_nil, List.append_nil, List.cons_append, List.nil_append]
  after_results
  rw [(h c).2.2.2.2.1]; rfl
theorem op5 : (Cert.Reference2Ideal.Gen.V m' c Cert.Reference2Ideal.main_v2 : Vec Ideal Cert.Layer2Ideal.S1x4096 .f32) = Cert.Layer2Ideal.Gen.V m c Cert.Layer2Ideal.main_v2 := by
  simp only [Cert.Reference2Ideal.Gen.V, Cert.Reference2Ideal.Gen.V0, Cert.Layer2Ideal.Gen.V, Cert.Layer2Ideal.Gen.V0, Cert.Reference2Ideal.Gen.hostOps0, Cert.Layer2Ideal.Gen.hostOps0, List.flatten_cons, List.flatten_nil, List.append_nil, List.cons_append, List.nil_append]
  after_results
  rw [(h c).2.2.2.2.2.1]; rfl

/-- And so are the four arrays their calls leave. -/
theorem eq_h : (Cert.Reference2Ideal.Gen.dats m' 0 c).arrAt 6 (Cert.Reference2Ideal.cfgs 0).N
    = ((Cert.Layer2Ideal.Hand.dats m 0 c).arrAt 6 (Cert.Layer2Ideal.cfgs 0).N : Vec Ideal Cert.Layer2Ideal.S4096x4096 .f32) := by
  rw [Cert.Reference2Ideal.Hand.final_h, Cert.Layer2Ideal.Hand.final_h, op0 m m' c h, op1 m m' c h, op2 m m' c h, op3 m m' c h, op4 m m' c h]
theorem eq_l : (Cert.Reference2Ideal.Gen.dats m' 0 c).arrAt 7 (Cert.Reference2Ideal.cfgs 0).N
    = ((Cert.Layer2Ideal.Hand.dats m 0 c).arrAt 7 (Cert.Layer2Ideal.cfgs 0).N : Vec Ideal Cert.Layer2Ideal.S4096x4096 .f32) := by
  rw [Cert.Reference2Ideal.Hand.final_l, Cert.Layer2Ideal.Hand.final_l, op0 m m' c h, op1 m m' c h, op2 m m' c h, op3 m m' c h, op4 m m' c h]
theorem eq_u : (Cert.Reference2Ideal.Gen.dats m' 0 c).arrAt 8 (Cert.Reference2Ideal.cfgs 0).N
    = ((Cert.Layer2Ideal.Hand.dats m 0 c).arrAt 8 (Cert.Layer2Ideal.cfgs 0).N : Vec Ideal Cert.Layer2Ideal.S4096x1 .f32) := by
  rw [Cert.Reference2Ideal.Hand.final_u, Cert.Layer2Ideal.Hand.final_u, op0 m m' c h, op1 m m' c h, op2 m m' c h, op3 m m' c h, op4 m m' c h, op5 m m' c h]
theorem eq_lap : (Cert.Reference2Ideal.Gen.dats m' 0 c).arrAt 9 (Cert.Reference2Ideal.cfgs 0).N
    = ((Cert.Layer2Ideal.Hand.dats m 0 c).arrAt 9 (Cert.Layer2Ideal.cfgs 0).N : Vec Ideal Cert.Layer2Ideal.S4096x1 .f32) := by
  rw [Cert.Reference2Ideal.Hand.final_lap, Cert.Layer2Ideal.Hand.final_lap, op0 m m' c h, op1 m m' c h, op2 m m' c h, op3 m m' c h, op4 m m' c h, op5 m m' c h]

/-- The host lines after the call are the same in both programs, so the residual, `u`, `h` and the Laplacian stream come out the same. -/
theorem res_residual : Pipeline.afterTail₀ Cert.Reference2Ideal.cfgs (Cert.Reference2Ideal.Gen.dats m') 0 (Cert.Reference2Ideal.Gen.V0 m') [Cert.Reference2Ideal.Gen.hostOps1] c Cert.Reference2Ideal.main_v5
    = Pipeline.afterTail₀ Cert.Layer2Ideal.cfgs (Cert.Layer2Ideal.Hand.dats m) 0 (Cert.Layer2Ideal.Gen.V0 m) [Cert.Layer2Ideal.Gen.hostOps1] c Cert.Layer2Ideal.main_v5 := by
  show StableHlo.after [Cert.Reference2Ideal.Gen.hostOps1].flatten (Cert.Reference2Ideal.Tail.exit m' c) (Proc.tc.devRef Cert.Reference2Ideal.main_v5)
    = StableHlo.after [Cert.Layer2Ideal.Gen.hostOps1].flatten (Cert.Layer2Ideal.Tail.exit m c) (Proc.tc.devRef Cert.Layer2Ideal.main_v5)
  simp only [Cert.Reference2Ideal.Gen.hostOps1, Cert.Layer2Ideal.Gen.hostOps1, List.flatten_cons, List.flatten_nil, List.append_nil, List.cons_append, List.nil_append]
  after_results
  rw [Cert.Reference2Ideal.Tail.exit_lap, Cert.Layer2Ideal.Tail.exit_lap, eq_lap m m' c h, Cert.Reference2Ideal.Tail.exit_arg6, Cert.Layer2Ideal.Tail.exit_arg6, (h c).2.2.2.2.2.2.1]
  rfl
theorem res_u : Pipeline.afterTail₀ Cert.Reference2Ideal.cfgs (Cert.Reference2Ideal.Gen.dats m') 0 (Cert.Reference2Ideal.Gen.V0 m') [Cert.Reference2Ideal.Gen.hostOps1] c Cert.Reference2Ideal.main_v10
    = Pipeline.afterTail₀ Cert.Layer2Ideal.cfgs (Cert.Layer2Ideal.Hand.dats m) 0 (Cert.Layer2Ideal.Gen.V0 m) [Cert.Layer2Ideal.Gen.hostOps1] c Cert.Layer2Ideal.main_v10 := by
  show StableHlo.after [Cert.Reference2Ideal.Gen.hostOps1].flatten (Cert.Reference2Ideal.Tail.exit m' c) (Proc.tc.devRef Cert.Reference2Ideal.main_v10)
    = StableHlo.after [Cert.Layer2Ideal.Gen.hostOps1].flatten (Cert.Layer2Ideal.Tail.exit m c) (Proc.tc.devRef Cert.Layer2Ideal.main_v10)
  simp only [Cert.Reference2Ideal.Gen.hostOps1, Cert.Layer2Ideal.Gen.hostOps1, List.flatten_cons, List.flatten_nil, List.append_nil, List.cons_append, List.nil_append]
  after_results
  rw [Cert.Reference2Ideal.Tail.exit_u, Cert.Layer2Ideal.Tail.exit_u, eq_u m m' c h, Cert.Reference2Ideal.Tail.exit_arg7, Cert.Layer2Ideal.Tail.exit_arg7, (h c).2.2.2.2.2.2.2]
  rfl
theorem res_h : Pipeline.afterTail₀ Cert.Reference2Ideal.cfgs (Cert.Reference2Ideal.Gen.dats m') 0 (Cert.Reference2Ideal.Gen.V0 m') [Cert.Reference2Ideal.Gen.hostOps1] c Cert.Reference2Ideal.main_v11
    = Pipeline.afterTail₀ Cert.Layer2Ideal.cfgs (Cert.Layer2Ideal.Hand.dats m) 0 (Cert.Layer2Ideal.Gen.V0 m) [Cert.Layer2Ideal.Gen.hostOps1] c Cert.Layer2Ideal.main_v11 := by
  show StableHlo.after [Cert.Reference2Ideal.Gen.hostOps1].flatten (Cert.Reference2Ideal.Tail.exit m' c) (Proc.tc.devRef Cert.Reference2Ideal.main_v11)
    = StableHlo.after [Cert.Layer2Ideal.Gen.hostOps1].flatten (Cert.Layer2Ideal.Tail.exit m c) (Proc.tc.devRef Cert.Layer2Ideal.main_v11)
  simp only [Cert.Reference2Ideal.Gen.hostOps1, Cert.Layer2Ideal.Gen.hostOps1, List.flatten_cons, List.flatten_nil, List.append_nil, List.cons_append, List.nil_append]
  after_results
  rw [Cert.Reference2Ideal.Tail.exit_h, Cert.Layer2Ideal.Tail.exit_h, eq_h m m' c h]
  rfl
theorem res_l : Pipeline.afterTail₀ Cert.Reference2Ideal.cfgs (Cert.Reference2Ideal.Gen.dats m') 0 (Cert.Reference2Ideal.Gen.V0 m') [Cert.Reference2Ideal.Gen.hostOps1] c Cert.Reference2Ideal.main_v12
    = Pipeline.afterTail₀ Cert.Layer2Ideal.cfgs (Cert.Layer2Ideal.Hand.dats m) 0 (Cert.Layer2Ideal.Gen.V0 m) [Cert.Layer2Ideal.Gen.hostOps1] c Cert.Layer2Ideal.main_v12 := by
  show StableHlo.after [Cert.Reference2Ideal.Gen.hostOps1].flatten (Cert.Reference2Ideal.Tail.exit m' c) (Proc.tc.devRef Cert.Reference2Ideal.main_v12)
    = StableHlo.after [Cert.Layer2Ideal.Gen.hostOps1].flatten (Cert.Layer2Ideal.Tail.exit m c) (Proc.tc.devRef Cert.Layer2Ideal.main_v12)
  simp only [Cert.Reference2Ideal.Gen.hostOps1, Cert.Layer2Ideal.Gen.hostOps1, List.flatten_cons, List.flatten_nil, List.append_nil, List.cons_append, List.nil_append]
  after_results
  rw [Cert.Reference2Ideal.Tail.exit_l, Cert.Layer2Ideal.Tail.exit_l, eq_l m m' c h]
  rfl

end Operands
end Cert.Layer2Equation

end
-- ==== Proof.Layer0Run.lean ====
module

public import proofs.«01_k».proof.Proof.Gen.Layer0.Skeleton
public import proofs.«01_k».proof.Proof.Gen.Layer0.Frame
public import Idealize.ShloMosaic.Lib.Pipeline.ValueKit
public import Idealize.ShloMosaic.Lib.WritesUnit

/-! The body of the kernel `layer0`: what one trip of its two kinds of loop, and then a whole run of it, leaves in the buffers it stores
into, as a function of the input blocks. -/

@[expose] public section

set_option maxRecDepth 16384

noncomputable section

namespace Cert.Layer0.Hand

open Cert.Layer0 Cert.Layer0.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Values

/-- Slab `s` of a five-stream buffer. -/
def slabOf {a b : ℕ} {e : EltTy} (x : Vec F ⟨3, ![5, a, b]⟩ e) (s : Fin 5) : Vec F ⟨3, ![1, a, b]⟩ e := fun z => x (ix3 s (z 1) (z 2))

/-- The buffer with slab `s` equal to `W s`. -/
def ofSlabs {a b : ℕ} {e : EltTy} (W : Fin 5 → Vec F ⟨3, ![1, a, b]⟩ e) : Vec F ⟨3, ![5, a, b]⟩ e := fun y => W (y 0) (ix3 0 (y 1) (y 2))

/-- The buffer `x` with, in every slab, the rectangle at row `r` and column `c` replaced. -/
def putAt {A C a b : ℕ} {e : EltTy} (r c : ℕ) (W : Fin 5 → Vec F ⟨3, ![1, a, b]⟩ e) (x : Vec F ⟨3, ![5, A, C]⟩ e) : Vec F ⟨3, ![5, A, C]⟩ e := fun y =>
  if h : (r ≤ (y 1).val ∧ (y 1).val < r + a) ∧ c ≤ (y 2).val ∧ (y 2).val < c + b then W (y 0) (ix3 0 ⟨(y 1).val - r, by omega⟩ ⟨(y 2).val - c, by omega⟩) else x y

/-- Five stores of one rectangle each, slab by slab, replace it in what the buffer held. -/
theorem slabsAt {κ : Kind} {sp : Space} {e : EltTy} {A C a b : ℕ} (v : View sig κ sp ⟨3, ![5, A, C]⟩ e) (f : v.ty.Contents (Elt F)) (r c : ℕ)
    (W : Fin 5 → Vec F ⟨3, ![1, a, b]⟩ e) (o4 o3 o2 o1 o0 : Fin 3 → ℕ) (e4 : o4 = ![4, r, c]) (e3 : o3 = ![3, r, c]) (e2 : o2 = ![2, r, c])
    (e1 : o1 = ![1, r, c]) (e0 : o0 = ![0, r, c]) (h4 h3 h2 h1 h0) :
    v.read (Elt F) (v.writes (Elt F) f [⟨Rect.unit o4 ![1, a, b] h4, W 4⟩, ⟨Rect.unit o3 ![1, a, b] h3, W 3⟩,
      ⟨Rect.unit o2 ![1, a, b] h2, W 2⟩, ⟨Rect.unit o1 ![1, a, b] h1, W 1⟩, ⟨Rect.unit o0 ![1, a, b] h0, W 0⟩])
      = putAt r c W (v.read (Elt F) f) := by
  subst e4 e3 e2 e1 e0
  funext y
  obtain ⟨s, p, j, rfl⟩ : ∃ (s : Fin 5) (p : Fin A) (j : Fin C), y = ix3 s p j := ⟨y 0, y 1, y 2, funext fun k => by fin_cases k <;> rfl⟩
  have miss : ∀ (k : Fin 5) (hk) (w : Vec F ⟨3, ![1, a, b]⟩ e) (L : List (View.Piece (Elt F) ⟨3, ![5, A, C]⟩ e)), k ≠ s →
      v.read (Elt F) (v.writes (Elt F) f (⟨Rect.unit ![k.val, r, c] ![1, a, b] hk, w⟩ :: L)) (ix3 s p j) = v.read (Elt F) (v.writes (Elt F) f L) (ix3 s p j) :=
    fun k hk w L hne => View.read_writes_cons_unit_of_not_mem v _ hk w L _ rfl 0 (by
      show s.val < k.val ∨ k.val + 1 ≤ s.val
      have := Fin.val_ne_of_ne hne; omega)
  show _ = dite ((r ≤ p.val ∧ p.val < r + a) ∧ c ≤ j.val ∧ j.val < c + b) _ _
  by_cases h : (r ≤ p.val ∧ p.val < r + a) ∧ c ≤ j.val ∧ j.val < c + b
  · refine Eq.trans ?_ (dif_pos h).symm
    have hit : ∀ (hk) (w : Vec F ⟨3, ![1, a, b]⟩ e) (L : List (View.Piece (Elt F) ⟨3, ![5, A, C]⟩ e)),
        v.read (Elt F) (v.writes (Elt F) f (⟨Rect.unit ![s.val, r, c] ![1, a, b] hk, w⟩ :: L)) (ix3 s p j) = w (ix3 0 ⟨p.val - r, by omega⟩ ⟨j.val - c, by omega⟩) :=
      fun hk w L => View.read_writes_cons_unit_of_mem v _ hk w L _ (ix3 0 ⟨p.val - r, by omega⟩ ⟨j.val - c, by omega⟩) rfl (fun ax => by
        fin_cases ax
        · show s.val = s.val + 0; rfl
        · show p.val = r + (p.val - r); omega
        · show j.val = c + (j.val - c); omega)
    fin_cases s
    · exact (miss 4 _ _ _ (by decide)).trans ((miss 3 _ _ _ (by decide)).trans ((miss 2 _ _ _ (by decide)).trans ((miss 1 _ _ _ (by decide)).trans (hit _ _ _))))
    · exact (miss 4 _ _ _ (by decide)).trans ((miss 3 _ _ _ (by decide)).trans ((miss 2 _ _ _ (by decide)).trans (hit _ _ _)))
    · exact (miss 4 _ _ _ (by decide)).trans ((miss 3 _ _ _ (by decide)).trans (hit _ _ _))
    · exact (miss 4 _ _ _ (by decide)).trans (hit _ _ _)
    · exact hit _ _ _
  · refine Eq.trans ?_ (dif_neg h).symm
    have off : ∀ (k : Fin 5) (hk) (w : Vec F ⟨3, ![1, a, b]⟩ e) (L : List (View.Piece (Elt F) ⟨3, ![5, A, C]⟩ e)),
        v.read (Elt F) (v.writes (Elt F) f (⟨Rect.unit ![k.val, r, c] ![1, a, b] hk, w⟩ :: L)) (ix3 s p j) = v.read (Elt F) (v.writes (Elt F) f L) (ix3 s p j) :=
      fun k hk w L => by
        by_cases hr : r ≤ p.val ∧ p.val < r + a
        · exact View.read_writes_cons_unit_of_not_mem v _ hk w L _ rfl 2 (by
            show j.val < c ∨ c + b ≤ j.val
            omega)
        · exact View.read_writes_cons_unit_of_not_mem v _ hk w L _ rfl 1 (by
            show p.val < r ∨ r + a ≤ p.val
            omega)
    exact (off 4 _ _ _).trans ((off 3 _ _ _).trans ((off 2 _ _ _).trans ((off 1 _ _ _).trans (off 0 _ _ _))))

/-- The same, each piece being given apart. -/
theorem slabsAtEq {κ : Kind} {sp : Space} {e : EltTy} {A C a b : ℕ} (v : View sig κ sp ⟨3, ![5, A, C]⟩ e) (f : v.ty.Contents (Elt F)) (r c : ℕ)
    (W : Fin 5 → Vec F ⟨3, ![1, a, b]⟩ e) (w4 w3 w2 w1 w0 : Vec F ⟨3, ![1, a, b]⟩ e) (o4 o3 o2 o1 o0 : Fin 3 → ℕ) (e4 : o4 = ![4, r, c]) (e3 : o3 = ![3, r, c])
    (e2 : o2 = ![2, r, c]) (e1 : o1 = ![1, r, c]) (e0 : o0 = ![0, r, c]) (h4 h3 h2 h1 h0) (g4 : w4 = W 4) (g3 : w3 = W 3) (g2 : w2 = W 2) (g1 : w1 = W 1) (g0 : w0 = W 0) :
    v.read (Elt F) (v.writes (Elt F) f [⟨Rect.unit o4 ![1, a, b] h4, w4⟩, ⟨Rect.unit o3 ![1, a, b] h3, w3⟩,
      ⟨Rect.unit o2 ![1, a, b] h2, w2⟩, ⟨Rect.unit o1 ![1, a, b] h1, w1⟩, ⟨Rect.unit o0 ![1, a, b] h0, w0⟩])
      = putAt r c W (v.read (Elt F) f) := by
  subst g4 g3 g2 g1 g0
  exact slabsAt v f r c W o4 o3 o2 o1 o0 e4 e3 e2 e1 e0 h4 h3 h2 h1 h0

/-- Replacing all of every slab. -/
theorem putAt_all {a b : ℕ} {e : EltTy} (W : Fin 5 → Vec F ⟨3, ![1, a, b]⟩ e) (x : Vec F ⟨3, ![5, a, b]⟩ e) : putAt 0 0 W x = ofSlabs W := by
  funext y
  have h1 : (y 1).val < a := (y 1).isLt
  have h2 : (y 2).val < b := (y 2).isLt
  exact dif_pos ⟨⟨Nat.zero_le _, by omega⟩, Nat.zero_le _, by omega⟩

/-- A load of slab `s` of a buffer holding `x` reads that slab. -/
theorem rdSlab {κ : Kind} {sp : Space} {a b : ℕ} {e : EltTy} (v : Memref sig κ sp ⟨3, ![5, a, b]⟩ e) (hv : v.IsWhole) (x : Vec F ⟨3, ![5, a, b]⟩ e) (s : Fin 5) (h) :
    v.view.readAt (Elt F) (Rect.unit (s := ⟨3, ![5, a, b]⟩) ![s.val, 0, 0] ![1, a, b] h).toLoadRect (hv.unread x) = slabOf x s := by
  funext z
  unfold slabOf
  rw [View.readAt_apply, hv.read_unread]
  refine congrArg x (funext fun ax => Fin.ext ?_)
  have hz : (z 0).val < 1 := (z 0).isLt
  fin_cases ax
  · show s.val + 1 * (z 0).val = s.val; omega
  · show 0 + 1 * (z 1).val = (z 1).val; omega
  · show 0 + 1 * (z 2).val = (z 2).val; omega

/-- Slab `s` of five lies within them. -/
theorem slab_inb {a b : ℕ} (s : Fin 5) : ∀ k, (![s.val, 0, 0] : Fin 3 → ℕ) k + (![1, a, b] : Fin 3 → ℕ) k ≤ (⟨3, ![5, a, b]⟩ : Shape).size k := by
  intro k
  have hs := s.isLt
  fin_cases k
  · show s.val + 1 ≤ 5; omega
  · show 0 + a ≤ a; omega
  · show 0 + b ≤ b; omega

/-- The `b` columns from column `b * n` of slab `s`. -/
def colsOf {a C : ℕ} {e : EltTy} (b n : ℕ) (hC : 0 < C) (x : Vec F ⟨3, ![5, a, C]⟩ e) (s : Fin 5) : Vec F ⟨3, ![1, a, b]⟩ e :=
  fun z => x (ix3 s (z 1) ⟨(b * n + (z 2).val) % C, Nat.mod_lt _ hC⟩)

/-- A load of those reads them. -/
theorem rdCols {κ : Kind} {sp : Space} {a b C : ℕ} {e : EltTy} (hC : 0 < C) (v : Memref sig κ sp ⟨3, ![5, a, C]⟩ e) (hv : v.IsWhole) (x : Vec F ⟨3, ![5, a, C]⟩ e)
    (n : ℕ) (s : Fin 5) (o : Fin 3 → ℕ) (eo : o = ![s.val, 0, b * n]) (h) :
    v.view.readAt (Elt F) (Rect.unit (s := ⟨3, ![5, a, C]⟩) o ![1, a, b] h).toLoadRect (hv.unread x) = colsOf b n hC x s := by
  subst eo
  funext z
  unfold colsOf
  rw [View.readAt_apply, hv.read_unread]
  refine congrArg x (funext fun ax => Fin.ext ?_)
  have hz : (z 0).val < 1 := (z 0).isLt
  have hz2 : (z 2).val < b := (z 2).isLt
  have hb : b * n + b ≤ C := h 2
  fin_cases ax
  · show s.val + 1 * (z 0).val = s.val; omega
  · show 0 + 1 * (z 1).val = (z 1).val; omega
  · show b * n + 1 * (z 2).val = (b * n + (z 2).val) % C
    rw [Nat.mod_eq_of_lt (by omega)]; omega

/-- The rows and the columns of a matrix from a row `r` and a column `c` on. -/
def block {A C a b : ℕ} {e : EltTy} (r c : ℕ) (hA : 0 < A) (hC : 0 < C) (x : Vec F ⟨2, ![A, C]⟩ e) : Vec F ⟨2, ![a, b]⟩ e :=
  fun z => x (ix2 ⟨(r + (z 0).val) % A, Nat.mod_lt _ hA⟩ ⟨(c + (z 1).val) % C, Nat.mod_lt _ hC⟩)

/-- A load of those reads them. -/
theorem rdBlock {κ : Kind} {sp : Space} {A C a b : ℕ} {e : EltTy} (hA : 0 < A) (hC : 0 < C) (v : Memref sig κ sp ⟨2, ![A, C]⟩ e) (hv : v.IsWhole) (x : Vec F ⟨2, ![A, C]⟩ e)
    (r c : ℕ) (o : Fin 2 → ℕ) (eo : o = ![r, c]) (h) :
    v.view.readAt (Elt F) (Rect.unit (s := ⟨2, ![A, C]⟩) o ![a, b] h).toLoadRect (hv.unread x) = block r c hA hC x := by
  subst eo
  funext z
  unfold block
  rw [View.readAt_apply, hv.read_unread]
  refine congrArg x (funext fun ax => Fin.ext ?_)
  have h0 : r + a ≤ A := h 0
  have h1 : c + b ≤ C := h 1
  have hz0 : (z 0).val < a := (z 0).isLt
  have hz1 : (z 1).val < b := (z 1).isLt
  fin_cases ax
  · show r + 1 * (z 0).val = (r + (z 0).val) % A
    rw [Nat.mod_eq_of_lt (by omega)]; omega
  · show c + 1 * (z 1).val = (c + (z 1).val) % C
    rw [Nat.mod_eq_of_lt (by omega)]; omega

/-- The tile of pre-activations, activation values and derivatives out of 32 points `v` and 256 columns of the weights `w` and of the bias `b`: the
value, the three tangents, the Laplacian stream. -/
def tileY (v : Vec F S32x3 .f32) (w : Vec F S3x256 .f32) : FVec F S32x256 .f32 :=
  k0_pay17 (k0_pay4 v) (k0_pay11 w) (k0_pay14 v w) (k0_pay15 v w) (k0_pay16 v w)
def tileZ (v : Vec F S32x3 .f32) (w : Vec F S3x256 .f32) : FVec F S32x256 .f32 :=
  k0_pay22 (k0_pay5 w) (k0_pay8 v) (tileY v w) (k0_pay18 (k0_pay12 v) (k0_pay13 w)) (k0_pay19 (k0_pay12 v) (k0_pay13 w)) (k0_pay20 (k0_pay12 v) (k0_pay13 w)) (k0_pay21 (k0_pay12 v) (k0_pay13 w))
def tileH (v : Vec F S32x3 .f32) (w : Vec F S3x256 .f32) (b : Vec F S1x256 .f32) : FVec F S32x256 .f32 :=
  k0_pay27 (k0_pay4 v) (k0_pay5 w) (tileZ v w) (k0_pay23 (k0_pay4 v) (k0_pay9 w)) (k0_pay24 (k0_pay4 v) (k0_pay9 w)) (k0_pay25 (k0_pay4 v) (k0_pay9 w)) (k0_pay26 (k0_pay4 v) (k0_pay9 w)) b
def tileD1 (v : Vec F S32x3 .f32) (w : Vec F S3x256 .f32) (b : Vec F S1x256 .f32) : FVec F S32x256 .f32 :=
  k0_pay28 (k0_pay4 v) (k0_pay5 w) (tileZ v w) (k0_pay23 (k0_pay4 v) (k0_pay9 w)) (k0_pay24 (k0_pay4 v) (k0_pay9 w)) (k0_pay25 (k0_pay4 v) (k0_pay9 w)) (k0_pay26 (k0_pay4 v) (k0_pay9 w)) b
def tileD2 (v : Vec F S32x3 .f32) (w : Vec F S3x256 .f32) (b : Vec F S1x256 .f32) : FVec F S32x256 .f32 :=
  k0_pay29 (k0_pay4 v) (k0_pay5 w) (tileZ v w) (k0_pay23 (k0_pay4 v) (k0_pay9 w)) (k0_pay24 (k0_pay4 v) (k0_pay9 w)) (k0_pay25 (k0_pay4 v) (k0_pay9 w)) (k0_pay26 (k0_pay4 v) (k0_pay9 w)) b
def tile (v : Vec F S32x3 .f32) (w : Vec F S3x256 .f32) (b : Vec F S1x256 .f32) : Fin 5 → FVec F S32x256 .f32
  | 0 => tileH v w b
  | 1 => k0_pay31 w (tileD1 v w b)
  | 2 => k0_pay32 w (tileD1 v w b)
  | 3 => k0_pay33 w (tileD1 v w b)
  | 4 => k0_pay34 w (tileD2 v w b) (k0_pay30 w)

/-- What is kept of a tile, and how it enters the row maxima; alike in the five streams. -/
def stSlab (t : FVec F S32x256 .f32) : Vec F S1x32x256 .f32 := k0_pay35 t
def amaxSlab (n : BitVec 32) (t : FVec F S32x256 .f32) (x : Vec F S1x32x128 .f32) : Vec F S1x32x128 .f32 := k0_pay36 n t x

/-- The columns of the weights and of the bias that tile `n` takes, the tile, the streams kept and the row maxima after it. -/
def wCols (x1 : Vec F S3x4096 .f32) (n : ℕ) : Vec F S3x256 .f32 := block 0 (256 * n) (by decide) (by decide) x1
def bCols (x2 : Vec F S1x4096 .f32) (n : ℕ) : Vec F S1x256 .f32 := block 0 (256 * n) (by decide) (by decide) x2
def tileAt (v : Vec F S32x3 .f32) (x1 : Vec F S3x4096 .f32) (x2 : Vec F S1x4096 .f32) (n : ℕ) : Fin 5 → FVec F S32x256 .f32 := tile (k0_pay184 v) (wCols x1 n) (bCols x2 n)
def stNext (n : ℕ) (T : Fin 5 → FVec F S32x256 .f32) (xs : Vec F S5x32x4096 .f32) : Vec F S5x32x4096 .f32 := putAt 0 (256 * n) (fun s => stSlab (T s)) xs
def amaxNext (n : BitVec 32) (T : Fin 5 → FVec F S32x256 .f32) (xa : Vec F S5x32x128 .f32) : Vec F S5x32x128 .f32 := ofSlabs fun s => amaxSlab n (T s) (slabOf xa s)

/-- A stream's scales, and the inverse scales kept for its codes, from its row maxima; alike in the five streams. -/
def scaleSlab (x : Vec F S1x32x128 .f32) : Vec F S1x32x1 .f32 := k0_pay196 (k0_pay193 (k0_pay188 x) (k0_pay189 x) (k0_pay190 x) 23#32)
def invSlab (x : Vec F S1x32x128 .f32) : Vec F S1x32x128 .f32 :=
  k0_pay197 (k0_pay192 (k0_pay188 x) (k0_pay189 x) (k0_pay190 x) 23#32) (k0_pay194 (k0_pay188 x) (k0_pay189 x) (k0_pay190 x) 23#32) k0_pay195

/-- A tile of a stream becomes codes: multiplied by the inverse scales, clipped, cast; alike in the five streams. -/
def codeSlab (x y : Vec F S1x32x128 .f32) : Vec F S1x32x128 .fp8e4m3 := k0_pay42 x y

/-- The streams kept and the row maxima after `n` tiles, and the codes after `n` tiles of a row block at row `r`. -/
def stN (v : Vec F S32x3 .f32) (x1 : Vec F S3x4096 .f32) (x2 : Vec F S1x4096 .f32) : ℕ → Vec F S5x32x4096 .f32 → Vec F S5x32x4096 .f32
  | 0, xs => xs
  | n + 1, xs => stNext n (tileAt v x1 x2 n) (stN v x1 x2 n xs)
def amaxN (v : Vec F S32x3 .f32) (x1 : Vec F S3x4096 .f32) (x2 : Vec F S1x4096 .f32) : ℕ → Vec F S5x32x128 .f32 → Vec F S5x32x128 .f32
  | 0, xa => xa
  | n + 1, xa => amaxNext (Scf.iv 0#32 1#32 n) (tileAt v x1 x2 n) (amaxN v x1 x2 n xa)
def codesTile (n : ℕ) (xs : Vec F S5x32x4096 .f32) (xi : Vec F S5x32x128 .f32) (s : Fin 5) : Vec F S1x32x128 .fp8e4m3 := codeSlab (colsOf 128 n (by decide) xs s) (slabOf xi s)
def codesN (r : ℕ) (xs : Vec F S5x32x4096 .f32) (xi : Vec F S5x32x128 .f32) : ℕ → Vec F S5x128x4096 .fp8e4m3 → Vec F S5x128x4096 .fp8e4m3
  | 0, x => x
  | n + 1, x => putAt r (128 * n) (codesTile n xs xi) (codesN r xs xi n x)

/-- Replacing `b` columns after `b` columns of the same rows: what it leaves outside those rows, -/
theorem putCols_out {A C a b : ℕ} {e : EltTy} (r : ℕ) (W : ℕ → Fin 5 → Vec F ⟨3, ![1, a, b]⟩ e) (f : ℕ → Vec F ⟨3, ![5, A, C]⟩ e)
    (hf : ∀ n, f (n + 1) = putAt r (b * n) (W n) (f n)) (y) (hy : ¬ (r ≤ (y 1).val ∧ (y 1).val < r + a)) : ∀ n, f n y = f 0 y
  | 0 => rfl
  | n + 1 => by
    rw [hf]
    exact (dif_neg (fun h => hy h.1)).trans (putCols_out r W f hf y hy n)

/-- and within them, in the columns passed. -/
theorem putCols_in {A C a b : ℕ} {e : EltTy} (hb : 0 < b) (r : ℕ) (W : ℕ → Fin 5 → Vec F ⟨3, ![1, a, b]⟩ e) (f : ℕ → Vec F ⟨3, ![5, A, C]⟩ e)
    (hf : ∀ n, f (n + 1) = putAt r (b * n) (W n) (f n)) (y) (hy : r ≤ (y 1).val ∧ (y 1).val < r + a) :
    ∀ n, (y 2).val < b * n → f n y = W ((y 2).val / b) (y 0) (ix3 0 ⟨(y 1).val - r, by omega⟩ ⟨(y 2).val % b, Nat.mod_lt _ hb⟩)
  | 0, h => absurd h (by simp)
  | n + 1, h => by
    rw [hf]
    by_cases h2 : b * n ≤ (y 2).val
    · have h3 : (y 2).val < b * n + b := by rw [Nat.mul_succ] at h; exact h
      refine (dif_pos ⟨hy, h2, h3⟩).trans ?_
      obtain ⟨j, hj⟩ : ∃ j, (y 2).val = b * n + j := ⟨(y 2).val - b * n, by omega⟩
      have hjb : j < b := by omega
      have e1 : (y 2).val / b = n := by rw [hj, Nat.mul_add_div hb, Nat.div_eq_of_lt hjb, Nat.add_zero]
      have e2 : (y 2).val % b = (y 2).val - b * n := by rw [hj, Nat.mul_add_mod, Nat.mod_eq_of_lt hjb]; omega
      simp only [e1, e2]
    · exact (dif_neg (fun h => h2 h.2.1)).trans (putCols_in hb r W f hf y hy n (by omega))

/-- The five streams of 32 points over all columns; the row maxima; and the codes over all columns. -/
def streams (v : Vec F S32x3 .f32) (x1 : Vec F S3x4096 .f32) (x2 : Vec F S1x4096 .f32) : Vec F S5x32x4096 .f32 := fun y =>
  stSlab (tileAt v x1 x2 ((y 2).val / 256) (y 0)) (ix3 0 (y 1) ⟨(y 2).val % 256, Nat.mod_lt _ (by decide)⟩)
def maxima (v : Vec F S32x3 .f32) (x1 : Vec F S3x4096 .f32) (x2 : Vec F S1x4096 .f32) : Vec F S5x32x128 .f32 := amaxN v x1 x2 16 (fun _ => Scalar.ofBits .f32 0x00000000#32)
def codesRow (xs : Vec F S5x32x4096 .f32) (xi : Vec F S5x32x128 .f32) (s : Fin 5) : Vec F ⟨3, ![1, 32, 4096]⟩ .fp8e4m3 := fun z =>
  codesTile ((z 2).val / 128) xs xi s (ix3 0 (z 1) ⟨(z 2).val % 128, Nat.mod_lt _ (by decide)⟩)

theorem stN_all (v : Vec F S32x3 .f32) (x1 : Vec F S3x4096 .f32) (x2 : Vec F S1x4096 .f32) (xs) : stN v x1 x2 16 xs = streams v x1 x2 := by
  funext y
  have h1 : (y 1).val < 32 := (y 1).isLt
  have h2 : (y 2).val < 4096 := (y 2).isLt
  exact putCols_in (by decide) 0 (fun n s => stSlab (tileAt v x1 x2 n s)) (fun n => stN v x1 x2 n xs) (fun n => rfl) y ⟨Nat.zero_le _, by omega⟩ 16 h2

theorem amaxNext_zero (T : Fin 5 → FVec F S32x256 .f32) (xa xb : Vec F S5x32x128 .f32) : amaxNext (Scf.iv 0#32 1#32 0) T xa = amaxNext (Scf.iv 0#32 1#32 0) T xb := rfl

theorem amaxN_succ (v : Vec F S32x3 .f32) (x1 : Vec F S3x4096 .f32) (x2 : Vec F S1x4096 .f32) (xa xb) : ∀ n, amaxN v x1 x2 (n + 1) xa = amaxN v x1 x2 (n + 1) xb
  | 0 => amaxNext_zero _ _ _
  | n + 1 => congrArg (amaxNext _ _) (amaxN_succ v x1 x2 xa xb n)

theorem amaxN_all (v : Vec F S32x3 .f32) (x1 : Vec F S3x4096 .f32) (x2 : Vec F S1x4096 .f32) (xa) : amaxN v x1 x2 16 xa = maxima v x1 x2 := amaxN_succ v x1 x2 _ _ 15

theorem codesN_all (r : ℕ) (xs : Vec F S5x32x4096 .f32) (xi : Vec F S5x32x128 .f32) (x) : codesN r xs xi 32 x = putAt r 0 (codesRow xs xi) x := by
  funext y
  have h2 : (y 2).val < 4096 := (y 2).isLt
  by_cases h : r ≤ (y 1).val ∧ (y 1).val < r + 32
  · refine (putCols_in (by decide) r (fun n => codesTile n xs xi) (fun n => codesN r xs xi n x) (fun n => rfl) y h 32 h2).trans ?_
    exact (dif_pos ⟨h, Nat.zero_le _, by omega⟩ : putAt r 0 (codesRow xs xi) x y = _).symm
  · refine (putCols_out r (fun n => codesTile n xs xi) (fun n => codesN r xs xi n x) (fun n => rfl) y h 32).trans ?_
    exact (dif_neg (fun g => h g.1) : putAt r 0 (codesRow xs xi) x y = _).symm

/-- Four row blocks of 32 rows, one after the other. -/
def ofRows {C : ℕ} {e : EltTy} (W : ℕ → Fin 5 → Vec F ⟨3, ![1, 32, C]⟩ e) : Vec F ⟨3, ![5, 128, C]⟩ e := fun y =>
  W ((y 1).val / 32) (y 0) (ix3 0 ⟨(y 1).val % 32, Nat.mod_lt _ (by decide)⟩ (y 2))

theorem putAt_rows {C : ℕ} {e : EltTy} (W : ℕ → Fin 5 → Vec F ⟨3, ![1, 32, C]⟩ e) (x : Vec F ⟨3, ![5, 128, C]⟩ e) :
    putAt 96 0 (W 3) (putAt 64 0 (W 2) (putAt 32 0 (W 1) (putAt 0 0 (W 0) x))) = ofRows W := by
  funext y
  have h1 : (y 1).val < 128 := (y 1).isLt
  have h2 : (y 2).val < C := (y 2).isLt
  have key : ∀ (n : ℕ) (z : Vec F ⟨3, ![5, 128, C]⟩ e), (32 * n ≤ (y 1).val ∧ (y 1).val < 32 * n + 32) → putAt (32 * n) 0 (W n) z y = ofRows W y := by
    intro n z h
    refine (dif_pos ⟨h, Nat.zero_le _, by omega⟩ : putAt (32 * n) 0 (W n) z y = _).trans ?_
    have e1 : (y 1).val / 32 = n := by omega
    have e2 : (y 1).val % 32 = (y 1).val - 32 * n := by omega
    unfold ofRows
    simp only [e1, e2]
    rfl
  have off : ∀ (n : ℕ) (z : Vec F ⟨3, ![5, 128, C]⟩ e), ¬ (32 * n ≤ (y 1).val ∧ (y 1).val < 32 * n + 32) → putAt (32 * n) 0 (W n) z y = z y :=
    fun n z h => dif_neg (fun g => h g.1)
  by_cases g3 : 32 * 3 ≤ (y 1).val ∧ (y 1).val < 32 * 3 + 32
  · exact key 3 _ g3
  refine (off 3 _ g3).trans ?_
  by_cases g2 : 32 * 2 ≤ (y 1).val ∧ (y 1).val < 32 * 2 + 32
  · exact key 2 _ g2
  refine (off 2 _ g2).trans ?_
  by_cases g1 : 32 * 1 ≤ (y 1).val ∧ (y 1).val < 32 * 1 + 32
  · exact key 1 _ g1
  refine (off 1 _ g1).trans ?_
  exact key 0 _ (by omega)

/-- The scales and the inverse scales of 32 rows, and the scales and the codes of the 128 rows of a block. -/
def invAll (xa : Vec F S5x32x128 .f32) : Vec F S5x32x128 .f32 := ofSlabs fun s => invSlab (slabOf xa s)
def scaleRow (xa : Vec F S5x32x128 .f32) (s : Fin 5) : Vec F S1x32x1 .f32 := scaleSlab (slabOf xa s)
def points (x0 : Vec F S128x3 .f32) (r : ℕ) : Vec F S32x3 .f32 := block r 0 (by decide) (by decide) x0
def scalesOut (x0 : Vec F S128x3 .f32) (x1 : Vec F S3x4096 .f32) (x2 : Vec F S1x4096 .f32) : Vec F S5x128x1 .f32 :=
  ofRows fun r => scaleRow (maxima (points x0 (32 * r)) x1 x2)
def codesOut (x0 : Vec F S128x3 .f32) (x1 : Vec F S3x4096 .f32) (x2 : Vec F S1x4096 .f32) : Vec F S5x128x4096 .fp8e4m3 :=
  ofRows fun r => codesRow (streams (points x0 (32 * r)) x1 x2) (invAll (maxima (points x0 (32 * r)) x1 x2))

end Values

/-- One trip of the second loop: each stream's tile, times its inverse scales, becomes codes. -/
noncomputable def quantProg (i : grid0.Coords)
  (arg4 : Memref sig .tc .vmem S5x128x4096 .fp8e4m3) (harg4 : arg4.IsWhole)
  (arg6 : Memref sig .tc .vmem S5x32x4096 .f32) (harg6 : arg6.IsWhole) (arg7 : Memref sig .tc .vmem S5x32x128 .f32) (harg7 : arg7.IsWhole)
  (o6 : Fin 5 → Fin 3 → ℕ) (h6 : ∀ s a, o6 s a + S1x32x128.size a ≤ S5x32x4096.size a)
  (o4 : Fin 5 → Fin 3 → ℕ) (h4 : ∀ s a, o4 s a + S1x32x128.size a ≤ S5x128x4096.size a)
  (p4 : ∀ s, (Rect.unit (s := S5x128x4096) (o4 s) S1x32x128.size (h4 s)).PackedRows (EltTy.packing .fp8e4m3)) :
    Prog (TpuEff nD τ sig (Elt F) Λ₀ .tc) Unit := do
  let t0 : Vec F S1x32x128 .f32 ← Prog.lift (.load arg6 (Rect.unit (s := S5x32x4096) (o6 0) S1x32x128.size (h6 0)).toLoadRect (View.loadsAt_vmem h_S1x32x128))
  let q0 : Vec F S1x32x128 .f32 ← Prog.lift (.load arg7 (Rect.unit (s := S5x32x128) ![0, 0, 0] S1x32x128.size inb_S5x32x128_S1x32x128_0_0_0).toLoadRect (View.loadsAt_vmem h_S1x32x128))
  let _ : Vec F S1x32x128 .fp8e4m3 ← Prog.lift (.load arg4 (Rect.unit (s := S5x128x4096) (o4 0) S1x32x128.size (h4 0)).toLoadRect (View.loadsAt_vmem h_S1x32x128))
  Prog.lift (.store arg4 (Rect.unit (s := S5x128x4096) (o4 0) S1x32x128.size (h4 0)) (codeSlab t0 q0) Finset.univ (View.stores_vmem h_S1x32x128 (harg4.storeExact_slice rfl _ (p4 0)) (fun _ => rfl)) (.inl rfl))
  let t1 : Vec F S1x32x128 .f32 ← Prog.lift (.load arg6 (Rect.unit (s := S5x32x4096) (o6 1) S1x32x128.size (h6 1)).toLoadRect (View.loadsAt_vmem h_S1x32x128))
  let q1 : Vec F S1x32x128 .f32 ← Prog.lift (.load arg7 (Rect.unit (s := S5x32x128) ![1, 0, 0] S1x32x128.size inb_S5x32x128_S1x32x128_1_0_0).toLoadRect (View.loadsAt_vmem h_S1x32x128))
  let _ : Vec F S1x32x128 .fp8e4m3 ← Prog.lift (.load arg4 (Rect.unit (s := S5x128x4096) (o4 1) S1x32x128.size (h4 1)).toLoadRect (View.loadsAt_vmem h_S1x32x128))
  Prog.lift (.store arg4 (Rect.unit (s := S5x128x4096) (o4 1) S1x32x128.size (h4 1)) (codeSlab t1 q1) Finset.univ (View.stores_vmem h_S1x32x128 (harg4.storeExact_slice rfl _ (p4 1)) (fun _ => rfl)) (.inl rfl))
  let t2 : Vec F S1x32x128 .f32 ← Prog.lift (.load arg6 (Rect.unit (s := S5x32x4096) (o6 2) S1x32x128.size (h6 2)).toLoadRect (View.loadsAt_vmem h_S1x32x128))
  let q2 : Vec F S1x32x128 .f32 ← Prog.lift (.load arg7 (Rect.unit (s := S5x32x128) ![2, 0, 0] S1x32x128.size inb_S5x32x128_S1x32x128_2_0_0).toLoadRect (View.loadsAt_vmem h_S1x32x128))
  let _ : Vec F S1x32x128 .fp8e4m3 ← Prog.lift (.load arg4 (Rect.unit (s := S5x128x4096) (o4 2) S1x32x128.size (h4 2)).toLoadRect (View.loadsAt_vmem h_S1x32x128))
  Prog.lift (.store arg4 (Rect.unit (s := S5x128x4096) (o4 2) S1x32x128.size (h4 2)) (codeSlab t2 q2) Finset.univ (View.stores_vmem h_S1x32x128 (harg4.storeExact_slice rfl _ (p4 2)) (fun _ => rfl)) (.inl rfl))
  let t3 : Vec F S1x32x128 .f32 ← Prog.lift (.load arg6 (Rect.unit (s := S5x32x4096) (o6 3) S1x32x128.size (h6 3)).toLoadRect (View.loadsAt_vmem h_S1x32x128))
  let q3 : Vec F S1x32x128 .f32 ← Prog.lift (.load arg7 (Rect.unit (s := S5x32x128) ![3, 0, 0] S1x32x128.size inb_S5x32x128_S1x32x128_3_0_0).toLoadRect (View.loadsAt_vmem h_S1x32x128))
  let _ : Vec F S1x32x128 .fp8e4m3 ← Prog.lift (.load arg4 (Rect.unit (s := S5x128x4096) (o4 3) S1x32x128.size (h4 3)).toLoadRect (View.loadsAt_vmem h_S1x32x128))
  Prog.lift (.store arg4 (Rect.unit (s := S5x128x4096) (o4 3) S1x32x128.size (h4 3)) (codeSlab t3 q3) Finset.univ (View.stores_vmem h_S1x32x128 (harg4.storeExact_slice rfl _ (p4 3)) (fun _ => rfl)) (.inl rfl))
  let t4 : Vec F S1x32x128 .f32 ← Prog.lift (.load arg6 (Rect.unit (s := S5x32x4096) (o6 4) S1x32x128.size (h6 4)).toLoadRect (View.loadsAt_vmem h_S1x32x128))
  let q4 : Vec F S1x32x128 .f32 ← Prog.lift (.load arg7 (Rect.unit (s := S5x32x128) ![4, 0, 0] S1x32x128.size inb_S5x32x128_S1x32x128_4_0_0).toLoadRect (View.loadsAt_vmem h_S1x32x128))
  let _ : Vec F S1x32x128 .fp8e4m3 ← Prog.lift (.load arg4 (Rect.unit (s := S5x128x4096) (o4 4) S1x32x128.size (h4 4)).toLoadRect (View.loadsAt_vmem h_S1x32x128))
  Prog.lift (.store arg4 (Rect.unit (s := S5x128x4096) (o4 4) S1x32x128.size (h4 4)) (codeSlab t4 q4) Finset.univ (View.stores_vmem h_S1x32x128 (harg4.storeExact_slice rfl _ (p4 4)) (fun _ => rfl)) (.inl rfl))
  pure ⟨⟩

section Runs

variable (c : Dev nD) (i : grid0.Coords)
  (arg1 : Memref sig .tc .vmem S128x3 .f32) (harg1 : arg1.IsWhole) (arg2 : Memref sig .tc .vmem S3x4096 .f32) (harg2 : arg2.IsWhole)
  (arg3 : Memref sig .tc .vmem S1x4096 .f32) (harg3 : arg3.IsWhole) (arg4 : Memref sig .tc .vmem S5x128x4096 .fp8e4m3) (harg4 : arg4.IsWhole)
  (arg5 : Memref sig .tc .vmem S5x128x1 .f32) (harg5 : arg5.IsWhole) (arg6 : Memref sig .tc .vmem S5x32x4096 .f32) (harg6 : arg6.IsWhole)
  (arg7 : Memref sig .tc .vmem S5x32x128 .f32) (harg7 : arg7.IsWhole)

set_option maxHeartbeats 1000000 in
/-- One trip of the first loop keeps the tile it computes, and takes it into the row maxima. -/
theorem fillTrip (v : Vec F S32x3 .f32) (k : Fin k0_t1_loop.trips) (E : Set ℕ) (K : PUnit → sProp 𝕄) (x1 : Vec F S3x4096 .f32) (x2 : Vec F S1x4096 .f32)
    (xs : Vec F S5x32x4096 .f32) (xa : Vec F S5x32x128 .f32) :
    iprop((owns (c : Thread nD τ) arg2 fullShare x1 ∗ owns (c : Thread nD τ) arg3 fullShare x2) ∗ owns (c : Thread nD τ) arg6 fullShare xs ∗ owns (c : Thread nD τ) arg7 fullShare xa
        ∗ (iprop((owns (c : Thread nD τ) arg2 fullShare x1 ∗ owns (c : Thread nD τ) arg3 fullShare x2) ∗ owns (c : Thread nD τ) arg6 fullShare (stNext k.val (tileAt v x1 x2 k.val) xs)
            ∗ owns (c : Thread nD τ) arg7 fullShare (amaxNext (Scf.iv 0#32 1#32 k) (tileAt v x1 x2 k.val) xa)) -∗ K ⟨⟩))
      ⊢ wp frame (wpE (defs₀ (F := F)) Variants.none c none) E (k0_t1_body i arg1 harg1 arg2 harg2 arg3 harg3 arg4 harg4 arg5 harg5 arg6 harg6 arg7 harg7 v k ⟨⟩) K := by
  unfold k0_t1_body
  simp only [k0_part1_eq_skeleton, k0_part2_eq_skeleton, k0_part3_eq_skeleton, k0_part4_eq_skeleton, k0_part5_eq_skeleton, k0_part6_eq_skeleton]
  unfold owns
  iintro ⟨⟨⟨%f2, %hf2, H2⟩, ⟨%f3, %hf3, H3⟩⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec
  sl_step
  iapply Hk
  have w1 := rdBlock (by decide) (by decide) arg2 harg2 x1 0 (256 * k.val) (k0_off1 k) (k0_off1_eq k) (k0_off1_inb k)
  have w2 := rdBlock (by decide) (by decide) arg3 harg3 x2 0 (256 * k.val) (k0_off2 k) (k0_off2_eq k) (k0_off2_inb k)
  isplitl [H2 H3]
  · isplitl [H2]
    · iexists _; isplitr; swap; · iexact H2
      ipureintro; exact harg2.read_unread _
    iexists _; isplitr; swap; · iexact H3
    ipureintro; exact harg3.read_unread _
  isplitl [H6]
  · iexists _; isplitr; swap; · iexact H6
    ipureintro
    refine (slabsAt arg6.view (harg6.unread xs) 0 (256 * k.val) (fun s => stSlab (tile (k0_pay184 v)
      (arg2.view.readAt (Elt F) (Rect.unit (s := S3x4096) (k0_off1 k) ![3, 256] (k0_off1_inb k)).toLoadRect (harg2.unread x1))
      (arg3.view.readAt (Elt F) (Rect.unit (s := S1x4096) (k0_off2 k) ![1, 256] (k0_off2_inb k)).toLoadRect (harg3.unread x2)) s))
      _ _ _ _ _ (k0_off7_eq k) (k0_off6_eq k) (k0_off5_eq k) (k0_off4_eq k) (k0_off3_eq k) _ _ _ _ _).trans ?_
    rw [harg6.read_unread, w1, w2]
    rfl
  · iexists _; isplitr; swap; · iexact H7
    ipureintro
    refine (slabsAt arg7.view (harg7.unread xa) 0 0 (fun s => amaxSlab (Scf.iv 0#32 1#32 k) (tile (k0_pay184 v)
      (arg2.view.readAt (Elt F) (Rect.unit (s := S3x4096) (k0_off1 k) ![3, 256] (k0_off1_inb k)).toLoadRect (harg2.unread x1))
      (arg3.view.readAt (Elt F) (Rect.unit (s := S1x4096) (k0_off2 k) ![1, 256] (k0_off2_inb k)).toLoadRect (harg3.unread x2)) s)
      (arg7.view.readAt (Elt F) (Rect.unit (s := S5x32x128) ![s.val, 0, 0] ![1, 32, 128] (slab_inb s)).toLoadRect (harg7.unread xa)))
      _ _ _ _ _ rfl rfl rfl rfl rfl _ _ _ _ _).trans ?_
    rw [putAt_all, w1, w2]
    refine congrArg ofSlabs (funext fun s => ?_)
    rw [rdSlab arg7 harg7 xa s]
    rfl

/-- The first loop keeps the tiles and leaves the row maxima of all of them. -/
theorem fillLoop (v v' : Vec F S32x3 .f32) (hv : v' = v) (body : Fin k0_t1_loop.trips → Unit → Prog (TpuEff nD τ sig (Elt F) Λ₀ .tc) Unit)
    (hb : ∀ k, body k ⟨⟩ = k0_t1_body i arg1 harg1 arg2 harg2 arg3 harg3 arg4 harg4 arg5 harg5 arg6 harg6 arg7 harg7 v' k ⟨⟩) (E : Set ℕ) (K : PUnit → sProp 𝕄) (x1 : Vec F S3x4096 .f32) (x2 : Vec F S1x4096 .f32)
    (xs : Vec F S5x32x4096 .f32) (xa : Vec F S5x32x128 .f32) :
    iprop((owns (c : Thread nD τ) arg2 fullShare x1 ∗ owns (c : Thread nD τ) arg3 fullShare x2) ∗ owns (c : Thread nD τ) arg6 fullShare xs ∗ owns (c : Thread nD τ) arg7 fullShare xa
        ∗ (iprop((owns (c : Thread nD τ) arg2 fullShare x1 ∗ owns (c : Thread nD τ) arg3 fullShare x2) ∗ owns (c : Thread nD τ) arg6 fullShare (streams v x1 x2)
            ∗ owns (c : Thread nD τ) arg7 fullShare (maxima v x1 x2)) -∗ K ⟨⟩))
      ⊢ wp frame (wpE (defs₀ (F := F)) Variants.none c none) E (Scf.Loop.for k0_t1_loop k0_t1_ok ⟨⟩ body) K := by
  subst v'
  have step : ∀ (k : Fin k0_t1_loop.trips) (acc : Unit),
      iprop((owns (c : Thread nD τ) arg2 fullShare x1 ∗ owns (c : Thread nD τ) arg3 fullShare x2) ∗ owns (c : Thread nD τ) arg6 fullShare (stN v x1 x2 k.val xs)
        ∗ owns (c : Thread nD τ) arg7 fullShare (amaxN v x1 x2 k.val xa))
      ⊢ wp frame (wpE (defs₀ (F := F)) Variants.none c none) E (body k acc) (fun _ => (iprop((owns (c : Thread nD τ) arg2 fullShare x1 ∗ owns (c : Thread nD τ) arg3 fullShare x2)
        ∗ owns (c : Thread nD τ) arg6 fullShare (stN v x1 x2 (k.val + 1) xs) ∗ owns (c : Thread nD τ) arg7 fullShare (amaxN v x1 x2 (k.val + 1) xa)) : sProp 𝕄)) := by
    intro k acc
    rw [hb]
    iintro ⟨⟨H2, H3⟩, H6, H7⟩
    iapply (fillTrip c i arg1 harg1 arg2 harg2 arg3 harg3 arg4 harg4 arg5 harg5 arg6 harg6 arg7 harg7 v k E _ x1 x2 (stN v x1 x2 k.val xs) (amaxN v x1 x2 k.val xa))
    isplitl [H2 H3]
    · isplitl [H2] <;> iassumption
    isplitl [H6]
    · iexact H6
    isplitl [H7]
    · iexact H7
    iintro H
    iexact H
  iintro ⟨⟨H2, H3⟩, H6, H7, Hk⟩
  iapply (Scf.wp_for frame (wpE (defs₀ (F := F)) Variants.none c none) E _ _ _ k0_t1_ok ⟨⟩ body (fun n _ =>
      iprop((owns (c : Thread nD τ) arg2 fullShare x1 ∗ owns (c : Thread nD τ) arg3 fullShare x2) ∗ owns (c : Thread nD τ) arg6 fullShare (stN v x1 x2 n xs)
        ∗ owns (c : Thread nD τ) arg7 fullShare (amaxN v x1 x2 n xa))) step)
  isplitl [H2 H3 H6 H7]
  · isplitl [H2 H3]
    · isplitl [H2] <;> iassumption
    isplitl [H6]
    · iexact H6
    · iexact H7
  rw [← stN_all v x1 x2 xs, ← amaxN_all v x1 x2 xa]
  iintro %acc H
  iapply Hk
  iexact H

set_option maxHeartbeats 1000000 in
/-- One trip of the second loop writes the codes of one tile of each stream. -/
theorem quantTrip (r n : ℕ) (o6 : Fin 5 → Fin 3 → ℕ) (e6 : ∀ s, o6 s = ![s.val, 0, 128 * n]) (h6) (o4 : Fin 5 → Fin 3 → ℕ) (e4 : ∀ s, o4 s = ![s.val, r, 128 * n]) (h4) (p4)
    (E : Set ℕ) (K : PUnit → sProp 𝕄) (xs : Vec F S5x32x4096 .f32) (xi : Vec F S5x32x128 .f32) (x4 : Vec F S5x128x4096 .fp8e4m3) :
    iprop(owns (c : Thread nD τ) arg6 fullShare xs ∗ owns (c : Thread nD τ) arg7 fullShare xi ∗ owns (c : Thread nD τ) arg4 fullShare x4
        ∗ (iprop(owns (c : Thread nD τ) arg6 fullShare xs ∗ owns (c : Thread nD τ) arg7 fullShare xi ∗ owns (c : Thread nD τ) arg4 fullShare (putAt r (128 * n) (codesTile n xs xi) x4)) -∗ K ⟨⟩))
      ⊢ wp frame (wpE (defs₀ (F := F)) Variants.none c none) E (quantProg i arg4 harg4 arg6 harg6 arg7 harg7 o6 h6 o4 h4 p4) K := by
  obtain rfl : o6 = fun s => ![s.val, 0, 128 * n] := funext e6
  obtain rfl : o4 = fun s => ![s.val, r, 128 * n] := funext e4
  unfold quantProg owns
  iintro ⟨⟨%f6, %hf6, H6⟩, ⟨%f7, %hf7, H7⟩, ⟨%f4, %hf4, H4⟩, Hk⟩
  obtain rfl := harg4.eq_unread hf4
  obtain rfl := harg6.eq_unread hf6; obtain rfl := harg7.eq_unread hf7
  sl_exec
  sl_step
  iapply Hk
  isplitl [H6]
  · iexists _; isplitr; swap; · iexact H6
    ipureintro; exact harg6.read_unread _
  isplitl [H7]
  · iexists _; isplitr; swap; · iexact H7
    ipureintro; exact harg7.read_unread _
  iexists _; isplitr; swap; · iexact H4
  ipureintro
  refine (slabsAt arg4.view (harg4.unread x4) r (128 * n) (fun s => codeSlab
    (arg6.view.readAt (Elt F) (Rect.unit (s := S5x32x4096) ![s.val, 0, 128 * n] ![1, 32, 128] (h6 s)).toLoadRect (harg6.unread xs))
    (arg7.view.readAt (Elt F) (Rect.unit (s := S5x32x128) ![s.val, 0, 0] ![1, 32, 128] (slab_inb s)).toLoadRect (harg7.unread xi)))
    _ _ _ _ _ rfl rfl rfl rfl rfl _ _ _ _ _).trans ?_
  rw [harg4.read_unread]
  refine congrArg (fun W => putAt r (128 * n) W x4) (funext fun s => ?_)
  show codeSlab _ _ = codeSlab _ _
  rw [rdSlab arg7 harg7 xi s, rdCols (by decide) arg6 harg6 xs n s _ rfl]

/-- The second loop writes the codes of every tile, over 32 rows from row `r` on. -/
theorem quantLoop (r : ℕ) (body : Fin k0_t2_loop.trips → Unit → Prog (TpuEff nD τ sig (Elt F) Λ₀ .tc) Unit)
    (o6 : Fin k0_t2_loop.trips → Fin 5 → Fin 3 → ℕ) (e6 : ∀ k s, o6 k s = ![s.val, 0, 128 * k.val]) (h6 : ∀ k s a, o6 k s a + S1x32x128.size a ≤ S5x32x4096.size a)
    (o4 : Fin k0_t2_loop.trips → Fin 5 → Fin 3 → ℕ) (e4 : ∀ k s, o4 k s = ![s.val, r, 128 * k.val]) (h4 : ∀ k s a, o4 k s a + S1x32x128.size a ≤ S5x128x4096.size a)
    (p4 : ∀ k s, (Rect.unit (s := S5x128x4096) (o4 k s) S1x32x128.size (h4 k s)).PackedRows (EltTy.packing .fp8e4m3))
    (hb : ∀ k, body k ⟨⟩ = quantProg i arg4 harg4 arg6 harg6 arg7 harg7 (o6 k) (h6 k) (o4 k) (h4 k) (p4 k))
    (E : Set ℕ) (K : PUnit → sProp 𝕄) (xs : Vec F S5x32x4096 .f32) (xi : Vec F S5x32x128 .f32) (x4 : Vec F S5x128x4096 .fp8e4m3) :
    iprop(owns (c : Thread nD τ) arg6 fullShare xs ∗ owns (c : Thread nD τ) arg7 fullShare xi ∗ owns (c : Thread nD τ) arg4 fullShare x4
        ∗ (iprop(owns (c : Thread nD τ) arg6 fullShare xs ∗ owns (c : Thread nD τ) arg7 fullShare xi ∗ owns (c : Thread nD τ) arg4 fullShare (putAt r 0 (codesRow xs xi) x4)) -∗ K ⟨⟩))
      ⊢ wp frame (wpE (defs₀ (F := F)) Variants.none c none) E (Scf.Loop.for k0_t2_loop k0_t2_ok ⟨⟩ body) K := by
  have step : ∀ (k : Fin k0_t2_loop.trips) (acc : Unit),
      iprop(owns (c : Thread nD τ) arg6 fullShare xs ∗ owns (c : Thread nD τ) arg7 fullShare xi ∗ owns (c : Thread nD τ) arg4 fullShare (codesN r xs xi k.val x4))
      ⊢ wp frame (wpE (defs₀ (F := F)) Variants.none c none) E (body k acc)
        (fun _ => (iprop(owns (c : Thread nD τ) arg6 fullShare xs ∗ owns (c : Thread nD τ) arg7 fullShare xi ∗ owns (c : Thread nD τ) arg4 fullShare (codesN r xs xi (k.val + 1) x4)) : sProp 𝕄)) := by
    intro k acc
    rw [hb]
    iintro ⟨H6, H7, H4⟩
    iapply (quantTrip c i arg4 harg4 arg6 harg6 arg7 harg7 r k.val (o6 k) (e6 k) (h6 k) (o4 k) (e4 k) (h4 k) (p4 k) E _ xs xi (codesN r xs xi k.val x4))
    isplitl [H6]
    · iexact H6
    isplitl [H7]
    · iexact H7
    isplitl [H4]
    · iexact H4
    iintro H
    iexact H
  iintro ⟨H6, H7, H4, Hk⟩
  iapply (Scf.wp_for frame (wpE (defs₀ (F := F)) Variants.none c none) E _ _ _ k0_t2_ok ⟨⟩ body (fun n _ =>
      iprop(owns (c : Thread nD τ) arg6 fullShare xs ∗ owns (c : Thread nD τ) arg7 fullShare xi ∗ owns (c : Thread nD τ) arg4 fullShare (codesN r xs xi n x4))) step)
  isplitl [H6 H7 H4]
  · isplitl [H6]
    · iexact H6
    isplitl [H7]
    · iexact H7
    · iexact H4
  rw [← codesN_all]
  iintro %acc H
  iapply Hk
  iexact H

/-- What is at hand, put into the form wanted. -/
theorem cut (P Q : sProp 𝕄) : iprop(P ∗ (P -∗ Q)) ⊢ Q := by
  iintro ⟨HP, HQ⟩
  iapply HQ
  iexact HP

set_option maxHeartbeats 4000000 in
/-- The whole body: the codes and the scales of 128 points, whatever the scratch buffers held. -/
theorem runBody (E : Set ℕ) (K : PUnit → sProp 𝕄) (x0 : Vec F S128x3 .f32) (x1 : Vec F S3x4096 .f32) (x2 : Vec F S1x4096 .f32) :
    iprop((owns (c : Thread nD τ) arg1 fullShare x0 ∗ owns (c : Thread nD τ) arg2 fullShare x1 ∗ owns (c : Thread nD τ) arg3 fullShare x2)
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop((owns (c : Thread nD τ) arg1 fullShare x0 ∗ owns (c : Thread nD τ) arg2 fullShare x1 ∗ owns (c : Thread nD τ) arg3 fullShare x2)
          ∗ owns (c : Thread nD τ) arg4 fullShare (codesOut x0 x1 x2) ∗ owns (c : Thread nD τ) arg5 fullShare (scalesOut x0 x1 x2)
          ∗ (∃ d, owns (c : Thread nD τ) arg6 fullShare d) ∗ (∃ d, owns (c : Thread nD τ) arg7 fullShare d)) -∗ K ⟨⟩))
      ⊢ wp frame (wpE (defs₀ (F := F)) Variants.none c none) E (cc0_layer0 i arg1 harg1 arg2 harg2 arg3 harg3 arg4 harg4 arg5 harg5 arg6 harg6 arg7 harg7) K := by
  simp only [cc0_layer0_eq_skeleton]
  unfold cc0_layer0_skel
  simp only [k0_part75_eq_skeleton]
  unfold k0_part75_skel
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
  iintro ⟨⟨H1, H2, H3⟩, ⟨%d4, H4⟩, ⟨%d5, H5⟩, ⟨%d6, H6⟩, ⟨%d7, H7⟩, Hk⟩
  unfold k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel
  unfold owns
  icases H1 with ⟨%f1, %hf1, H1⟩
  obtain rfl := harg1.eq_unread hf1
  sl_exec
  have e0 := rdBlock (a := 32) (b := 3) (by decide) (by decide) arg1 harg1 x0 0 0 ![0, 0] rfl inb_S128x3_S32x3_0_0
  rw [wp_bind, wp_bind, wp_bind]
  iapply (fillLoop c i arg1 harg1 arg2 harg2 arg3 harg3 arg4 harg4 arg5 harg5 arg6 harg6 arg7 harg7 (points x0 (32 * 0)) _ e0 _ (fun _ => rfl) E _ x1 x2 d6 d7)
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 0 0 (scaleRow (maxima (points x0 (32 * 0)) x1 x2)) d5)) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 0)) x1 x2)) = slabOf (maxima (points x0 (32 * 0)) x1 x2) 0 := rdSlab arg7 harg7 (maxima (points x0 (32 * 0)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 0)) x1 x2)) = slabOf (maxima (points x0 (32 * 0)) x1 x2) 1 := rdSlab arg7 harg7 (maxima (points x0 (32 * 0)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 0)) x1 x2)) = slabOf (maxima (points x0 (32 * 0)) x1 x2) 2 := rdSlab arg7 harg7 (maxima (points x0 (32 * 0)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 0)) x1 x2)) = slabOf (maxima (points x0 (32 * 0)) x1 x2) 3 := rdSlab arg7 harg7 (maxima (points x0 (32 * 0)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 0)) x1 x2)) = slabOf (maxima (points x0 (32 * 0)) x1 x2) 4 := rdSlab arg7 harg7 (maxima (points x0 (32 * 0)) x1 x2) 4 inb_S5x32x128_S1x32x128_4_0_0
    refine (slabsAtEq arg5.view (harg5.unread d5) 0 0 (scaleRow (maxima (points x0 (32 * 0)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v3); (try delta runBody.sl.v91); (try delta runBody.sl.v179); (try delta runBody.sl.v267); (try delta runBody.sl.v355))
    all_goals try simp only [m0, m1, m2, m3, m4, Scalar.ofBits, scaleRow, scaleSlab, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237]
    all_goals try (congr 4; done)
  iintro H5
  rw [wp_bind, wp_bind, wp_bind]
  iapply (quantLoop c i arg4 harg4 arg6 harg6 arg7 harg7 0 _ (fun k => ![k0_off8 k, k0_off10 k, k0_off12 k, k0_off14 k, k0_off16 k]) (by intro k s; fin_cases s; exacts [k0_off8_eq k, k0_off10_eq k, k0_off12_eq k, k0_off14_eq k, k0_off16_eq k]) (by intro k s; fin_cases s; exacts [k0_off8_inb k, k0_off10_inb k, k0_off12_inb k, k0_off14_inb k, k0_off16_inb k]) (fun k => ![k0_off9 k, k0_off11 k, k0_off13 k, k0_off15 k, k0_off17 k]) (by intro k s; fin_cases s; exacts [k0_off9_eq k, k0_off11_eq k, k0_off13_eq k, k0_off15_eq k, k0_off17_eq k]) (by intro k s; fin_cases s; exacts [k0_off9_inb k, k0_off11_inb k, k0_off13_inb k, k0_off15_inb k, k0_off17_inb k]) (by intro k s; fin_cases s; exacts [k0_off9_packedfp8e4m3 k, k0_off11_packedfp8e4m3 k, k0_off13_packedfp8e4m3 k, k0_off15_packedfp8e4m3 k, k0_off17_packedfp8e4m3 k]) (fun _ => rfl) E _ (streams (points x0 (32 * 0)) x1 x2) (invAll (maxima (points x0 (32 * 0)) x1 x2)) d4)
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 0)) x1 x2)) = slabOf (maxima (points x0 (32 * 0)) x1 x2) 0 := rdSlab arg7 harg7 (maxima (points x0 (32 * 0)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 0)) x1 x2)) = slabOf (maxima (points x0 (32 * 0)) x1 x2) 1 := rdSlab arg7 harg7 (maxima (points x0 (32 * 0)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 0)) x1 x2)) = slabOf (maxima (points x0 (32 * 0)) x1 x2) 2 := rdSlab arg7 harg7 (maxima (points x0 (32 * 0)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 0)) x1 x2)) = slabOf (maxima (points x0 (32 * 0)) x1 x2) 3 := rdSlab arg7 harg7 (maxima (points x0 (32 * 0)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 0)) x1 x2)) = slabOf (maxima (points x0 (32 * 0)) x1 x2) 4 := rdSlab arg7 harg7 (maxima (points x0 (32 * 0)) x1 x2) 4 inb_S5x32x128_S1x32x128_4_0_0
    refine (slabsAtEq arg7.view _ 0 0 (fun s => invSlab (slabOf (maxima (points x0 (32 * 0)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v3); (try delta runBody.sl.v91); (try delta runBody.sl.v179); (try delta runBody.sl.v267); (try delta runBody.sl.v355))
    all_goals simp only [m0, m1, m2, m3, m4, Scalar.ofBits, invSlab, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237]
    all_goals (congr 4; done)
  isplitl [H4]
  · iexact H4
  iintro ⟨H6, H7, H4⟩
  sl_exec
  have e1 := rdBlock (a := 32) (b := 3) (by decide) (by decide) arg1 harg1 x0 32 0 ![32, 0] rfl inb_S128x3_S32x3_32_0
  rw [wp_bind, wp_bind]
  iapply (fillLoop c i arg1 harg1 arg2 harg2 arg3 harg3 arg4 harg4 arg5 harg5 arg6 harg6 arg7 harg7 (points x0 (32 * 1)) _ e1 _ (fun _ => rfl) E _ x1 x2 (streams (points x0 (32 * 0)) x1 x2) (invAll (maxima (points x0 (32 * 0)) x1 x2)))
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 32 0 (scaleRow (maxima (points x0 (32 * 1)) x1 x2)) (putAt 0 0 (scaleRow (maxima (points x0 (32 * 0)) x1 x2)) d5))) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 1)) x1 x2)) = slabOf (maxima (points x0 (32 * 1)) x1 x2) 0 := rdSlab arg7 harg7 (maxima (points x0 (32 * 1)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 1)) x1 x2)) = slabOf (maxima (points x0 (32 * 1)) x1 x2) 1 := rdSlab arg7 harg7 (maxima (points x0 (32 * 1)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 1)) x1 x2)) = slabOf (maxima (points x0 (32 * 1)) x1 x2) 2 := rdSlab arg7 harg7 (maxima (points x0 (32 * 1)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 1)) x1 x2)) = slabOf (maxima (points x0 (32 * 1)) x1 x2) 3 := rdSlab arg7 harg7 (maxima (points x0 (32 * 1)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 1)) x1 x2)) = slabOf (maxima (points x0 (32 * 1)) x1 x2) 4 := rdSlab arg7 harg7 (maxima (points x0 (32 * 1)) x1 x2) 4 inb_S5x32x128_S1x32x128_4_0_0
    refine (slabsAtEq arg5.view (harg5.unread (putAt 0 0 (scaleRow (maxima (points x0 (32 * 0)) x1 x2)) d5)) 32 0 (scaleRow (maxima (points x0 (32 * 1)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v447); (try delta runBody.sl.v535); (try delta runBody.sl.v623); (try delta runBody.sl.v711); (try delta runBody.sl.v799))
    all_goals try simp only [m0, m1, m2, m3, m4, Scalar.ofBits, scaleRow, scaleSlab, k0_pay188, k0_pay189, k0_pay190, k0_pay191, k0_pay192, k0_pay193, k0_pay194, k0_pay195, k0_pay196, k0_pay197, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284]
    all_goals try (congr 4; done)
  iintro H5
  rw [wp_bind, wp_bind, wp_bind]
  iapply (quantLoop c i arg4 harg4 arg6 harg6 arg7 harg7 32 _ (fun k => ![k0_off25 k, k0_off27 k, k0_off29 k, k0_off31 k, k0_off33 k]) (by intro k s; fin_cases s; exacts [k0_off25_eq k, k0_off27_eq k, k0_off29_eq k, k0_off31_eq k, k0_off33_eq k]) (by intro k s; fin_cases s; exacts [k0_off25_inb k, k0_off27_inb k, k0_off29_inb k, k0_off31_inb k, k0_off33_inb k]) (fun k => ![k0_off26 k, k0_off28 k, k0_off30 k, k0_off32 k, k0_off34 k]) (by intro k s; fin_cases s; exacts [k0_off26_eq k, k0_off28_eq k, k0_off30_eq k, k0_off32_eq k, k0_off34_eq k]) (by intro k s; fin_cases s; exacts [k0_off26_inb k, k0_off28_inb k, k0_off30_inb k, k0_off32_inb k, k0_off34_inb k]) (by intro k s; fin_cases s; exacts [k0_off26_packedfp8e4m3 k, k0_off28_packedfp8e4m3 k, k0_off30_packedfp8e4m3 k, k0_off32_packedfp8e4m3 k, k0_off34_packedfp8e4m3 k]) (fun _ => rfl) E _ (streams (points x0 (32 * 1)) x1 x2) (invAll (maxima (points x0 (32 * 1)) x1 x2)) (putAt 0 0 (codesRow (streams (points x0 (32 * 0)) x1 x2) (invAll (maxima (points x0 (32 * 0)) x1 x2))) d4))
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 1)) x1 x2)) = slabOf (maxima (points x0 (32 * 1)) x1 x2) 0 := rdSlab arg7 harg7 (maxima (points x0 (32 * 1)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 1)) x1 x2)) = slabOf (maxima (points x0 (32 * 1)) x1 x2) 1 := rdSlab arg7 harg7 (maxima (points x0 (32 * 1)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 1)) x1 x2)) = slabOf (maxima (points x0 (32 * 1)) x1 x2) 2 := rdSlab arg7 harg7 (maxima (points x0 (32 * 1)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 1)) x1 x2)) = slabOf (maxima (points x0 (32 * 1)) x1 x2) 3 := rdSlab arg7 harg7 (maxima (points x0 (32 * 1)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 1)) x1 x2)) = slabOf (maxima (points x0 (32 * 1)) x1 x2) 4 := rdSlab arg7 harg7 (maxima (points x0 (32 * 1)) x1 x2) 4 inb_S5x32x128_S1x32x128_4_0_0
    refine (slabsAtEq arg7.view _ 0 0 (fun s => invSlab (slabOf (maxima (points x0 (32 * 1)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v447); (try delta runBody.sl.v535); (try delta runBody.sl.v623); (try delta runBody.sl.v711); (try delta runBody.sl.v799))
    all_goals simp only [m0, m1, m2, m3, m4, Scalar.ofBits, invSlab, k0_pay188, k0_pay189, k0_pay190, k0_pay191, k0_pay192, k0_pay193, k0_pay194, k0_pay195, k0_pay196, k0_pay197, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284]
    all_goals (congr 4; done)
  isplitl [H4]
  · iexact H4
  iintro ⟨H6, H7, H4⟩
  sl_exec
  have e2 := rdBlock (a := 32) (b := 3) (by decide) (by decide) arg1 harg1 x0 64 0 ![64, 0] rfl inb_S128x3_S32x3_64_0
  rw [wp_bind, wp_bind]
  iapply (fillLoop c i arg1 harg1 arg2 harg2 arg3 harg3 arg4 harg4 arg5 harg5 arg6 harg6 arg7 harg7 (points x0 (32 * 2)) _ e2 _ (fun _ => rfl) E _ x1 x2 (streams (points x0 (32 * 1)) x1 x2) (invAll (maxima (points x0 (32 * 1)) x1 x2)))
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 64 0 (scaleRow (maxima (points x0 (32 * 2)) x1 x2)) (putAt 32 0 (scaleRow (maxima (points x0 (32 * 1)) x1 x2)) (putAt 0 0 (scaleRow (maxima (points x0 (32 * 0)) x1 x2)) d5)))) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 2)) x1 x2)) = slabOf (maxima (points x0 (32 * 2)) x1 x2) 0 := rdSlab arg7 harg7 (maxima (points x0 (32 * 2)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 2)) x1 x2)) = slabOf (maxima (points x0 (32 * 2)) x1 x2) 1 := rdSlab arg7 harg7 (maxima (points x0 (32 * 2)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 2)) x1 x2)) = slabOf (maxima (points x0 (32 * 2)) x1 x2) 2 := rdSlab arg7 harg7 (maxima (points x0 (32 * 2)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 2)) x1 x2)) = slabOf (maxima (points x0 (32 * 2)) x1 x2) 3 := rdSlab arg7 harg7 (maxima (points x0 (32 * 2)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 2)) x1 x2)) = slabOf (maxima (points x0 (32 * 2)) x1 x2) 4 := rdSlab arg7 harg7 (maxima (points x0 (32 * 2)) x1 x2) 4 inb_S5x32x128_S1x32x128_4_0_0
    refine (slabsAtEq arg5.view (harg5.unread (putAt 32 0 (scaleRow (maxima (points x0 (32 * 1)) x1 x2)) (putAt 0 0 (scaleRow (maxima (points x0 (32 * 0)) x1 x2)) d5))) 64 0 (scaleRow (maxima (points x0 (32 * 2)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v891); (try delta runBody.sl.v979); (try delta runBody.sl.v1067); (try delta runBody.sl.v1155); (try delta runBody.sl.v1243))
    all_goals try simp only [m0, m1, m2, m3, m4, Scalar.ofBits, scaleRow, scaleSlab, k0_pay188, k0_pay189, k0_pay190, k0_pay191, k0_pay192, k0_pay193, k0_pay194, k0_pay195, k0_pay196, k0_pay197, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331]
    all_goals try (congr 4; done)
  iintro H5
  rw [wp_bind, wp_bind, wp_bind]
  iapply (quantLoop c i arg4 harg4 arg6 harg6 arg7 harg7 64 _ (fun k => ![k0_off42 k, k0_off44 k, k0_off46 k, k0_off48 k, k0_off50 k]) (by intro k s; fin_cases s; exacts [k0_off42_eq k, k0_off44_eq k, k0_off46_eq k, k0_off48_eq k, k0_off50_eq k]) (by intro k s; fin_cases s; exacts [k0_off42_inb k, k0_off44_inb k, k0_off46_inb k, k0_off48_inb k, k0_off50_inb k]) (fun k => ![k0_off43 k, k0_off45 k, k0_off47 k, k0_off49 k, k0_off51 k]) (by intro k s; fin_cases s; exacts [k0_off43_eq k, k0_off45_eq k, k0_off47_eq k, k0_off49_eq k, k0_off51_eq k]) (by intro k s; fin_cases s; exacts [k0_off43_inb k, k0_off45_inb k, k0_off47_inb k, k0_off49_inb k, k0_off51_inb k]) (by intro k s; fin_cases s; exacts [k0_off43_packedfp8e4m3 k, k0_off45_packedfp8e4m3 k, k0_off47_packedfp8e4m3 k, k0_off49_packedfp8e4m3 k, k0_off51_packedfp8e4m3 k]) (fun _ => rfl) E _ (streams (points x0 (32 * 2)) x1 x2) (invAll (maxima (points x0 (32 * 2)) x1 x2)) (putAt 32 0 (codesRow (streams (points x0 (32 * 1)) x1 x2) (invAll (maxima (points x0 (32 * 1)) x1 x2))) (putAt 0 0 (codesRow (streams (points x0 (32 * 0)) x1 x2) (invAll (maxima (points x0 (32 * 0)) x1 x2))) d4)))
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 2)) x1 x2)) = slabOf (maxima (points x0 (32 * 2)) x1 x2) 0 := rdSlab arg7 harg7 (maxima (points x0 (32 * 2)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 2)) x1 x2)) = slabOf (maxima (points x0 (32 * 2)) x1 x2) 1 := rdSlab arg7 harg7 (maxima (points x0 (32 * 2)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 2)) x1 x2)) = slabOf (maxima (points x0 (32 * 2)) x1 x2) 2 := rdSlab arg7 harg7 (maxima (points x0 (32 * 2)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 2)) x1 x2)) = slabOf (maxima (points x0 (32 * 2)) x1 x2) 3 := rdSlab arg7 harg7 (maxima (points x0 (32 * 2)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 2)) x1 x2)) = slabOf (maxima (points x0 (32 * 2)) x1 x2) 4 := rdSlab arg7 harg7 (maxima (points x0 (32 * 2)) x1 x2) 4 inb_S5x32x128_S1x32x128_4_0_0
    refine (slabsAtEq arg7.view _ 0 0 (fun s => invSlab (slabOf (maxima (points x0 (32 * 2)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v891); (try delta runBody.sl.v979); (try delta runBody.sl.v1067); (try delta runBody.sl.v1155); (try delta runBody.sl.v1243))
    all_goals simp only [m0, m1, m2, m3, m4, Scalar.ofBits, invSlab, k0_pay188, k0_pay189, k0_pay190, k0_pay191, k0_pay192, k0_pay193, k0_pay194, k0_pay195, k0_pay196, k0_pay197, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331]
    all_goals (congr 4; done)
  isplitl [H4]
  · iexact H4
  iintro ⟨H6, H7, H4⟩
  sl_exec
  have e3 := rdBlock (a := 32) (b := 3) (by decide) (by decide) arg1 harg1 x0 96 0 ![96, 0] rfl inb_S128x3_S32x3_96_0
  rw [wp_bind, wp_bind]
  iapply (fillLoop c i arg1 harg1 arg2 harg2 arg3 harg3 arg4 harg4 arg5 harg5 arg6 harg6 arg7 harg7 (points x0 (32 * 3)) _ e3 _ (fun _ => rfl) E _ x1 x2 (streams (points x0 (32 * 2)) x1 x2) (invAll (maxima (points x0 (32 * 2)) x1 x2)))
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 96 0 (scaleRow (maxima (points x0 (32 * 3)) x1 x2)) (putAt 64 0 (scaleRow (maxima (points x0 (32 * 2)) x1 x2)) (putAt 32 0 (scaleRow (maxima (points x0 (32 * 1)) x1 x2)) (putAt 0 0 (scaleRow (maxima (points x0 (32 * 0)) x1 x2)) d5))))) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 3)) x1 x2)) = slabOf (maxima (points x0 (32 * 3)) x1 x2) 0 := rdSlab arg7 harg7 (maxima (points x0 (32 * 3)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 3)) x1 x2)) = slabOf (maxima (points x0 (32 * 3)) x1 x2) 1 := rdSlab arg7 harg7 (maxima (points x0 (32 * 3)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 3)) x1 x2)) = slabOf (maxima (points x0 (32 * 3)) x1 x2) 2 := rdSlab arg7 harg7 (maxima (points x0 (32 * 3)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 3)) x1 x2)) = slabOf (maxima (points x0 (32 * 3)) x1 x2) 3 := rdSlab arg7 harg7 (maxima (points x0 (32 * 3)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 3)) x1 x2)) = slabOf (maxima (points x0 (32 * 3)) x1 x2) 4 := rdSlab arg7 harg7 (maxima (points x0 (32 * 3)) x1 x2) 4 inb_S5x32x128_S1x32x128_4_0_0
    refine (slabsAtEq arg5.view (harg5.unread (putAt 64 0 (scaleRow (maxima (points x0 (32 * 2)) x1 x2)) (putAt 32 0 (scaleRow (maxima (points x0 (32 * 1)) x1 x2)) (putAt 0 0 (scaleRow (maxima (points x0 (32 * 0)) x1 x2)) d5)))) 96 0 (scaleRow (maxima (points x0 (32 * 3)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v1335); (try delta runBody.sl.v1423); (try delta runBody.sl.v1511); (try delta runBody.sl.v1599); (try delta runBody.sl.v1687))
    all_goals try simp only [m0, m1, m2, m3, m4, Scalar.ofBits, scaleRow, scaleSlab, k0_pay1, k0_pay2, k0_pay188, k0_pay189, k0_pay190, k0_pay191, k0_pay192, k0_pay193, k0_pay194, k0_pay195, k0_pay196, k0_pay197, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372]
    all_goals try (congr 4; done)
  iintro H5
  rw [wp_bind]
  iapply (quantLoop c i arg4 harg4 arg6 harg6 arg7 harg7 96 _ (fun k => ![k0_off59 k, k0_off61 k, k0_off63 k, k0_off65 k, k0_off67 k]) (by intro k s; fin_cases s; exacts [k0_off59_eq k, k0_off61_eq k, k0_off63_eq k, k0_off65_eq k, k0_off67_eq k]) (by intro k s; fin_cases s; exacts [k0_off59_inb k, k0_off61_inb k, k0_off63_inb k, k0_off65_inb k, k0_off67_inb k]) (fun k => ![k0_off60 k, k0_off62 k, k0_off64 k, k0_off66 k, k0_off68 k]) (by intro k s; fin_cases s; exacts [k0_off60_eq k, k0_off62_eq k, k0_off64_eq k, k0_off66_eq k, k0_off68_eq k]) (by intro k s; fin_cases s; exacts [k0_off60_inb k, k0_off62_inb k, k0_off64_inb k, k0_off66_inb k, k0_off68_inb k]) (by intro k s; fin_cases s; exacts [k0_off60_packedfp8e4m3 k, k0_off62_packedfp8e4m3 k, k0_off64_packedfp8e4m3 k, k0_off66_packedfp8e4m3 k, k0_off68_packedfp8e4m3 k]) (fun _ => rfl) E _ (streams (points x0 (32 * 3)) x1 x2) (invAll (maxima (points x0 (32 * 3)) x1 x2)) (putAt 64 0 (codesRow (streams (points x0 (32 * 2)) x1 x2) (invAll (maxima (points x0 (32 * 2)) x1 x2))) (putAt 32 0 (codesRow (streams (points x0 (32 * 1)) x1 x2) (invAll (maxima (points x0 (32 * 1)) x1 x2))) (putAt 0 0 (codesRow (streams (points x0 (32 * 0)) x1 x2) (invAll (maxima (points x0 (32 * 0)) x1 x2))) d4))))
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 3)) x1 x2)) = slabOf (maxima (points x0 (32 * 3)) x1 x2) 0 := rdSlab arg7 harg7 (maxima (points x0 (32 * 3)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 3)) x1 x2)) = slabOf (maxima (points x0 (32 * 3)) x1 x2) 1 := rdSlab arg7 harg7 (maxima (points x0 (32 * 3)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 3)) x1 x2)) = slabOf (maxima (points x0 (32 * 3)) x1 x2) 2 := rdSlab arg7 harg7 (maxima (points x0 (32 * 3)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 3)) x1 x2)) = slabOf (maxima (points x0 (32 * 3)) x1 x2) 3 := rdSlab arg7 harg7 (maxima (points x0 (32 * 3)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 3)) x1 x2)) = slabOf (maxima (points x0 (32 * 3)) x1 x2) 4 := rdSlab arg7 harg7 (maxima (points x0 (32 * 3)) x1 x2) 4 inb_S5x32x128_S1x32x128_4_0_0
    refine (slabsAtEq arg7.view _ 0 0 (fun s => invSlab (slabOf (maxima (points x0 (32 * 3)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v1335); (try delta runBody.sl.v1423); (try delta runBody.sl.v1511); (try delta runBody.sl.v1599); (try delta runBody.sl.v1687))
    all_goals simp only [m0, m1, m2, m3, m4, Scalar.ofBits, invSlab, k0_pay1, k0_pay2, k0_pay188, k0_pay189, k0_pay190, k0_pay191, k0_pay192, k0_pay193, k0_pay194, k0_pay195, k0_pay196, k0_pay197, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372]
    all_goals (congr 4; done)
  isplitl [H4]
  · iexact H4
  iintro ⟨H6, H7, H4⟩
  sl_exec
  sl_step
  iapply Hk
  isplitl [H1 H2 H3]
  · isplitl [H1]
    · iexists _; isplitr; swap; · iexact H1
      ipureintro; exact harg1.read_unread _
    isplitl [H2]
    · iexact H2
    · iexact H3
  isplitl [H4]
  · unfold codesOut
    rw [← putAt_rows _ d4]
    iexact H4
  isplitl [H5]
  · unfold scalesOut
    rw [← putAt_rows _ d5]
    iexact H5
  isplitl [H6]
  · iexists _; iexact H6
  · iexists _; iexact H7

end Runs

end Cert.Layer0.Hand

end
-- ==== Proof.Layer0Frame.lean ====
module

public import proofs.«01_k».proof.Proof.Layer0Run
public import Idealize.ShloMosaic.Lib.Pipeline.TableIdle

/-! The program `layer0` runs to the end and leaves its arguments as they were: what each grid point leaves in the result blocks, and
the run of the whole grid. -/

@[expose] public section

set_option maxRecDepth 16384

noncomputable section

namespace Cert.Layer0.Hand

open Cert.Layer0 Cert.Layer0.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The staging buffer of each window at a point, and that it is a whole buffer. -/
abbrev ms0 (t : Fin cfg0.N) : Memref sig .tc .vmem S128x3 .f32 := win0_0.stage (cfg0.slots t 0)
abbrev ms1 (t : Fin cfg0.N) : Memref sig .tc .vmem S3x4096 .f32 := win0_1.stage (cfg0.slots t 1)
abbrev ms2 (t : Fin cfg0.N) : Memref sig .tc .vmem S1x4096 .f32 := win0_2.stage (cfg0.slots t 2)
abbrev ms3 (t : Fin cfg0.N) : Memref sig .tc .vmem S5x128x4096 .fp8e4m3 := win0_3.stage (cfg0.slots t 3)
abbrev ms4 (t : Fin cfg0.N) : Memref sig .tc .vmem S5x128x1 .f32 := win0_4.stage (cfg0.slots t 4)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)

/-- The streams of 32 points and their maxima: scratch buffers, written before they are read at every point. -/
abbrev scS : Memref sig .tc .vmem S5x32x4096 .f32 := Memref.whole cc0_scratch0
abbrev scA : Memref sig .tc .vmem S5x32x128 .f32 := Memref.whole cc0_scratch1

/-- What the pipeline hands the first point besides the windows: the two scratch buffers and the generator register at anything. -/
theorem PhiA_eq (c : Dev nD) :
    (Pipeline.ΦA spec0 c : sProp 𝕄)
      = iprop(iprop((∃ d, owns (c : Thread nD τ) scS fullShare d) ∗ (∃ d, owns (c : Thread nD τ) scA fullShare d)) ∗ (∃ r, prngReg c r)) := by
  unfold Pipeline.ΦA; rw [scopedRest0_eq]; simp only [scS, scA, owns_whole]; try rfl

section State

variable (m : (ℓ : Loc nD τ sig) → Buf (Elt F) ℓ) (ρ : Dev nD → PrngReg)

/-- What is kept between points: nothing but the two scratch buffers, at anything. -/
def PhiS (c : Dev nD) : sProp 𝕄 :=
  iprop(iprop((∃ d, owns (c : Thread nD τ) scS fullShare d) ∗ (∃ d, owns (c : Thread nD τ) scA fullShare d)) ∗ (∃ r, prngReg c r))

/-- Per core: the arrays the pipeline works on, what each point leaves in the windows, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesOut (iblk m c 0 t) (iblk m c 1 t) (iblk m c 2 t)
    | ⟨4, _⟩ => scalesOut (iblk m c 0 t) (iblk m c 1 t) (iblk m c 2 t)
  Φ _ := PhiS c
  q _ := fullShare
  owed _ := 0

theorem A_eq (c : Dev nD) (w : Fin 5) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesOut (iblk m c 0 t) (iblk m c 1 t) (iblk m c 2 t) := by dsimp only [dats]
theorem after0_4 (c : Dev nD) (t : Fin cfg0.N) : (dats m 0 c).after 4 t = scalesOut (iblk m c 0 t) (iblk m c 1 t) (iblk m c 2 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- What point `t`'s body is given, and what it must leave. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1000000 in
theorem sound_body (c : Dev nD) (t : Fin cfg0.N) :
    bodyPre m c t ⊢ wp frame (wpE (defs₀ (F := F)) Variants.none c none) Set.univ (bodyAt0 (F := F) t) fun _ => bodyPost m c t := by
  unfold bodyPre bodyPost bodyAt0
  simp only [before0_0, before0_1, before0_2]
  rw [show (dats m 0 c).owesAt () t.succ = (dats m 0 c).owesAt () t.castSucc from rfl,
    show (dats m 0 c).Φ t.castSucc = PhiS c from rfl, show (dats m 0 c).Φ t.succ = PhiS c from rfl]
  unfold PhiS
  rw [show (dats m 0 c).leavesExact 0 t = owns (c : Thread nD τ) (ms0 t) fullShare (iblk m c 0 t) from by unfold Dat.leavesExact; rw [show cfg0.idle 0 (grid0.coords t) = false from rfl, after0_0 m c t]]
  rw [show (dats m 0 c).leavesExact 1 t = owns (c : Thread nD τ) (ms1 t) fullShare (iblk m c 1 t) from by unfold Dat.leavesExact; rw [show cfg0.idle 1 (grid0.coords t) = false from rfl, after0_1 m c t]]
  rw [show (dats m 0 c).leavesExact 2 t = owns (c : Thread nD τ) (ms2 t) fullShare (iblk m c 2 t) from by unfold Dat.leavesExact; rw [show cfg0.idle 2 (grid0.coords t) = false from rfl, after0_2 m c t]]
  rw [show (dats m 0 c).leavesExact 3 t = owns (c : Thread nD τ) (ms3 t) fullShare (codesOut (iblk m c 0 t) (iblk m c 1 t) (iblk m c 2 t)) from by unfold Dat.leavesExact; rw [show cfg0.idle 3 (grid0.coords t) = false from rfl, after0_3 m c t]]
  rw [show (dats m 0 c).leavesExact 4 t = owns (c : Thread nD τ) (ms4 t) fullShare (scalesOut (iblk m c 0 t) (iblk m c 1 t) (iblk m c 2 t)) from by unfold Dat.leavesExact; rw [show cfg0.idle 4 (grid0.coords t) = false from rfl, after0_4 m c t]]
  iintro ⟨⟨⟨HS, HA⟩, Hg⟩, Ho, ⟨%d0, H0⟩, ⟨%d1, H1⟩, ⟨%d2, H2⟩, ⟨%d3, H3⟩, ⟨%d4, H4⟩⟩
  iapply (runBody c (grid0.coords t) (ms0 t) (hs0 t) (ms1 t) (hs1 t) (ms2 t) (hs2 t) (ms3 t) (hs3 t) (ms4 t) (hs4 t) scS (Memref.isWhole_whole _) scA (Memref.isWhole_whole _)
    Set.univ _ (iblk m c 0 t) (iblk m c 1 t) (iblk m c 2 t))
  isplitl [H0 H1 H2]
  · isplitl [H0]; · iexact H0
    isplitl [H1]; · iexact H1
    iexact H2
  isplitl [H3]; · iexists _; iexact H3
  isplitl [H4]; · iexists _; iexact H4
  isplitl [HS]; · iexact HS
  isplitl [HA]; · iexact HA
  iintro ⟨⟨H0, H1, H2⟩, H3, H4, HS, HA⟩
  isplitl [HS HA Hg]
  · isplitl [HS HA]
    · isplitl [HS]; · iexact HS
      iexact HA
    · iexact Hg
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 (F := F) t := by
  unfold defs₀; rw [Defs.onTc_tc]

theorem body_obligation (c : Dev nD) : BodyObligation (dats m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  rw [PhiA_eq, show (dats m 0 c).Φ 0 = PhiS c from rfl]; unfold PhiS; exact .rfl

theorem hout (c : Dev nD) : (dats m 0 c).Φ (Fin.last cfg0.N) ⊢ (Pipeline.ΦA spec0 c : sProp 𝕄) := by
  rw [PhiA_eq, show (dats m 0 c).Φ (Fin.last cfg0.N) = PhiS c from rfl]; unfold PhiS; exact .rfl

set_option backward.isDefEq.respectTransparency.types false in
/-- The program runs to the end and leaves every array the pipeline's windows over it say, and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The program runs to the end, leaves the argument arrays as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end State

end Cert.Layer0.Hand

end
-- ==== Proof.Layer0IdealRun.lean ====
module

public import proofs.«01_k».proof.Proof.Gen.Layer0Ideal.Skeleton
public import proofs.«01_k».proof.Proof.Gen.Layer0Ideal.Frame
public import Idealize.ShloMosaic.Lib.Pipeline.ValueKit
public import Idealize.ShloMosaic.Lib.WritesUnit

/-! The body of the kernel `layer0`: what one trip of its two kinds of loop, and then a whole run of it, leaves in the buffers it stores
into, as a function of the input blocks. -/

@[expose] public section

set_option maxRecDepth 16384

noncomputable section

namespace Cert.Layer0Ideal.Hand

open Cert.Layer0Ideal Cert.Layer0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Values

/-- Slab `s` of a five-stream buffer. -/
def slabOf {a b : ℕ} {e : EltTy} (x : Vec F ⟨3, ![5, a, b]⟩ e) (s : Fin 5) : Vec F ⟨3, ![1, a, b]⟩ e := fun z => x (ix3 s (z 1) (z 2))

/-- The buffer with slab `s` equal to `W s`. -/
def ofSlabs {a b : ℕ} {e : EltTy} (W : Fin 5 → Vec F ⟨3, ![1, a, b]⟩ e) : Vec F ⟨3, ![5, a, b]⟩ e := fun y => W (y 0) (ix3 0 (y 1) (y 2))

/-- The buffer `x` with, in every slab, the rectangle at row `r` and column `c` replaced. -/
def putAt {A C a b : ℕ} {e : EltTy} (r c : ℕ) (W : Fin 5 → Vec F ⟨3, ![1, a, b]⟩ e) (x : Vec F ⟨3, ![5, A, C]⟩ e) : Vec F ⟨3, ![5, A, C]⟩ e := fun y =>
  if h : (r ≤ (y 1).val ∧ (y 1).val < r + a) ∧ c ≤ (y 2).val ∧ (y 2).val < c + b then W (y 0) (ix3 0 ⟨(y 1).val - r, by omega⟩ ⟨(y 2).val - c, by omega⟩) else x y

/-- Five stores of one rectangle each, slab by slab, replace it in what the buffer held. -/
theorem slabsAt {κ : Kind} {sp : Space} {e : EltTy} {A C a b : ℕ} (v : View sig κ sp ⟨3, ![5, A, C]⟩ e) (f : v.ty.Contents (Elt F)) (r c : ℕ)
    (W : Fin 5 → Vec F ⟨3, ![1, a, b]⟩ e) (o4 o3 o2 o1 o0 : Fin 3 → ℕ) (e4 : o4 = ![4, r, c]) (e3 : o3 = ![3, r, c]) (e2 : o2 = ![2, r, c])
    (e1 : o1 = ![1, r, c]) (e0 : o0 = ![0, r, c]) (h4 h3 h2 h1 h0) :
    v.read (Elt F) (v.writes (Elt F) f [⟨Rect.unit o4 ![1, a, b] h4, W 4⟩, ⟨Rect.unit o3 ![1, a, b] h3, W 3⟩,
      ⟨Rect.unit o2 ![1, a, b] h2, W 2⟩, ⟨Rect.unit o1 ![1, a, b] h1, W 1⟩, ⟨Rect.unit o0 ![1, a, b] h0, W 0⟩])
      = putAt r c W (v.read (Elt F) f) := by
  subst e4 e3 e2 e1 e0
  funext y
  obtain ⟨s, p, j, rfl⟩ : ∃ (s : Fin 5) (p : Fin A) (j : Fin C), y = ix3 s p j := ⟨y 0, y 1, y 2, funext fun k => by fin_cases k <;> rfl⟩
  have miss : ∀ (k : Fin 5) (hk) (w : Vec F ⟨3, ![1, a, b]⟩ e) (L : List (View.Piece (Elt F) ⟨3, ![5, A, C]⟩ e)), k ≠ s →
      v.read (Elt F) (v.writes (Elt F) f (⟨Rect.unit ![k.val, r, c] ![1, a, b] hk, w⟩ :: L)) (ix3 s p j) = v.read (Elt F) (v.writes (Elt F) f L) (ix3 s p j) :=
    fun k hk w L hne => View.read_writes_cons_unit_of_not_mem v _ hk w L _ rfl 0 (by
      show s.val < k.val ∨ k.val + 1 ≤ s.val
      have := Fin.val_ne_of_ne hne; omega)
  show _ = dite ((r ≤ p.val ∧ p.val < r + a) ∧ c ≤ j.val ∧ j.val < c + b) _ _
  by_cases h : (r ≤ p.val ∧ p.val < r + a) ∧ c ≤ j.val ∧ j.val < c + b
  · refine Eq.trans ?_ (dif_pos h).symm
    have hit : ∀ (hk) (w : Vec F ⟨3, ![1, a, b]⟩ e) (L : List (View.Piece (Elt F) ⟨3, ![5, A, C]⟩ e)),
        v.read (Elt F) (v.writes (Elt F) f (⟨Rect.unit ![s.val, r, c] ![1, a, b] hk, w⟩ :: L)) (ix3 s p j) = w (ix3 0 ⟨p.val - r, by omega⟩ ⟨j.val - c, by omega⟩) :=
      fun hk w L => View.read_writes_cons_unit_of_mem v _ hk w L _ (ix3 0 ⟨p.val - r, by omega⟩ ⟨j.val - c, by omega⟩) rfl (fun ax => by
        fin_cases ax
        · show s.val = s.val + 0; rfl
        · show p.val = r + (p.val - r); omega
        · show j.val = c + (j.val - c); omega)
    fin_cases s
    · exact (miss 4 _ _ _ (by decide)).trans ((miss 3 _ _ _ (by decide)).trans ((miss 2 _ _ _ (by decide)).trans ((miss 1 _ _ _ (by decide)).trans (hit _ _ _))))
    · exact (miss 4 _ _ _ (by decide)).trans ((miss 3 _ _ _ (by decide)).trans ((miss 2 _ _ _ (by decide)).trans (hit _ _ _)))
    · exact (miss 4 _ _ _ (by decide)).trans ((miss 3 _ _ _ (by decide)).trans (hit _ _ _))
    · exact (miss 4 _ _ _ (by decide)).trans (hit _ _ _)
    · exact hit _ _ _
  · refine Eq.trans ?_ (dif_neg h).symm
    have off : ∀ (k : Fin 5) (hk) (w : Vec F ⟨3, ![1, a, b]⟩ e) (L : List (View.Piece (Elt F) ⟨3, ![5, A, C]⟩ e)),
        v.read (Elt F) (v.writes (Elt F) f (⟨Rect.unit ![k.val, r, c] ![1, a, b] hk, w⟩ :: L)) (ix3 s p j) = v.read (Elt F) (v.writes (Elt F) f L) (ix3 s p j) :=
      fun k hk w L => by
        by_cases hr : r ≤ p.val ∧ p.val < r + a
        · exact View.read_writes_cons_unit_of_not_mem v _ hk w L _ rfl 2 (by
            show j.val < c ∨ c + b ≤ j.val
            omega)
        · exact View.read_writes_cons_unit_of_not_mem v _ hk w L _ rfl 1 (by
            show p.val < r ∨ r + a ≤ p.val
            omega)
    exact (off 4 _ _ _).trans ((off 3 _ _ _).trans ((off 2 _ _ _).trans ((off 1 _ _ _).trans (off 0 _ _ _))))

/-- The same, each piece being given apart. -/
theorem slabsAtEq {κ : Kind} {sp : Space} {e : EltTy} {A C a b : ℕ} (v : View sig κ sp ⟨3, ![5, A, C]⟩ e) (f : v.ty.Contents (Elt F)) (r c : ℕ)
    (W : Fin 5 → Vec F ⟨3, ![1, a, b]⟩ e) (w4 w3 w2 w1 w0 : Vec F ⟨3, ![1, a, b]⟩ e) (o4 o3 o2 o1 o0 : Fin 3 → ℕ) (e4 : o4 = ![4, r, c]) (e3 : o3 = ![3, r, c])
    (e2 : o2 = ![2, r, c]) (e1 : o1 = ![1, r, c]) (e0 : o0 = ![0, r, c]) (h4 h3 h2 h1 h0) (g4 : w4 = W 4) (g3 : w3 = W 3) (g2 : w2 = W 2) (g1 : w1 = W 1) (g0 : w0 = W 0) :
    v.read (Elt F) (v.writes (Elt F) f [⟨Rect.unit o4 ![1, a, b] h4, w4⟩, ⟨Rect.unit o3 ![1, a, b] h3, w3⟩,
      ⟨Rect.unit o2 ![1, a, b] h2, w2⟩, ⟨Rect.unit o1 ![1, a, b] h1, w1⟩, ⟨Rect.unit o0 ![1, a, b] h0, w0⟩])
      = putAt r c W (v.read (Elt F) f) := by
  subst g4 g3 g2 g1 g0
  exact slabsAt v f r c W o4 o3 o2 o1 o0 e4 e3 e2 e1 e0 h4 h3 h2 h1 h0

/-- Replacing all of every slab. -/
theorem putAt_all {a b : ℕ} {e : EltTy} (W : Fin 5 → Vec F ⟨3, ![1, a, b]⟩ e) (x : Vec F ⟨3, ![5, a, b]⟩ e) : putAt 0 0 W x = ofSlabs W := by
  funext y
  have h1 : (y 1).val < a := (y 1).isLt
  have h2 : (y 2).val < b := (y 2).isLt
  exact dif_pos ⟨⟨Nat.zero_le _, by omega⟩, Nat.zero_le _, by omega⟩

/-- A load of slab `s` of a buffer holding `x` reads that slab. -/
theorem rdSlab {κ : Kind} {sp : Space} {a b : ℕ} {e : EltTy} (v : Memref sig κ sp ⟨3, ![5, a, b]⟩ e) (hv : v.IsWhole) (x : Vec F ⟨3, ![5, a, b]⟩ e) (s : Fin 5) (h) :
    v.view.readAt (Elt F) (Rect.unit (s := ⟨3, ![5, a, b]⟩) ![s.val, 0, 0] ![1, a, b] h).toLoadRect (hv.unread x) = slabOf x s := by
  funext z
  unfold slabOf
  rw [View.readAt_apply, hv.read_unread]
  refine congrArg x (funext fun ax => Fin.ext ?_)
  have hz : (z 0).val < 1 := (z 0).isLt
  fin_cases ax
  · show s.val + 1 * (z 0).val = s.val; omega
  · show 0 + 1 * (z 1).val = (z 1).val; omega
  · show 0 + 1 * (z 2).val = (z 2).val; omega

/-- Slab `s` of five lies within them. -/
theorem slab_inb {a b : ℕ} (s : Fin 5) : ∀ k, (![s.val, 0, 0] : Fin 3 → ℕ) k + (![1, a, b] : Fin 3 → ℕ) k ≤ (⟨3, ![5, a, b]⟩ : Shape).size k := by
  intro k
  have hs := s.isLt
  fin_cases k
  · show s.val + 1 ≤ 5; omega
  · show 0 + a ≤ a; omega
  · show 0 + b ≤ b; omega

/-- The `b` columns from column `b * n` of slab `s`. -/
def colsOf {a C : ℕ} {e : EltTy} (b n : ℕ) (hC : 0 < C) (x : Vec F ⟨3, ![5, a, C]⟩ e) (s : Fin 5) : Vec F ⟨3, ![1, a, b]⟩ e :=
  fun z => x (ix3 s (z 1) ⟨(b * n + (z 2).val) % C, Nat.mod_lt _ hC⟩)

/-- A load of those reads them. -/
theorem rdCols {κ : Kind} {sp : Space} {a b C : ℕ} {e : EltTy} (hC : 0 < C) (v : Memref sig κ sp ⟨3, ![5, a, C]⟩ e) (hv : v.IsWhole) (x : Vec F ⟨3, ![5, a, C]⟩ e)
    (n : ℕ) (s : Fin 5) (o : Fin 3 → ℕ) (eo : o = ![s.val, 0, b * n]) (h) :
    v.view.readAt (Elt F) (Rect.unit (s := ⟨3, ![5, a, C]⟩) o ![1, a, b] h).toLoadRect (hv.unread x) = colsOf b n hC x s := by
  subst eo
  funext z
  unfold colsOf
  rw [View.readAt_apply, hv.read_unread]
  refine congrArg x (funext fun ax => Fin.ext ?_)
  have hz : (z 0).val < 1 := (z 0).isLt
  have hz2 : (z 2).val < b := (z 2).isLt
  have hb : b * n + b ≤ C := h 2
  fin_cases ax
  · show s.val + 1 * (z 0).val = s.val; omega
  · show 0 + 1 * (z 1).val = (z 1).val; omega
  · show b * n + 1 * (z 2).val = (b * n + (z 2).val) % C
    rw [Nat.mod_eq_of_lt (by omega)]; omega

/-- The rows and the columns of a matrix from a row `r` and a column `c` on. -/
def block {A C a b : ℕ} {e : EltTy} (r c : ℕ) (hA : 0 < A) (hC : 0 < C) (x : Vec F ⟨2, ![A, C]⟩ e) : Vec F ⟨2, ![a, b]⟩ e :=
  fun z => x (ix2 ⟨(r + (z 0).val) % A, Nat.mod_lt _ hA⟩ ⟨(c + (z 1).val) % C, Nat.mod_lt _ hC⟩)

/-- A load of those reads them. -/
theorem rdBlock {κ : Kind} {sp : Space} {A C a b : ℕ} {e : EltTy} (hA : 0 < A) (hC : 0 < C) (v : Memref sig κ sp ⟨2, ![A, C]⟩ e) (hv : v.IsWhole) (x : Vec F ⟨2, ![A, C]⟩ e)
    (r c : ℕ) (o : Fin 2 → ℕ) (eo : o = ![r, c]) (h) :
    v.view.readAt (Elt F) (Rect.unit (s := ⟨2, ![A, C]⟩) o ![a, b] h).toLoadRect (hv.unread x) = block r c hA hC x := by
  subst eo
  funext z
  unfold block
  rw [View.readAt_apply, hv.read_unread]
  refine congrArg x (funext fun ax => Fin.ext ?_)
  have h0 : r + a ≤ A := h 0
  have h1 : c + b ≤ C := h 1
  have hz0 : (z 0).val < a := (z 0).isLt
  have hz1 : (z 1).val < b := (z 1).isLt
  fin_cases ax
  · show r + 1 * (z 0).val = (r + (z 0).val) % A
    rw [Nat.mod_eq_of_lt (by omega)]; omega
  · show c + 1 * (z 1).val = (c + (z 1).val) % C
    rw [Nat.mod_eq_of_lt (by omega)]; omega

/-- The tile of pre-activations, activation values and derivatives out of 32 points `v` and 256 columns of the weights `w` and of the bias `b`: the
value, the three tangents, the Laplacian stream. -/
def tileZ (v : Vec F S32x3 .f32) (w : Vec F S3x256 .f32) : FVec F S32x256 .f32 :=
  k0_pay28 (k0_pay5 w) (k0_pay8 v) (k0_pay21 (k0_pay4 v) (k0_pay11 w) (k0_pay18 v w) (k0_pay19 v w) (k0_pay20 v w)) (k0_pay26 (k0_pay12 v) (k0_pay13 w)) (k0_pay27 (k0_pay12 v) (k0_pay13 w))
def tileH (v : Vec F S32x3 .f32) (w : Vec F S3x256 .f32) (b : Vec F S1x256 .f32) : FVec F S32x256 .f32 :=
  k0_pay35 (k0_pay4 v) (k0_pay5 w) (tileZ v w) (k0_pay33 (k0_pay4 v) (k0_pay9 w)) (k0_pay34 (k0_pay4 v) (k0_pay9 w)) b
def tileD1 (v : Vec F S32x3 .f32) (w : Vec F S3x256 .f32) (b : Vec F S1x256 .f32) : FVec F S32x256 .f32 :=
  k0_pay36 (k0_pay4 v) (k0_pay5 w) (tileZ v w) (k0_pay33 (k0_pay4 v) (k0_pay9 w)) (k0_pay34 (k0_pay4 v) (k0_pay9 w)) b
def tileD2 (v : Vec F S32x3 .f32) (w : Vec F S3x256 .f32) (b : Vec F S1x256 .f32) : FVec F S32x256 .f32 :=
  k0_pay37 (k0_pay4 v) (k0_pay5 w) (tileZ v w) (k0_pay33 (k0_pay4 v) (k0_pay9 w)) (k0_pay34 (k0_pay4 v) (k0_pay9 w)) b
def tile (v : Vec F S32x3 .f32) (w : Vec F S3x256 .f32) (b : Vec F S1x256 .f32) : Fin 5 → FVec F S32x256 .f32
  | 0 => tileH v w b
  | 1 => k0_pay40 (tileD1 v w b) (k0_pay39 w)
  | 2 => k0_pay41 w (tileD1 v w b)
  | 3 => k0_pay42 w (tileD1 v w b)
  | 4 => k0_pay43 (tileD2 v w b) (k0_pay38 w)

/-- What is kept of a tile, and how it enters the row maxima; alike in the five streams. -/
def stSlab (t : FVec F S32x256 .f32) : Vec F S1x32x256 .f32 := k0_pay44 t
def amaxSlab (n : BitVec 32) (t : FVec F S32x256 .f32) (x : Vec F S1x32x128 .f32) : Vec F S1x32x128 .f32 := k0_pay52 n t x

/-- The columns of the weights and of the bias that tile `n` takes, the tile, the streams kept and the row maxima after it. -/
def wCols (x1 : Vec F S3x4096 .f32) (n : ℕ) : Vec F S3x256 .f32 := block 0 (256 * n) (by decide) (by decide) x1
def bCols (x2 : Vec F S1x4096 .f32) (n : ℕ) : Vec F S1x256 .f32 := block 0 (256 * n) (by decide) (by decide) x2
def tileAt (v : Vec F S32x3 .f32) (x1 : Vec F S3x4096 .f32) (x2 : Vec F S1x4096 .f32) (n : ℕ) : Fin 5 → FVec F S32x256 .f32 := tile (k0_pay244 v) (wCols x1 n) (bCols x2 n)
def stNext (n : ℕ) (T : Fin 5 → FVec F S32x256 .f32) (xs : Vec F S5x32x4096 .f32) : Vec F S5x32x4096 .f32 := putAt 0 (256 * n) (fun s => stSlab (T s)) xs
def amaxNext (n : BitVec 32) (T : Fin 5 → FVec F S32x256 .f32) (xa : Vec F S5x32x128 .f32) : Vec F S5x32x128 .f32 := ofSlabs fun s => amaxSlab n (T s) (slabOf xa s)

/-- A stream's scales, and the inverse scales kept for its codes, from its row maxima; alike in the five streams. -/
def scaleSlab (x : Vec F S1x32x128 .f32) : Vec F S1x32x1 .f32 := k0_pay256 (k0_pay253 (k0_pay248 x) (k0_pay249 x) (k0_pay250 x) 23#32)
def invSlab (x : Vec F S1x32x128 .f32) : Vec F S1x32x128 .f32 :=
  k0_pay257 (k0_pay252 (k0_pay248 x) (k0_pay249 x) (k0_pay250 x) 23#32) (k0_pay254 (k0_pay248 x) (k0_pay249 x) (k0_pay250 x) 23#32) k0_pay255

/-- A tile of a stream becomes codes: multiplied by the inverse scales, clipped, cast; alike in the five streams. -/
def codeSlab (x y : Vec F S1x32x128 .f32) : Vec F S1x32x128 .fp8e4m3 := k0_pay57 x y

/-- The streams kept and the row maxima after `n` tiles, and the codes after `n` tiles of a row block at row `r`. -/
def stN (v : Vec F S32x3 .f32) (x1 : Vec F S3x4096 .f32) (x2 : Vec F S1x4096 .f32) : ℕ → Vec F S5x32x4096 .f32 → Vec F S5x32x4096 .f32
  | 0, xs => xs
  | n + 1, xs => stNext n (tileAt v x1 x2 n) (stN v x1 x2 n xs)
def amaxN (v : Vec F S32x3 .f32) (x1 : Vec F S3x4096 .f32) (x2 : Vec F S1x4096 .f32) : ℕ → Vec F S5x32x128 .f32 → Vec F S5x32x128 .f32
  | 0, xa => xa
  | n + 1, xa => amaxNext (Scf.iv 0#32 1#32 n) (tileAt v x1 x2 n) (amaxN v x1 x2 n xa)
def codesTile (n : ℕ) (xs : Vec F S5x32x4096 .f32) (xi : Vec F S5x32x128 .f32) (s : Fin 5) : Vec F S1x32x128 .fp8e4m3 := codeSlab (colsOf 128 n (by decide) xs s) (slabOf xi s)
def codesN (r : ℕ) (xs : Vec F S5x32x4096 .f32) (xi : Vec F S5x32x128 .f32) : ℕ → Vec F S5x128x4096 .fp8e4m3 → Vec F S5x128x4096 .fp8e4m3
  | 0, x => x
  | n + 1, x => putAt r (128 * n) (codesTile n xs xi) (codesN r xs xi n x)

/-- Replacing `b` columns after `b` columns of the same rows: what it leaves outside those rows, -/
theorem putCols_out {A C a b : ℕ} {e : EltTy} (r : ℕ) (W : ℕ → Fin 5 → Vec F ⟨3, ![1, a, b]⟩ e) (f : ℕ → Vec F ⟨3, ![5, A, C]⟩ e)
    (hf : ∀ n, f (n + 1) = putAt r (b * n) (W n) (f n)) (y) (hy : ¬ (r ≤ (y 1).val ∧ (y 1).val < r + a)) : ∀ n, f n y = f 0 y
  | 0 => rfl
  | n + 1 => by
    rw [hf]
    exact (dif_neg (fun h => hy h.1)).trans (putCols_out r W f hf y hy n)

/-- and within them, in the columns passed. -/
theorem putCols_in {A C a b : ℕ} {e : EltTy} (hb : 0 < b) (r : ℕ) (W : ℕ → Fin 5 → Vec F ⟨3, ![1, a, b]⟩ e) (f : ℕ → Vec F ⟨3, ![5, A, C]⟩ e)
    (hf : ∀ n, f (n + 1) = putAt r (b * n) (W n) (f n)) (y) (hy : r ≤ (y 1).val ∧ (y 1).val < r + a) :
    ∀ n, (y 2).val < b * n → f n y = W ((y 2).val / b) (y 0) (ix3 0 ⟨(y 1).val - r, by omega⟩ ⟨(y 2).val % b, Nat.mod_lt _ hb⟩)
  | 0, h => absurd h (by simp)
  | n + 1, h => by
    rw [hf]
    by_cases h2 : b * n ≤ (y 2).val
    · have h3 : (y 2).val < b * n + b := by rw [Nat.mul_succ] at h; exact h
      refine (dif_pos ⟨hy, h2, h3⟩).trans ?_
      obtain ⟨j, hj⟩ : ∃ j, (y 2).val = b * n + j := ⟨(y 2).val - b * n, by omega⟩
      have hjb : j < b := by omega
      have e1 : (y 2).val / b = n := by rw [hj, Nat.mul_add_div hb, Nat.div_eq_of_lt hjb, Nat.add_zero]
      have e2 : (y 2).val % b = (y 2).val - b * n := by rw [hj, Nat.mul_add_mod, Nat.mod_eq_of_lt hjb]; omega
      simp only [e1, e2]
    · exact (dif_neg (fun h => h2 h.2.1)).trans (putCols_in hb r W f hf y hy n (by omega))

/-- The five streams of 32 points over all columns; the row maxima; and the codes over all columns. -/
def streams (v : Vec F S32x3 .f32) (x1 : Vec F S3x4096 .f32) (x2 : Vec F S1x4096 .f32) : Vec F S5x32x4096 .f32 := fun y =>
  stSlab (tileAt v x1 x2 ((y 2).val / 256) (y 0)) (ix3 0 (y 1) ⟨(y 2).val % 256, Nat.mod_lt _ (by decide)⟩)
def maxima (v : Vec F S32x3 .f32) (x1 : Vec F S3x4096 .f32) (x2 : Vec F S1x4096 .f32) : Vec F S5x32x128 .f32 := amaxN v x1 x2 16 (fun _ => Scalar.ofBits .f32 0x00000000#32)
def codesRow (xs : Vec F S5x32x4096 .f32) (xi : Vec F S5x32x128 .f32) (s : Fin 5) : Vec F ⟨3, ![1, 32, 4096]⟩ .fp8e4m3 := fun z =>
  codesTile ((z 2).val / 128) xs xi s (ix3 0 (z 1) ⟨(z 2).val % 128, Nat.mod_lt _ (by decide)⟩)

theorem stN_all (v : Vec F S32x3 .f32) (x1 : Vec F S3x4096 .f32) (x2 : Vec F S1x4096 .f32) (xs) : stN v x1 x2 16 xs = streams v x1 x2 := by
  funext y
  have h1 : (y 1).val < 32 := (y 1).isLt
  have h2 : (y 2).val < 4096 := (y 2).isLt
  exact putCols_in (by decide) 0 (fun n s => stSlab (tileAt v x1 x2 n s)) (fun n => stN v x1 x2 n xs) (fun n => rfl) y ⟨Nat.zero_le _, by omega⟩ 16 h2

theorem amaxNext_zero (T : Fin 5 → FVec F S32x256 .f32) (xa xb : Vec F S5x32x128 .f32) : amaxNext (Scf.iv 0#32 1#32 0) T xa = amaxNext (Scf.iv 0#32 1#32 0) T xb := rfl

theorem amaxN_succ (v : Vec F S32x3 .f32) (x1 : Vec F S3x4096 .f32) (x2 : Vec F S1x4096 .f32) (xa xb) : ∀ n, amaxN v x1 x2 (n + 1) xa = amaxN v x1 x2 (n + 1) xb
  | 0 => amaxNext_zero _ _ _
  | n + 1 => congrArg (amaxNext _ _) (amaxN_succ v x1 x2 xa xb n)

theorem amaxN_all (v : Vec F S32x3 .f32) (x1 : Vec F S3x4096 .f32) (x2 : Vec F S1x4096 .f32) (xa) : amaxN v x1 x2 16 xa = maxima v x1 x2 := amaxN_succ v x1 x2 _ _ 15

theorem codesN_all (r : ℕ) (xs : Vec F S5x32x4096 .f32) (xi : Vec F S5x32x128 .f32) (x) : codesN r xs xi 32 x = putAt r 0 (codesRow xs xi) x := by
  funext y
  have h2 : (y 2).val < 4096 := (y 2).isLt
  by_cases h : r ≤ (y 1).val ∧ (y 1).val < r + 32
  · refine (putCols_in (by decide) r (fun n => codesTile n xs xi) (fun n => codesN r xs xi n x) (fun n => rfl) y h 32 h2).trans ?_
    exact (dif_pos ⟨h, Nat.zero_le _, by omega⟩ : putAt r 0 (codesRow xs xi) x y = _).symm
  · refine (putCols_out r (fun n => codesTile n xs xi) (fun n => codesN r xs xi n x) (fun n => rfl) y h 32).trans ?_
    exact (dif_neg (fun g => h g.1) : putAt r 0 (codesRow xs xi) x y = _).symm

/-- Four row blocks of 32 rows, one after the other. -/
def ofRows {C : ℕ} {e : EltTy} (W : ℕ → Fin 5 → Vec F ⟨3, ![1, 32, C]⟩ e) : Vec F ⟨3, ![5, 128, C]⟩ e := fun y =>
  W ((y 1).val / 32) (y 0) (ix3 0 ⟨(y 1).val % 32, Nat.mod_lt _ (by decide)⟩ (y 2))

theorem putAt_rows {C : ℕ} {e : EltTy} (W : ℕ → Fin 5 → Vec F ⟨3, ![1, 32, C]⟩ e) (x : Vec F ⟨3, ![5, 128, C]⟩ e) :
    putAt 96 0 (W 3) (putAt 64 0 (W 2) (putAt 32 0 (W 1) (putAt 0 0 (W 0) x))) = ofRows W := by
  funext y
  have h1 : (y 1).val < 128 := (y 1).isLt
  have h2 : (y 2).val < C := (y 2).isLt
  have key : ∀ (n : ℕ) (z : Vec F ⟨3, ![5, 128, C]⟩ e), (32 * n ≤ (y 1).val ∧ (y 1).val < 32 * n + 32) → putAt (32 * n) 0 (W n) z y = ofRows W y := by
    intro n z h
    refine (dif_pos ⟨h, Nat.zero_le _, by omega⟩ : putAt (32 * n) 0 (W n) z y = _).trans ?_
    have e1 : (y 1).val / 32 = n := by omega
    have e2 : (y 1).val % 32 = (y 1).val - 32 * n := by omega
    unfold ofRows
    simp only [e1, e2]
    rfl
  have off : ∀ (n : ℕ) (z : Vec F ⟨3, ![5, 128, C]⟩ e), ¬ (32 * n ≤ (y 1).val ∧ (y 1).val < 32 * n + 32) → putAt (32 * n) 0 (W n) z y = z y :=
    fun n z h => dif_neg (fun g => h g.1)
  by_cases g3 : 32 * 3 ≤ (y 1).val ∧ (y 1).val < 32 * 3 + 32
  · exact key 3 _ g3
  refine (off 3 _ g3).trans ?_
  by_cases g2 : 32 * 2 ≤ (y 1).val ∧ (y 1).val < 32 * 2 + 32
  · exact key 2 _ g2
  refine (off 2 _ g2).trans ?_
  by_cases g1 : 32 * 1 ≤ (y 1).val ∧ (y 1).val < 32 * 1 + 32
  · exact key 1 _ g1
  refine (off 1 _ g1).trans ?_
  exact key 0 _ (by omega)

/-- The scales and the inverse scales of 32 rows, and the scales and the codes of the 128 rows of a block. -/
def invAll (xa : Vec F S5x32x128 .f32) : Vec F S5x32x128 .f32 := ofSlabs fun s => invSlab (slabOf xa s)
def scaleRow (xa : Vec F S5x32x128 .f32) (s : Fin 5) : Vec F S1x32x1 .f32 := scaleSlab (slabOf xa s)
def points (x0 : Vec F S128x3 .f32) (r : ℕ) : Vec F S32x3 .f32 := block r 0 (by decide) (by decide) x0
def scalesOut (x0 : Vec F S128x3 .f32) (x1 : Vec F S3x4096 .f32) (x2 : Vec F S1x4096 .f32) : Vec F S5x128x1 .f32 :=
  ofRows fun r => scaleRow (maxima (points x0 (32 * r)) x1 x2)
def codesOut (x0 : Vec F S128x3 .f32) (x1 : Vec F S3x4096 .f32) (x2 : Vec F S1x4096 .f32) : Vec F S5x128x4096 .fp8e4m3 :=
  ofRows fun r => codesRow (streams (points x0 (32 * r)) x1 x2) (invAll (maxima (points x0 (32 * r)) x1 x2))

end Values

/-- One trip of the second loop: each stream's tile, times its inverse scales, becomes codes. -/
noncomputable def quantProg (i : grid0.Coords)
  (arg4 : Memref sig .tc .vmem S5x128x4096 .fp8e4m3) (harg4 : arg4.IsWhole)
  (arg6 : Memref sig .tc .vmem S5x32x4096 .f32) (harg6 : arg6.IsWhole) (arg7 : Memref sig .tc .vmem S5x32x128 .f32) (harg7 : arg7.IsWhole)
  (o6 : Fin 5 → Fin 3 → ℕ) (h6 : ∀ s a, o6 s a + S1x32x128.size a ≤ S5x32x4096.size a)
  (o4 : Fin 5 → Fin 3 → ℕ) (h4 : ∀ s a, o4 s a + S1x32x128.size a ≤ S5x128x4096.size a)
  (p4 : ∀ s, (Rect.unit (s := S5x128x4096) (o4 s) S1x32x128.size (h4 s)).PackedRows (EltTy.packing .fp8e4m3)) :
    Prog (TpuEff nD τ sig (Elt F) Λ₀ .tc) Unit := do
  let t0 : Vec F S1x32x128 .f32 ← Prog.lift (.load arg6 (Rect.unit (s := S5x32x4096) (o6 0) S1x32x128.size (h6 0)).toLoadRect (View.loadsAt_vmem h_S1x32x128))
  let q0 : Vec F S1x32x128 .f32 ← Prog.lift (.load arg7 (Rect.unit (s := S5x32x128) ![0, 0, 0] S1x32x128.size inb_S5x32x128_S1x32x128_0_0_0).toLoadRect (View.loadsAt_vmem h_S1x32x128))
  let _ : Vec F S1x32x128 .fp8e4m3 ← Prog.lift (.load arg4 (Rect.unit (s := S5x128x4096) (o4 0) S1x32x128.size (h4 0)).toLoadRect (View.loadsAt_vmem h_S1x32x128))
  Prog.lift (.store arg4 (Rect.unit (s := S5x128x4096) (o4 0) S1x32x128.size (h4 0)) (codeSlab t0 q0) Finset.univ (View.stores_vmem h_S1x32x128 (harg4.storeExact_slice rfl _ (p4 0)) (fun _ => rfl)) (.inl rfl))
  let t1 : Vec F S1x32x128 .f32 ← Prog.lift (.load arg6 (Rect.unit (s := S5x32x4096) (o6 1) S1x32x128.size (h6 1)).toLoadRect (View.loadsAt_vmem h_S1x32x128))
  let q1 : Vec F S1x32x128 .f32 ← Prog.lift (.load arg7 (Rect.unit (s := S5x32x128) ![1, 0, 0] S1x32x128.size inb_S5x32x128_S1x32x128_1_0_0).toLoadRect (View.loadsAt_vmem h_S1x32x128))
  let _ : Vec F S1x32x128 .fp8e4m3 ← Prog.lift (.load arg4 (Rect.unit (s := S5x128x4096) (o4 1) S1x32x128.size (h4 1)).toLoadRect (View.loadsAt_vmem h_S1x32x128))
  Prog.lift (.store arg4 (Rect.unit (s := S5x128x4096) (o4 1) S1x32x128.size (h4 1)) (codeSlab t1 q1) Finset.univ (View.stores_vmem h_S1x32x128 (harg4.storeExact_slice rfl _ (p4 1)) (fun _ => rfl)) (.inl rfl))
  let t2 : Vec F S1x32x128 .f32 ← Prog.lift (.load arg6 (Rect.unit (s := S5x32x4096) (o6 2) S1x32x128.size (h6 2)).toLoadRect (View.loadsAt_vmem h_S1x32x128))
  let q2 : Vec F S1x32x128 .f32 ← Prog.lift (.load arg7 (Rect.unit (s := S5x32x128) ![2, 0, 0] S1x32x128.size inb_S5x32x128_S1x32x128_2_0_0).toLoadRect (View.loadsAt_vmem h_S1x32x128))
  let _ : Vec F S1x32x128 .fp8e4m3 ← Prog.lift (.load arg4 (Rect.unit (s := S5x128x4096) (o4 2) S1x32x128.size (h4 2)).toLoadRect (View.loadsAt_vmem h_S1x32x128))
  Prog.lift (.store arg4 (Rect.unit (s := S5x128x4096) (o4 2) S1x32x128.size (h4 2)) (codeSlab t2 q2) Finset.univ (View.stores_vmem h_S1x32x128 (harg4.storeExact_slice rfl _ (p4 2)) (fun _ => rfl)) (.inl rfl))
  let t3 : Vec F S1x32x128 .f32 ← Prog.lift (.load arg6 (Rect.unit (s := S5x32x4096) (o6 3) S1x32x128.size (h6 3)).toLoadRect (View.loadsAt_vmem h_S1x32x128))
  let q3 : Vec F S1x32x128 .f32 ← Prog.lift (.load arg7 (Rect.unit (s := S5x32x128) ![3, 0, 0] S1x32x128.size inb_S5x32x128_S1x32x128_3_0_0).toLoadRect (View.loadsAt_vmem h_S1x32x128))
  let _ : Vec F S1x32x128 .fp8e4m3 ← Prog.lift (.load arg4 (Rect.unit (s := S5x128x4096) (o4 3) S1x32x128.size (h4 3)).toLoadRect (View.loadsAt_vmem h_S1x32x128))
  Prog.lift (.store arg4 (Rect.unit (s := S5x128x4096) (o4 3) S1x32x128.size (h4 3)) (codeSlab t3 q3) Finset.univ (View.stores_vmem h_S1x32x128 (harg4.storeExact_slice rfl _ (p4 3)) (fun _ => rfl)) (.inl rfl))
  let t4 : Vec F S1x32x128 .f32 ← Prog.lift (.load arg6 (Rect.unit (s := S5x32x4096) (o6 4) S1x32x128.size (h6 4)).toLoadRect (View.loadsAt_vmem h_S1x32x128))
  let q4 : Vec F S1x32x128 .f32 ← Prog.lift (.load arg7 (Rect.unit (s := S5x32x128) ![4, 0, 0] S1x32x128.size inb_S5x32x128_S1x32x128_4_0_0).toLoadRect (View.loadsAt_vmem h_S1x32x128))
  let _ : Vec F S1x32x128 .fp8e4m3 ← Prog.lift (.load arg4 (Rect.unit (s := S5x128x4096) (o4 4) S1x32x128.size (h4 4)).toLoadRect (View.loadsAt_vmem h_S1x32x128))
  Prog.lift (.store arg4 (Rect.unit (s := S5x128x4096) (o4 4) S1x32x128.size (h4 4)) (codeSlab t4 q4) Finset.univ (View.stores_vmem h_S1x32x128 (harg4.storeExact_slice rfl _ (p4 4)) (fun _ => rfl)) (.inl rfl))
  pure ⟨⟩

section Runs

variable (c : Dev nD) (i : grid0.Coords)
  (arg1 : Memref sig .tc .vmem S128x3 .f32) (harg1 : arg1.IsWhole) (arg2 : Memref sig .tc .vmem S3x4096 .f32) (harg2 : arg2.IsWhole)
  (arg3 : Memref sig .tc .vmem S1x4096 .f32) (harg3 : arg3.IsWhole) (arg4 : Memref sig .tc .vmem S5x128x4096 .fp8e4m3) (harg4 : arg4.IsWhole)
  (arg5 : Memref sig .tc .vmem S5x128x1 .f32) (harg5 : arg5.IsWhole) (arg6 : Memref sig .tc .vmem S5x32x4096 .f32) (harg6 : arg6.IsWhole)
  (arg7 : Memref sig .tc .vmem S5x32x128 .f32) (harg7 : arg7.IsWhole)

set_option maxHeartbeats 1000000 in
/-- One trip of the first loop keeps the tile it computes, and takes it into the row maxima. -/
theorem fillTrip (v : Vec F S32x3 .f32) (k : Fin k0_t1_loop.trips) (E : Set ℕ) (K : PUnit → sProp 𝕄) (x1 : Vec F S3x4096 .f32) (x2 : Vec F S1x4096 .f32)
    (xs : Vec F S5x32x4096 .f32) (xa : Vec F S5x32x128 .f32) :
    iprop((owns (c : Thread nD τ) arg2 fullShare x1 ∗ owns (c : Thread nD τ) arg3 fullShare x2) ∗ owns (c : Thread nD τ) arg6 fullShare xs ∗ owns (c : Thread nD τ) arg7 fullShare xa
        ∗ (iprop((owns (c : Thread nD τ) arg2 fullShare x1 ∗ owns (c : Thread nD τ) arg3 fullShare x2) ∗ owns (c : Thread nD τ) arg6 fullShare (stNext k.val (tileAt v x1 x2 k.val) xs)
            ∗ owns (c : Thread nD τ) arg7 fullShare (amaxNext (Scf.iv 0#32 1#32 k) (tileAt v x1 x2 k.val) xa)) -∗ K ⟨⟩))
      ⊢ wp frame (wpE (defs₀ (F := F)) Variants.none c none) E (k0_t1_body i arg1 harg1 arg2 harg2 arg3 harg3 arg4 harg4 arg5 harg5 arg6 harg6 arg7 harg7 v k ⟨⟩) K := by
  unfold k0_t1_body
  simp only [k0_part1_eq_skeleton, k0_part2_eq_skeleton, k0_part3_eq_skeleton, k0_part4_eq_skeleton, k0_part5_eq_skeleton, k0_part6_eq_skeleton]
  unfold owns
  iintro ⟨⟨⟨%f2, %hf2, H2⟩, ⟨%f3, %hf3, H3⟩⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec
  sl_step
  iapply Hk
  have w1 := rdBlock (by decide) (by decide) arg2 harg2 x1 0 (256 * k.val) (k0_off1 k) (k0_off1_eq k) (k0_off1_inb k)
  have w2 := rdBlock (by decide) (by decide) arg3 harg3 x2 0 (256 * k.val) (k0_off2 k) (k0_off2_eq k) (k0_off2_inb k)
  isplitl [H2 H3]
  · isplitl [H2]
    · iexists _; isplitr; swap; · iexact H2
      ipureintro; exact harg2.read_unread _
    iexists _; isplitr; swap; · iexact H3
    ipureintro; exact harg3.read_unread _
  isplitl [H6]
  · iexists _; isplitr; swap; · iexact H6
    ipureintro
    refine (slabsAt arg6.view (harg6.unread xs) 0 (256 * k.val) (fun s => stSlab (tile (k0_pay244 v)
      (arg2.view.readAt (Elt F) (Rect.unit (s := S3x4096) (k0_off1 k) ![3, 256] (k0_off1_inb k)).toLoadRect (harg2.unread x1))
      (arg3.view.readAt (Elt F) (Rect.unit (s := S1x4096) (k0_off2 k) ![1, 256] (k0_off2_inb k)).toLoadRect (harg3.unread x2)) s))
      _ _ _ _ _ (k0_off7_eq k) (k0_off6_eq k) (k0_off5_eq k) (k0_off4_eq k) (k0_off3_eq k) _ _ _ _ _).trans ?_
    rw [harg6.read_unread, w1, w2]
    rfl
  · iexists _; isplitr; swap; · iexact H7
    ipureintro
    refine (slabsAt arg7.view (harg7.unread xa) 0 0 (fun s => amaxSlab (Scf.iv 0#32 1#32 k) (tile (k0_pay244 v)
      (arg2.view.readAt (Elt F) (Rect.unit (s := S3x4096) (k0_off1 k) ![3, 256] (k0_off1_inb k)).toLoadRect (harg2.unread x1))
      (arg3.view.readAt (Elt F) (Rect.unit (s := S1x4096) (k0_off2 k) ![1, 256] (k0_off2_inb k)).toLoadRect (harg3.unread x2)) s)
      (arg7.view.readAt (Elt F) (Rect.unit (s := S5x32x128) ![s.val, 0, 0] ![1, 32, 128] (slab_inb s)).toLoadRect (harg7.unread xa)))
      _ _ _ _ _ rfl rfl rfl rfl rfl _ _ _ _ _).trans ?_
    rw [putAt_all, w1, w2]
    refine congrArg ofSlabs (funext fun s => ?_)
    rw [rdSlab arg7 harg7 xa s]
    rfl

/-- The first loop keeps the tiles and leaves the row maxima of all of them. -/
theorem fillLoop (v v' : Vec F S32x3 .f32) (hv : v' = v) (body : Fin k0_t1_loop.trips → Unit → Prog (TpuEff nD τ sig (Elt F) Λ₀ .tc) Unit)
    (hb : ∀ k, body k ⟨⟩ = k0_t1_body i arg1 harg1 arg2 harg2 arg3 harg3 arg4 harg4 arg5 harg5 arg6 harg6 arg7 harg7 v' k ⟨⟩) (E : Set ℕ) (K : PUnit → sProp 𝕄) (x1 : Vec F S3x4096 .f32) (x2 : Vec F S1x4096 .f32)
    (xs : Vec F S5x32x4096 .f32) (xa : Vec F S5x32x128 .f32) :
    iprop((owns (c : Thread nD τ) arg2 fullShare x1 ∗ owns (c : Thread nD τ) arg3 fullShare x2) ∗ owns (c : Thread nD τ) arg6 fullShare xs ∗ owns (c : Thread nD τ) arg7 fullShare xa
        ∗ (iprop((owns (c : Thread nD τ) arg2 fullShare x1 ∗ owns (c : Thread nD τ) arg3 fullShare x2) ∗ owns (c : Thread nD τ) arg6 fullShare (streams v x1 x2)
            ∗ owns (c : Thread nD τ) arg7 fullShare (maxima v x1 x2)) -∗ K ⟨⟩))
      ⊢ wp frame (wpE (defs₀ (F := F)) Variants.none c none) E (Scf.Loop.for k0_t1_loop k0_t1_ok ⟨⟩ body) K := by
  subst v'
  have step : ∀ (k : Fin k0_t1_loop.trips) (acc : Unit),
      iprop((owns (c : Thread nD τ) arg2 fullShare x1 ∗ owns (c : Thread nD τ) arg3 fullShare x2) ∗ owns (c : Thread nD τ) arg6 fullShare (stN v x1 x2 k.val xs)
        ∗ owns (c : Thread nD τ) arg7 fullShare (amaxN v x1 x2 k.val xa))
      ⊢ wp frame (wpE (defs₀ (F := F)) Variants.none c none) E (body k acc) (fun _ => (iprop((owns (c : Thread nD τ) arg2 fullShare x1 ∗ owns (c : Thread nD τ) arg3 fullShare x2)
        ∗ owns (c : Thread nD τ) arg6 fullShare (stN v x1 x2 (k.val + 1) xs) ∗ owns (c : Thread nD τ) arg7 fullShare (amaxN v x1 x2 (k.val + 1) xa)) : sProp 𝕄)) := by
    intro k acc
    rw [hb]
    iintro ⟨⟨H2, H3⟩, H6, H7⟩
    iapply (fillTrip c i arg1 harg1 arg2 harg2 arg3 harg3 arg4 harg4 arg5 harg5 arg6 harg6 arg7 harg7 v k E _ x1 x2 (stN v x1 x2 k.val xs) (amaxN v x1 x2 k.val xa))
    isplitl [H2 H3]
    · isplitl [H2] <;> iassumption
    isplitl [H6]
    · iexact H6
    isplitl [H7]
    · iexact H7
    iintro H
    iexact H
  iintro ⟨⟨H2, H3⟩, H6, H7, Hk⟩
  iapply (Scf.wp_for frame (wpE (defs₀ (F := F)) Variants.none c none) E _ _ _ k0_t1_ok ⟨⟩ body (fun n _ =>
      iprop((owns (c : Thread nD τ) arg2 fullShare x1 ∗ owns (c : Thread nD τ) arg3 fullShare x2) ∗ owns (c : Thread nD τ) arg6 fullShare (stN v x1 x2 n xs)
        ∗ owns (c : Thread nD τ) arg7 fullShare (amaxN v x1 x2 n xa))) step)
  isplitl [H2 H3 H6 H7]
  · isplitl [H2 H3]
    · isplitl [H2] <;> iassumption
    isplitl [H6]
    · iexact H6
    · iexact H7
  rw [← stN_all v x1 x2 xs, ← amaxN_all v x1 x2 xa]
  iintro %acc H
  iapply Hk
  iexact H

set_option maxHeartbeats 1000000 in
/-- One trip of the second loop writes the codes of one tile of each stream. -/
theorem quantTrip (r n : ℕ) (o6 : Fin 5 → Fin 3 → ℕ) (e6 : ∀ s, o6 s = ![s.val, 0, 128 * n]) (h6) (o4 : Fin 5 → Fin 3 → ℕ) (e4 : ∀ s, o4 s = ![s.val, r, 128 * n]) (h4) (p4)
    (E : Set ℕ) (K : PUnit → sProp 𝕄) (xs : Vec F S5x32x4096 .f32) (xi : Vec F S5x32x128 .f32) (x4 : Vec F S5x128x4096 .fp8e4m3) :
    iprop(owns (c : Thread nD τ) arg6 fullShare xs ∗ owns (c : Thread nD τ) arg7 fullShare xi ∗ owns (c : Thread nD τ) arg4 fullShare x4
        ∗ (iprop(owns (c : Thread nD τ) arg6 fullShare xs ∗ owns (c : Thread nD τ) arg7 fullShare xi ∗ owns (c : Thread nD τ) arg4 fullShare (putAt r (128 * n) (codesTile n xs xi) x4)) -∗ K ⟨⟩))
      ⊢ wp frame (wpE (defs₀ (F := F)) Variants.none c none) E (quantProg i arg4 harg4 arg6 harg6 arg7 harg7 o6 h6 o4 h4 p4) K := by
  obtain rfl : o6 = fun s => ![s.val, 0, 128 * n] := funext e6
  obtain rfl : o4 = fun s => ![s.val, r, 128 * n] := funext e4
  unfold quantProg owns
  iintro ⟨⟨%f6, %hf6, H6⟩, ⟨%f7, %hf7, H7⟩, ⟨%f4, %hf4, H4⟩, Hk⟩
  obtain rfl := harg4.eq_unread hf4
  obtain rfl := harg6.eq_unread hf6; obtain rfl := harg7.eq_unread hf7
  sl_exec
  sl_step
  iapply Hk
  isplitl [H6]
  · iexists _; isplitr; swap; · iexact H6
    ipureintro; exact harg6.read_unread _
  isplitl [H7]
  · iexists _; isplitr; swap; · iexact H7
    ipureintro; exact harg7.read_unread _
  iexists _; isplitr; swap; · iexact H4
  ipureintro
  refine (slabsAt arg4.view (harg4.unread x4) r (128 * n) (fun s => codeSlab
    (arg6.view.readAt (Elt F) (Rect.unit (s := S5x32x4096) ![s.val, 0, 128 * n] ![1, 32, 128] (h6 s)).toLoadRect (harg6.unread xs))
    (arg7.view.readAt (Elt F) (Rect.unit (s := S5x32x128) ![s.val, 0, 0] ![1, 32, 128] (slab_inb s)).toLoadRect (harg7.unread xi)))
    _ _ _ _ _ rfl rfl rfl rfl rfl _ _ _ _ _).trans ?_
  rw [harg4.read_unread]
  refine congrArg (fun W => putAt r (128 * n) W x4) (funext fun s => ?_)
  show codeSlab _ _ = codeSlab _ _
  rw [rdSlab arg7 harg7 xi s, rdCols (by decide) arg6 harg6 xs n s _ rfl]

/-- The second loop writes the codes of every tile, over 32 rows from row `r` on. -/
theorem quantLoop (r : ℕ) (body : Fin k0_t2_loop.trips → Unit → Prog (TpuEff nD τ sig (Elt F) Λ₀ .tc) Unit)
    (o6 : Fin k0_t2_loop.trips → Fin 5 → Fin 3 → ℕ) (e6 : ∀ k s, o6 k s = ![s.val, 0, 128 * k.val]) (h6 : ∀ k s a, o6 k s a + S1x32x128.size a ≤ S5x32x4096.size a)
    (o4 : Fin k0_t2_loop.trips → Fin 5 → Fin 3 → ℕ) (e4 : ∀ k s, o4 k s = ![s.val, r, 128 * k.val]) (h4 : ∀ k s a, o4 k s a + S1x32x128.size a ≤ S5x128x4096.size a)
    (p4 : ∀ k s, (Rect.unit (s := S5x128x4096) (o4 k s) S1x32x128.size (h4 k s)).PackedRows (EltTy.packing .fp8e4m3))
    (hb : ∀ k, body k ⟨⟩ = quantProg i arg4 harg4 arg6 harg6 arg7 harg7 (o6 k) (h6 k) (o4 k) (h4 k) (p4 k))
    (E : Set ℕ) (K : PUnit → sProp 𝕄) (xs : Vec F S5x32x4096 .f32) (xi : Vec F S5x32x128 .f32) (x4 : Vec F S5x128x4096 .fp8e4m3) :
    iprop(owns (c : Thread nD τ) arg6 fullShare xs ∗ owns (c : Thread nD τ) arg7 fullShare xi ∗ owns (c : Thread nD τ) arg4 fullShare x4
        ∗ (iprop(owns (c : Thread nD τ) arg6 fullShare xs ∗ owns (c : Thread nD τ) arg7 fullShare xi ∗ owns (c : Thread nD τ) arg4 fullShare (putAt r 0 (codesRow xs xi) x4)) -∗ K ⟨⟩))
      ⊢ wp frame (wpE (defs₀ (F := F)) Variants.none c none) E (Scf.Loop.for k0_t2_loop k0_t2_ok ⟨⟩ body) K := by
  have step : ∀ (k : Fin k0_t2_loop.trips) (acc : Unit),
      iprop(owns (c : Thread nD τ) arg6 fullShare xs ∗ owns (c : Thread nD τ) arg7 fullShare xi ∗ owns (c : Thread nD τ) arg4 fullShare (codesN r xs xi k.val x4))
      ⊢ wp frame (wpE (defs₀ (F := F)) Variants.none c none) E (body k acc)
        (fun _ => (iprop(owns (c : Thread nD τ) arg6 fullShare xs ∗ owns (c : Thread nD τ) arg7 fullShare xi ∗ owns (c : Thread nD τ) arg4 fullShare (codesN r xs xi (k.val + 1) x4)) : sProp 𝕄)) := by
    intro k acc
    rw [hb]
    iintro ⟨H6, H7, H4⟩
    iapply (quantTrip c i arg4 harg4 arg6 harg6 arg7 harg7 r k.val (o6 k) (e6 k) (h6 k) (o4 k) (e4 k) (h4 k) (p4 k) E _ xs xi (codesN r xs xi k.val x4))
    isplitl [H6]
    · iexact H6
    isplitl [H7]
    · iexact H7
    isplitl [H4]
    · iexact H4
    iintro H
    iexact H
  iintro ⟨H6, H7, H4, Hk⟩
  iapply (Scf.wp_for frame (wpE (defs₀ (F := F)) Variants.none c none) E _ _ _ k0_t2_ok ⟨⟩ body (fun n _ =>
      iprop(owns (c : Thread nD τ) arg6 fullShare xs ∗ owns (c : Thread nD τ) arg7 fullShare xi ∗ owns (c : Thread nD τ) arg4 fullShare (codesN r xs xi n x4))) step)
  isplitl [H6 H7 H4]
  · isplitl [H6]
    · iexact H6
    isplitl [H7]
    · iexact H7
    · iexact H4
  rw [← codesN_all]
  iintro %acc H
  iapply Hk
  iexact H

/-- What is at hand, put into the form wanted. -/
theorem cut (P Q : sProp 𝕄) : iprop(P ∗ (P -∗ Q)) ⊢ Q := by
  iintro ⟨HP, HQ⟩
  iapply HQ
  iexact HP

set_option maxHeartbeats 4000000 in
/-- The whole body: the codes and the scales of 128 points, whatever the scratch buffers held. -/
theorem runBody (E : Set ℕ) (K : PUnit → sProp 𝕄) (x0 : Vec F S128x3 .f32) (x1 : Vec F S3x4096 .f32) (x2 : Vec F S1x4096 .f32) :
    iprop((owns (c : Thread nD τ) arg1 fullShare x0 ∗ owns (c : Thread nD τ) arg2 fullShare x1 ∗ owns (c : Thread nD τ) arg3 fullShare x2)
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop((owns (c : Thread nD τ) arg1 fullShare x0 ∗ owns (c : Thread nD τ) arg2 fullShare x1 ∗ owns (c : Thread nD τ) arg3 fullShare x2)
          ∗ owns (c : Thread nD τ) arg4 fullShare (codesOut x0 x1 x2) ∗ owns (c : Thread nD τ) arg5 fullShare (scalesOut x0 x1 x2)
          ∗ (∃ d, owns (c : Thread nD τ) arg6 fullShare d) ∗ (∃ d, owns (c : Thread nD τ) arg7 fullShare d)) -∗ K ⟨⟩))
      ⊢ wp frame (wpE (defs₀ (F := F)) Variants.none c none) E (cc0_layer0 i arg1 harg1 arg2 harg2 arg3 harg3 arg4 harg4 arg5 harg5 arg6 harg6 arg7 harg7) K := by
  simp only [cc0_layer0_eq_skeleton]
  unfold cc0_layer0_skel
  simp only [k0_part75_eq_skeleton]
  unfold k0_part75_skel
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
  iintro ⟨⟨H1, H2, H3⟩, ⟨%d4, H4⟩, ⟨%d5, H5⟩, ⟨%d6, H6⟩, ⟨%d7, H7⟩, Hk⟩
  unfold k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel
  unfold owns
  icases H1 with ⟨%f1, %hf1, H1⟩
  obtain rfl := harg1.eq_unread hf1
  sl_exec
  have e0 := rdBlock (a := 32) (b := 3) (by decide) (by decide) arg1 harg1 x0 0 0 ![0, 0] rfl inb_S128x3_S32x3_0_0
  rw [wp_bind, wp_bind, wp_bind]
  iapply (fillLoop c i arg1 harg1 arg2 harg2 arg3 harg3 arg4 harg4 arg5 harg5 arg6 harg6 arg7 harg7 (points x0 (32 * 0)) _ e0 _ (fun _ => rfl) E _ x1 x2 d6 d7)
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 0 0 (scaleRow (maxima (points x0 (32 * 0)) x1 x2)) d5)) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 0)) x1 x2)) = slabOf (maxima (points x0 (32 * 0)) x1 x2) 0 := rdSlab arg7 harg7 (maxima (points x0 (32 * 0)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 0)) x1 x2)) = slabOf (maxima (points x0 (32 * 0)) x1 x2) 1 := rdSlab arg7 harg7 (maxima (points x0 (32 * 0)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 0)) x1 x2)) = slabOf (maxima (points x0 (32 * 0)) x1 x2) 2 := rdSlab arg7 harg7 (maxima (points x0 (32 * 0)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 0)) x1 x2)) = slabOf (maxima (points x0 (32 * 0)) x1 x2) 3 := rdSlab arg7 harg7 (maxima (points x0 (32 * 0)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 0)) x1 x2)) = slabOf (maxima (points x0 (32 * 0)) x1 x2) 4 := rdSlab arg7 harg7 (maxima (points x0 (32 * 0)) x1 x2) 4 inb_S5x32x128_S1x32x128_4_0_0
    refine (slabsAtEq arg5.view (harg5.unread d5) 0 0 (scaleRow (maxima (points x0 (32 * 0)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v3); (try delta runBody.sl.v91); (try delta runBody.sl.v179); (try delta runBody.sl.v267); (try delta runBody.sl.v355))
    all_goals try simp only [m0, m1, m2, m3, m4, Scalar.ofBits, scaleRow, scaleSlab, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297]
    all_goals try (congr 4; done)
  iintro H5
  rw [wp_bind, wp_bind, wp_bind]
  iapply (quantLoop c i arg4 harg4 arg6 harg6 arg7 harg7 0 _ (fun k => ![k0_off8 k, k0_off10 k, k0_off12 k, k0_off14 k, k0_off16 k]) (by intro k s; fin_cases s; exacts [k0_off8_eq k, k0_off10_eq k, k0_off12_eq k, k0_off14_eq k, k0_off16_eq k]) (by intro k s; fin_cases s; exacts [k0_off8_inb k, k0_off10_inb k, k0_off12_inb k, k0_off14_inb k, k0_off16_inb k]) (fun k => ![k0_off9 k, k0_off11 k, k0_off13 k, k0_off15 k, k0_off17 k]) (by intro k s; fin_cases s; exacts [k0_off9_eq k, k0_off11_eq k, k0_off13_eq k, k0_off15_eq k, k0_off17_eq k]) (by intro k s; fin_cases s; exacts [k0_off9_inb k, k0_off11_inb k, k0_off13_inb k, k0_off15_inb k, k0_off17_inb k]) (by intro k s; fin_cases s; exacts [k0_off9_packedfp8e4m3 k, k0_off11_packedfp8e4m3 k, k0_off13_packedfp8e4m3 k, k0_off15_packedfp8e4m3 k, k0_off17_packedfp8e4m3 k]) (fun _ => rfl) E _ (streams (points x0 (32 * 0)) x1 x2) (invAll (maxima (points x0 (32 * 0)) x1 x2)) d4)
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 0)) x1 x2)) = slabOf (maxima (points x0 (32 * 0)) x1 x2) 0 := rdSlab arg7 harg7 (maxima (points x0 (32 * 0)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 0)) x1 x2)) = slabOf (maxima (points x0 (32 * 0)) x1 x2) 1 := rdSlab arg7 harg7 (maxima (points x0 (32 * 0)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 0)) x1 x2)) = slabOf (maxima (points x0 (32 * 0)) x1 x2) 2 := rdSlab arg7 harg7 (maxima (points x0 (32 * 0)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 0)) x1 x2)) = slabOf (maxima (points x0 (32 * 0)) x1 x2) 3 := rdSlab arg7 harg7 (maxima (points x0 (32 * 0)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 0)) x1 x2)) = slabOf (maxima (points x0 (32 * 0)) x1 x2) 4 := rdSlab arg7 harg7 (maxima (points x0 (32 * 0)) x1 x2) 4 inb_S5x32x128_S1x32x128_4_0_0
    refine (slabsAtEq arg7.view _ 0 0 (fun s => invSlab (slabOf (maxima (points x0 (32 * 0)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v3); (try delta runBody.sl.v91); (try delta runBody.sl.v179); (try delta runBody.sl.v267); (try delta runBody.sl.v355))
    all_goals simp only [m0, m1, m2, m3, m4, Scalar.ofBits, invSlab, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297]
    all_goals (congr 4; done)
  isplitl [H4]
  · iexact H4
  iintro ⟨H6, H7, H4⟩
  sl_exec
  have e1 := rdBlock (a := 32) (b := 3) (by decide) (by decide) arg1 harg1 x0 32 0 ![32, 0] rfl inb_S128x3_S32x3_32_0
  rw [wp_bind, wp_bind]
  iapply (fillLoop c i arg1 harg1 arg2 harg2 arg3 harg3 arg4 harg4 arg5 harg5 arg6 harg6 arg7 harg7 (points x0 (32 * 1)) _ e1 _ (fun _ => rfl) E _ x1 x2 (streams (points x0 (32 * 0)) x1 x2) (invAll (maxima (points x0 (32 * 0)) x1 x2)))
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 32 0 (scaleRow (maxima (points x0 (32 * 1)) x1 x2)) (putAt 0 0 (scaleRow (maxima (points x0 (32 * 0)) x1 x2)) d5))) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 1)) x1 x2)) = slabOf (maxima (points x0 (32 * 1)) x1 x2) 0 := rdSlab arg7 harg7 (maxima (points x0 (32 * 1)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 1)) x1 x2)) = slabOf (maxima (points x0 (32 * 1)) x1 x2) 1 := rdSlab arg7 harg7 (maxima (points x0 (32 * 1)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 1)) x1 x2)) = slabOf (maxima (points x0 (32 * 1)) x1 x2) 2 := rdSlab arg7 harg7 (maxima (points x0 (32 * 1)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 1)) x1 x2)) = slabOf (maxima (points x0 (32 * 1)) x1 x2) 3 := rdSlab arg7 harg7 (maxima (points x0 (32 * 1)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 1)) x1 x2)) = slabOf (maxima (points x0 (32 * 1)) x1 x2) 4 := rdSlab arg7 harg7 (maxima (points x0 (32 * 1)) x1 x2) 4 inb_S5x32x128_S1x32x128_4_0_0
    refine (slabsAtEq arg5.view (harg5.unread (putAt 0 0 (scaleRow (maxima (points x0 (32 * 0)) x1 x2)) d5)) 32 0 (scaleRow (maxima (points x0 (32 * 1)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v447); (try delta runBody.sl.v535); (try delta runBody.sl.v623); (try delta runBody.sl.v711); (try delta runBody.sl.v799))
    all_goals try simp only [m0, m1, m2, m3, m4, Scalar.ofBits, scaleRow, scaleSlab, k0_pay248, k0_pay249, k0_pay250, k0_pay251, k0_pay252, k0_pay253, k0_pay254, k0_pay255, k0_pay256, k0_pay257, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344]
    all_goals try (congr 4; done)
  iintro H5
  rw [wp_bind, wp_bind, wp_bind]
  iapply (quantLoop c i arg4 harg4 arg6 harg6 arg7 harg7 32 _ (fun k => ![k0_off25 k, k0_off27 k, k0_off29 k, k0_off31 k, k0_off33 k]) (by intro k s; fin_cases s; exacts [k0_off25_eq k, k0_off27_eq k, k0_off29_eq k, k0_off31_eq k, k0_off33_eq k]) (by intro k s; fin_cases s; exacts [k0_off25_inb k, k0_off27_inb k, k0_off29_inb k, k0_off31_inb k, k0_off33_inb k]) (fun k => ![k0_off26 k, k0_off28 k, k0_off30 k, k0_off32 k, k0_off34 k]) (by intro k s; fin_cases s; exacts [k0_off26_eq k, k0_off28_eq k, k0_off30_eq k, k0_off32_eq k, k0_off34_eq k]) (by intro k s; fin_cases s; exacts [k0_off26_inb k, k0_off28_inb k, k0_off30_inb k, k0_off32_inb k, k0_off34_inb k]) (by intro k s; fin_cases s; exacts [k0_off26_packedfp8e4m3 k, k0_off28_packedfp8e4m3 k, k0_off30_packedfp8e4m3 k, k0_off32_packedfp8e4m3 k, k0_off34_packedfp8e4m3 k]) (fun _ => rfl) E _ (streams (points x0 (32 * 1)) x1 x2) (invAll (maxima (points x0 (32 * 1)) x1 x2)) (putAt 0 0 (codesRow (streams (points x0 (32 * 0)) x1 x2) (invAll (maxima (points x0 (32 * 0)) x1 x2))) d4))
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 1)) x1 x2)) = slabOf (maxima (points x0 (32 * 1)) x1 x2) 0 := rdSlab arg7 harg7 (maxima (points x0 (32 * 1)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 1)) x1 x2)) = slabOf (maxima (points x0 (32 * 1)) x1 x2) 1 := rdSlab arg7 harg7 (maxima (points x0 (32 * 1)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 1)) x1 x2)) = slabOf (maxima (points x0 (32 * 1)) x1 x2) 2 := rdSlab arg7 harg7 (maxima (points x0 (32 * 1)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 1)) x1 x2)) = slabOf (maxima (points x0 (32 * 1)) x1 x2) 3 := rdSlab arg7 harg7 (maxima (points x0 (32 * 1)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 1)) x1 x2)) = slabOf (maxima (points x0 (32 * 1)) x1 x2) 4 := rdSlab arg7 harg7 (maxima (points x0 (32 * 1)) x1 x2) 4 inb_S5x32x128_S1x32x128_4_0_0
    refine (slabsAtEq arg7.view _ 0 0 (fun s => invSlab (slabOf (maxima (points x0 (32 * 1)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v447); (try delta runBody.sl.v535); (try delta runBody.sl.v623); (try delta runBody.sl.v711); (try delta runBody.sl.v799))
    all_goals simp only [m0, m1, m2, m3, m4, Scalar.ofBits, invSlab, k0_pay248, k0_pay249, k0_pay250, k0_pay251, k0_pay252, k0_pay253, k0_pay254, k0_pay255, k0_pay256, k0_pay257, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344]
    all_goals (congr 4; done)
  isplitl [H4]
  · iexact H4
  iintro ⟨H6, H7, H4⟩
  sl_exec
  have e2 := rdBlock (a := 32) (b := 3) (by decide) (by decide) arg1 harg1 x0 64 0 ![64, 0] rfl inb_S128x3_S32x3_64_0
  rw [wp_bind, wp_bind]
  iapply (fillLoop c i arg1 harg1 arg2 harg2 arg3 harg3 arg4 harg4 arg5 harg5 arg6 harg6 arg7 harg7 (points x0 (32 * 2)) _ e2 _ (fun _ => rfl) E _ x1 x2 (streams (points x0 (32 * 1)) x1 x2) (invAll (maxima (points x0 (32 * 1)) x1 x2)))
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 64 0 (scaleRow (maxima (points x0 (32 * 2)) x1 x2)) (putAt 32 0 (scaleRow (maxima (points x0 (32 * 1)) x1 x2)) (putAt 0 0 (scaleRow (maxima (points x0 (32 * 0)) x1 x2)) d5)))) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 2)) x1 x2)) = slabOf (maxima (points x0 (32 * 2)) x1 x2) 0 := rdSlab arg7 harg7 (maxima (points x0 (32 * 2)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 2)) x1 x2)) = slabOf (maxima (points x0 (32 * 2)) x1 x2) 1 := rdSlab arg7 harg7 (maxima (points x0 (32 * 2)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 2)) x1 x2)) = slabOf (maxima (points x0 (32 * 2)) x1 x2) 2 := rdSlab arg7 harg7 (maxima (points x0 (32 * 2)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 2)) x1 x2)) = slabOf (maxima (points x0 (32 * 2)) x1 x2) 3 := rdSlab arg7 harg7 (maxima (points x0 (32 * 2)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 2)) x1 x2)) = slabOf (maxima (points x0 (32 * 2)) x1 x2) 4 := rdSlab arg7 harg7 (maxima (points x0 (32 * 2)) x1 x2) 4 inb_S5x32x128_S1x32x128_4_0_0
    refine (slabsAtEq arg5.view (harg5.unread (putAt 32 0 (scaleRow (maxima (points x0 (32 * 1)) x1 x2)) (putAt 0 0 (scaleRow (maxima (points x0 (32 * 0)) x1 x2)) d5))) 64 0 (scaleRow (maxima (points x0 (32 * 2)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v891); (try delta runBody.sl.v979); (try delta runBody.sl.v1067); (try delta runBody.sl.v1155); (try delta runBody.sl.v1243))
    all_goals try simp only [m0, m1, m2, m3, m4, Scalar.ofBits, scaleRow, scaleSlab, k0_pay248, k0_pay249, k0_pay250, k0_pay251, k0_pay252, k0_pay253, k0_pay254, k0_pay255, k0_pay256, k0_pay257, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391]
    all_goals try (congr 4; done)
  iintro H5
  rw [wp_bind, wp_bind, wp_bind]
  iapply (quantLoop c i arg4 harg4 arg6 harg6 arg7 harg7 64 _ (fun k => ![k0_off42 k, k0_off44 k, k0_off46 k, k0_off48 k, k0_off50 k]) (by intro k s; fin_cases s; exacts [k0_off42_eq k, k0_off44_eq k, k0_off46_eq k, k0_off48_eq k, k0_off50_eq k]) (by intro k s; fin_cases s; exacts [k0_off42_inb k, k0_off44_inb k, k0_off46_inb k, k0_off48_inb k, k0_off50_inb k]) (fun k => ![k0_off43 k, k0_off45 k, k0_off47 k, k0_off49 k, k0_off51 k]) (by intro k s; fin_cases s; exacts [k0_off43_eq k, k0_off45_eq k, k0_off47_eq k, k0_off49_eq k, k0_off51_eq k]) (by intro k s; fin_cases s; exacts [k0_off43_inb k, k0_off45_inb k, k0_off47_inb k, k0_off49_inb k, k0_off51_inb k]) (by intro k s; fin_cases s; exacts [k0_off43_packedfp8e4m3 k, k0_off45_packedfp8e4m3 k, k0_off47_packedfp8e4m3 k, k0_off49_packedfp8e4m3 k, k0_off51_packedfp8e4m3 k]) (fun _ => rfl) E _ (streams (points x0 (32 * 2)) x1 x2) (invAll (maxima (points x0 (32 * 2)) x1 x2)) (putAt 32 0 (codesRow (streams (points x0 (32 * 1)) x1 x2) (invAll (maxima (points x0 (32 * 1)) x1 x2))) (putAt 0 0 (codesRow (streams (points x0 (32 * 0)) x1 x2) (invAll (maxima (points x0 (32 * 0)) x1 x2))) d4)))
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 2)) x1 x2)) = slabOf (maxima (points x0 (32 * 2)) x1 x2) 0 := rdSlab arg7 harg7 (maxima (points x0 (32 * 2)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 2)) x1 x2)) = slabOf (maxima (points x0 (32 * 2)) x1 x2) 1 := rdSlab arg7 harg7 (maxima (points x0 (32 * 2)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 2)) x1 x2)) = slabOf (maxima (points x0 (32 * 2)) x1 x2) 2 := rdSlab arg7 harg7 (maxima (points x0 (32 * 2)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 2)) x1 x2)) = slabOf (maxima (points x0 (32 * 2)) x1 x2) 3 := rdSlab arg7 harg7 (maxima (points x0 (32 * 2)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 2)) x1 x2)) = slabOf (maxima (points x0 (32 * 2)) x1 x2) 4 := rdSlab arg7 harg7 (maxima (points x0 (32 * 2)) x1 x2) 4 inb_S5x32x128_S1x32x128_4_0_0
    refine (slabsAtEq arg7.view _ 0 0 (fun s => invSlab (slabOf (maxima (points x0 (32 * 2)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v891); (try delta runBody.sl.v979); (try delta runBody.sl.v1067); (try delta runBody.sl.v1155); (try delta runBody.sl.v1243))
    all_goals simp only [m0, m1, m2, m3, m4, Scalar.ofBits, invSlab, k0_pay248, k0_pay249, k0_pay250, k0_pay251, k0_pay252, k0_pay253, k0_pay254, k0_pay255, k0_pay256, k0_pay257, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391]
    all_goals (congr 4; done)
  isplitl [H4]
  · iexact H4
  iintro ⟨H6, H7, H4⟩
  sl_exec
  have e3 := rdBlock (a := 32) (b := 3) (by decide) (by decide) arg1 harg1 x0 96 0 ![96, 0] rfl inb_S128x3_S32x3_96_0
  rw [wp_bind, wp_bind]
  iapply (fillLoop c i arg1 harg1 arg2 harg2 arg3 harg3 arg4 harg4 arg5 harg5 arg6 harg6 arg7 harg7 (points x0 (32 * 3)) _ e3 _ (fun _ => rfl) E _ x1 x2 (streams (points x0 (32 * 2)) x1 x2) (invAll (maxima (points x0 (32 * 2)) x1 x2)))
  unfold owns
  isplitl [H2 H3]
  · isplitl [H2]
    · iexact H2
    · iexact H3
  isplitl [H6]
  · iexact H6
  isplitl [H7]
  · iexact H7
  iintro ⟨⟨H2, H3⟩, H6, ⟨%f7, %hf7, H7⟩⟩
  icases H5 with ⟨%f5, %hf5, H5⟩
  obtain rfl := harg5.eq_unread hf5; obtain rfl := harg7.eq_unread hf7
  sl_exec
  iapply (cut (owns (c : Thread nD τ) arg5 fullShare (putAt 96 0 (scaleRow (maxima (points x0 (32 * 3)) x1 x2)) (putAt 64 0 (scaleRow (maxima (points x0 (32 * 2)) x1 x2)) (putAt 32 0 (scaleRow (maxima (points x0 (32 * 1)) x1 x2)) (putAt 0 0 (scaleRow (maxima (points x0 (32 * 0)) x1 x2)) d5))))) _)
  unfold owns
  isplitl [H5]
  · iexists _; isplitr; swap; · iexact H5
    ipureintro
    have m0 : arg7.view.readAt (Elt F) (Rect.unit (s := S5x32x128) ![0, 0, 0] S1x32x128.size inb_S5x32x128_S1x32x128_0_0_0).toLoadRect (harg7.unread (maxima (points x0 (32 * 3)) x1 x2)) = slabOf (maxima (points x0 (32 * 3)) x1 x2) 0 := rdSlab arg7 harg7 (maxima (points x0 (32 * 3)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 3)) x1 x2)) = slabOf (maxima (points x0 (32 * 3)) x1 x2) 1 := rdSlab arg7 harg7 (maxima (points x0 (32 * 3)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 3)) x1 x2)) = slabOf (maxima (points x0 (32 * 3)) x1 x2) 2 := rdSlab arg7 harg7 (maxima (points x0 (32 * 3)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 3)) x1 x2)) = slabOf (maxima (points x0 (32 * 3)) x1 x2) 3 := rdSlab arg7 harg7 (maxima (points x0 (32 * 3)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 3)) x1 x2)) = slabOf (maxima (points x0 (32 * 3)) x1 x2) 4 := rdSlab arg7 harg7 (maxima (points x0 (32 * 3)) x1 x2) 4 inb_S5x32x128_S1x32x128_4_0_0
    refine (slabsAtEq arg5.view (harg5.unread (putAt 64 0 (scaleRow (maxima (points x0 (32 * 2)) x1 x2)) (putAt 32 0 (scaleRow (maxima (points x0 (32 * 1)) x1 x2)) (putAt 0 0 (scaleRow (maxima (points x0 (32 * 0)) x1 x2)) d5)))) 96 0 (scaleRow (maxima (points x0 (32 * 3)) x1 x2)) _ _ _ _ _ _ _ _ _ _ rfl rfl rfl rfl rfl _ _ _ _ _ ?_ ?_ ?_ ?_ ?_).trans ?_
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v1335); (try delta runBody.sl.v1423); (try delta runBody.sl.v1511); (try delta runBody.sl.v1599); (try delta runBody.sl.v1687))
    all_goals try simp only [m0, m1, m2, m3, m4, Scalar.ofBits, scaleRow, scaleSlab, k0_pay1, k0_pay2, k0_pay248, k0_pay249, k0_pay250, k0_pay251, k0_pay252, k0_pay253, k0_pay254, k0_pay255, k0_pay256, k0_pay257, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432]
    all_goals try (congr 4; done)
  iintro H5
  rw [wp_bind]
  iapply (quantLoop c i arg4 harg4 arg6 harg6 arg7 harg7 96 _ (fun k => ![k0_off59 k, k0_off61 k, k0_off63 k, k0_off65 k, k0_off67 k]) (by intro k s; fin_cases s; exacts [k0_off59_eq k, k0_off61_eq k, k0_off63_eq k, k0_off65_eq k, k0_off67_eq k]) (by intro k s; fin_cases s; exacts [k0_off59_inb k, k0_off61_inb k, k0_off63_inb k, k0_off65_inb k, k0_off67_inb k]) (fun k => ![k0_off60 k, k0_off62 k, k0_off64 k, k0_off66 k, k0_off68 k]) (by intro k s; fin_cases s; exacts [k0_off60_eq k, k0_off62_eq k, k0_off64_eq k, k0_off66_eq k, k0_off68_eq k]) (by intro k s; fin_cases s; exacts [k0_off60_inb k, k0_off62_inb k, k0_off64_inb k, k0_off66_inb k, k0_off68_inb k]) (by intro k s; fin_cases s; exacts [k0_off60_packedfp8e4m3 k, k0_off62_packedfp8e4m3 k, k0_off64_packedfp8e4m3 k, k0_off66_packedfp8e4m3 k, k0_off68_packedfp8e4m3 k]) (fun _ => rfl) E _ (streams (points x0 (32 * 3)) x1 x2) (invAll (maxima (points x0 (32 * 3)) x1 x2)) (putAt 64 0 (codesRow (streams (points x0 (32 * 2)) x1 x2) (invAll (maxima (points x0 (32 * 2)) x1 x2))) (putAt 32 0 (codesRow (streams (points x0 (32 * 1)) x1 x2) (invAll (maxima (points x0 (32 * 1)) x1 x2))) (putAt 0 0 (codesRow (streams (points x0 (32 * 0)) x1 x2) (invAll (maxima (points x0 (32 * 0)) x1 x2))) d4))))
  unfold owns
  isplitl [H6]
  · iexact H6
  isplitl [H7]
  · iexists _; isplitr; swap; · iexact H7
    ipureintro
    have m0 : arg7.view.readAt (Elt F) (Rect.unit (s := S5x32x128) ![0, 0, 0] S1x32x128.size inb_S5x32x128_S1x32x128_0_0_0).toLoadRect (harg7.unread (maxima (points x0 (32 * 3)) x1 x2)) = slabOf (maxima (points x0 (32 * 3)) x1 x2) 0 := rdSlab arg7 harg7 (maxima (points x0 (32 * 3)) x1 x2) 0 inb_S5x32x128_S1x32x128_0_0_0
    have m1 : arg7.view.readAt (Elt F) (Rect.unit (s := S5x32x128) ![1, 0, 0] S1x32x128.size inb_S5x32x128_S1x32x128_1_0_0).toLoadRect (harg7.unread (maxima (points x0 (32 * 3)) x1 x2)) = slabOf (maxima (points x0 (32 * 3)) x1 x2) 1 := rdSlab arg7 harg7 (maxima (points x0 (32 * 3)) x1 x2) 1 inb_S5x32x128_S1x32x128_1_0_0
    have m2 : arg7.view.readAt (Elt F) (Rect.unit (s := S5x32x128) ![2, 0, 0] S1x32x128.size inb_S5x32x128_S1x32x128_2_0_0).toLoadRect (harg7.unread (maxima (points x0 (32 * 3)) x1 x2)) = slabOf (maxima (points x0 (32 * 3)) x1 x2) 2 := rdSlab arg7 harg7 (maxima (points x0 (32 * 3)) x1 x2) 2 inb_S5x32x128_S1x32x128_2_0_0
    have m3 : arg7.view.readAt (Elt F) (Rect.unit (s := S5x32x128) ![3, 0, 0] S1x32x128.size inb_S5x32x128_S1x32x128_3_0_0).toLoadRect (harg7.unread (maxima (points x0 (32 * 3)) x1 x2)) = slabOf (maxima (points x0 (32 * 3)) x1 x2) 3 := rdSlab arg7 harg7 (maxima (points x0 (32 * 3)) x1 x2) 3 inb_S5x32x128_S1x32x128_3_0_0
    have m4 : arg7.view.readAt (Elt F) (Rect.unit (s := S5x32x128) ![4, 0, 0] S1x32x128.size inb_S5x32x128_S1x32x128_4_0_0).toLoadRect (harg7.unread (maxima (points x0 (32 * 3)) x1 x2)) = slabOf (maxima (points x0 (32 * 3)) x1 x2) 4 := rdSlab arg7 harg7 (maxima (points x0 (32 * 3)) x1 x2) 4 inb_S5x32x128_S1x32x128_4_0_0
    refine (slabsAtEq arg7.view _ 0 0 (fun s => invSlab (slabOf (maxima (points x0 (32 * 3)) x1 x2) s)) _ _ _ _ _ _ _ _ _ _ rfl rfl rfl rfl rfl _ _ _ _ _ ?_ ?_ ?_ ?_ ?_).trans (putAt_all _ _)
    all_goals ((try delta runBody.sl.r_39); (try delta runBody.sl.r_38); (try delta runBody.sl.r_37); (try delta runBody.sl.r_36); (try delta runBody.sl.r_35); (try delta runBody.sl.r_34); (try delta runBody.sl.r_33); (try delta runBody.sl.r_32); (try delta runBody.sl.r_31); (try delta runBody.sl.r_30); (try delta runBody.sl.r_29); (try delta runBody.sl.r_28); (try delta runBody.sl.r_27); (try delta runBody.sl.r_26); (try delta runBody.sl.r_25); (try delta runBody.sl.r_24); (try delta runBody.sl.r_23); (try delta runBody.sl.r_22); (try delta runBody.sl.r_21); (try delta runBody.sl.r_20); (try delta runBody.sl.r_19); (try delta runBody.sl.r_18); (try delta runBody.sl.r_17); (try delta runBody.sl.r_16); (try delta runBody.sl.r_15); (try delta runBody.sl.r_14); (try delta runBody.sl.r_13); (try delta runBody.sl.r_12); (try delta runBody.sl.r_11); (try delta runBody.sl.r_10); (try delta runBody.sl.r_9); (try delta runBody.sl.r_8); (try delta runBody.sl.r_7); (try delta runBody.sl.r_6); (try delta runBody.sl.r_5); (try delta runBody.sl.r_4); (try delta runBody.sl.r_3); (try delta runBody.sl.r_2); (try delta runBody.sl.r_1); (try delta runBody.sl.r); (try delta runBody.sl.v1335); (try delta runBody.sl.v1423); (try delta runBody.sl.v1511); (try delta runBody.sl.v1599); (try delta runBody.sl.v1687))
    all_goals simp only [m0, m1, m2, m3, m4, Scalar.ofBits, invSlab, k0_pay1, k0_pay2, k0_pay248, k0_pay249, k0_pay250, k0_pay251, k0_pay252, k0_pay253, k0_pay254, k0_pay255, k0_pay256, k0_pay257, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432]
    all_goals (congr 4; done)
  isplitl [H4]
  · iexact H4
  iintro ⟨H6, H7, H4⟩
  sl_exec
  sl_step
  iapply Hk
  isplitl [H1 H2 H3]
  · isplitl [H1]
    · iexists _; isplitr; swap; · iexact H1
      ipureintro; exact harg1.read_unread _
    isplitl [H2]
    · iexact H2
    · iexact H3
  isplitl [H4]
  · unfold codesOut
    rw [← putAt_rows _ d4]
    iexact H4
  isplitl [H5]
  · unfold scalesOut
    rw [← putAt_rows _ d5]
    iexact H5
  isplitl [H6]
  · iexists _; iexact H6
  · iexists _; iexact H7

end Runs

end Cert.Layer0Ideal.Hand

end
-- ==== Proof.Layer0IdealFrame.lean ====
module

public import proofs.«01_k».proof.Proof.Layer0IdealRun
public import Idealize.ShloMosaic.Lib.Pipeline.TableIdle

/-! The program `layer0` runs to the end and leaves its arguments as they were: what each grid point leaves in the result blocks, and
the run of the whole grid. -/

@[expose] public section

set_option maxRecDepth 16384

noncomputable section

namespace Cert.Layer0Ideal.Hand

open Cert.Layer0Ideal Cert.Layer0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging buffer of each window at a point, and that it is a whole buffer. -/
abbrev ms0 (t : Fin cfg0.N) : Memref sig .tc .vmem S128x3 .f32 := win0_0.stage (cfg0.slots t 0)
abbrev ms1 (t : Fin cfg0.N) : Memref sig .tc .vmem S3x4096 .f32 := win0_1.stage (cfg0.slots t 1)
abbrev ms2 (t : Fin cfg0.N) : Memref sig .tc .vmem S1x4096 .f32 := win0_2.stage (cfg0.slots t 2)
abbrev ms3 (t : Fin cfg0.N) : Memref sig .tc .vmem S5x128x4096 .fp8e4m3 := win0_3.stage (cfg0.slots t 3)
abbrev ms4 (t : Fin cfg0.N) : Memref sig .tc .vmem S5x128x1 .f32 := win0_4.stage (cfg0.slots t 4)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)

/-- The streams of 32 points and their maxima: scratch buffers, written before they are read at every point. -/
abbrev scS : Memref sig .tc .vmem S5x32x4096 .f32 := Memref.whole cc0_scratch0
abbrev scA : Memref sig .tc .vmem S5x32x128 .f32 := Memref.whole cc0_scratch1

/-- What the pipeline hands the first point besides the windows: the two scratch buffers and the generator register at anything. -/
theorem PhiA_eq (c : Dev nD) :
    (Pipeline.ΦA spec0 c : sProp 𝕄)
      = iprop(iprop((∃ d, owns (c : Thread nD τ) scS fullShare d) ∗ (∃ d, owns (c : Thread nD τ) scA fullShare d)) ∗ (∃ r, prngReg c r)) := by
  unfold Pipeline.ΦA; rw [scopedRest0_eq]; simp only [scS, scA, owns_whole]; try rfl

section State

variable (m : (ℓ : Loc nD τ sig) → Buf (Elt F) ℓ) (ρ : Dev nD → PrngReg)

/-- What is kept between points: nothing but the two scratch buffers, at anything. -/
def PhiS (c : Dev nD) : sProp 𝕄 :=
  iprop(iprop((∃ d, owns (c : Thread nD τ) scS fullShare d) ∗ (∃ d, owns (c : Thread nD τ) scA fullShare d)) ∗ (∃ r, prngReg c r))

/-- Per core: the arrays the pipeline works on, what each point leaves in the windows, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesOut (iblk m c 0 t) (iblk m c 1 t) (iblk m c 2 t)
    | ⟨4, _⟩ => scalesOut (iblk m c 0 t) (iblk m c 1 t) (iblk m c 2 t)
  Φ _ := PhiS c
  q _ := fullShare
  owed _ := 0

theorem A_eq (c : Dev nD) (w : Fin 5) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesOut (iblk m c 0 t) (iblk m c 1 t) (iblk m c 2 t) := by dsimp only [dats]
theorem after0_4 (c : Dev nD) (t : Fin cfg0.N) : (dats m 0 c).after 4 t = scalesOut (iblk m c 0 t) (iblk m c 1 t) (iblk m c 2 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- What point `t`'s body is given, and what it must leave. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1000000 in
theorem sound_body (c : Dev nD) (t : Fin cfg0.N) :
    bodyPre m c t ⊢ wp frame (wpE (defs₀ (F := F)) Variants.none c none) Set.univ (bodyAt0 (F := F) t) fun _ => bodyPost m c t := by
  unfold bodyPre bodyPost bodyAt0
  simp only [before0_0, before0_1, before0_2]
  rw [show (dats m 0 c).owesAt () t.succ = (dats m 0 c).owesAt () t.castSucc from rfl,
    show (dats m 0 c).Φ t.castSucc = PhiS c from rfl, show (dats m 0 c).Φ t.succ = PhiS c from rfl]
  unfold PhiS
  rw [show (dats m 0 c).leavesExact 0 t = owns (c : Thread nD τ) (ms0 t) fullShare (iblk m c 0 t) from by unfold Dat.leavesExact; rw [show cfg0.idle 0 (grid0.coords t) = false from rfl, after0_0 m c t]]
  rw [show (dats m 0 c).leavesExact 1 t = owns (c : Thread nD τ) (ms1 t) fullShare (iblk m c 1 t) from by unfold Dat.leavesExact; rw [show cfg0.idle 1 (grid0.coords t) = false from rfl, after0_1 m c t]]
  rw [show (dats m 0 c).leavesExact 2 t = owns (c : Thread nD τ) (ms2 t) fullShare (iblk m c 2 t) from by unfold Dat.leavesExact; rw [show cfg0.idle 2 (grid0.coords t) = false from rfl, after0_2 m c t]]
  rw [show (dats m 0 c).leavesExact 3 t = owns (c : Thread nD τ) (ms3 t) fullShare (codesOut (iblk m c 0 t) (iblk m c 1 t) (iblk m c 2 t)) from by unfold Dat.leavesExact; rw [show cfg0.idle 3 (grid0.coords t) = false from rfl, after0_3 m c t]]
  rw [show (dats m 0 c).leavesExact 4 t = owns (c : Thread nD τ) (ms4 t) fullShare (scalesOut (iblk m c 0 t) (iblk m c 1 t) (iblk m c 2 t)) from by unfold Dat.leavesExact; rw [show cfg0.idle 4 (grid0.coords t) = false from rfl, after0_4 m c t]]
  iintro ⟨⟨⟨HS, HA⟩, Hg⟩, Ho, ⟨%d0, H0⟩, ⟨%d1, H1⟩, ⟨%d2, H2⟩, ⟨%d3, H3⟩, ⟨%d4, H4⟩⟩
  iapply (runBody c (grid0.coords t) (ms0 t) (hs0 t) (ms1 t) (hs1 t) (ms2 t) (hs2 t) (ms3 t) (hs3 t) (ms4 t) (hs4 t) scS (Memref.isWhole_whole _) scA (Memref.isWhole_whole _)
    Set.univ _ (iblk m c 0 t) (iblk m c 1 t) (iblk m c 2 t))
  isplitl [H0 H1 H2]
  · isplitl [H0]; · iexact H0
    isplitl [H1]; · iexact H1
    iexact H2
  isplitl [H3]; · iexists _; iexact H3
  isplitl [H4]; · iexists _; iexact H4
  isplitl [HS]; · iexact HS
  isplitl [HA]; · iexact HA
  iintro ⟨⟨H0, H1, H2⟩, H3, H4, HS, HA⟩
  isplitl [HS HA Hg]
  · isplitl [HS HA]
    · isplitl [HS]; · iexact HS
      iexact HA
    · iexact Hg
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 (F := F) t := by
  unfold defs₀; rw [Defs.onTc_tc]

theorem body_obligation (c : Dev nD) : BodyObligation (dats m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  rw [PhiA_eq, show (dats m 0 c).Φ 0 = PhiS c from rfl]; unfold PhiS; exact .rfl

theorem hout (c : Dev nD) : (dats m 0 c).Φ (Fin.last cfg0.N) ⊢ (Pipeline.ΦA spec0 c : sProp 𝕄) := by
  rw [PhiA_eq, show (dats m 0 c).Φ (Fin.last cfg0.N) = PhiS c from rfl]; unfold PhiS; exact .rfl

set_option backward.isDefEq.respectTransparency.types false in
/-- The program runs to the end and leaves every array the pipeline's windows over it say, and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The program runs to the end, leaves the argument arrays as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end State

end Cert.Layer0Ideal.Hand

end
-- ==== Proof.Layer0Streams.lean ====
module

public import proofs.«01_k».proof.Proof.Layer0IdealFrame
public import proofs.«01_k».proof.Proof.Gen.Reference0Ideal.Skeleton
public import Idealize.ShloMosaic.Lib.Pipeline.ValueKit

/-! What the input layer's kernel computes, read at one point and one column, and the same of its reference: the five streams of the layer's
output, before they are quantised. The kernel takes the product of the three coordinates and the weights as six compensated products of the
operands' leading parts and what those leave; over the reals the leading part is the whole finite number, what it leaves is zero, and the
compensation of every sum is zero. -/

@[expose] public section

set_option maxRecDepth 16384

noncomputable section

namespace Cert.Layer0Ideal.Hand

open Cert.Layer0Ideal Cert.Layer0Ideal.Gen
open Idealize.ShloMosaic Idealize.ShloMosaic.TcCoe Idealize.SL.Sem
open Idealize.ShloMosaic.Pipeline (Dat)

/-- What the sum `s` of `x` and `y` lost, as the kernel computes it. -/
def lost (x y s : EReal) : EReal := (x - (s - (s - x))) + (y - (s - x))
/-- The compensated sum of three products. -/
def dot3 (x w : Fin 3 → EReal) : EReal :=
  (x 0 * w 0 + x 1 * w 1 + x 2 * w 2)
    + (lost (x 0 * w 0) (x 1 * w 1) (x 0 * w 0 + x 1 * w 1) + lost (x 0 * w 0 + x 1 * w 1) (x 2 * w 2) (x 0 * w 0 + x 1 * w 1 + x 2 * w 2))
/-- What the leading part leaves, and what the leading part of that leaves. -/
def res (x : Fin 3 → EReal) : Fin 3 → EReal := fun k => x k - x k
def res2 (x : Fin 3 → EReal) : Fin 3 → EReal := fun k => res x k - res x k

/-- The kernel's product: the six compensated products, smallest first. -/
def sixDots (x w : Fin 3 → EReal) : EReal :=
  ((((dot3 (res2 x) w + dot3 x (res2 w)) + dot3 (res x) (res w)) + dot3 (res x) w) + dot3 x (res w)) + dot3 x w

/-- For finite operands it is the product of the three coordinates and the weights. -/
theorem sixDots_eq (x w : Fin 3 → EReal) (hx : ∀ k, ∃ r : ℝ, x k = r) (hw : ∀ k, ∃ r : ℝ, w k = r) : sixDots x w = ∑ k : Fin 3, x k * w k := by
  choose a ha using hx
  choose b hb using hw
  obtain rfl : x = fun k => (a k : EReal) := funext ha
  obtain rfl : w = fun k => (b k : EReal) := funext hb
  simp only [sixDots, dot3, lost, res2, res, Fin.sum_univ_three]
  norm_cast
  ring

/-- The layer's output of stream `s`, from the value `h = tanh z` and the weights. -/
def outOf (s : Fin 5) (h : EReal) (w : Fin 3 → EReal) : EReal :=
  match s with
  | 0 => h
  | 1 => (1 - h * h) * w 0
  | 2 => (1 - h * h) * w 1
  | 3 => (1 - h * h) * w 2
  | 4 => Ideal.ofBits FTy.f32 3221225472#32 * h * (1 - h * h) * (w 0 * w 0 + w 1 * w 1 + w 2 * w 2)

section Blocks
variable (v : Vec Ideal S32x3 .f32) (w : Vec Ideal S3x256 .f32) (b : Vec Ideal S1x256 .f32)

abbrev rowX (r : Fin 32) : Fin 3 → EReal := fun k => v (ix2 r k)
abbrev colW (q : Fin 256) : Fin 3 → EReal := fun k => w (ix2 k q)

theorem tileZ_at (r : Fin 32) (q : Fin 256) : tileZ v w (ix2 r q)
    = (((dot3 (res2 (rowX v r)) (colW w q) + dot3 (rowX v r) (res2 (colW w q))) + dot3 (res (rowX v r)) (res (colW w q))) + dot3 (res (rowX v r)) (colW w q)) := by
  unfold tileZ
  pointwise [k0_pay28, k0_pay27, k0_pay26, k0_pay25, k0_pay24, k0_pay23, k0_pay22, k0_pay21, k0_pay20, k0_pay19, k0_pay18, k0_pay17, k0_pay16, k0_pay15, k0_pay14,
    k0_pay13, k0_pay12, k0_pay11, k0_pay10, k0_pay9, k0_pay8, k0_pay7, k0_pay6, k0_pay5, k0_pay4]
  rfl

theorem tileH_at (r : Fin 32) (q : Fin 256) : tileH v w b (ix2 r q) = Ideal.tanh (sixDots (rowX v r) (colW w q) + b (ix2 (0 : Fin 1) q)) := by
  unfold tileH
  pointwise [k0_pay35, k0_pay34, k0_pay33, k0_pay32, k0_pay31, k0_pay30, k0_pay29, k0_pay9, k0_pay7, k0_pay5, k0_pay4]
  rw [tileZ_at]; rfl

theorem tileD1_at (r : Fin 32) (q : Fin 256) : tileD1 v w b (ix2 r q) = 1 - tileH v w b (ix2 r q) * tileH v w b (ix2 r q) := by
  unfold tileD1
  pointwise [k0_pay36]
  rfl
theorem tileD2_at (r : Fin 32) (q : Fin 256) : tileD2 v w b (ix2 r q) = Ideal.ofBits FTy.f32 3221225472#32 * tileH v w b (ix2 r q) * tileD1 v w b (ix2 r q) := by
  unfold tileD2
  pointwise [k0_pay37]
  rfl

/-- The five streams of a block's output. -/
theorem tile_at (s : Fin 5) (r : Fin 32) (q : Fin 256) : tile v w b s (ix2 r q)
    = outOf s (Ideal.tanh (sixDots (rowX v r) (colW w q) + b (ix2 (0 : Fin 1) q))) (colW w q) := by
  rw [← tileH_at]
  fin_cases s
  · rfl
  · show k0_pay40 _ _ (ix2 r q) = _
    pointwise [k0_pay40, k0_pay39]
    rw [tileD1_at]; rfl
  · show k0_pay41 _ _ (ix2 r q) = _
    pointwise [k0_pay41]
    rw [tileD1_at]; rfl
  · show k0_pay42 _ _ (ix2 r q) = _
    pointwise [k0_pay42]
    rw [tileD1_at]; rfl
  · show k0_pay43 _ _ (ix2 r q) = _
    pointwise [k0_pay43, k0_pay38]
    rw [tileD2_at, tileD1_at, add_right_comm]; rfl
end Blocks

section Ref
variable (W : Vec Ideal S3x4096 .f32) (X : Vec Ideal S4096x3 .f32) (B : Vec Ideal S1x4096 .f32)

/-- The reference's five streams, as a function of the three operands. -/
abbrev REFst : Vec Ideal S5x4096x4096 .f32 := Cert.Reference0Ideal.Gen.k0_pay4 W X B

theorem REFst_at (s : Fin 5) (p : Fin 4096) (j : Fin 4096) : REFst W X B (ix3 s p j)
    = outOf s (Ideal.tanh ((∑ k : Fin 3, X (ix2 p k) * W (ix2 k j)) + B (ix2 (0 : Fin 1) j))) (fun k => W (ix2 k j)) := by
  unfold REFst
  pointwise [Cert.Reference0Ideal.Gen.k0_pay4]
  fin_cases s
  · exact dif_pos (by decide)
  · exact (dif_neg (by decide)).trans (dif_pos (by decide))
  · exact (dif_neg (by decide)).trans (dif_pos (by decide))
  · exact (dif_neg (by decide)).trans (dif_pos (by decide))
  · refine (dif_neg (by decide)).trans ((dif_neg (by decide)).trans ?_)
    simp only [Fin.sum_univ_three]
    rfl
end Ref

end Cert.Layer0Ideal.Hand

end
-- ==== Proof.Layer0Quantise.lean ====
module

public import proofs.«01_k».proof.Proof.Layer0Streams
public import proofs.«01_k».proof.Proof.Layer1Scale
public import Idealize.ShloMosaic.Lib.Pipeline.ValueKit

/-! The input layer's quantisation, read at one row and one column: a row's scale, inverse scale and codes, in the kernel and in its reference. -/

@[expose] public section

set_option maxRecDepth 16384

noncomputable section

/-! ## The reference's row maxima and its quotient -/

namespace Cert.Reference0Ideal.Hand
open Cert.Reference0Ideal Cert.Reference0Ideal.Gen Cert.Scale
open Idealize.ShloMosaic Idealize.ShloMosaic.TcCoe Idealize.SL.Sem

/-- The largest magnitudes of the rows of `st`, and the quotient by 448 taken of them. -/
def amaxOf (st : FVec Ideal S5x4096x4096 .f32) : FVec Ideal S5x4096x1 .f32 :=
  shapeCast S5x4096x1 (multiReduction .maximumf [2] S5x4096 (absf st) 0xFF800000#32 reduces_S5x4096x4096_S5x4096 (.inl rfl) rfl) shapeCasts_S5x4096_S5x4096x1
def quotOf (a : FVec Ideal S5x4096x1 .f32) : FVec Ideal S5x4096x1 .f32 :=
  mulf (minimumf a (broadcast S5x4096x1 (Scalar.ofBits (F := Ideal) .f32 0x7F7FFFFF#32))) (broadcast S5x4096x1 (Scalar.ofBits (F := Ideal) .f32 0x3B124925#32))

theorem quot_eq (w : Vec Ideal S3x4096 .f32) (x : Vec Ideal S4096x3 .f32) (b : Vec Ideal S1x4096 .f32) : k0_pay5 w x b = quotOf (amaxOf (k0_pay4 w x b)) := rfl

theorem quotOf_at (a : FVec Ideal S5x4096x1 .f32) (s : Fin 5) (p : Fin 4096) : quotOf a (ix3 s p (0 : Fin 1)) = min (a (ix3 s p (0 : Fin 1))) cMax * cInv := rfl

/-- The exponents taken of the quotients, and the codes of the streams `st` with exponents `e`. -/
def expOf (a : FVec Ideal S5x4096x1 .f32) : FVec Ideal S5x4096x1 .f32 :=
  k0_pay1 (F := Ideal) (addf (floor (divf (log a) (log (broadcast S5x4096x1 (Scalar.ofBits (F := Ideal) .f32 0x40000000#32))))) (broadcast S5x4096x1 (Scalar.ofBits (F := Ideal) .f32 0x3F800000#32)))
    (cmpf .olt a (broadcast S5x4096x1 (Scalar.ofBits (F := Ideal) .f32 0x00800000#32)))
def codesOf (st : FVec Ideal S5x4096x4096 .f32) (e : FVec Ideal S5x4096x1 .f32) : FVec Ideal S5x4096x4096 .fp8e4m3 :=
  truncf .fp8e4m3 (minimumf (broadcast S5x4096x4096 (Scalar.ofBits (F := Ideal) .f32 0x43E00000#32)) (maximumf (broadcast S5x4096x4096 (Scalar.ofBits (F := Ideal) .f32 0xC3E00000#32))
    (mulf st (broadcastTo S5x4096x4096 (exp2 (subf (broadcast S5x4096x1 (Scalar.ofBits (F := Ideal) .f32 0x00000000#32)) e)) broadcasts_S5x4096x1_S5x4096x4096)))) bitsLt_fp8e4m3_f32

theorem exp_eq (w : Vec Ideal S3x4096 .f32) (x : Vec Ideal S4096x3 .f32) (b : Vec Ideal S1x4096 .f32) :
    k0_pay1 (F := Ideal) (k0_pay6 w x b) (k0_pay7 w x b) = expOf (k0_pay5 w x b) := rfl
theorem codes_eq (st : FVec Ideal S5x4096x4096 .f32) (v : FVec Ideal S5x4096x1 .f32) (u : IVec S5x4096x1 1) : k0_pay3 (F := Ideal) st v u = codesOf st (k0_pay1 (F := Ideal) v u) := rfl
theorem scales_at (v : FVec Ideal S5x4096x1 .f32) (u : IVec S5x4096x1 1) (i) : k0_pay2 (F := Ideal) v u i = Ideal.exp2 (k0_pay1 (F := Ideal) v u i) := rfl

theorem expOf_at (a : FVec Ideal S5x4096x1 .f32) (s : Fin 5) (p : Fin 4096) (v : EReal) (h : a (ix3 s p (0 : Fin 1)) = min v cMax * cInv) :
    expOf a (ix3 s p (0 : Fin 1)) = rExp v := by
  pointwise [expOf, k0_pay1]
  rw [h]; rfl

end Cert.Reference0Ideal.Hand

namespace Cert.Layer0Ideal.Hand

open Cert.Layer0Ideal Cert.Layer0Ideal.Gen Cert.Scale
open Idealize.ShloMosaic Idealize.ShloMosaic.TcCoe Idealize.SL.Sem
open Idealize.ShloMosaic.Pipeline (Dat)

/-! ## One row's scale, inverse scale and codes -/

section Quantise
variable (x y : Vec Ideal S1x32x128 .f32)

/-- The row maximum, divided by 448 and capped. -/
theorem pay248_at (p : Fin 32) (q : Fin 128) :
    k0_pay248 x (ix2 p q) = min (Finset.univ.sup (fun k : Fin 128 => x (ix3 (0 : Fin 1) p k)) * cInv) cTop := by
  pointwise [k0_pay248]
  rw [ofBits_bot]; rfl

theorem pay249_at (p : Fin 32) (q : Fin 128) (v : EReal) (hv : k0_pay248 x (ix2 p q) = v) :
    k0_pay249 x (ix2 p q) = stp v (stp v (stp v 0#32 128#32) 64#32) 32#32 := by
  pointwise [k0_pay249]
  rw [hv]; rfl

theorem pay251_at (p : Fin 32) (q : Fin 128) (v : EReal) (hv : k0_pay248 x (ix2 p q) = v) :
    k0_pay251 (k0_pay248 x) (k0_pay249 x) (k0_pay250 x) 23#32 (ix2 p q) = IntOp.shli .vector (bis v) 23#32 := by
  pointwise [k0_pay251, k0_pay250]
  rw [pay249_at x p q v hv, hv]; rfl

theorem sel_eq (b : BitVec 32) (u v : EReal) : Scalar.select (IntOp.cmpi CmpIPredicate.eq b 0#32) u v = if b = 0#32 then u else v := by
  by_cases h : b = 0#32
  · subst h; rfl
  · rw [if_neg h]
    have : IntOp.cmpi CmpIPredicate.eq b 0#32 = 0#1 := by
      have hb : (b == 0#32) = false := by simpa using h
      simp [IntOp.cmpi, hb]
    rw [this]; rfl

theorem scaleSlab_at (p : Fin 32) :
    scaleSlab x (ix3 (0 : Fin 1) p (0 : Fin 1)) = kScale (Finset.univ.sup (fun k : Fin 128 => x (ix3 (0 : Fin 1) p k))) := by
  unfold scaleSlab
  pointwise [k0_pay256, k0_pay253, k0_pay252]
  rw [pay251_at x p _ _ (pay248_at x p _)]
  exact sel_eq _ _ _

theorem invSlab_at (p : Fin 32) (q : Fin 128) :
    invSlab x (ix3 (0 : Fin 1) p q) = kInv (Finset.univ.sup (fun k : Fin 128 => x (ix3 (0 : Fin 1) p k))) := by
  unfold invSlab
  pointwise [k0_pay257, k0_pay255, k0_pay254, k0_pay252]
  rw [pay251_at x p _ _ (pay248_at x p _)]
  exact sel_eq _ _ _

/-- A code: the value over the scale, clipped. -/
def clip (x y : EReal) : EReal := min (Ideal.ofBits .f32 1138753536#32) (max (Ideal.ofBits .f32 3286237184#32) (x * y))

theorem codeSlab_at (p : Fin 32) (q : Fin 128) : codeSlab x y (ix3 (0 : Fin 1) p q) = clip (x (ix3 (0 : Fin 1) p q)) (y (ix3 (0 : Fin 1) p q)) := by
  unfold codeSlab
  pointwise [k0_pay57]
  rfl

theorem stSlab_at (t : Vec Ideal S32x256 .f32) (r : Fin 32) (q : Fin 256) : stSlab t (ix3 (0 : Fin 1) r q) = t (ix2 r q) := by
  unfold stSlab
  pointwise [k0_pay44]

/-- The halves of a 256-column tile's row, lane by lane. -/
abbrev lo (q : Fin 128) : Fin 256 := ⟨q.val, by omega⟩
abbrev hi (q : Fin 128) : Fin 256 := ⟨128 + q.val, by omega⟩

/-- The magnitude of a value. -/
def mag (x : EReal) : EReal := max x (-x)
theorem mag_nonneg (x : EReal) : 0 ≤ mag x := by
  rcases le_total 0 x with h | h
  · exact h.trans (le_max_left _ _)
  · exact (by simpa using EReal.neg_le_neg_iff.2 h : (0 : EReal) ≤ -x).trans (le_max_right _ _)

theorem amaxSlab_at (n : BitVec 32) (t : Vec Ideal S32x256 .f32) (p : Fin 32) (q : Fin 128) : amaxSlab n t x (ix3 (0 : Fin 1) p q)
    = max (Scalar.select (Scalar.cmpi CmpIPredicate.eq n 0#32) 0 (x (ix3 (0 : Fin 1) p q))) (max (mag (t (ix2 p (lo q)))) (mag (t (ix2 p (hi q))))) := by
  unfold amaxSlab
  pointwise [k0_pay52]
  rfl
end Quantise

/-! ## The same of the reference -/

theorem amaxOf_at (st : Vec Ideal S5x4096x4096 .f32) (s : Fin 5) (p : Fin 4096) :
    Cert.Reference0Ideal.Hand.amaxOf st (ix3 s p (0 : Fin 1)) = Finset.univ.sup fun j : Fin 4096 => mag (st (ix3 s p j)) := by
  pointwise [Cert.Reference0Ideal.Hand.amaxOf]
  rw [ofBits_bot]; rfl

theorem codesOf_at (st : Vec Ideal S5x4096x4096 .f32) (e : Vec Ideal S5x4096x1 .f32) (s : Fin 5) (p j : Fin 4096) :
    Cert.Reference0Ideal.Hand.codesOf st e (ix3 s p j) = clip (st (ix3 s p j)) (Ideal.exp2 (0 - e (ix3 s p (0 : Fin 1)))) := by
  pointwise [Cert.Reference0Ideal.Hand.codesOf]
  rfl

section Ref
variable (W : Vec Ideal S3x4096 .f32) (X : Vec Ideal S4096x3 .f32) (B : Vec Ideal S1x4096 .f32)

/-- The reference's largest magnitude of a row. -/
def AMAX (s : Fin 5) (p : Fin 4096) : EReal := Finset.univ.sup fun j : Fin 4096 => mag (REFst W X B (ix3 s p j))
theorem AMAX_nonneg (s : Fin 5) (p : Fin 4096) : 0 ≤ AMAX W X B s p :=
  (mag_nonneg _).trans (Finset.le_sup (f := fun j => mag (REFst W X B (ix3 s p j))) (Finset.mem_univ (0 : Fin 4096)))

theorem REFquot_at (s : Fin 5) (p : Fin 4096) : Cert.Reference0Ideal.Gen.k0_pay5 W X B (ix3 s p (0 : Fin 1)) = min (AMAX W X B s p) cMax * cInv := by
  rw [Cert.Reference0Ideal.Hand.quot_eq, Cert.Reference0Ideal.Hand.quotOf_at, amaxOf_at, AMAX]

/-- The reference's exponent of a row. -/
theorem REFexp_at (s : Fin 5) (p : Fin 4096) :
    Cert.Reference0Ideal.Gen.k0_pay1 (F := Ideal) (Cert.Reference0Ideal.Gen.k0_pay6 W X B) (Cert.Reference0Ideal.Gen.k0_pay7 W X B) (ix3 s p (0 : Fin 1)) = rExp (AMAX W X B s p) := by
  rw [Cert.Reference0Ideal.Hand.exp_eq]
  exact Cert.Reference0Ideal.Hand.expOf_at _ s p _ (REFquot_at W X B s p)

/-- The reference's scales and codes. -/
def REFscales : Vec Ideal S5x4096x1 .f32 :=
  Cert.Reference0Ideal.Gen.k0_pay2 (F := Ideal) (Cert.Reference0Ideal.Gen.k0_pay6 W X B) (Cert.Reference0Ideal.Gen.k0_pay7 W X B)
def REFcodes : Vec Ideal S5x4096x4096 .fp8e4m3 :=
  Cert.Reference0Ideal.Gen.k0_pay3 (F := Ideal) (REFst W X B) (Cert.Reference0Ideal.Gen.k0_pay6 W X B) (Cert.Reference0Ideal.Gen.k0_pay7 W X B)

theorem REFscale_at (s : Fin 5) (p : Fin 4096) : REFscales W X B (ix3 s p (0 : Fin 1)) = Ideal.exp2 (rExp (AMAX W X B s p)) := by
  rw [REFscales, Cert.Reference0Ideal.Hand.scales_at, REFexp_at]
theorem REFcode_at (s : Fin 5) (p j : Fin 4096) :
    REFcodes W X B (ix3 s p j) = clip (REFst W X B (ix3 s p j)) (Ideal.exp2 (0 - rExp (AMAX W X B s p))) := by
  rw [REFcodes, Cert.Reference0Ideal.Hand.codes_eq]
  refine (codesOf_at _ _ s p j).trans ?_
  rw [REFexp_at]
end Ref

end Cert.Layer0Ideal.Hand

end
-- ==== Proof.Layer0Value.lean ====
module

public import proofs.«01_k».proof.Proof.Layer0Quantise
public import Idealize.ShloMosaic.Lib.Pipeline.ValueKit

/-! The input layer's results: for finite points and weights the kernel's streams are the reference's; each row's largest magnitude,
accumulated lane by lane over the column tiles, is the one the reference takes over the whole row; so the scales agree, and with them the
codes. -/

@[expose] public section

set_option maxRecDepth 16384

noncomputable section

namespace Cert.Layer0Ideal.Hand

open Cert.Layer0Ideal Cert.Layer0Ideal.Gen Cert.Scale
open Idealize.ShloMosaic Idealize.ShloMosaic.TcCoe Idealize.SL.Sem
open Idealize.ShloMosaic.Pipeline (Dat)

/-! ## The largest magnitude of a row, accumulated lane by lane over the column tiles -/

/-- The two columns of column tile `n` that lane `q` accumulates. -/
abbrev jlo (n : Fin 16) (q : Fin 128) : Fin 4096 := ⟨n.val * 256 + q.val, by omega⟩
abbrev jhi (n : Fin 16) (q : Fin 128) : Fin 4096 := ⟨n.val * 256 + (128 + q.val), by omega⟩

/-- An accumulator restarted at column tile 0 and raised at each holds, after the 16 tiles, the maximum over them. -/
theorem fold_max (a : ℕ → EReal) (g : ℕ → EReal) (hg : ∀ n, 0 ≤ g n)
    (h : ∀ n < 16, a (n + 1) = max (Scalar.select (Scalar.cmpi CmpIPredicate.eq (Scf.iv 0#32 1#32 n) 0#32) 0 (a n)) (g n)) :
    ∀ k < 16, a (k + 1) = (Finset.range (k + 1)).sup g
  | 0, _ => by
    rw [h 0 (by omega), Finset.range_one, Finset.sup_singleton]
    exact max_eq_right (hg 0)
  | k + 1, hk => by
    rw [h (k + 1) hk, Finset.range_add_one, Finset.sup_insert, ← fold_max a g hg h k (by omega)]
    have hc : Scalar.cmpi CmpIPredicate.eq (Scf.iv 0#32 1#32 (k + 1)) 0#32 = 0#1 := by
      have : ∀ k : Fin 15, Scalar.cmpi CmpIPredicate.eq (Scf.iv 0#32 1#32 (k.val + 1)) 0#32 = 0#1 := by decide
      exact this ⟨k, by omega⟩
    rw [hc]; exact max_comm _ _

/-- The maximum of the lanes' maxima is the one over the row. -/
theorem lanes_max (f : Fin 4096 → EReal) :
    (Finset.univ.sup fun q : Fin 128 => Finset.univ.sup fun n : Fin 16 => max (f (jlo n q)) (f (jhi n q))) = Finset.univ.sup f := by
  refine le_antisymm (Finset.sup_le fun q _ => Finset.sup_le fun n _ => max_le (Finset.le_sup (Finset.mem_univ _)) (Finset.le_sup (Finset.mem_univ _))) ?_
  refine Finset.sup_le fun j _ => ?_
  have hn : j.val / 256 < 16 := by omega
  have hq : j.val % 128 < 128 := by omega
  refine le_trans ?_ (Finset.le_sup (f := fun q : Fin 128 => Finset.univ.sup fun n : Fin 16 => max (f (jlo n q)) (f (jhi n q))) (Finset.mem_univ (⟨_, hq⟩ : Fin 128)))
  refine le_trans ?_ (Finset.le_sup (f := fun n : Fin 16 => max (f (jlo n ⟨_, hq⟩)) (f (jhi n ⟨_, hq⟩))) (Finset.mem_univ (⟨_, hn⟩ : Fin 16)))
  rcases Nat.lt_or_ge (j.val % 256) 128 with h | h
  · exact le_trans (le_of_eq (congrArg f (Fin.ext (by show j.val = j.val / 256 * 256 + j.val % 128; omega)))) (le_max_left _ _)
  · exact le_trans (le_of_eq (congrArg f (Fin.ext (by show j.val = j.val / 256 * 256 + (128 + j.val % 128); omega)))) (le_max_right _ _)

/-- The lanes' maxima after `n` tiles. -/
def lanesAt (v : Vec Ideal S32x3 .f32) (W : Vec Ideal S3x4096 .f32) (B : Vec Ideal S1x4096 .f32) (n : ℕ) : Vec Ideal S5x32x128 .f32 :=
  amaxN (F := Ideal) v W B n (fun _ => Scalar.ofBits (F := Ideal) .f32 0x00000000#32)

theorem lanes_step (v : Vec Ideal S32x3 .f32) (W : Vec Ideal S3x4096 .f32) (B : Vec Ideal S1x4096 .f32) (n : ℕ) (s : Fin 5) (r : Fin 32) (q : Fin 128) :
    lanesAt v W B (n + 1) (ix3 s r q) = max (Scalar.select (Scalar.cmpi CmpIPredicate.eq (Scf.iv 0#32 1#32 n) 0#32) 0 (lanesAt v W B n (ix3 s r q)))
      (max (mag (tileAt v W B n s (ix2 r (lo q)))) (mag (tileAt v W B n s (ix2 r (hi q))))) :=
  amaxSlab_at (slabOf (lanesAt v W B n) s) (Scf.iv 0#32 1#32 n) (tileAt v W B n s) r q

section Rows
variable (W : Vec Ideal S3x4096 .f32) (X : Vec Ideal S4096x3 .f32) (B : Vec Ideal S1x4096 .f32)
  (hX : ∀ i, ∃ r : ℝ, X i = r) (hW : ∀ i, ∃ r : ℝ, W i = r)
  (v : Vec Ideal S32x3 .f32) (p : Fin 32 → Fin 4096) (hv : ∀ r k, v (ix2 r k) = X (ix2 (p r) k))
include hX hW hv

/-- The 32 rows `p` of the points: a tile of their streams is the reference's. -/
theorem tile_row (n : ℕ) (hn : n < 16) (s : Fin 5) (r : Fin 32) (q : Fin 256) :
    tileAt v W B n s (ix2 r q) = REFst W X B (ix3 s (p r) (⟨n * 256 + q.val, by omega⟩ : Fin 4096)) := by
  have hj : (⟨(256 * n + q.val) % 4096, Nat.mod_lt _ (by decide)⟩ : Fin 4096) = ⟨n * 256 + q.val, by omega⟩ := Fin.ext (by show (256 * n + q.val) % 4096 = n * 256 + q.val; omega)
  have e0 : ∀ k, k0_pay244 v (ix2 r k) = X (ix2 (p r) k) := fun k => by
    rw [← hv]
    pointwise [k0_pay244]
  have e1 : ∀ k : Fin 3, wCols W n (ix2 k q) = W (ix2 k (⟨n * 256 + q.val, by omega⟩ : Fin 4096)) := fun k => by
    rw [← hj]
    exact congrArg (fun e : Fin 3 => W (ix2 e _)) (Fin.ext (by show (0 + k.val) % 3 = k.val; omega))
  have e2 : bCols B n (ix2 (0 : Fin 1) q) = B (ix2 (0 : Fin 1) (⟨n * 256 + q.val, by omega⟩ : Fin 4096)) := by
    rw [← hj]; rfl
  rw [REFst_at]
  refine (tile_at _ _ _ s r q).trans ?_
  have ex : rowX (k0_pay244 v) r = fun k => X (ix2 (p r) k) := funext e0
  have ew : colW (wCols W n) q = fun k => W (ix2 k (⟨n * 256 + q.val, by omega⟩ : Fin 4096)) := funext e1
  rw [ex, ew, e2, sixDots_eq _ _ (fun k => hX _) (fun k => hW _)]

theorem st_row (s : Fin 5) (r : Fin 32) (j : Fin 4096) : streams v W B (ix3 s r j) = REFst W X B (ix3 s (p r) j) := by
  refine (stSlab_at _ r _).trans ((tile_row W X B hX hW v p hv (j.val / 256) (by omega) s r _).trans ?_)
  exact congrArg (fun e => REFst W X B (ix3 s (p r) e)) (Fin.ext (by show j.val / 256 * 256 + j.val % 256 = j.val; omega))

/-- After the 16 tiles, the largest of the lanes is the row's largest magnitude. -/
theorem amax_row (s : Fin 5) (r : Fin 32) : (Finset.univ.sup fun q : Fin 128 => maxima v W B (ix3 s r q)) = AMAX W X B s (p r) := by
  unfold AMAX
  rw [← lanes_max (fun j => mag (REFst W X B (ix3 s (p r) j)))]
  refine Finset.sup_congr rfl fun q _ => ?_
  have key := fold_max (fun n => lanesAt v W B n (ix3 s r q))
    (fun n => if h : n < 16 then max (mag (REFst W X B (ix3 s (p r) (jlo ⟨n, h⟩ q)))) (mag (REFst W X B (ix3 s (p r) (jhi ⟨n, h⟩ q)))) else 0)
    (fun n => by
      split
      · exact (mag_nonneg _).trans (le_max_left _ _)
      · exact le_rfl)
    (fun n hn => by
      rw [dif_pos hn]
      have := lanes_step v W B n s r q
      rw [tile_row W X B hX hW v p hv n hn s r (lo q), tile_row W X B hX hW v p hv n hn s r (hi q)] at this
      exact this) 15 (by omega)
  refine Eq.trans key ?_
  refine le_antisymm (Finset.sup_le fun n hn => ?_) (Finset.sup_le fun n _ => ?_)
  · have hn' : n < 16 := Finset.mem_range.1 hn
    rw [dif_pos hn']
    exact Finset.le_sup (f := fun n : Fin 16 => max (mag (REFst W X B (ix3 s (p r) (jlo n q)))) (mag (REFst W X B (ix3 s (p r) (jhi n q))))) (Finset.mem_univ (⟨n, hn'⟩ : Fin 16))
  · refine le_trans (le_of_eq ?_) (Finset.le_sup (Finset.mem_range.2 n.isLt))
    rw [dif_pos n.isLt]

theorem scale_row (s : Fin 5) (r : Fin 32) : scaleRow (maxima v W B) s (ix3 (0 : Fin 1) r (0 : Fin 1)) = REFscales W X B (ix3 s (p r) (0 : Fin 1)) := by
  rw [REFscale_at, ← (scales_eq _ (AMAX_nonneg W X B s (p r))).1, ← amax_row W X B hX hW v p hv s r]
  exact scaleSlab_at (slabOf (maxima v W B) s) r
theorem inv_row (s : Fin 5) (r : Fin 32) (q : Fin 128) : invAll (maxima v W B) (ix3 s r q) = Ideal.exp2 (0 - rExp (AMAX W X B s (p r))) := by
  rw [← (scales_eq _ (AMAX_nonneg W X B s (p r))).2, ← amax_row W X B hX hW v p hv s r]
  exact invSlab_at (slabOf (maxima v W B) s) r q

theorem code_row (s : Fin 5) (r : Fin 32) (j : Fin 4096) :
    codesRow (streams v W B) (invAll (maxima v W B)) s (ix3 (0 : Fin 1) r j) = REFcodes W X B (ix3 s (p r) j) := by
  rw [REFcode_at]
  refine (codeSlab_at _ _ r (⟨j.val % 128, by omega⟩ : Fin 128)).trans (congrArg₂ clip ?_ (inv_row W X B hX hW v p hv s r _))
  refine (st_row W X B hX hW v p hv s r _).trans (congrArg (fun e => REFst W X B (ix3 s (p r) e)) (Fin.ext ?_))
  show (128 * (j.val / 128) + j.val % 128) % 4096 = j.val
  omega
end Rows

variable (m : (ℓ : Loc nD τ sig) → Buf (Elt Ideal) ℓ)

/-- Where each window's block sits at point `t`: the points' and the results' row block `t`; the weights and the bias whole. -/
theorem idx : ∀ t : Fin cfg0.N, win0_0.index t = ![t.val, 0] ∧ win0_1.index t = ![0, 0] ∧ win0_2.index t = ![0, 0]
    ∧ win0_3.index t = ![0, t.val, 0] ∧ win0_4.index t = ![0, t.val, 0] :=
  (by decide +kernel : ∀ t : Fin grid0.N, _)

section Arrays
variable (c : Dev nD)

/-- The weights' and the bias' blocks are the whole arrays; the points' are 128 rows. -/
theorem iblk1 (t) : iblk m c 1 t = V m c main_arg1 := by blk_ext! [iblk, idx t]
theorem iblk2 (t) : iblk m c 2 t = V m c main_v1 := by blk_ext! [iblk, idx t]
theorem iblk0_at (t : Fin cfg0.N) (ht : t.val < 32) (r : Fin 128) (k : Fin 3) :
    (iblk m c 0 t : Vec Ideal S128x3 .f32) (ix2 r k) = V m c main_v0 (ix2 (⟨t.val * 128 + r.val, by omega⟩ : Fin 4096) k) := by
  blk_ext [iblk, idx t]

theorem N_eq : cfg0.N = 32 := rfl

variable (hX : ∀ i, ∃ r : ℝ, (V m c main_v0 : Vec Ideal S4096x3 .f32) i = (r : EReal)) (hW : ∀ i, ∃ r : ℝ, (V m c main_arg1 : Vec Ideal S3x4096 .f32) i = (r : EReal))
include hX hW

theorem final_codes : (dats m 0 c).arrAt 3 (cfgs 0).N = REFcodes (V m c main_arg1) (V m c main_v0) (V m c main_v1) := by
  refine (dats m 0 c).arrAt_eq_of_covers 3 _ (by decide +kernel) fun t hf y => ?_
  have hN : t.val < 32 := Nat.lt_of_lt_of_eq t.isLt N_eq
  blk_simp
  rw [after0_3, iblk1, iblk2]
  idx_vars y
  have key := code_row (V m c main_arg1) (V m c main_v0) (V m c main_v1) hX hW (points (iblk m c 0 t) (32 * (y1.val / 32)))
    (fun r => (⟨t.val * 128 + (32 * (y1.val / 32) + r.val), by omega⟩ : Fin 4096))
    (fun r k => (iblk0_at m c t hN _ _).trans (by
      have h1 : (32 * (y1.val / 32) + r.val) % 128 = 32 * (y1.val / 32) + r.val := by omega
      have h2 : (0 + k.val) % 3 = k.val := by omega
      exact congrArg₂ (fun a b => V m c main_v0 (ix2 a b)) (Fin.ext (congrArg (t.val * 128 + ·) h1)) (Fin.ext h2)))
    y0 (⟨y1.val % 32, by omega⟩ : Fin 32) y2
  refine Eq.trans key (congrArg _ ?_)
  blk_ext [idx t]

theorem final_scales : (dats m 0 c).arrAt 4 (cfgs 0).N = REFscales (V m c main_arg1) (V m c main_v0) (V m c main_v1) := by
  refine (dats m 0 c).arrAt_eq_of_covers 4 _ (by decide +kernel) fun t hf y => ?_
  have hN : t.val < 32 := Nat.lt_of_lt_of_eq t.isLt N_eq
  blk_simp
  rw [after0_4, iblk1, iblk2]
  idx_vars y
  have h0 : y2 = 0 := by omega
  subst h0
  have key := scale_row (V m c main_arg1) (V m c main_v0) (V m c main_v1) hX hW (points (iblk m c 0 t) (32 * (y1.val / 32)))
    (fun r => (⟨t.val * 128 + (32 * (y1.val / 32) + r.val), by omega⟩ : Fin 4096))
    (fun r k => (iblk0_at m c t hN _ _).trans (by
      have h1 : (32 * (y1.val / 32) + r.val) % 128 = 32 * (y1.val / 32) + r.val := by omega
      have h2 : (0 + k.val) % 3 = k.val := by omega
      exact congrArg₂ (fun a b => V m c main_v0 (ix2 a b)) (Fin.ext (congrArg (t.val * 128 + ·) h1)) (Fin.ext h2)))
    y0 (⟨y1.val % 32, by omega⟩ : Fin 32)
  refine Eq.trans key (congrArg _ ?_)
  blk_ext [idx t]
end Arrays

end Cert.Layer0Ideal.Hand

end
-- ==== Proof.Reference0Value.lean ====
module

public import proofs.«01_k».proof.Proof.Gen.Reference0Ideal.Frame
public import Idealize.ShloMosaic.Lib.Pipeline.ValueKit

/-! The reference of the input layer: its one grid point reads the whole operands and stores its two results whole. -/

@[expose] public section

set_option maxRecDepth 16384

noncomputable section

namespace Cert.Reference0Ideal.Hand

open Cert.Reference0Ideal Cert.Reference0Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0, 0] ∧ win0_4.index t = ![0, 0, 0] :=
  (by decide +kernel : ∀ t : Fin grid0.N, _)

/-- The one point's blocks are the whole operands. -/
theorem iblk0 (t) : iblk m c 0 t = V m c main_v0 := by blk_ext! [iblk, idx t]
theorem iblk1 (t) : iblk m c 1 t = V m c main_arg1 := by blk_ext! [iblk, idx t]
theorem iblk2 (t) : iblk m c 2 t = V m c main_v1 := by blk_ext! [iblk, idx t]

/-- The codes. -/
theorem final_codes : (dats m 0 c).arrAt 3 (cfgs 0).N
    = k0_pay3 (F := Ideal) (k0_pay4 (V m c main_arg1) (V m c main_v0) (V m c main_v1))
        (k0_pay6 (V m c main_arg1) (V m c main_v0) (V m c main_v1)) (k0_pay7 (V m c main_arg1) (V m c main_v0) (V m c main_v1)) := by
  refine (dats m 0 c).arrAt_eq_of_after_last 3 t0_0 (by decide +kernel) _ fun j => ?_
  blk_simp
  rw [after0_3]; unfold_out out0_3; frame_out
  rw [iblk0, iblk1, iblk2]
/-- The scales. -/
theorem final_scales : (dats m 0 c).arrAt 4 (cfgs 0).N
    = k0_pay2 (F := Ideal) (k0_pay6 (V m c main_arg1) (V m c main_v0) (V m c main_v1)) (k0_pay7 (V m c main_arg1) (V m c main_v0) (V m c main_v1)) := by
  refine (dats m 0 c).arrAt_eq_of_after_last 4 t0_0 (by decide +kernel) _ fun j => ?_
  blk_simp
  rw [after0_4]; unfold_out out0_4; frame_out
  rw [iblk0, iblk1, iblk2]

end Cert.Reference0Ideal.Hand

end
-- ==== Proof.Layer0Equation.lean ====
module

public import proofs.«01_k».proof.Proof.Layer0Value
public import proofs.«01_k».proof.Proof.Reference0Value
public import proofs.«01_k».proof.Proof.Gen.Pre_finite0
public import proofs.«01_k».proof.Defs
public import Idealize.ShloMosaic.Lib.Claim

/-! The input layer: on the same arguments, finite points and finite weights, the kernel and the reference end with the same codes and the
same scales. -/

@[expose] public section

set_option maxRecDepth 16384

noncomputable section

namespace Cert.Layer0Equation

open Idealize.ShloMosaic Idealize.ShloMosaic.TcCoe Idealize.SL.Sem

/-- A value of magnitude below infinity is a real number. -/
theorem real_of_lt (x : EReal) (h : Ideal.cmp .olt (max x (-x)) (Ideal.ofBits .f32 0x7F800000#32) = 1#1) : ∃ r : ℝ, x = r := by
  rw [Cert.Scale.ofBits_inf] at h
  have h2 : max x (-x) < ⊤ := by
    by_contra hn
    simp [Ideal.cmp, hn] at h
  refine ⟨x.toReal, (EReal.coe_toReal ?_ ?_).symm⟩
  · rintro rfl; simp at h2
  · rintro rfl; simp at h2

variable (m : (ℓ : Loc Cert.Layer0Ideal.nD Cert.Layer0Ideal.τ Cert.Layer0Ideal.sig) → Buf (Elt Ideal) ℓ)
  (m' : (ℓ : Loc Cert.Reference0Ideal.nD Cert.Reference0Ideal.τ Cert.Reference0Ideal.sig) → Buf (Elt Ideal) ℓ)

section Finite
variable (c : Dev Cert.Layer0Ideal.nD) (hpre : Cert.Pre_Layer0Ideal_finite0 m)
include hpre

/-- The precondition: the weights and the points are real numbers. -/
theorem finite_w : ∀ i, ∃ r : ℝ, (Cert.Layer0Ideal.Gen.V m c Cert.Layer0Ideal.main_arg1 : Vec Ideal Cert.Layer0Ideal.S3x4096 .f32) i = (r : EReal) := fun i => by
  rw [Cert.Layer0Ideal.Gen.V_main_arg1]
  exact real_of_lt _ (congrFun (hpre c).2 i)
theorem finite_x : ∀ i, ∃ r : ℝ, (Cert.Layer0Ideal.Gen.V m c Cert.Layer0Ideal.main_v0 : Vec Ideal Cert.Layer0Ideal.S4096x3 .f32) i = (r : EReal) := fun i => by
  entry_read
  exact real_of_lt _ (congrFun (hpre c).1 _)
end Finite

/-- Both programs are started on the same three arguments. -/
abbrev Agree : Prop := ∀ c : Dev Cert.Layer0Ideal.nD,
  m' ((c.tc : Thread Cert.Reference0Ideal.nD Cert.Reference0Ideal.τ).loc Cert.Reference0Ideal.main_arg0) = m ((c.tc : Thread Cert.Layer0Ideal.nD Cert.Layer0Ideal.τ).loc Cert.Layer0Ideal.main_arg0)
  ∧ m' ((c.tc : Thread Cert.Reference0Ideal.nD Cert.Reference0Ideal.τ).loc Cert.Reference0Ideal.main_arg1) = m ((c.tc : Thread Cert.Layer0Ideal.nD Cert.Layer0Ideal.τ).loc Cert.Layer0Ideal.main_arg1)
  ∧ m' ((c.tc : Thread Cert.Reference0Ideal.nD Cert.Reference0Ideal.τ).loc Cert.Reference0Ideal.main_arg2) = m ((c.tc : Thread Cert.Layer0Ideal.nD Cert.Layer0Ideal.τ).loc Cert.Layer0Ideal.main_arg2)

section Operands
variable (c : Dev Cert.Layer0Ideal.nD) (h : Agree m m')
include h

/-- So their three operands are the same arrays. -/
theorem op0 : (Cert.Reference0Ideal.Gen.V m' c Cert.Reference0Ideal.main_v0 : Vec Ideal Cert.Layer0Ideal.S4096x3 .f32) = Cert.Layer0Ideal.Gen.V m c Cert.Layer0Ideal.main_v0 := by
  entry_read; rw [(h c).1]; rfl
theorem op1 : (Cert.Reference0Ideal.Gen.V m' c Cert.Reference0Ideal.main_arg1 : Vec Ideal Cert.Layer0Ideal.S3x4096 .f32) = Cert.Layer0Ideal.Gen.V m c Cert.Layer0Ideal.main_arg1 :=
  (Cert.Reference0Ideal.Gen.V_main_arg1 m' c).trans ((h c).2.1.trans (Cert.Layer0Ideal.Gen.V_main_arg1 m c).symm)
theorem op2 : (Cert.Reference0Ideal.Gen.V m' c Cert.Reference0Ideal.main_v1 : Vec Ideal Cert.Layer0Ideal.S1x4096 .f32) = Cert.Layer0Ideal.Gen.V m c Cert.Layer0Ideal.main_v1 := by
  entry_read; rw [(h c).2.2]; rfl

variable (hpre : Cert.Pre_Layer0Ideal_finite0 m)
include hpre

/-- And their results. -/
theorem eq_codes : (Cert.Reference0Ideal.Gen.dats m' 0 c).arrAt 3 (Cert.Reference0Ideal.cfgs 0).N
    = ((Cert.Layer0Ideal.Hand.dats m 0 c).arrAt 3 (Cert.Layer0Ideal.cfgs 0).N : Vec Ideal Cert.Layer0Ideal.S5x4096x4096 .fp8e4m3) := by
  rw [Cert.Reference0Ideal.Hand.final_codes, Cert.Layer0Ideal.Hand.final_codes m c (finite_x m c hpre) (finite_w m c hpre), op0 m m' c h, op1 m m' c h, op2 m m' c h]
  rfl
theorem eq_scales : (Cert.Reference0Ideal.Gen.dats m' 0 c).arrAt 4 (Cert.Reference0Ideal.cfgs 0).N
    = ((Cert.Layer0Ideal.Hand.dats m 0 c).arrAt 4 (Cert.Layer0Ideal.cfgs 0).N : Vec Ideal Cert.Layer0Ideal.S5x4096x1 .f32) := by
  rw [Cert.Reference0Ideal.Hand.final_scales, Cert.Layer0Ideal.Hand.final_scales m c (finite_x m c hpre) (finite_w m c hpre), op0 m m' c h, op1 m m' c h, op2 m m' c h]
  rfl

end Operands
end Cert.Layer0Equation

end
-- ==== Proof.lean ====
module

public import proofs.«01_k».proof.Defs
public import proofs.«01_k».proof.Proof.Gen.Layer1
public import proofs.«01_k».proof.Proof.Gen.Layer1.Skeleton
public import proofs.«01_k».proof.Proof.Gen.Layer1.Launch
public import proofs.«01_k».proof.Proof.Gen.Layer1.Points
public import proofs.«01_k».proof.Proof.Gen.Layer1.Frame
public import proofs.«01_k».proof.Proof.Gen.Layer1Ideal
public import proofs.«01_k».proof.Proof.Gen.Layer1Ideal.Skeleton
public import proofs.«01_k».proof.Proof.Gen.Layer1Ideal.Launch
public import proofs.«01_k».proof.Proof.Gen.Layer1Ideal.Points
public import proofs.«01_k».proof.Proof.Gen.Layer1Ideal.Frame
public import proofs.«01_k».proof.Proof.Gen.Reference1Ideal
public import proofs.«01_k».proof.Proof.Gen.Reference1Ideal.Skeleton
public import proofs.«01_k».proof.Proof.Gen.Reference1Ideal.Launch
public import proofs.«01_k».proof.Proof.Gen.Reference1Ideal.Points
public import proofs.«01_k».proof.Proof.Gen.Reference1Ideal.Frame
public import proofs.«01_k».proof.Proof.Gen.Layer2
public import proofs.«01_k».proof.Proof.Gen.Layer2.Skeleton
public import proofs.«01_k».proof.Proof.Gen.Layer2.Launch
public import proofs.«01_k».proof.Proof.Gen.Layer2.Points
public import proofs.«01_k».proof.Proof.Gen.Layer2.Frame
public import proofs.«01_k».proof.Proof.Gen.Layer2Ideal
public import proofs.«01_k».proof.Proof.Gen.Layer2Ideal.Skeleton
public import proofs.«01_k».proof.Proof.Gen.Layer2Ideal.Launch
public import proofs.«01_k».proof.Proof.Gen.Layer2Ideal.Points
public import proofs.«01_k».proof.Proof.Gen.Layer2Ideal.Frame
public import proofs.«01_k».proof.Proof.Gen.Reference2Ideal
public import proofs.«01_k».proof.Proof.Gen.Reference2Ideal.Skeleton
public import proofs.«01_k».proof.Proof.Gen.Reference2Ideal.Launch
public import proofs.«01_k».proof.Proof.Gen.Reference2Ideal.Points
public import proofs.«01_k».proof.Proof.Gen.Reference2Ideal.Frame
public import proofs.«01_k».proof.Proof.Layer1Frame
public import proofs.«01_k».proof.Proof.Layer1IdealFrame
public import proofs.«01_k».proof.Proof.Layer1Value
public import proofs.«01_k».proof.Proof.Layer1Equation
public import proofs.«01_k».proof.Proof.Reference1Value
public import proofs.«01_k».proof.Proof.Layer2Frame
public import proofs.«01_k».proof.Proof.Layer2IdealFrame
public import proofs.«01_k».proof.Proof.Layer2Value
public import proofs.«01_k».proof.Proof.Layer2Tail
public import proofs.«01_k».proof.Proof.Layer2Equation
public import proofs.«01_k».proof.Proof.Reference2Value
public import proofs.«01_k».proof.Proof.Gen.Layer0
public import proofs.«01_k».proof.Proof.Gen.Layer0.Skeleton
public import proofs.«01_k».proof.Proof.Gen.Layer0.Launch
public import proofs.«01_k».proof.Proof.Gen.Layer0.Points
public import proofs.«01_k».proof.Proof.Gen.Layer0.Frame
public import proofs.«01_k».proof.Proof.Layer0Frame
public import proofs.«01_k».proof.Proof.Gen.Layer0Ideal
public import proofs.«01_k».proof.Proof.Gen.Layer0Ideal.Skeleton
public import proofs.«01_k».proof.Proof.Gen.Layer0Ideal.Launch
public import proofs.«01_k».proof.Proof.Gen.Layer0Ideal.Points
public import proofs.«01_k».proof.Proof.Gen.Layer0Ideal.Frame
public import proofs.«01_k».proof.Proof.Gen.Reference0Ideal
public import proofs.«01_k».proof.Proof.Gen.Reference0Ideal.Skeleton
public import proofs.«01_k».proof.Proof.Gen.Reference0Ideal.Launch
public import proofs.«01_k».proof.Proof.Gen.Reference0Ideal.Points
public import proofs.«01_k».proof.Proof.Gen.Reference0Ideal.Frame
public import proofs.«01_k».proof.Proof.Gen.Pre_finite0
public import proofs.«01_k».proof.Proof.Layer0IdealFrame
public import proofs.«01_k».proof.Proof.Layer0Value
public import proofs.«01_k».proof.Proof.Layer0Equation
public import proofs.«01_k».proof.Proof.Reference0Value
public import Idealize.ShloMosaic.Lib.Claim
public import Idealize.ShloMosaic.Adequacy
public import Idealize.ShloMosaic.Init

@[expose] public section

noncomputable section

namespace Cert.Proof

open Idealize.ShloMosaic Idealize.SL.Sem

set_option maxRecDepth 16384 in
set_option maxHeartbeats 1600000 in
/-- The first hidden layer's two results are its reference's: the codes and the scales. -/
theorem algebraic1 : Cert.algebraic_Layer1Ideal_Reference1Ideal := by
  pair_intro
  · run_from Cert.Layer1Ideal.Hand.run_main m g
  · run_from Cert.Reference1Ideal.Gen.run_main m' g'
    · exact Cert.Layer1Equation.eq_codes m m' c hagree
    · exact Cert.Layer1Equation.eq_scales m m' c hagree

set_option maxRecDepth 16384 in
set_option maxHeartbeats 1600000 in
/-- The last hidden layer's four results are the reference's: the residual, `u`, `h` and the Laplacian stream. -/
theorem algebraic2 : Cert.algebraic_Layer2Ideal_Reference2Ideal := by
  pair_intro
  · run_from Cert.Layer2Ideal.Hand.run_main m g
    · exact Cert.Layer2Ideal.Gen.W_main_arg3 m _ c
    · exact Cert.Layer2Ideal.Gen.W_main_arg4 m _ c
    · exact Cert.Layer2Ideal.Gen.W_main_arg5 m _ c
    · exact Cert.Layer2Ideal.Gen.W_main_arg6 m _ c
    · exact Cert.Layer2Ideal.Gen.W_main_arg7 m _ c
  · run_from Cert.Reference2Ideal.Gen.run_main m' g'
    · exact Cert.Layer2Equation.res_residual m m' c hagree
    · exact Cert.Layer2Equation.res_u m m' c hagree
    · exact Cert.Layer2Equation.res_h m m' c hagree
    · exact Cert.Layer2Equation.res_l m m' c hagree
    · exact (Cert.Reference2Ideal.Gen.W_main_arg3 m' _ c).trans (hagree c).2.2.2.1
    · exact (Cert.Reference2Ideal.Gen.W_main_arg4 m' _ c).trans (hagree c).2.2.2.2.1
    · exact (Cert.Reference2Ideal.Gen.W_main_arg5 m' _ c).trans (hagree c).2.2.2.2.2.1
    · exact (Cert.Reference2Ideal.Gen.W_main_arg6 m' _ c).trans (hagree c).2.2.2.2.2.2.1
    · exact (Cert.Reference2Ideal.Gen.W_main_arg7 m' _ c).trans (hagree c).2.2.2.2.2.2.2

set_option maxRecDepth 16384 in
set_option maxHeartbeats 1600000 in
/-- The input layer's two results, for finite points and weights, are its reference's: the codes and the scales. -/
theorem algebraic0 : Cert.algebraic_Layer0Ideal_Reference0Ideal_pre_finite0 := by
  intro m g m' g' hpre hagree
  refine ⟨fun c => (Cert.Layer0Ideal.Hand.dats m 0 c).arrAt 3 (Cert.Layer0Ideal.cfgs 0).N, fun c => (Cert.Layer0Ideal.Hand.dats m 0 c).arrAt 4 (Cert.Layer0Ideal.cfgs 0).N, ?_, ?_⟩
  · run_from Cert.Layer0Ideal.Hand.run_main m g
  · run_from Cert.Reference0Ideal.Gen.run_main m' g'
    · exact Cert.Layer0Equation.eq_codes m m' c hagree hpre
    · exact Cert.Layer0Equation.eq_scales m m' c hagree hpre

/-- Everything claimed: the frames of the programs, that the idealised hidden layers are the hidden layers, and the three equations. -/
theorem claim : Cert.Claim :=
  ⟨Cert.Layer1.Gen.facts, Cert.Layer1Ideal.Gen.facts, Cert.Reference1Ideal.Gen.facts,
  Cert.Layer2.Gen.facts, Cert.Layer2Ideal.Gen.facts, Cert.Reference2Ideal.Gen.facts,
  Cert.Layer0.Gen.facts, Cert.Layer0Ideal.Gen.facts, Cert.Reference0Ideal.Gen.facts, Cert.Pre_finite0.Gen.facts,
  fun m ρ _ => Cert.Layer1.Hand.frame m ρ, fun m ρ _ => Cert.Layer1Ideal.Hand.frame m ρ, fun m ρ _ => Cert.Reference1Ideal.Gen.frame m ρ,
  fun m ρ _ => Cert.Layer2.Hand.frame m ρ, fun m ρ _ => Cert.Layer2Ideal.Hand.frame m ρ, fun m ρ _ => Cert.Reference2Ideal.Gen.frame m ρ,
  fun m ρ _ => Cert.Layer0.Hand.frame m ρ, fun m ρ _ => Cert.Layer0Ideal.Hand.frame m ρ, fun m ρ _ => Cert.Layer0Ideal.Hand.frame m ρ, fun m ρ _ => Cert.Reference0Ideal.Gen.frame m ρ, fun m ρ _ => Cert.Reference0Ideal.Gen.frame m ρ,
  trivial, algebraic1, trivial, algebraic2,
  ⟨IdealRules.bf16_pack.statement _, IdealRules.bf16_pack.statement _⟩, algebraic0⟩

end Cert.Proof

end
